-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains_and_gates [hPre_finite_gains_and_gates : Cert.Pre_finite_gains_and_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains_and_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains_and_gates [hPre_finite_gains_and_gates : Cert.Pre_finite_gains_and_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains_and_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gains_and_gates [hKernelIdeal : Cert.KernelIdeal.Facts] [hPre_finite_gains_and_gates : Cert.Pre_finite_gains_and_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains_and_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gains_and_gates [hReferenceIdeal : Cert.ReferenceIdeal.Facts] [hPre_finite_gains_and_gates : Cert.Pre_finite_gains_and_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains_and_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_gains_and_gates [hKernelIdeal : Cert.KernelIdeal.Facts] [hReferenceIdeal : Cert.ReferenceIdeal.Facts] [hPre_finite_gains_and_gates : Cert.Pre_finite_gains_and_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains_and_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_gains_and_gates : Cert.Pre_finite_gains_and_gates.Facts),
    quiescent_Kernel (hKernel := hKernel)
    ∧ quiescent_KernelIdeal (hKernelIdeal := hKernelIdeal)
    ∧ quiescent_KernelIdeal_pre_finite_gains_and_gates (hKernelIdeal := hKernelIdeal) (hPre_finite_gains_and_gates := hPre_finite_gains_and_gates)
    ∧ quiescent_ReferenceIdeal (hReferenceIdeal := hReferenceIdeal)
    ∧ quiescent_ReferenceIdeal_pre_finite_gains_and_gates (hReferenceIdeal := hReferenceIdeal) (hPre_finite_gains_and_gates := hPre_finite_gains_and_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_gains_and_gates (hKernelIdeal := hKernelIdeal) (hReferenceIdeal := hReferenceIdeal) (hPre_finite_gains_and_gates := hPre_finite_gains_and_gates)
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
-- ==== Pre_finite_gains_and_gates.lean ====
abbrev S2x8192x16x64 : Shape := ⟨4, ![2, 8192, 16, 64]⟩
abbrev S64 : Shape := ⟨1, ![64]⟩
abbrev S2x16x8192 : Shape := ⟨3, ![2, 16, 8192]⟩
abbrev S2x16x8192x1 : Shape := ⟨4, ![2, 16, 8192, 1]⟩
abbrev S_ : Shape := ⟨0, ![]⟩
abbrev S1x1x1x64 : Shape := ⟨4, ![1, 1, 1, 64]⟩
abbrev S2x16x8192x64 : Shape := ⟨4, ![2, 16, 8192, 64]⟩

class Facts : Prop where
  bcast_S2x16x8192_S2x16x8192x1_0_1_2 : S2x16x8192.BroadcastsInDim S2x16x8192x1 (![0, 1, 2] : Fin 3 → Fin S2x16x8192x1.rank)
  bcast_S_S2x16x8192x1 : S_.BroadcastsInDim S2x16x8192x1 (![] : Fin 0 → Fin S2x16x8192x1.rank)
  bcast_S_S64 : S_.BroadcastsInDim S64 (![] : Fin 0 → Fin S64.rank)
  bcast_S64_S1x1x1x64_3 : S64.BroadcastsInDim S1x1x1x64 (![3] : Fin 1 → Fin S1x1x1x64.rank)
  bcast_S2x16x8192x1_S2x16x8192x64_0_1_2_3 : S2x16x8192x1.BroadcastsInDim S2x16x8192x64 (![0, 1, 2, 3] : Fin 4 → Fin S2x16x8192x64.rank)
  bcast_S1x1x1x64_S2x16x8192x64_0_1_2_3 : S1x1x1x64.BroadcastsInDim S2x16x8192x64 (![0, 1, 2, 3] : Fin 4 → Fin S2x16x8192x64.rank)

variable [Facts]

def fn {F : FTy → Type} [FloatOps F] (main_arg0 : FVec F S2x8192x16x64 .f32) (main_arg1 : FVec F S64 .f32) (main_arg2 : FVec F S2x8192x16x64 .f32) (main_arg3 : FVec F S64 .f32) (main_arg4 : FVec F S2x8192x16x64 .f32) (main_arg5 : FVec F S2x16x8192 .f32) : IVec S2x16x8192x64 1 :=
  let main_v0 : FVec F S2x16x8192 .f32 := Host.absf main_arg5
  let main_v1 : FVec F S2x16x8192x1 .f32 := broadcastInDim S2x16x8192x1 ![0, 1, 2] bcast_S2x16x8192_S2x16x8192x1_0_1_2 main_v0
  let main_cst : FVec F S_ .f32 := constant S_ .f32 0x7F800000#32
  let main_v2 : FVec F S2x16x8192x1 .f32 := broadcastInDim S2x16x8192x1 ![] bcast_S_S2x16x8192x1 main_cst
  let main_v3 : IVec S2x16x8192x1 1 := cmpf .olt main_v1 main_v2
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg3
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : IVec S64 1 := andi main_v6 main_v9
  let main_v11 : IVec S1x1x1x64 1 := broadcastInDim S1x1x1x64 ![3] bcast_S64_S1x1x1x64_3 main_v10
  let main_v12 : IVec S2x16x8192x64 1 := broadcastInDim S2x16x8192x64 ![0, 1, 2, 3] bcast_S2x16x8192x1_S2x16x8192x64_0_1_2_3 main_v3
  let main_v13 : IVec S2x16x8192x64 1 := broadcastInDim S2x16x8192x64 ![0, 1, 2, 3] bcast_S1x1x1x64_S2x16x8192x64_0_1_2_3 main_v11
  let main_v14 : IVec S2x16x8192x64 1 := andi main_v12 main_v13
  main_v14
-- ==== Kernel.lean ====
abbrev S2x8192x16x64 : Shape := ⟨4, ![2, 8192, 16, 64]⟩
abbrev S64 : Shape := ⟨1, ![64]⟩
abbrev S2x16x8192 : Shape := ⟨3, ![2, 16, 8192]⟩
abbrev S_ : Shape := ⟨0, ![]⟩
abbrev S2x8192x16 : Shape := ⟨3, ![2, 8192, 16]⟩
abbrev S2x8192x16x1 : Shape := ⟨4, ![2, 8192, 16, 1]⟩
abbrev S1x1x1x64 : Shape := ⟨4, ![1, 1, 1, 64]⟩
abbrev S2x16x1x8192 : Shape := ⟨4, ![2, 16, 1, 8192]⟩
abbrev S2x16x3x8192 : Shape := ⟨4, ![2, 16, 3, 8192]⟩
abbrev S2x16x10x8192 : Shape := ⟨4, ![2, 16, 10, 8192]⟩
abbrev S2x16x64x8192 : Shape := ⟨4, ![2, 16, 64, 8192]⟩
abbrev S2x16x80x8192 : Shape := ⟨4, ![2, 16, 80, 8192]⟩
abbrev S2x16x8192x64 : Shape := ⟨4, ![2, 16, 8192, 64]⟩
abbrev S2x8x2x8192x64 : Shape := ⟨5, ![2, 8, 2, 8192, 64]⟩
abbrev S2x16x8192x3 : Shape := ⟨4, ![2, 16, 8192, 3]⟩
abbrev S2x16x8192x1 : Shape := ⟨4, ![2, 16, 8192, 1]⟩
abbrev S2x16x8192x58 : Shape := ⟨4, ![2, 16, 8192, 58]⟩
abbrev S2x8x1x8192x64 : Shape := ⟨5, ![2, 8, 1, 8192, 64]⟩
abbrev S2x8x1x8192x128 : Shape := ⟨5, ![2, 8, 1, 8192, 128]⟩
abbrev S2x8x2x8192x128 : Shape := ⟨5, ![2, 8, 2, 8192, 128]⟩
abbrev S2x16x8192x128 : Shape := ⟨4, ![2, 16, 8192, 128]⟩
abbrev S2x16x64x8x1024 : Shape := ⟨5, ![2, 16, 64, 8, 1024]⟩
abbrev S2x16x8x64x1024 : Shape := ⟨5, ![2, 16, 8, 64, 1024]⟩
abbrev S2x16x8x1x1024 : Shape := ⟨5, ![2, 16, 8, 1, 1024]⟩
abbrev S2x16x8x63x1024 : Shape := ⟨5, ![2, 16, 8, 63, 1024]⟩
abbrev S2x16x8x128x1024 : Shape := ⟨5, ![2, 16, 8, 128, 1024]⟩
abbrev S2x1024x8192 : Shape := ⟨3, ![2, 1024, 8192]⟩
abbrev S1x2x80x1024 : Shape := ⟨4, ![1, 2, 80, 1024]⟩
abbrev S1x2x8192x128 : Shape := ⟨4, ![1, 2, 8192, 128]⟩
abbrev S1x2x8x128x1024 : Shape := ⟨5, ![1, 2, 8, 128, 1024]⟩
abbrev S1x128x1024 : Shape := ⟨3, ![1, 128, 1024]⟩
abbrev S2x128x1024 : Shape := ⟨3, ![2, 128, 1024]⟩
abbrev S2x2x1024x1024 : Shape := ⟨4, ![2, 2, 1024, 1024]⟩
abbrev S48x1024 : Shape := ⟨2, ![48, 1024]⟩
abbrev S1x1x80x1024 : Shape := ⟨4, ![1, 1, 80, 1024]⟩
abbrev S80x1024 : Shape := ⟨2, ![80, 1024]⟩
abbrev S1x80x1024 : Shape := ⟨3, ![1, 80, 1024]⟩
abbrev S1x48x1024 : Shape := ⟨3, ![1, 48, 1024]⟩
abbrev S1x1x16x1024 : Shape := ⟨4, ![1, 1, 16, 1024]⟩
abbrev S16x1024 : Shape := ⟨2, ![16, 1024]⟩
abbrev S1x16x1024 : Shape := ⟨3, ![1, 16, 1024]⟩
abbrev S1x1x64x1024 : Shape := ⟨4, ![1, 1, 64, 1024]⟩
abbrev S64x1024 : Shape := ⟨2, ![64, 1024]⟩
abbrev S1x64x1024 : Shape := ⟨3, ![1, 64, 1024]⟩
abbrev S128x1024 : Shape := ⟨2, ![128, 1024]⟩
abbrev S1x1x1024x128 : Shape := ⟨4, ![1, 1, 1024, 128]⟩
abbrev S1024x128 : Shape := ⟨2, ![1024, 128]⟩
abbrev S1024x1024 : Shape := ⟨2, ![1024, 1024]⟩
abbrev S1x1x1024x1024 : Shape := ⟨4, ![1, 1, 1024, 1024]⟩
abbrev S1x1x1x128x1024 : Shape := ⟨5, ![1, 1, 1, 128, 1024]⟩
abbrev S256x1024 : Shape := ⟨2, ![256, 1024]⟩
abbrev S1x1x256x128 : Shape := ⟨4, ![1, 1, 256, 128]⟩
abbrev S256x128 : Shape := ⟨2, ![256, 128]⟩
abbrev S1x1x256x1024 : Shape := ⟨4, ![1, 1, 256, 1024]⟩
abbrev S128x768 : Shape := ⟨2, ![128, 768]⟩
abbrev S256x768 : Shape := ⟨2, ![256, 768]⟩
abbrev S1x1x256x768 : Shape := ⟨4, ![1, 1, 256, 768]⟩
abbrev S128x512 : Shape := ⟨2, ![128, 512]⟩
abbrev S256x512 : Shape := ⟨2, ![256, 512]⟩
abbrev S1x1x256x512 : Shape := ⟨4, ![1, 1, 256, 512]⟩
abbrev S128x256 : Shape := ⟨2, ![128, 256]⟩
abbrev S256x256 : Shape := ⟨2, ![256, 256]⟩
abbrev S1x1x256x256 : Shape := ⟨4, ![1, 1, 256, 256]⟩
abbrev S1x128x256 : Shape := ⟨3, ![1, 128, 256]⟩
abbrev S1x1x1x128x256 : Shape := ⟨5, ![1, 1, 1, 128, 256]⟩
abbrev S1x1x1x128x512 : Shape := ⟨5, ![1, 1, 1, 128, 512]⟩
abbrev S1x1x512x256 : Shape := ⟨4, ![1, 1, 512, 256]⟩
abbrev S512x256 : Shape := ⟨2, ![512, 256]⟩
abbrev S1x1x1x128x768 : Shape := ⟨5, ![1, 1, 1, 128, 768]⟩
abbrev S1x1x768x256 : Shape := ⟨4, ![1, 1, 768, 256]⟩
abbrev S768x256 : Shape := ⟨2, ![768, 256]⟩
abbrev S1x1x1024x256 : Shape := ⟨4, ![1, 1, 1024, 256]⟩
abbrev S1024x256 : Shape := ⟨2, ![1024, 256]⟩
abbrev S1x1x1024 : Shape := ⟨3, ![1, 1, 1024]⟩
abbrev S1x1024 : Shape := ⟨2, ![1, 1024]⟩

abbrev nBuf : Space → Nat
  | .hbm => 119
  | .vmem => 11
  | .smem => 0
  | _ => 0

abbrev bufTy : (tb : Table) → Fin (tcTables nBuf tb) → BufTy
  | .hbm, ⟨0, _⟩ => ⟨S2x8192x16x64, .f32⟩
  | .hbm, ⟨1, _⟩ => ⟨S64, .f32⟩
  | .hbm, ⟨2, _⟩ => ⟨S2x8192x16x64, .f32⟩
  | .hbm, ⟨3, _⟩ => ⟨S64, .f32⟩
  | .hbm, ⟨4, _⟩ => ⟨S2x8192x16x64, .f32⟩
  | .hbm, ⟨5, _⟩ => ⟨S2x16x8192, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x16x8192, .f32⟩
  | .hbm, ⟨21, _⟩ => ⟨S2x16x8192, .f32⟩
  | .hbm, ⟨22, _⟩ => ⟨S2x8192x16x64, .f32⟩
  | .hbm, ⟨23, _⟩ => ⟨S_, .f32⟩
  | .hbm, ⟨24, _⟩ => ⟨S2x8192x16, .f32⟩
  | .hbm, ⟨25, _⟩ => ⟨S2x8192x16x1, .f32⟩
  | .hbm, ⟨26, _⟩ => ⟨S_, .f32⟩
  | .hbm, ⟨27, _⟩ => ⟨S2x8192x16x1, .f32⟩
  | .hbm, ⟨28, _⟩ => ⟨S2x8192x16x1, .f32⟩
  | .hbm, ⟨29, _⟩ => ⟨S_, .f32⟩
  | .hbm, ⟨30, _⟩ => ⟨S2x8192x16x1, .f32⟩
  | .hbm, ⟨31, _⟩ => ⟨S2x8192x16x1, .f32⟩
  | .hbm, ⟨32, _⟩ => ⟨S2x8192x16x1, .f32⟩
  | .hbm, ⟨33, _⟩ => ⟨S2x8192x16x64, .f32⟩
  | .hbm, ⟨34, _⟩ => ⟨S2x8192x16x64, .f32⟩
  | .hbm, ⟨35, _⟩ => ⟨S_, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1x1x1x64, .f32⟩
  | .hbm, ⟨40, _⟩ => ⟨S2x8192x16x64, .f32⟩
  | .hbm, ⟨41, _⟩ => ⟨S2x8192x16x64, .f32⟩
  | .hbm, ⟨42, _⟩ => ⟨S2x16x8192, .f32⟩
  | .hbm, ⟨43, _⟩ => ⟨S2x16x8192, .f32⟩
  | .hbm, ⟨44, _⟩ => ⟨S2x16x8192, .bf16⟩
  | .hbm, ⟨45, _⟩ => ⟨S2x16x8192, .f32⟩
  | .hbm, ⟨46, _⟩ => ⟨S2x16x8192, .f32⟩
  | .hbm, ⟨47, _⟩ => ⟨S2x16x8192, .bf16⟩
  | .hbm, ⟨48, _⟩ => ⟨S2x16x8192, .f32⟩
  | .hbm, ⟨49, _⟩ => ⟨S2x16x8192, .f32⟩
  | .hbm, ⟨50, _⟩ => ⟨S2x16x8192, .bf16⟩
  | .hbm, ⟨51, _⟩ => ⟨S2x16x8192, .f32⟩
  | .hbm, ⟨52, _⟩ => ⟨S2x16x1x8192, .f32⟩
  | .hbm, ⟨53, _⟩ => ⟨S2x16x1x8192, .f32⟩
  | .hbm, ⟨54, _⟩ => ⟨S2x16x1x8192, .f32⟩
  | .hbm, ⟨55, _⟩ => ⟨S_, .f32⟩
  | .hbm, ⟨56, _⟩ => ⟨S2x16x3x8192, .f32⟩
  | .hbm, ⟨57, _⟩ => ⟨S_, .f32⟩
  | .hbm, ⟨58, _⟩ => ⟨S2x16x10x8192, .f32⟩
  | .hbm, ⟨59, _⟩ => ⟨S2x16x64x8192, .f32⟩
  | .hbm, ⟨60, _⟩ => ⟨S2x16x80x8192, .f32⟩
  | .hbm, ⟨61, _⟩ => ⟨S2x16x80x8192, .bf16⟩
  | .hbm, ⟨62, _⟩ => ⟨S2x8192x16x64, .f32⟩
  | .hbm, ⟨63, _⟩ => ⟨S_, .f32⟩
  | .hbm, ⟨64, _⟩ => ⟨S2x8192x16, .f32⟩
  | .hbm, ⟨65, _⟩ => ⟨S2x8192x16x1, .f32⟩
  | .hbm, ⟨66, _⟩ => ⟨S_, .f32⟩
  | .hbm, ⟨67, _⟩ => ⟨S2x8192x16x1, .f32⟩
  | .hbm, ⟨68, _⟩ => ⟨S2x8192x16x1, .f32⟩
  | .hbm, ⟨69, _⟩ => ⟨S_, .f32⟩
  | .hbm, ⟨70, _⟩ => ⟨S2x8192x16x1, .f32⟩
  | .hbm, ⟨71, _⟩ => ⟨S2x8192x16x1, .f32⟩
  | .hbm, ⟨72, _⟩ => ⟨S2x8192x16x1, .f32⟩
  | .hbm, ⟨73, _⟩ => ⟨S2x8192x16x64, .f32⟩
  | .hbm, ⟨74, _⟩ => ⟨S2x8192x16x64, .f32⟩
  | .hbm, ⟨75, _⟩ => ⟨S1x1x1x64, .f32⟩
  | .hbm, ⟨76, _⟩ => ⟨S2x8192x16x64, .f32⟩
  | .hbm, ⟨77, _⟩ => ⟨S2x8192x16x64, .f32⟩
  | .hbm, ⟨78, _⟩ => ⟨S2x16x8192x64, .f32⟩
  | .hbm, ⟨79, _⟩ => ⟨S2x8x2x8192x64, .f32⟩
  | .hbm, ⟨80, _⟩ => ⟨S2x16x8192, .bf16⟩
  | .hbm, ⟨81, _⟩ => ⟨S2x16x8192, .f32⟩
  | .hbm, ⟨82, _⟩ => ⟨S2x16x8192, .f32⟩
  | .hbm, ⟨83, _⟩ => ⟨S2x16x8192, .bf16⟩
  | .hbm, ⟨84, _⟩ => ⟨S2x16x8192, .f32⟩
  | .hbm, ⟨85, _⟩ => ⟨S2x16x8192, .f32⟩
  | .hbm, ⟨86, _⟩ => ⟨S2x16x8192, .bf16⟩
  | .hbm, ⟨87, _⟩ => ⟨S2x16x8192, .f32⟩
  | .hbm, ⟨88, _⟩ => ⟨S_, .f32⟩
  | .hbm, ⟨89, _⟩ => ⟨S2x16x8192x3, .f32⟩
  | .hbm, ⟨90, _⟩ => ⟨S2x16x8192, .f32⟩
  | .hbm, ⟨91, _⟩ => ⟨S2x16x8192x1, .f32⟩
  | .hbm, ⟨92, _⟩ => ⟨S2x16x8192, .f32⟩
  | .hbm, ⟨93, _⟩ => ⟨S2x16x8192x1, .f32⟩
  | .hbm, ⟨94, _⟩ => ⟨S2x16x8192, .f32⟩
  | .hbm, ⟨95, _⟩ => ⟨S2x16x8192x1, .f32⟩
  | .hbm, ⟨96, _⟩ => ⟨S_, .f32⟩
  | .hbm, ⟨97, _⟩ => ⟨S2x16x8192x58, .f32⟩
  | .hbm, ⟨98, _⟩ => ⟨S2x16x8192x64, .f32⟩
  | .hbm, ⟨99, _⟩ => ⟨S2x8x2x8192x64, .f32⟩
  | .hbm, ⟨100, _⟩ => ⟨S2x8x1x8192x64, .f32⟩
  | .hbm, ⟨101, _⟩ => ⟨S2x8x1x8192x64, .f32⟩
  | .hbm, ⟨102, _⟩ => ⟨S2x8x1x8192x128, .f32⟩
  | .hbm, ⟨103, _⟩ => ⟨S2x8x1x8192x64, .f32⟩
  | .hbm, ⟨104, _⟩ => ⟨S2x8x1x8192x64, .f32⟩
  | .hbm, ⟨105, _⟩ => ⟨S2x8x1x8192x128, .f32⟩
  | .hbm, ⟨106, _⟩ => ⟨S2x8x2x8192x128, .f32⟩
  | .hbm, ⟨107, _⟩ => ⟨S2x16x8192x128, .f32⟩
  | .hbm, ⟨108, _⟩ => ⟨S2x16x8192x128, .bf16⟩
  | .hbm, ⟨109, _⟩ => ⟨S2x16x64x8192, .f32⟩
  | .hbm, ⟨110, _⟩ => ⟨S2x16x64x8x1024, .f32⟩
  | .hbm, ⟨111, _⟩ => ⟨S2x16x8x64x1024, .f32⟩
  | .hbm, ⟨112, _⟩ => ⟨S_, .f32⟩
  | .hbm, ⟨113, _⟩ => ⟨S2x16x8x1x1024, .f32⟩
  | .hbm, ⟨114, _⟩ => ⟨S_, .f32⟩
  | .hbm, ⟨115, _⟩ => ⟨S2x16x8x63x1024, .f32⟩
  | .hbm, ⟨116, _⟩ => ⟨S2x16x8x128x1024, .f32⟩
  | .hbm, ⟨117, _⟩ => ⟨S2x16x8x128x1024, .bf16⟩
  | .hbm, ⟨118, _⟩ => ⟨S2x1024x8192, .bf16⟩
  | .local _ .vmem, ⟨0, _⟩ => ⟨S1x2x80x1024, .bf16⟩
  | .local _ .vmem, ⟨1, _⟩ => ⟨S1x2x80x1024, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x2x8x128x1024, .bf16⟩
  | .local _ .vmem, ⟨5, _⟩ => ⟨S1x2x8x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S2x128x1024, .f32⟩
  | .local _ .vmem, ⟨9, _⟩ => ⟨S2x2x1024x1024, .bf16⟩
  | .local _ .vmem, ⟨10, _⟩ => ⟨S2x128x1024, .bf16⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_14 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_15 : Ref sig .tc := ⟨.hbm, 112, rfl⟩
abbrev main_v90 : Ref sig .tc := ⟨.hbm, 113, rfl⟩
abbrev main_cst_16 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_cond1 (i : grid0.Coords) : BitVec 1 :=
  let arg2 : BitVec 32 := BitVec.ofNat 32 (i 2).val
  let c1_i32_27 : BitVec 32 := 1#32
  let v34 : BitVec 1 := Scalar.cmpi .sge arg2 c1_i32_27
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let c0_i32_28 : BitVec 32 := 0#32
  let v35 : BitVec 1 := Scalar.cmpi .eq v33 c0_i32_28
  let v36 : BitVec 1 := Scalar.andi v34 v35
  let v37 : BitVec 32 := Scalar.extui v36
  let c0_i32_29 : BitVec 32 := 0#32
  let v38 : BitVec 1 := Scalar.cmpi .ne v37 c0_i32_29
  v38

def k0_mult1 : BitVec 32 :=
  let c0_i32_75 : BitVec 32 := 0#32
  c0_i32_75
def k0_cond2 (i : grid0.Coords) : BitVec 1 :=
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let c1_i32_30 : BitVec 32 := 1#32
  let v39 : BitVec 1 := Scalar.cmpi .eq v33 c1_i32_30
  let v40 : BitVec 32 := Scalar.extui v39
  let c0_i32_31 : BitVec 32 := 0#32
  let v41 : BitVec 1 := Scalar.cmpi .ne v40 c0_i32_31
  v41

def k0_mult2 : BitVec 32 :=
  let c0_i32_75 : BitVec 32 := 0#32
  c0_i32_75
def k0_mult3 : BitVec 32 :=
  let c1024_i32 : BitVec 32 := 1024#32
  c1024_i32
@[reducible] def k0_t1_loop (i : grid0.Coords) : Scf.Loop 32 :=
  let c0_i32_39 : BitVec 32 := 0#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c0_i32_33 : BitVec 32 := 0#32
  let v43 : BitVec 1 := Scalar.cmpi .sgt v23 c0_i32_33
  let v44 : BitVec 32 := Scalar.extui v43
  let c0_i32_34 : BitVec 32 := 0#32
  let v45 : BitVec 1 := Scalar.cmpi .slt v23 c0_i32_34
  let v46 : BitVec 32 := Scalar.extui v45
  let v47 : BitVec 32 := Scalar.subi v44 v46
  let c2_i32_32 : BitVec 32 := 2#32
  let c0_i32_35 : BitVec 32 := 0#32
  let v48 : BitVec 1 := Scalar.cmpi .sgt c2_i32_32 c0_i32_35
  let v49 : BitVec 32 := Scalar.extui v48
  let c0_i32_36 : BitVec 32 := 0#32
  let v50 : BitVec 1 := Scalar.cmpi .slt c2_i32_32 c0_i32_36
  let v51 : BitVec 32 := Scalar.extui v50
  let v52 : BitVec 32 := Scalar.subi v49 v51
  let v53 : BitVec 1 := Scalar.cmpi .ne v47 v52
  let v54 : BitVec 32 := Scalar.remsi v23 c2_i32_32
  let c0_i32_37 : BitVec 32 := 0#32
  let v55 : BitVec 1 := Scalar.cmpi .ne v54 c0_i32_37
  let v56 : BitVec 1 := Scalar.andi v53 v55
  let v42 : BitVec 32 := Scalar.divsi v23 c2_i32_32
  let c1_i32_38 : BitVec 32 := 1#32
  let v57 : BitVec 32 := Scalar.subi v42 c1_i32_38
  let v58 : BitVec 32 := Scalar.select v56 v57 v42
  let v59 : BitVec 32 := Scalar.subi v58 c0_i32_39
  let c1_i32_40 : BitVec 32 := 1#32
  let v61 : BitVec 32 := Scalar.divsi v59 c1_i32_40
  let v62 : BitVec 32 := Scalar.muli v61 c1_i32_40
  let v63 : BitVec 32 := Scalar.addi c0_i32_39 v62
  let c1_i32_41 : BitVec 32 := 1#32
  ⟨c0_i32_39, v63, c1_i32_41⟩
def k0_off1 (arg11 : BitVec 32) : Fin 5 → Nat :=
  let c0_72 : Index := 0#32
  let c0_73 : Index := 0#32
  let v101 : Index := Scalar.indexCast arg11
  let c0_74 : Index := 0#32
  let c0_75 : Index := 0#32
  ![0, 0, v101.toNat, 0, 0]

def k0_off2 (arg11 : BitVec 32) : Fin 5 → Nat :=
  let c0_87 : Index := 0#32
  let c1_88 : Index := 1#32
  let v113 : Index := Scalar.indexCast arg11
  let c0_89 : Index := 0#32
  let c0_90 : Index := 0#32
  ![0, 1, v113.toNat, 0, 0]

def k0_chk1 (i : grid0.Coords) (k0_t1 : Fin (k0_t1_loop i).trips) (arg11 : BitVec 32) : Prop :=
  (∀ a, (k0_off1 arg11) a + S1x1x1x128x1024.size a ≤ S1x2x8x128x1024.size a) ∧
  (∀ a, (k0_off2 arg11) a + S1x1x1x128x1024.size a ≤ S1x2x8x128x1024.size a)
theorem k0_off1_inb : ∀ (i : grid0.Coords) (k0_t1 : Fin (k0_t1_loop i).trips) (arg11 : BitVec 32) (k0_hw1 : k0_chk1 i k0_t1 arg11), ∀ a, (k0_off1 arg11) a + S1x1x1x128x1024.size a ≤ S1x2x8x128x1024.size a := fun i k0_t1 arg11 k0_hw1 => k0_hw1.1
theorem k0_off2_inb : ∀ (i : grid0.Coords) (k0_t1 : Fin (k0_t1_loop i).trips) (arg11 : BitVec 32) (k0_hw1 : k0_chk1 i k0_t1 arg11), ∀ a, (k0_off2 arg11) a + S1x1x1x128x1024.size a ≤ S1x2x8x128x1024.size a := fun i k0_t1 arg11 k0_hw1 => k0_hw1.2

def k0_mult4 (i : grid0.Coords) (k0_t1 : Fin (k0_t1_loop i).trips) : BitVec 32 :=
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c1_i32_41 : BitVec 32 := 1#32
  let arg10 : BitVec 32 := Scf.iv c0_i32_39 c1_i32_41 k0_t1
  let v97 : BitVec 32 := Scalar.muli c2_i32_68 arg10
  let v98 : BitVec 32 := Scalar.addi v96 v97
  let c1024_i32 : BitVec 32 := 1024#32
  let v123 : BitVec 32 := Scalar.muli v98 c1024_i32
  v123
def k0_off3 (i : grid0.Coords) (k0_t1 : Fin (k0_t1_loop i).trips) : Fin 4 → Nat :=
  let c0_99 : Index := 0#32
  let c0_100 : Index := 0#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c1_i32_41 : BitVec 32 := 1#32
  let arg10 : BitVec 32 := Scf.iv c0_i32_39 c1_i32_41 k0_t1
  let v97 : BitVec 32 := Scalar.muli c2_i32_68 arg10
  let v98 : BitVec 32 := Scalar.addi v96 v97
  let c1024_i32 : BitVec 32 := 1024#32
  let v123 : BitVec 32 := Scalar.muli v98 c1024_i32
  let v124 : BitVec 32 := v123
  let v125 : Index := Scalar.indexCast v124
  let c0_101 : Index := 0#32
  ![0, 0, v125.toNat, 0]
def k0_off4 (i : grid0.Coords) (k0_t1 : Fin (k0_t1_loop i).trips) : Fin 4 → Nat :=
  let c0_110 : Index := 0#32
  let c1_111 : Index := 1#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c1_i32_41 : BitVec 32 := 1#32
  let arg10 : BitVec 32 := Scf.iv c0_i32_39 c1_i32_41 k0_t1
  let v97 : BitVec 32 := Scalar.muli c2_i32_68 arg10
  let v98 : BitVec 32 := Scalar.addi v96 v97
  let c1024_i32 : BitVec 32 := 1024#32
  let v123 : BitVec 32 := Scalar.muli v98 c1024_i32
  let v124 : BitVec 32 := v123
  let v136 : Index := Scalar.indexCast v124
  let c0_112 : Index := 0#32
  ![0, 1, v136.toNat, 0]
def k0_mult5 (i : grid0.Coords) (k0_t1 : Fin (k0_t1_loop i).trips) : BitVec 32 :=
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c1_i32_41 : BitVec 32 := 1#32
  let arg10 : BitVec 32 := Scf.iv c0_i32_39 c1_i32_41 k0_t1
  let v97 : BitVec 32 := Scalar.muli c2_i32_68 arg10
  let v98 : BitVec 32 := Scalar.addi v96 v97
  let c1_i32_121 : BitVec 32 := 1#32
  let v147 : BitVec 32 := Scalar.addi v98 c1_i32_121
  let c1024_i32_122 : BitVec 32 := 1024#32
  let v148 : BitVec 32 := Scalar.muli v147 c1024_i32_122
  v148
def k0_off5 (i : grid0.Coords) (k0_t1 : Fin (k0_t1_loop i).trips) : Fin 4 → Nat :=
  let c0_123 : Index := 0#32
  let c0_124 : Index := 0#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c1_i32_41 : BitVec 32 := 1#32
  let arg10 : BitVec 32 := Scf.iv c0_i32_39 c1_i32_41 k0_t1
  let v97 : BitVec 32 := Scalar.muli c2_i32_68 arg10
  let v98 : BitVec 32 := Scalar.addi v96 v97
  let c1_i32_121 : BitVec 32 := 1#32
  let v147 : BitVec 32 := Scalar.addi v98 c1_i32_121
  let c1024_i32_122 : BitVec 32 := 1024#32
  let v148 : BitVec 32 := Scalar.muli v147 c1024_i32_122
  let v149 : BitVec 32 := v148
  let v150 : Index := Scalar.indexCast v149
  let c0_125 : Index := 0#32
  ![0, 0, v150.toNat, 0]
def k0_off6 (i : grid0.Coords) (k0_t1 : Fin (k0_t1_loop i).trips) : Fin 4 → Nat :=
  let c0_134 : Index := 0#32
  let c1_135 : Index := 1#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c1_i32_41 : BitVec 32 := 1#32
  let arg10 : BitVec 32 := Scf.iv c0_i32_39 c1_i32_41 k0_t1
  let v97 : BitVec 32 := Scalar.muli c2_i32_68 arg10
  let v98 : BitVec 32 := Scalar.addi v96 v97
  let c1_i32_121 : BitVec 32 := 1#32
  let v147 : BitVec 32 := Scalar.addi v98 c1_i32_121
  let c1024_i32_122 : BitVec 32 := 1024#32
  let v148 : BitVec 32 := Scalar.muli v147 c1024_i32_122
  let v149 : BitVec 32 := v148
  let v161 : Index := Scalar.indexCast v149
  let c0_136 : Index := 0#32
  ![0, 1, v161.toNat, 0]
def k0_off7 (i : grid0.Coords) (k0_t1 : Fin (k0_t1_loop i).trips) : Fin 5 → Nat :=
  let c0_148 : Index := 0#32
  let c0_149 : Index := 0#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c1_i32_41 : BitVec 32 := 1#32
  let arg10 : BitVec 32 := Scf.iv c0_i32_39 c1_i32_41 k0_t1
  let v97 : BitVec 32 := Scalar.muli c2_i32_68 arg10
  let v98 : BitVec 32 := Scalar.addi v96 v97
  let v174 : Index := Scalar.indexCast v98
  let c0_150 : Index := 0#32
  let c0_151 : Index := 0#32
  ![0, 0, v174.toNat, 0, 0]
def k0_off8 (i : grid0.Coords) (k0_t1 : Fin (k0_t1_loop i).trips) : Fin 5 → Nat :=
  let c0_163 : Index := 0#32
  let c1_164 : Index := 1#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c1_i32_41 : BitVec 32 := 1#32
  let arg10 : BitVec 32 := Scf.iv c0_i32_39 c1_i32_41 k0_t1
  let v97 : BitVec 32 := Scalar.muli c2_i32_68 arg10
  let v98 : BitVec 32 := Scalar.addi v96 v97
  let v186 : Index := Scalar.indexCast v98
  let c0_165 : Index := 0#32
  let c0_166 : Index := 0#32
  ![0, 1, v186.toNat, 0, 0]
@[reducible] def k0_t2_loop (i : grid0.Coords) : Scf.Loop 32 :=
  let c0_i32_39 : BitVec 32 := 0#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c0_i32_33 : BitVec 32 := 0#32
  let v43 : BitVec 1 := Scalar.cmpi .sgt v23 c0_i32_33
  let v44 : BitVec 32 := Scalar.extui v43
  let c0_i32_34 : BitVec 32 := 0#32
  let v45 : BitVec 1 := Scalar.cmpi .slt v23 c0_i32_34
  let v46 : BitVec 32 := Scalar.extui v45
  let v47 : BitVec 32 := Scalar.subi v44 v46
  let c2_i32_32 : BitVec 32 := 2#32
  let c0_i32_35 : BitVec 32 := 0#32
  let v48 : BitVec 1 := Scalar.cmpi .sgt c2_i32_32 c0_i32_35
  let v49 : BitVec 32 := Scalar.extui v48
  let c0_i32_36 : BitVec 32 := 0#32
  let v50 : BitVec 1 := Scalar.cmpi .slt c2_i32_32 c0_i32_36
  let v51 : BitVec 32 := Scalar.extui v50
  let v52 : BitVec 32 := Scalar.subi v49 v51
  let v53 : BitVec 1 := Scalar.cmpi .ne v47 v52
  let v54 : BitVec 32 := Scalar.remsi v23 c2_i32_32
  let c0_i32_37 : BitVec 32 := 0#32
  let v55 : BitVec 1 := Scalar.cmpi .ne v54 c0_i32_37
  let v56 : BitVec 1 := Scalar.andi v53 v55
  let v42 : BitVec 32 := Scalar.divsi v23 c2_i32_32
  let c1_i32_38 : BitVec 32 := 1#32
  let v57 : BitVec 32 := Scalar.subi v42 c1_i32_38
  let v58 : BitVec 32 := Scalar.select v56 v57 v42
  let v59 : BitVec 32 := Scalar.subi v58 c0_i32_39
  let c1_i32_40 : BitVec 32 := 1#32
  let v61 : BitVec 32 := Scalar.divsi v59 c1_i32_40
  let v62 : BitVec 32 := Scalar.muli v61 c1_i32_40
  let v63 : BitVec 32 := Scalar.addi c0_i32_39 v62
  let v60 : BitVec 32 := Scalar.addi c0_i32_39 v59
  let c1_i32_42 : BitVec 32 := 1#32
  ⟨v63, v60, c1_i32_42⟩
def k0_off9 (arg11 : BitVec 32) : Fin 5 → Nat :=
  let c0_72 : Index := 0#32
  let c0_73 : Index := 0#32
  let v101 : Index := Scalar.indexCast arg11
  let c0_74 : Index := 0#32
  let c0_75 : Index := 0#32
  ![0, 0, v101.toNat, 0, 0]

def k0_off10 (arg11 : BitVec 32) : Fin 5 → Nat :=
  let c0_87 : Index := 0#32
  let c1_88 : Index := 1#32
  let v113 : Index := Scalar.indexCast arg11
  let c0_89 : Index := 0#32
  let c0_90 : Index := 0#32
  ![0, 1, v113.toNat, 0, 0]

def k0_chk2 (i : grid0.Coords) (k0_t2 : Fin (k0_t2_loop i).trips) (arg11 : BitVec 32) : Prop :=
  (∀ a, (k0_off9 arg11) a + S1x1x1x128x1024.size a ≤ S1x2x8x128x1024.size a) ∧
  (∀ a, (k0_off10 arg11) a + S1x1x1x128x1024.size a ≤ S1x2x8x128x1024.size a)
theorem k0_off9_inb : ∀ (i : grid0.Coords) (k0_t2 : Fin (k0_t2_loop i).trips) (arg11 : BitVec 32) (k0_hw2 : k0_chk2 i k0_t2 arg11), ∀ a, (k0_off9 arg11) a + S1x1x1x128x1024.size a ≤ S1x2x8x128x1024.size a := fun i k0_t2 arg11 k0_hw2 => k0_hw2.1
theorem k0_off10_inb : ∀ (i : grid0.Coords) (k0_t2 : Fin (k0_t2_loop i).trips) (arg11 : BitVec 32) (k0_hw2 : k0_chk2 i k0_t2 arg11), ∀ a, (k0_off10 arg11) a + S1x1x1x128x1024.size a ≤ S1x2x8x128x1024.size a := fun i k0_t2 arg11 k0_hw2 => k0_hw2.2

def k0_mult6 (i : grid0.Coords) (k0_t2 : Fin (k0_t2_loop i).trips) : BitVec 32 :=
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c0_i32_33 : BitVec 32 := 0#32
  let v43 : BitVec 1 := Scalar.cmpi .sgt v23 c0_i32_33
  let v44 : BitVec 32 := Scalar.extui v43
  let c0_i32_34 : BitVec 32 := 0#32
  let v45 : BitVec 1 := Scalar.cmpi .slt v23 c0_i32_34
  let v46 : BitVec 32 := Scalar.extui v45
  let v47 : BitVec 32 := Scalar.subi v44 v46
  let c2_i32_32 : BitVec 32 := 2#32
  let c0_i32_35 : BitVec 32 := 0#32
  let v48 : BitVec 1 := Scalar.cmpi .sgt c2_i32_32 c0_i32_35
  let v49 : BitVec 32 := Scalar.extui v48
  let c0_i32_36 : BitVec 32 := 0#32
  let v50 : BitVec 1 := Scalar.cmpi .slt c2_i32_32 c0_i32_36
  let v51 : BitVec 32 := Scalar.extui v50
  let v52 : BitVec 32 := Scalar.subi v49 v51
  let v53 : BitVec 1 := Scalar.cmpi .ne v47 v52
  let v54 : BitVec 32 := Scalar.remsi v23 c2_i32_32
  let c0_i32_37 : BitVec 32 := 0#32
  let v55 : BitVec 1 := Scalar.cmpi .ne v54 c0_i32_37
  let v56 : BitVec 1 := Scalar.andi v53 v55
  let v42 : BitVec 32 := Scalar.divsi v23 c2_i32_32
  let c1_i32_38 : BitVec 32 := 1#32
  let v57 : BitVec 32 := Scalar.subi v42 c1_i32_38
  let v58 : BitVec 32 := Scalar.select v56 v57 v42
  let v59 : BitVec 32 := Scalar.subi v58 c0_i32_39
  let c1_i32_40 : BitVec 32 := 1#32
  let v61 : BitVec 32 := Scalar.divsi v59 c1_i32_40
  let v62 : BitVec 32 := Scalar.muli v61 c1_i32_40
  let v63 : BitVec 32 := Scalar.addi c0_i32_39 v62
  let c1_i32_42 : BitVec 32 := 1#32
  let arg10 : BitVec 32 := Scf.iv v63 c1_i32_42 k0_t2
  let v97 : BitVec 32 := Scalar.muli c2_i32_68 arg10
  let v98 : BitVec 32 := Scalar.addi v96 v97
  let c1024_i32 : BitVec 32 := 1024#32
  let v123 : BitVec 32 := Scalar.muli v98 c1024_i32
  v123
def k0_off11 (i : grid0.Coords) (k0_t2 : Fin (k0_t2_loop i).trips) : Fin 4 → Nat :=
  let c0_99 : Index := 0#32
  let c0_100 : Index := 0#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c0_i32_33 : BitVec 32 := 0#32
  let v43 : BitVec 1 := Scalar.cmpi .sgt v23 c0_i32_33
  let v44 : BitVec 32 := Scalar.extui v43
  let c0_i32_34 : BitVec 32 := 0#32
  let v45 : BitVec 1 := Scalar.cmpi .slt v23 c0_i32_34
  let v46 : BitVec 32 := Scalar.extui v45
  let v47 : BitVec 32 := Scalar.subi v44 v46
  let c2_i32_32 : BitVec 32 := 2#32
  let c0_i32_35 : BitVec 32 := 0#32
  let v48 : BitVec 1 := Scalar.cmpi .sgt c2_i32_32 c0_i32_35
  let v49 : BitVec 32 := Scalar.extui v48
  let c0_i32_36 : BitVec 32 := 0#32
  let v50 : BitVec 1 := Scalar.cmpi .slt c2_i32_32 c0_i32_36
  let v51 : BitVec 32 := Scalar.extui v50
  let v52 : BitVec 32 := Scalar.subi v49 v51
  let v53 : BitVec 1 := Scalar.cmpi .ne v47 v52
  let v54 : BitVec 32 := Scalar.remsi v23 c2_i32_32
  let c0_i32_37 : BitVec 32 := 0#32
  let v55 : BitVec 1 := Scalar.cmpi .ne v54 c0_i32_37
  let v56 : BitVec 1 := Scalar.andi v53 v55
  let v42 : BitVec 32 := Scalar.divsi v23 c2_i32_32
  let c1_i32_38 : BitVec 32 := 1#32
  let v57 : BitVec 32 := Scalar.subi v42 c1_i32_38
  let v58 : BitVec 32 := Scalar.select v56 v57 v42
  let v59 : BitVec 32 := Scalar.subi v58 c0_i32_39
  let c1_i32_40 : BitVec 32 := 1#32
  let v61 : BitVec 32 := Scalar.divsi v59 c1_i32_40
  let v62 : BitVec 32 := Scalar.muli v61 c1_i32_40
  let v63 : BitVec 32 := Scalar.addi c0_i32_39 v62
  let c1_i32_42 : BitVec 32 := 1#32
  let arg10 : BitVec 32 := Scf.iv v63 c1_i32_42 k0_t2
  let v97 : BitVec 32 := Scalar.muli c2_i32_68 arg10
  let v98 : BitVec 32 := Scalar.addi v96 v97
  let c1024_i32 : BitVec 32 := 1024#32
  let v123 : BitVec 32 := Scalar.muli v98 c1024_i32
  let v124 : BitVec 32 := v123
  let v125 : Index := Scalar.indexCast v124
  let c0_101 : Index := 0#32
  ![0, 0, v125.toNat, 0]
def k0_off12 (i : grid0.Coords) (k0_t2 : Fin (k0_t2_loop i).trips) : Fin 4 → Nat :=
  let c0_110 : Index := 0#32
  let c1_111 : Index := 1#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c0_i32_33 : BitVec 32 := 0#32
  let v43 : BitVec 1 := Scalar.cmpi .sgt v23 c0_i32_33
  let v44 : BitVec 32 := Scalar.extui v43
  let c0_i32_34 : BitVec 32 := 0#32
  let v45 : BitVec 1 := Scalar.cmpi .slt v23 c0_i32_34
  let v46 : BitVec 32 := Scalar.extui v45
  let v47 : BitVec 32 := Scalar.subi v44 v46
  let c2_i32_32 : BitVec 32 := 2#32
  let c0_i32_35 : BitVec 32 := 0#32
  let v48 : BitVec 1 := Scalar.cmpi .sgt c2_i32_32 c0_i32_35
  let v49 : BitVec 32 := Scalar.extui v48
  let c0_i32_36 : BitVec 32 := 0#32
  let v50 : BitVec 1 := Scalar.cmpi .slt c2_i32_32 c0_i32_36
  let v51 : BitVec 32 := Scalar.extui v50
  let v52 : BitVec 32 := Scalar.subi v49 v51
  let v53 : BitVec 1 := Scalar.cmpi .ne v47 v52
  let v54 : BitVec 32 := Scalar.remsi v23 c2_i32_32
  let c0_i32_37 : BitVec 32 := 0#32
  let v55 : BitVec 1 := Scalar.cmpi .ne v54 c0_i32_37
  let v56 : BitVec 1 := Scalar.andi v53 v55
  let v42 : BitVec 32 := Scalar.divsi v23 c2_i32_32
  let c1_i32_38 : BitVec 32 := 1#32
  let v57 : BitVec 32 := Scalar.subi v42 c1_i32_38
  let v58 : BitVec 32 := Scalar.select v56 v57 v42
  let v59 : BitVec 32 := Scalar.subi v58 c0_i32_39
  let c1_i32_40 : BitVec 32 := 1#32
  let v61 : BitVec 32 := Scalar.divsi v59 c1_i32_40
  let v62 : BitVec 32 := Scalar.muli v61 c1_i32_40
  let v63 : BitVec 32 := Scalar.addi c0_i32_39 v62
  let c1_i32_42 : BitVec 32 := 1#32
  let arg10 : BitVec 32 := Scf.iv v63 c1_i32_42 k0_t2
  let v97 : BitVec 32 := Scalar.muli c2_i32_68 arg10
  let v98 : BitVec 32 := Scalar.addi v96 v97
  let c1024_i32 : BitVec 32 := 1024#32
  let v123 : BitVec 32 := Scalar.muli v98 c1024_i32
  let v124 : BitVec 32 := v123
  let v136 : Index := Scalar.indexCast v124
  let c0_112 : Index := 0#32
  ![0, 1, v136.toNat, 0]
def k0_mult7 (i : grid0.Coords) (k0_t2 : Fin (k0_t2_loop i).trips) : BitVec 32 :=
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c0_i32_33 : BitVec 32 := 0#32
  let v43 : BitVec 1 := Scalar.cmpi .sgt v23 c0_i32_33
  let v44 : BitVec 32 := Scalar.extui v43
  let c0_i32_34 : BitVec 32 := 0#32
  let v45 : BitVec 1 := Scalar.cmpi .slt v23 c0_i32_34
  let v46 : BitVec 32 := Scalar.extui v45
  let v47 : BitVec 32 := Scalar.subi v44 v46
  let c2_i32_32 : BitVec 32 := 2#32
  let c0_i32_35 : BitVec 32 := 0#32
  let v48 : BitVec 1 := Scalar.cmpi .sgt c2_i32_32 c0_i32_35
  let v49 : BitVec 32 := Scalar.extui v48
  let c0_i32_36 : BitVec 32 := 0#32
  let v50 : BitVec 1 := Scalar.cmpi .slt c2_i32_32 c0_i32_36
  let v51 : BitVec 32 := Scalar.extui v50
  let v52 : BitVec 32 := Scalar.subi v49 v51
  let v53 : BitVec 1 := Scalar.cmpi .ne v47 v52
  let v54 : BitVec 32 := Scalar.remsi v23 c2_i32_32
  let c0_i32_37 : BitVec 32 := 0#32
  let v55 : BitVec 1 := Scalar.cmpi .ne v54 c0_i32_37
  let v56 : BitVec 1 := Scalar.andi v53 v55
  let v42 : BitVec 32 := Scalar.divsi v23 c2_i32_32
  let c1_i32_38 : BitVec 32 := 1#32
  let v57 : BitVec 32 := Scalar.subi v42 c1_i32_38
  let v58 : BitVec 32 := Scalar.select v56 v57 v42
  let v59 : BitVec 32 := Scalar.subi v58 c0_i32_39
  let c1_i32_40 : BitVec 32 := 1#32
  let v61 : BitVec 32 := Scalar.divsi v59 c1_i32_40
  let v62 : BitVec 32 := Scalar.muli v61 c1_i32_40
  let v63 : BitVec 32 := Scalar.addi c0_i32_39 v62
  let c1_i32_42 : BitVec 32 := 1#32
  let arg10 : BitVec 32 := Scf.iv v63 c1_i32_42 k0_t2
  let v97 : BitVec 32 := Scalar.muli c2_i32_68 arg10
  let v98 : BitVec 32 := Scalar.addi v96 v97
  let c1_i32_121 : BitVec 32 := 1#32
  let v147 : BitVec 32 := Scalar.addi v98 c1_i32_121
  let c1024_i32_122 : BitVec 32 := 1024#32
  let v148 : BitVec 32 := Scalar.muli v147 c1024_i32_122
  v148
def k0_off13 (i : grid0.Coords) (k0_t2 : Fin (k0_t2_loop i).trips) : Fin 4 → Nat :=
  let c0_123 : Index := 0#32
  let c0_124 : Index := 0#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c0_i32_33 : BitVec 32 := 0#32
  let v43 : BitVec 1 := Scalar.cmpi .sgt v23 c0_i32_33
  let v44 : BitVec 32 := Scalar.extui v43
  let c0_i32_34 : BitVec 32 := 0#32
  let v45 : BitVec 1 := Scalar.cmpi .slt v23 c0_i32_34
  let v46 : BitVec 32 := Scalar.extui v45
  let v47 : BitVec 32 := Scalar.subi v44 v46
  let c2_i32_32 : BitVec 32 := 2#32
  let c0_i32_35 : BitVec 32 := 0#32
  let v48 : BitVec 1 := Scalar.cmpi .sgt c2_i32_32 c0_i32_35
  let v49 : BitVec 32 := Scalar.extui v48
  let c0_i32_36 : BitVec 32 := 0#32
  let v50 : BitVec 1 := Scalar.cmpi .slt c2_i32_32 c0_i32_36
  let v51 : BitVec 32 := Scalar.extui v50
  let v52 : BitVec 32 := Scalar.subi v49 v51
  let v53 : BitVec 1 := Scalar.cmpi .ne v47 v52
  let v54 : BitVec 32 := Scalar.remsi v23 c2_i32_32
  let c0_i32_37 : BitVec 32 := 0#32
  let v55 : BitVec 1 := Scalar.cmpi .ne v54 c0_i32_37
  let v56 : BitVec 1 := Scalar.andi v53 v55
  let v42 : BitVec 32 := Scalar.divsi v23 c2_i32_32
  let c1_i32_38 : BitVec 32 := 1#32
  let v57 : BitVec 32 := Scalar.subi v42 c1_i32_38
  let v58 : BitVec 32 := Scalar.select v56 v57 v42
  let v59 : BitVec 32 := Scalar.subi v58 c0_i32_39
  let c1_i32_40 : BitVec 32 := 1#32
  let v61 : BitVec 32 := Scalar.divsi v59 c1_i32_40
  let v62 : BitVec 32 := Scalar.muli v61 c1_i32_40
  let v63 : BitVec 32 := Scalar.addi c0_i32_39 v62
  let c1_i32_42 : BitVec 32 := 1#32
  let arg10 : BitVec 32 := Scf.iv v63 c1_i32_42 k0_t2
  let v97 : BitVec 32 := Scalar.muli c2_i32_68 arg10
  let v98 : BitVec 32 := Scalar.addi v96 v97
  let c1_i32_121 : BitVec 32 := 1#32
  let v147 : BitVec 32 := Scalar.addi v98 c1_i32_121
  let c1024_i32_122 : BitVec 32 := 1024#32
  let v148 : BitVec 32 := Scalar.muli v147 c1024_i32_122
  let v149 : BitVec 32 := v148
  let v150 : Index := Scalar.indexCast v149
  let c0_125 : Index := 0#32
  ![0, 0, v150.toNat, 0]
def k0_off14 (i : grid0.Coords) (k0_t2 : Fin (k0_t2_loop i).trips) : Fin 4 → Nat :=
  let c0_134 : Index := 0#32
  let c1_135 : Index := 1#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c0_i32_33 : BitVec 32 := 0#32
  let v43 : BitVec 1 := Scalar.cmpi .sgt v23 c0_i32_33
  let v44 : BitVec 32 := Scalar.extui v43
  let c0_i32_34 : BitVec 32 := 0#32
  let v45 : BitVec 1 := Scalar.cmpi .slt v23 c0_i32_34
  let v46 : BitVec 32 := Scalar.extui v45
  let v47 : BitVec 32 := Scalar.subi v44 v46
  let c2_i32_32 : BitVec 32 := 2#32
  let c0_i32_35 : BitVec 32 := 0#32
  let v48 : BitVec 1 := Scalar.cmpi .sgt c2_i32_32 c0_i32_35
  let v49 : BitVec 32 := Scalar.extui v48
  let c0_i32_36 : BitVec 32 := 0#32
  let v50 : BitVec 1 := Scalar.cmpi .slt c2_i32_32 c0_i32_36
  let v51 : BitVec 32 := Scalar.extui v50
  let v52 : BitVec 32 := Scalar.subi v49 v51
  let v53 : BitVec 1 := Scalar.cmpi .ne v47 v52
  let v54 : BitVec 32 := Scalar.remsi v23 c2_i32_32
  let c0_i32_37 : BitVec 32 := 0#32
  let v55 : BitVec 1 := Scalar.cmpi .ne v54 c0_i32_37
  let v56 : BitVec 1 := Scalar.andi v53 v55
  let v42 : BitVec 32 := Scalar.divsi v23 c2_i32_32
  let c1_i32_38 : BitVec 32 := 1#32
  let v57 : BitVec 32 := Scalar.subi v42 c1_i32_38
  let v58 : BitVec 32 := Scalar.select v56 v57 v42
  let v59 : BitVec 32 := Scalar.subi v58 c0_i32_39
  let c1_i32_40 : BitVec 32 := 1#32
  let v61 : BitVec 32 := Scalar.divsi v59 c1_i32_40
  let v62 : BitVec 32 := Scalar.muli v61 c1_i32_40
  let v63 : BitVec 32 := Scalar.addi c0_i32_39 v62
  let c1_i32_42 : BitVec 32 := 1#32
  let arg10 : BitVec 32 := Scf.iv v63 c1_i32_42 k0_t2
  let v97 : BitVec 32 := Scalar.muli c2_i32_68 arg10
  let v98 : BitVec 32 := Scalar.addi v96 v97
  let c1_i32_121 : BitVec 32 := 1#32
  let v147 : BitVec 32 := Scalar.addi v98 c1_i32_121
  let c1024_i32_122 : BitVec 32 := 1024#32
  let v148 : BitVec 32 := Scalar.muli v147 c1024_i32_122
  let v149 : BitVec 32 := v148
  let v161 : Index := Scalar.indexCast v149
  let c0_136 : Index := 0#32
  ![0, 1, v161.toNat, 0]
def k0_off15 (i : grid0.Coords) (k0_t2 : Fin (k0_t2_loop i).trips) : Fin 5 → Nat :=
  let c0_148 : Index := 0#32
  let c0_149 : Index := 0#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c0_i32_33 : BitVec 32 := 0#32
  let v43 : BitVec 1 := Scalar.cmpi .sgt v23 c0_i32_33
  let v44 : BitVec 32 := Scalar.extui v43
  let c0_i32_34 : BitVec 32 := 0#32
  let v45 : BitVec 1 := Scalar.cmpi .slt v23 c0_i32_34
  let v46 : BitVec 32 := Scalar.extui v45
  let v47 : BitVec 32 := Scalar.subi v44 v46
  let c2_i32_32 : BitVec 32 := 2#32
  let c0_i32_35 : BitVec 32 := 0#32
  let v48 : BitVec 1 := Scalar.cmpi .sgt c2_i32_32 c0_i32_35
  let v49 : BitVec 32 := Scalar.extui v48
  let c0_i32_36 : BitVec 32 := 0#32
  let v50 : BitVec 1 := Scalar.cmpi .slt c2_i32_32 c0_i32_36
  let v51 : BitVec 32 := Scalar.extui v50
  let v52 : BitVec 32 := Scalar.subi v49 v51
  let v53 : BitVec 1 := Scalar.cmpi .ne v47 v52
  let v54 : BitVec 32 := Scalar.remsi v23 c2_i32_32
  let c0_i32_37 : BitVec 32 := 0#32
  let v55 : BitVec 1 := Scalar.cmpi .ne v54 c0_i32_37
  let v56 : BitVec 1 := Scalar.andi v53 v55
  let v42 : BitVec 32 := Scalar.divsi v23 c2_i32_32
  let c1_i32_38 : BitVec 32 := 1#32
  let v57 : BitVec 32 := Scalar.subi v42 c1_i32_38
  let v58 : BitVec 32 := Scalar.select v56 v57 v42
  let v59 : BitVec 32 := Scalar.subi v58 c0_i32_39
  let c1_i32_40 : BitVec 32 := 1#32
  let v61 : BitVec 32 := Scalar.divsi v59 c1_i32_40
  let v62 : BitVec 32 := Scalar.muli v61 c1_i32_40
  let v63 : BitVec 32 := Scalar.addi c0_i32_39 v62
  let c1_i32_42 : BitVec 32 := 1#32
  let arg10 : BitVec 32 := Scf.iv v63 c1_i32_42 k0_t2
  let v97 : BitVec 32 := Scalar.muli c2_i32_68 arg10
  let v98 : BitVec 32 := Scalar.addi v96 v97
  let v174 : Index := Scalar.indexCast v98
  let c0_150 : Index := 0#32
  let c0_151 : Index := 0#32
  ![0, 0, v174.toNat, 0, 0]
def k0_off16 (i : grid0.Coords) (k0_t2 : Fin (k0_t2_loop i).trips) : Fin 5 → Nat :=
  let c0_163 : Index := 0#32
  let c1_164 : Index := 1#32
  let c1_i32_67 : BitVec 32 := 1#32
  let arg2 : BitVec 32 := BitVec.ofNat 32 (i 2).val
  let c1_i32 : BitVec 32 := 1#32
  let v22 : BitVec 32 := Scalar.subi arg2 c1_i32
  let c0_i32 : BitVec 32 := 0#32
  let v23 : BitVec 32 := Scalar.maxsi v22 c0_i32
  let c2_i32 : BitVec 32 := 2#32
  let c0_i32_22 : BitVec 32 := 0#32
  let v24 : BitVec 1 := Scalar.cmpi .eq c2_i32 c0_i32_22
  let c1_i32_23 : BitVec 32 := 1#32
  let v25 : BitVec 32 := Scalar.select v24 c1_i32_23 c2_i32
  let v26 : BitVec 32 := Scalar.remsi v23 v25
  let c0_i32_25 : BitVec 32 := 0#32
  let v28 : BitVec 1 := Scalar.cmpi .slt v26 c0_i32_25
  let c0_i32_26 : BitVec 32 := 0#32
  let v29 : BitVec 1 := Scalar.cmpi .slt v25 c0_i32_26
  let v30 : BitVec 1 := Scalar.xori v28 v29
  let c0_i32_24 : BitVec 32 := 0#32
  let v27 : BitVec 1 := Scalar.cmpi .ne v26 c0_i32_24
  let v31 : BitVec 1 := Scalar.andi v30 v27
  let v32 : BitVec 32 := Scalar.addi v26 v25
  let v33 : BitVec 32 := Scalar.select v31 v32 v26
  let v96 : BitVec 32 := Scalar.addi c1_i32_67 v33
  let c2_i32_68 : BitVec 32 := 2#32
  let c0_i32_39 : BitVec 32 := 0#32
  let c0_i32_33 : BitVec 32 := 0#32
  let v43 : BitVec 1 := Scalar.cmpi .sgt v23 c0_i32_33
  let v44 : BitVec 32 := Scalar.extui v43
  let c0_i32_34 : BitVec 32 := 0#32
  let v45 : BitVec 1 := Scalar.cmpi .slt v23 c0_i32_34
  let v46 : BitVec 32 := Scalar.extui v45
  let v47 : BitVec 32 := Scalar.subi v44 v46
  let c2_i32_32 : BitVec 32 := 2#32
  let c0_i32_35 : BitVec 32 := 0#32
  let v48 : BitVec 1 := Scalar.cmpi .sgt c2_i32_32 c0_i32_35
  let v49 : BitVec 32 := Scalar.extui v48
  let c0_i32_36 : BitVec 32 := 0#32
  let v50 : BitVec 1 := Scalar.cmpi .slt c2_i32_32 c0_i32_36
  let v51 : BitVec 32 := Scalar.extui v50
  let v52 : BitVec 32 := Scalar.subi v49 v51
  let v53 : BitVec 1 := Scalar.cmpi .ne v47 v52
  let v54 : BitVec 32 := Scalar.remsi v23 c2_i32_32
  let c0_i32_37 : BitVec 32 := 0#32
  let v55 : BitVec 1 := Scalar.cmpi .ne v54 c0_i32_37
  let v56 : BitVec 1 := Scalar.andi v53 v55
  let v42 : BitVec 32 := Scalar.divsi v23 c2_i32_32
  let c1_i32_38 : BitVec 32 := 1#32
  let v57 : BitVec 32 := Scalar.subi v42 c1_i32_38
  let v58 : BitVec 32 := Scalar.select v56 v57 v42
  let v59 : BitVec 32 := Scalar.subi v58 c0_i32_39
  let c1_i32_40 : BitVec 32 := 1#32
  let v61 : BitVec 32 := Scalar.divsi v59 c1_i32_40
  let v62 : BitVec 32 := Scalar.muli v61 c1_i32_40
  let v63 : BitVec 32 := Scalar.addi c0_i32_39 v62
  let c1_i32_42 : BitVec 32 := 1#32
  let arg10 : BitVec 32 := Scf.iv v63 c1_i32_42 k0_t2
  let v97 : BitVec 32 := Scalar.muli c2_i32_68 arg10
  let v98 : BitVec 32 := Scalar.addi v96 v97
  let v186 : Index := Scalar.indexCast v98
  let c0_165 : Index := 0#32
  let c0_166 : Index := 0#32
  ![0, 1, v186.toNat, 0, 0]
def k0_cond3 (i : grid0.Coords) : BitVec 1 :=
  let arg2 : BitVec 32 := BitVec.ofNat 32 (i 2).val
  let c1_i32_43 : BitVec 32 := 1#32
  let v66 : BitVec 1 := Scalar.cmpi .sge arg2 c1_i32_43
  let v67 : BitVec 32 := Scalar.extui v66
  let c0_i32_44 : BitVec 32 := 0#32
  let v68 : BitVec 1 := Scalar.cmpi .ne v67 c0_i32_44
  v68

def k0_mult8 (i : grid0.Coords) : BitVec 32 :=
  let arg2 : BitVec 32 := BitVec.ofNat 32 (i 2).val
  let c1024_i32 : BitVec 32 := 1024#32
  let v101 : BitVec 32 := Scalar.muli arg2 c1024_i32
  let c0_i32_70 : BitVec 32 := 0#32
  let v102 : BitVec 32 := Scalar.addi v101 c0_i32_70
  v102
def k0_off17 (i : grid0.Coords) (c0_i32_70 : BitVec 32) : Fin 4 → Nat :=
  let c0_71 : Index := 0#32
  let c0_72 : Index := 0#32
  let arg2 : BitVec 32 := BitVec.ofNat 32 (i 2).val
  let c1024_i32 : BitVec 32 := 1024#32
  let v101 : BitVec 32 := Scalar.muli arg2 c1024_i32
  let v102 : BitVec 32 := Scalar.addi v101 c0_i32_70
  let v103 : BitVec 32 := v102
  let v104 : Index := Scalar.indexCast v103
  let c0_73 : Index := 0#32
  ![0, 0, v104.toNat, 0]
def k0_mult9 (i : grid0.Coords) : BitVec 32 :=
  let arg2 : BitVec 32 := BitVec.ofNat 32 (i 2).val
  let c1024_i32_80 : BitVec 32 := 1024#32
  let v115 : BitVec 32 := Scalar.muli arg2 c1024_i32_80
  let c256_i32 : BitVec 32 := 256#32
  let v116 : BitVec 32 := Scalar.addi v115 c256_i32
  v116
def k0_mult10 (i : grid0.Coords) : BitVec 32 :=
  let arg2 : BitVec 32 := BitVec.ofNat 32 (i 2).val
  let c1024_i32_89 : BitVec 32 := 1024#32
  let v131 : BitVec 32 := Scalar.muli arg2 c1024_i32_89
  let c512_i32 : BitVec 32 := 512#32
  let v132 : BitVec 32 := Scalar.addi v131 c512_i32
  v132
def k0_mult11 (i : grid0.Coords) : BitVec 32 :=
  let arg2 : BitVec 32 := BitVec.ofNat 32 (i 2).val
  let c1024_i32_98 : BitVec 32 := 1024#32
  let v147 : BitVec 32 := Scalar.muli arg2 c1024_i32_98
  let c768_i32 : BitVec 32 := 768#32
  let v148 : BitVec 32 := Scalar.addi v147 c768_i32
  v148
def k0_mult12 (i : grid0.Coords) : BitVec 32 :=
  let arg2 : BitVec 32 := BitVec.ofNat 32 (i 2).val
  let c1024_i32_110 : BitVec 32 := 1024#32
  let v165 : BitVec 32 := Scalar.muli arg2 c1024_i32_110
  let c0_i32_111 : BitVec 32 := 0#32
  let v166 : BitVec 32 := Scalar.addi v165 c0_i32_111
  v166
def k0_off18 (i : grid0.Coords) (c0_i32_111 : BitVec 32) : Fin 4 → Nat :=
  let c0_112 : Index := 0#32
  let c1_113 : Index := 1#32
  let arg2 : BitVec 32 := BitVec.ofNat 32 (i 2).val
  let c1024_i32_110 : BitVec 32 := 1024#32
  let v165 : BitVec 32 := Scalar.muli arg2 c1024_i32_110
  let v166 : BitVec 32 := Scalar.addi v165 c0_i32_111
  let v167 : BitVec 32 := v166
  let v168 : Index := Scalar.indexCast v167
  let c0_114 : Index := 0#32
  ![0, 1, v168.toNat, 0]
def k0_mult13 (i : grid0.Coords) : BitVec 32 :=
  let arg2 : BitVec 32 := BitVec.ofNat 32 (i 2).val
  let c1024_i32_121 : BitVec 32 := 1024#32
  let v179 : BitVec 32 := Scalar.muli arg2 c1024_i32_121
  let c256_i32_122 : BitVec 32 := 256#32
  let v180 : BitVec 32 := Scalar.addi v179 c256_i32_122
  v180
def k0_mult14 (i : grid0.Coords) : BitVec 32 :=
  let arg2 : BitVec 32 := BitVec.ofNat 32 (i 2).val
  let c1024_i32_132 : BitVec 32 := 1024#32
  let v195 : BitVec 32 := Scalar.muli arg2 c1024_i32_132
  let c512_i32_133 : BitVec 32 := 512#32
  let v196 : BitVec 32 := Scalar.addi v195 c512_i32_133
  v196
def k0_mult15 (i : grid0.Coords) : BitVec 32 :=
  let arg2 : BitVec 32 := BitVec.ofNat 32 (i 2).val
  let c1024_i32_143 : BitVec 32 := 1024#32
  let v211 : BitVec 32 := Scalar.muli arg2 c1024_i32_143
  let c768_i32_144 : BitVec 32 := 768#32
  let v212 : BitVec 32 := Scalar.addi v211 c768_i32_144
  v212
def k0_off19 (v65 : BitVec 32) : Fin 5 → Nat :=
  let c0_157 : Index := 0#32
  let c0_158 : Index := 0#32
  let v229 : Index := Scalar.indexCast v65
  let c0_159 : Index := 0#32
  let c0_160 : Index := 0#32
  ![0, 0, v229.toNat, 0, 0]

def k0_off20 (v65 : BitVec 32) : Fin 5 → Nat :=
  let c0_172 : Index := 0#32
  let c1_173 : Index := 1#32
  let v241 : Index := Scalar.indexCast v65
  let c0_174 : Index := 0#32
  let c0_175 : Index := 0#32
  ![0, 1, v241.toNat, 0, 0]

def k0_chk3 (i : grid0.Coords) (v65 : BitVec 32) : Prop :=
  (∀ (k0_h3 : k0_cond3 i = 1#1), ∀ a, (k0_off19 v65) a + S1x1x1x128x1024.size a ≤ S1x2x8x128x1024.size a) ∧
  (∀ (k0_h3 : k0_cond3 i = 1#1), ∀ a, (k0_off20 v65) a + S1x1x1x128x1024.size a ≤ S1x2x8x128x1024.size a)
theorem k0_off19_inb : ∀ (i : grid0.Coords) (v65 : BitVec 32) (k0_hw3 : k0_chk3 i v65), ∀ (k0_h3 : k0_cond3 i = 1#1), ∀ a, (k0_off19 v65) a + S1x1x1x128x1024.size a ≤ S1x2x8x128x1024.size a := fun i v65 k0_hw3 k0_h3 => k0_hw3.1 k0_h3
theorem k0_off20_inb : ∀ (i : grid0.Coords) (v65 : BitVec 32) (k0_hw3 : k0_chk3 i v65), ∀ (k0_h3 : k0_cond3 i = 1#1), ∀ a, (k0_off20 v65) a + S1x1x1x128x1024.size a ≤ S1x2x8x128x1024.size a := fun i v65 k0_hw3 k0_h3 => k0_hw3.2 k0_h3

def k0_off21 (i : grid0.Coords) : Fin 5 → Nat :=
  let c0_187 : Index := 0#32
  let c0_188 : Index := 0#32
  let arg2 : BitVec 32 := BitVec.ofNat 32 (i 2).val
  let v253 : Index := Scalar.indexCast arg2
  let c0_189 : Index := 0#32
  let c0_190 : Index := 0#32
  ![0, 0, v253.toNat, 0, 0]
def k0_off22 (i : grid0.Coords) : Fin 5 → Nat :=
  let c0_202 : Index := 0#32
  let c0_203 : Index := 0#32
  let arg2 : BitVec 32 := BitVec.ofNat 32 (i 2).val
  let v265 : Index := Scalar.indexCast arg2
  let c0_204 : Index := 0#32
  let c0_205 : Index := 0#32
  ![0, 0, v265.toNat, 0, 0]
def k0_off23 (i : grid0.Coords) : Fin 5 → Nat :=
  let c0_217 : Index := 0#32
  let c0_218 : Index := 0#32
  let arg2 : BitVec 32 := BitVec.ofNat 32 (i 2).val
  let v277 : Index := Scalar.indexCast arg2
  let c0_219 : Index := 0#32
  let c0_220 : Index := 0#32
  ![0, 0, v277.toNat, 0, 0]
def k0_off24 (i : grid0.Coords) : Fin 5 → Nat :=
  let c0_232 : Index := 0#32
  let c0_233 : Index := 0#32
  let arg2 : BitVec 32 := BitVec.ofNat 32 (i 2).val
  let v289 : Index := Scalar.indexCast arg2
  let c0_234 : Index := 0#32
  let c0_235 : Index := 0#32
  ![0, 0, v289.toNat, 0, 0]
def k0_off25 (i : grid0.Coords) : Fin 5 → Nat :=
  let c0_247 : Index := 0#32
  let c1_248 : Index := 1#32
  let arg2 : BitVec 32 := BitVec.ofNat 32 (i 2).val
  let v301 : Index := Scalar.indexCast arg2
  let c0_249 : Index := 0#32
  let c0_250 : Index := 0#32
  ![0, 1, v301.toNat, 0, 0]
def k0_off26 (i : grid0.Coords) : Fin 5 → Nat :=
  let c0_262 : Index := 0#32
  let c1_263 : Index := 1#32
  let arg2 : BitVec 32 := BitVec.ofNat 32 (i 2).val
  let v313 : Index := Scalar.indexCast arg2
  let c0_264 : Index := 0#32
  let c0_265 : Index := 0#32
  ![0, 1, v313.toNat, 0, 0]
def k0_off27 (i : grid0.Coords) : Fin 5 → Nat :=
  let c0_277 : Index := 0#32
  let c1_278 : Index := 1#32
  let arg2 : BitVec 32 := BitVec.ofNat 32 (i 2).val
  let v325 : Index := Scalar.indexCast arg2
  let c0_279 : Index := 0#32
  let c0_280 : Index := 0#32
  ![0, 1, v325.toNat, 0, 0]
def k0_off28 (i : grid0.Coords) : Fin 5 → Nat :=
  let c0_292 : Index := 0#32
  let c1_293 : Index := 1#32
  let arg2 : BitVec 32 := BitVec.ofNat 32 (i 2).val
  let v337 : Index := Scalar.indexCast arg2
  let c0_294 : Index := 0#32
  let c0_295 : Index := 0#32
  ![0, 1, v337.toNat, 0, 0]
def k0_cond4 (i : grid0.Coords) : BitVec 1 :=
  let arg2 : BitVec 32 := BitVec.ofNat 32 (i 2).val
  let c0_i32_45 : BitVec 32 := 0#32
  let v69 : BitVec 1 := Scalar.cmpi .eq arg2 c0_i32_45
  let v70 : BitVec 32 := Scalar.extui v69
  let c0_i32_46 : BitVec 32 := 0#32
  let v71 : BitVec 1 := Scalar.cmpi .ne v70 c0_i32_46
  v71

def k0_mult16 (i : grid0.Coords) : BitVec 32 :=
  let arg2 : BitVec 32 := BitVec.ofNat 32 (i 2).val
  let c1024_i32 : BitVec 32 := 1024#32
  let v109 : BitVec 32 := Scalar.muli arg2 c1024_i32
  let c0_i32_78 : BitVec 32 := 0#32
  let v110 : BitVec 32 := Scalar.addi v109 c0_i32_78
  v110
def k0_off29 (i : grid0.Coords) (c0_i32_78 : BitVec 32) : Fin 4 → Nat :=
  let c0_79 : Index := 0#32
  let c0_80 : Index := 0#32
  let arg2 : BitVec 32 := BitVec.ofNat 32 (i 2).val
  let c1024_i32 : BitVec 32 := 1024#32
  let v109 : BitVec 32 := Scalar.muli arg2 c1024_i32
  let v110 : BitVec 32 := Scalar.addi v109 c0_i32_78
  let v111 : BitVec 32 := v110
  let v112 : Index := Scalar.indexCast v111
  let c0_81 : Index := 0#32
  ![0, 0, v112.toNat, 0]
def k0_mult17 (i : grid0.Coords) : BitVec 32 :=
  let arg2 : BitVec 32 := BitVec.ofNat 32 (i 2).val
  let c1024_i32_88 : BitVec 32 := 1024#32
  let v123 : BitVec 32 := Scalar.muli arg2 c1024_i32_88
  let c256_i32 : BitVec 32 := 256#32
  let v124 : BitVec 32 := Scalar.addi v123 c256_i32
  v124
def k0_mult18 (i : grid0.Coords) : BitVec 32 :=
  let arg2 : BitVec 32 := BitVec.ofNat 32 (i 2).val
  let c1024_i32_97 : BitVec 32 := 1024#32
  let v139 : BitVec 32 := Scalar.muli arg2 c1024_i32_97
  let c512_i32 : BitVec 32 := 512#32
  let v140 : BitVec 32 := Scalar.addi v139 c512_i32
  v140
def k0_mult19 (i : grid0.Coords) : BitVec 32 :=
  let arg2 : BitVec 32 := BitVec.ofNat 32 (i 2).val
  let c1024_i32_106 : BitVec 32 := 1024#32
  let v155 : BitVec 32 := Scalar.muli arg2 c1024_i32_106
  let c768_i32 : BitVec 32 := 768#32
  let v156 : BitVec 32 := Scalar.addi v155 c768_i32
  v156
def k0_mult20 (i : grid0.Coords) : BitVec 32 :=
  let arg2 : BitVec 32 := BitVec.ofNat 32 (i 2).val
  let c1024_i32_118 : BitVec 32 := 1024#32
  let v173 : BitVec 32 := Scalar.muli arg2 c1024_i32_118
  let c0_i32_119 : BitVec 32 := 0#32
  let v174 : BitVec 32 := Scalar.addi v173 c0_i32_119
  v174
def k0_off30 (i : grid0.Coords) (c0_i32_119 : BitVec 32) : Fin 4 → Nat :=
  let c0_120 : Index := 0#32
  let c1_121 : Index := 1#32
  let arg2 : BitVec 32 := BitVec.ofNat 32 (i 2).val
  let c1024_i32_118 : BitVec 32 := 1024#32
  let v173 : BitVec 32 := Scalar.muli arg2 c1024_i32_118
  let v174 : BitVec 32 := Scalar.addi v173 c0_i32_119
  let v175 : BitVec 32 := v174
  let v176 : Index := Scalar.indexCast v175
  let c0_122 : Index := 0#32
  ![0, 1, v176.toNat, 0]
def k0_mult21 (i : grid0.Coords) : BitVec 32 :=
  let arg2 : BitVec 32 := BitVec.ofNat 32 (i 2).val
  let c1024_i32_129 : BitVec 32 := 1024#32
  let v187 : BitVec 32 := Scalar.muli arg2 c1024_i32_129
  let c256_i32_130 : BitVec 32 := 256#32
  let v188 : BitVec 32 := Scalar.addi v187 c256_i32_130
  v188
def k0_mult22 (i : grid0.Coords) : BitVec 32 :=
  let arg2 : BitVec 32 := BitVec.ofNat 32 (i 2).val
  let c1024_i32_140 : BitVec 32 := 1024#32
  let v203 : BitVec 32 := Scalar.muli arg2 c1024_i32_140
  let c512_i32_141 : BitVec 32 := 512#32
  let v204 : BitVec 32 := Scalar.addi v203 c512_i32_141
  v204
def k0_mult23 (i : grid0.Coords) : BitVec 32 :=
  let arg2 : BitVec 32 := BitVec.ofNat 32 (i 2).val
  let c1024_i32_151 : BitVec 32 := 1024#32
  let v219 : BitVec 32 := Scalar.muli arg2 c1024_i32_151
  let c768_i32_152 : BitVec 32 := 768#32
  let v220 : BitVec 32 := Scalar.addi v219 c768_i32_152
  v220
def k0_off31 (i : grid0.Coords) : Fin 5 → Nat :=
  let c0_165 : Index := 0#32
  let c0_166 : Index := 0#32
  let arg2 : BitVec 32 := BitVec.ofNat 32 (i 2).val
  let v237 : Index := Scalar.indexCast arg2
  let c0_167 : Index := 0#32
  let c0_168 : Index := 0#32
  ![0, 0, v237.toNat, 0, 0]
def k0_off32 (i : grid0.Coords) : Fin 5 → Nat :=
  let c0_180 : Index := 0#32
  let c0_181 : Index := 0#32
  let arg2 : BitVec 32 := BitVec.ofNat 32 (i 2).val
  let v249 : Index := Scalar.indexCast arg2
  let c0_182 : Index := 0#32
  let c0_183 : Index := 0#32
  ![0, 0, v249.toNat, 0, 0]
def k0_off33 (i : grid0.Coords) : Fin 5 → Nat :=
  let c0_195 : Index := 0#32
  let c0_196 : Index := 0#32
  let arg2 : BitVec 32 := BitVec.ofNat 32 (i 2).val
  let v261 : Index := Scalar.indexCast arg2
  let c0_197 : Index := 0#32
  let c0_198 : Index := 0#32
  ![0, 0, v261.toNat, 0, 0]
def k0_off34 (i : grid0.Coords) : Fin 5 → Nat :=
  let c0_210 : Index := 0#32
  let c0_211 : Index := 0#32
  let arg2 : BitVec 32 := BitVec.ofNat 32 (i 2).val
  let v273 : Index := Scalar.indexCast arg2
  let c0_212 : Index := 0#32
  let c0_213 : Index := 0#32
  ![0, 0, v273.toNat, 0, 0]
def k0_off35 (i : grid0.Coords) : Fin 5 → Nat :=
  let c0_225 : Index := 0#32
  let c1_226 : Index := 1#32
  let arg2 : BitVec 32 := BitVec.ofNat 32 (i 2).val
  let v285 : Index := Scalar.indexCast arg2
  let c0_227 : Index := 0#32
  let c0_228 : Index := 0#32
  ![0, 1, v285.toNat, 0, 0]
def k0_off36 (i : grid0.Coords) : Fin 5 → Nat :=
  let c0_240 : Index := 0#32
  let c1_241 : Index := 1#32
  let arg2 : BitVec 32 := BitVec.ofNat 32 (i 2).val
  let v297 : Index := Scalar.indexCast arg2
  let c0_242 : Index := 0#32
  let c0_243 : Index := 0#32
  ![0, 1, v297.toNat, 0, 0]
def k0_off37 (i : grid0.Coords) : Fin 5 → Nat :=
  let c0_255 : Index := 0#32
  let c1_256 : Index := 1#32
  let arg2 : BitVec 32 := BitVec.ofNat 32 (i 2).val
  let v309 : Index := Scalar.indexCast arg2
  let c0_257 : Index := 0#32
  let c0_258 : Index := 0#32
  ![0, 1, v309.toNat, 0, 0]
def k0_off38 (i : grid0.Coords) : Fin 5 → Nat :=
  let c0_270 : Index := 0#32
  let c1_271 : Index := 1#32
  let arg2 : BitVec 32 := BitVec.ofNat 32 (i 2).val
  let v321 : Index := Scalar.indexCast arg2
  let c0_272 : Index := 0#32
  let c0_273 : Index := 0#32
  ![0, 1, v321.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2x80x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x16x64 : Shape := ⟨4, ![2, 8192, 16, 64]⟩
abbrev S64 : Shape := ⟨1, ![64]⟩
abbrev S2x16x8192 : Shape := ⟨3, ![2, 16, 8192]⟩
abbrev S_ : Shape := ⟨0, ![]⟩
abbrev S2x8192x16 : Shape := ⟨3, ![2, 8192, 16]⟩
abbrev S2x8192x16x1 : Shape := ⟨4, ![2, 8192, 16, 1]⟩
abbrev S1x1x1x64 : Shape := ⟨4, ![1, 1, 1, 64]⟩
abbrev S8192 : Shape := ⟨1, ![8192]⟩
abbrev S2x16x8192x8192 : Shape := ⟨4, ![2, 16, 8192, 8192]⟩
abbrev S2x16x8192x1 : Shape := ⟨4, ![2, 16, 8192, 1]⟩
abbrev S2x16x1x8192 : Shape := ⟨4, ![2, 16, 1, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x16x64x8192 : Shape := ⟨4, ![2, 16, 64, 8192]⟩
abbrev S2x8192x1024 : Shape := ⟨3, ![2, 8192, 1024]⟩
abbrev S2x1024x8192 : Shape := ⟨3, ![2, 1024, 8192]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x16x64, .f32⟩
  | .hbm, ⟨1, _⟩ => ⟨S64, .f32⟩
  | .hbm, ⟨2, _⟩ => ⟨S2x8192x16x64, .f32⟩
  | .hbm, ⟨3, _⟩ => ⟨S64, .f32⟩
  | .hbm, ⟨4, _⟩ => ⟨S2x8192x16x64, .f32⟩
  | .hbm, ⟨5, _⟩ => ⟨S2x16x8192, .f32⟩
  | .hbm, ⟨6, _⟩ => ⟨S2x8192x16x64, .f32⟩
  | .hbm, ⟨7, _⟩ => ⟨S_, .f32⟩
  | .hbm, ⟨8, _⟩ => ⟨S2x8192x16, .f32⟩
  | .hbm, ⟨9, _⟩ => ⟨S2x8192x16x1, .f32⟩
  | .hbm, ⟨10, _⟩ => ⟨S_, .f32⟩
  | .hbm, ⟨11, _⟩ => ⟨S2x8192x16x1, .f32⟩
  | .hbm, ⟨12, _⟩ => ⟨S2x8192x16x1, .f32⟩
  | .hbm, ⟨13, _⟩ => ⟨S_, .f32⟩
  | .hbm, ⟨14, _⟩ => ⟨S2x8192x16x1, .f32⟩
  | .hbm, ⟨15, _⟩ => ⟨S2x8192x16x1, .f32⟩
  | .hbm, ⟨16, _⟩ => ⟨S2x8192x16x1, .f32⟩
  | .hbm, ⟨17, _⟩ => ⟨S2x8192x16x64, .f32⟩
  | .hbm, ⟨18, _⟩ => ⟨S2x8192x16x64, .f32⟩
  | .hbm, ⟨19, _⟩ => ⟨S1x1x1x64, .f32⟩
  | .hbm, ⟨20, _⟩ => ⟨S2x8192x16x64, .f32⟩
  | .hbm, ⟨21, _⟩ => ⟨S2x8192x16x64, .f32⟩
  | .hbm, ⟨22, _⟩ => ⟨S2x8192x16x64, .f32⟩
  | .hbm, ⟨23, _⟩ => ⟨S_, .f32⟩
  | .hbm, ⟨24, _⟩ => ⟨S2x8192x16, .f32⟩
  | .hbm, ⟨25, _⟩ => ⟨S2x8192x16x1, .f32⟩
  | .hbm, ⟨26, _⟩ => ⟨S_, .f32⟩
  | .hbm, ⟨27, _⟩ => ⟨S2x8192x16x1, .f32⟩
  | .hbm, ⟨28, _⟩ => ⟨S2x8192x16x1, .f32⟩
  | .hbm, ⟨29, _⟩ => ⟨S_, .f32⟩
  | .hbm, ⟨30, _⟩ => ⟨S2x8192x16x1, .f32⟩
  | .hbm, ⟨31, _⟩ => ⟨S2x8192x16x1, .f32⟩
  | .hbm, ⟨32, _⟩ => ⟨S2x8192x16x1, .f32⟩
  | .hbm, ⟨33, _⟩ => ⟨S2x8192x16x64, .f32⟩
  | .hbm, ⟨34, _⟩ => ⟨S2x8192x16x64, .f32⟩
  | .hbm, ⟨35, _⟩ => ⟨S1x1x1x64, .f32⟩
  | .hbm, ⟨36, _⟩ => ⟨S2x8192x16x64, .f32⟩
  | .hbm, ⟨37, _⟩ => ⟨S2x8192x16x64, .f32⟩
  | .hbm, ⟨38, _⟩ => ⟨S8192, .i32⟩
  | .hbm, ⟨39, _⟩ => ⟨S2x16x8192x8192, .f32⟩
  | .hbm, ⟨40, _⟩ => ⟨S_, .f32⟩
  | .hbm, ⟨41, _⟩ => ⟨S2x16x8192x8192, .f32⟩
  | .hbm, ⟨42, _⟩ => ⟨S2x16x8192x8192, .f32⟩
  | .hbm, ⟨43, _⟩ => ⟨S2x16x8192x1, .f32⟩
  | .hbm, ⟨44, _⟩ => ⟨S2x16x1x8192, .f32⟩
  | .hbm, ⟨45, _⟩ => ⟨S2x16x8192x8192, .f32⟩
  | .hbm, ⟨46, _⟩ => ⟨S2x16x8192x8192, .f32⟩
  | .hbm, ⟨47, _⟩ => ⟨S2x16x8192x8192, .f32⟩
  | .hbm, ⟨48, _⟩ => ⟨S2x16x8192x8192, .f32⟩
  | .hbm, ⟨49, _⟩ => ⟨S1x8192, .i32⟩
  | .hbm, ⟨50, _⟩ => ⟨S8192x1, .i32⟩
  | .hbm, ⟨51, _⟩ => ⟨S8192x8192, .i32⟩
  | .hbm, ⟨52, _⟩ => ⟨S8192x8192, .i32⟩
  | .hbm, ⟨53, _⟩ => ⟨S8192x8192, .i1⟩
  | .hbm, ⟨54, _⟩ => ⟨S1x1x8192x8192, .i1⟩
  | .hbm, ⟨55, _⟩ => ⟨S_, .f32⟩
  | .hbm, ⟨56, _⟩ => ⟨S_, .f32⟩
  | .hbm, ⟨57, _⟩ => ⟨S2x16x8192x8192, .i1⟩
  | .hbm, ⟨58, _⟩ => ⟨S2x16x8192x8192, .f32⟩
  | .hbm, ⟨59, _⟩ => ⟨S2x16x8192x8192, .f32⟩
  | .hbm, ⟨60, _⟩ => ⟨S_, .f32⟩
  | .hbm, ⟨61, _⟩ => ⟨S2x16x8192, .f32⟩
  | .hbm, ⟨62, _⟩ => ⟨S_, .f32⟩
  | .hbm, ⟨63, _⟩ => ⟨S2x16x8192, .f32⟩
  | .hbm, ⟨64, _⟩ => ⟨S2x16x8192, .f32⟩
  | .hbm, ⟨65, _⟩ => ⟨S2x16x8192x1, .f32⟩
  | .hbm, ⟨66, _⟩ => ⟨S2x16x8192x8192, .f32⟩
  | .hbm, ⟨67, _⟩ => ⟨S2x16x8192x8192, .f32⟩
  | .hbm, ⟨68, _⟩ => ⟨S2x16x8192x8192, .f32⟩
  | .hbm, ⟨69, _⟩ => ⟨S_, .f32⟩
  | .hbm, ⟨70, _⟩ => ⟨S2x16x8192, .f32⟩
  | .hbm, ⟨71, _⟩ => ⟨S2x16x8192x1, .f32⟩
  | .hbm, ⟨72, _⟩ => ⟨S2x16x8192x8192, .f32⟩
  | .hbm, ⟨73, _⟩ => ⟨S2x16x8192x8192, .f32⟩
  | .hbm, ⟨74, _⟩ => ⟨S2x16x64x8192, .f32⟩
  | .hbm, ⟨75, _⟩ => ⟨S2x8192x16x64, .f32⟩
  | .hbm, ⟨76, _⟩ => ⟨S2x8192x1024, .f32⟩
  | .hbm, ⟨77, _⟩ => ⟨S2x1024x8192, .f32⟩
  | .hbm, ⟨78, _⟩ => ⟨S2x1024x8192, .bf16⟩
  | _, _ => ⟨S2x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1024x8192 : Shape := ⟨3, ![2, 1024, 8192]⟩
abbrev S2x6144 : Shape := ⟨2, ![2, 6144]⟩
abbrev S1024 : Shape := ⟨1, ![1024]⟩
abbrev S2x1024x1024 : Shape := ⟨3, ![2, 1024, 1024]⟩
abbrev S1024x4096 : Shape := ⟨2, ![1024, 4096]⟩
abbrev S4096x1024 : Shape := ⟨2, ![4096, 1024]⟩
abbrev S16384x1024 : Shape := ⟨2, ![16384, 1024]⟩
abbrev S2x6x1x1024 : Shape := ⟨4, ![2, 6, 1, 1024]⟩
abbrev S1x1024 : Shape := ⟨2, ![1, 1024]⟩
abbrev S512x1024 : Shape := ⟨2, ![512, 1024]⟩
abbrev S1x1024x512 : Shape := ⟨3, ![1, 1024, 512]⟩
abbrev S1x6x1x1024 : Shape := ⟨4, ![1, 6, 1, 1024]⟩
abbrev S1x1024x1024 : Shape := ⟨3, ![1, 1024, 1024]⟩
abbrev S1x1024x256 : Shape := ⟨3, ![1, 1024, 256]⟩
abbrev S1024x256 : Shape := ⟨2, ![1024, 256]⟩
abbrev S1024x1024 : Shape := ⟨2, ![1024, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x1024x8192, .f32⟩
  | .hbm, ⟨2, _⟩ => ⟨S2x6144, .f32⟩
  | .hbm, ⟨3, _⟩ => ⟨S1024, .f32⟩
  | .hbm, ⟨4, _⟩ => ⟨S2x1024x1024, .f32⟩
  | .hbm, ⟨5, _⟩ => ⟨S1024x4096, .f32⟩
  | .hbm, ⟨6, _⟩ => ⟨S4096x1024, .f32⟩
  | .hbm, ⟨7, _⟩ => ⟨S16384x1024, .f32⟩
  | .hbm, ⟨8, _⟩ => ⟨S2x6x1x1024, .f32⟩
  | .hbm, ⟨9, _⟩ => ⟨S1024x4096, .bf16⟩
  | .hbm, ⟨10, _⟩ => ⟨S4096x1024, .bf16⟩
  | .hbm, ⟨11, _⟩ => ⟨S2x1024x8192, .bf16⟩
  | .hbm, ⟨12, _⟩ => ⟨S2x1024x1024, .bf16⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x6x1x1024, .f32⟩
  | .local _ .vmem, ⟨5, _⟩ => ⟨S1x6x1x1024, .f32⟩
  | .local _ .vmem, ⟨6, _⟩ => ⟨S1x1024, .f32⟩
  | .local _ .vmem, ⟨7, _⟩ => ⟨S1x1024x1024, .bf16⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2x8192x1024 : Shape := ⟨3, ![2, 8192, 1024]⟩
abbrev S2x1024x8192 : Shape := ⟨3, ![2, 1024, 8192]⟩
abbrev S2x6144 : Shape := ⟨2, ![2, 6144]⟩
abbrev S1024 : Shape := ⟨1, ![1024]⟩
abbrev S2x1024x1024 : Shape := ⟨3, ![2, 1024, 1024]⟩
abbrev S1024x4096 : Shape := ⟨2, ![1024, 4096]⟩
abbrev S4096x1024 : Shape := ⟨2, ![4096, 1024]⟩
abbrev S2x1024 : Shape := ⟨2, ![2, 1024]⟩
abbrev S1x1024x1024 : Shape := ⟨3, ![1, 1024, 1024]⟩
abbrev S1024x1024 : Shape := ⟨2, ![1024, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S16384x1024 : Shape := ⟨2, ![16384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024x8192, .f32⟩
  | .hbm, ⟨2, _⟩ => ⟨S2x6144, .f32⟩
  | .hbm, ⟨3, _⟩ => ⟨S1024, .f32⟩
  | .hbm, ⟨4, _⟩ => ⟨S2x1024x1024, .f32⟩
  | .hbm, ⟨5, _⟩ => ⟨S1024x4096, .f32⟩
  | .hbm, ⟨6, _⟩ => ⟨S4096x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x8192x1024, .f32⟩
  | .hbm, ⟨14, _⟩ => ⟨S1x1024x1024, .f32⟩
  | .hbm, ⟨15, _⟩ => ⟨S1024x1024, .f32⟩
  | .hbm, ⟨16, _⟩ => ⟨S2x8192x1024, .f32⟩
  | .hbm, ⟨17, _⟩ => ⟨S2x1x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x8192, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1, .f32⟩
  | .hbm, ⟨32, _⟩ => ⟨S2x8192x1024, .f32⟩
  | .hbm, ⟨33, _⟩ => ⟨S2x8192x1024, .f32⟩
  | .hbm, ⟨34, _⟩ => ⟨S1x1x1024, .f32⟩
  | .hbm, ⟨35, _⟩ => ⟨S2x8192x1024, .f32⟩
  | .hbm, ⟨36, _⟩ => ⟨S2x8192x1024, .f32⟩
  | .hbm, ⟨37, _⟩ => ⟨S2x1x1024, .f32⟩
  | .hbm, ⟨38, _⟩ => ⟨S_, .f32⟩
  | .hbm, ⟨39, _⟩ => ⟨S2x1x1024, .f32⟩
  | .hbm, ⟨40, _⟩ => ⟨S2x1x1024, .f32⟩
  | .hbm, ⟨41, _⟩ => ⟨S2x8192x1024, .f32⟩
  | .hbm, ⟨42, _⟩ => ⟨S2x8192x1024, .f32⟩
  | .hbm, ⟨43, _⟩ => ⟨S2x1x1024, .f32⟩
  | .hbm, ⟨44, _⟩ => ⟨S2x8192x1024, .f32⟩
  | .hbm, ⟨45, _⟩ => ⟨S2x8192x1024, .f32⟩
  | .hbm, ⟨46, _⟩ => ⟨S2x1x1024, .f32⟩
  | .hbm, ⟨47, _⟩ => ⟨S2x8192x4096, .f32⟩
  | .hbm, ⟨48, _⟩ => ⟨S_, .f32⟩
  | .hbm, ⟨49, _⟩ => ⟨S2x8192x4096, .f32⟩
  | .hbm, ⟨50, _⟩ => ⟨S2x8192x4096, .f32⟩
  | .hbm, ⟨51, _⟩ => ⟨S2x8192x4096, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_cst : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x6144 : Shape := ⟨2, ![2, 6144]⟩
abbrev S1024 : Shape := ⟨1, ![1024]⟩
abbrev S4x1024x4096 : Shape := ⟨3, ![4, 1024, 4096]⟩
abbrev S4x4096x1024 : Shape := ⟨3, ![4, 4096, 1024]⟩
abbrev S16384x1024 : Shape := ⟨2, ![16384, 1024]⟩
abbrev S2x6x1x1024 : Shape := ⟨4, ![2, 6, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1024 : Shape := ⟨2, ![1, 1024]⟩
abbrev S512x1024 : Shape := ⟨2, ![512, 1024]⟩
abbrev S1x6x1x1024 : Shape := ⟨4, ![1, 6, 1, 1024]⟩
abbrev S1x32x4096 : Shape := ⟨3, ![1, 32, 4096]⟩
abbrev S1x128x1024 : Shape := ⟨3, ![1, 128, 1024]⟩
abbrev S32x4096 : Shape := ⟨2, ![32, 4096]⟩
abbrev S128x1024 : Shape := ⟨2, ![128, 1024]⟩
abbrev S1x1x1x1024 : Shape := ⟨4, ![1, 1, 1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 17
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S4x1024x4096, .f32⟩
  | .hbm, ⟨4, _⟩ => ⟨S4x4096x1024, .f32⟩
  | .hbm, ⟨5, _⟩ => ⟨S16384x1024, .f32⟩
  | .hbm, ⟨6, _⟩ => ⟨S2x6x1x1024, .f32⟩
  | .hbm, ⟨7, _⟩ => ⟨S1x1024x4096, .f32⟩
  | .hbm, ⟨8, _⟩ => ⟨S1024x4096, .f32⟩
  | .hbm, ⟨9, _⟩ => ⟨S1024x4096, .bf16⟩
  | .hbm, ⟨10, _⟩ => ⟨S1x4096x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S16384x1024, .f32⟩
  | .hbm, ⟨15, _⟩ => ⟨S1024x4096, .bf16⟩
  | .hbm, ⟨16, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x32x4096, .f32⟩
  | .local _ .vmem, ⟨8, _⟩ => ⟨S1x32x4096, .f32⟩
  | .local _ .vmem, ⟨9, _⟩ => ⟨S1x128x1024, .f32⟩
  | .local _ .vmem, ⟨10, _⟩ => ⟨S1x128x1024, .f32⟩
  | .local _ .vmem, ⟨11, _⟩ => ⟨S512x1024, .f32⟩
  | .local _ .vmem, ⟨12, _⟩ => ⟨S512x1024, .f32⟩
  | .local _ .vmem, ⟨13, _⟩ => ⟨S32x4096, .bf16⟩
  | .local _ .vmem, ⟨14, _⟩ => ⟨S32x4096, .bf16⟩
  | .local _ .vmem, ⟨15, _⟩ => ⟨S128x1024, .bf16⟩
  | .local _ .vmem, ⟨16, _⟩ => ⟨S128x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2x8192x1024 : Shape := ⟨3, ![2, 8192, 1024]⟩
abbrev S2x6144 : Shape := ⟨2, ![2, 6144]⟩
abbrev S1024 : Shape := ⟨1, ![1024]⟩
abbrev S4x1024x4096 : Shape := ⟨3, ![4, 1024, 4096]⟩
abbrev S4x4096x1024 : Shape := ⟨3, ![4, 4096, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S2x8192x4096 : Shape := ⟨3, ![2, 8192, 4096]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S4x1024x4096, .f32⟩
  | .hbm, ⟨4, _⟩ => ⟨S4x4096x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S2x1x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x1x1024, .f32⟩
  | .hbm, ⟨37, _⟩ => ⟨S1x1024x4096, .f32⟩
  | .hbm, ⟨38, _⟩ => ⟨S1024x4096, .f32⟩
  | .hbm, ⟨39, _⟩ => ⟨S1x4096x1024, .f32⟩
  | .hbm, ⟨40, _⟩ => ⟨S4096x1024, .f32⟩
  | .hbm, ⟨41, _⟩ => ⟨S2x8192x4096, .f32⟩
  | .hbm, ⟨42, _⟩ => ⟨S_, .f32⟩
  | .hbm, ⟨43, _⟩ => ⟨S2x8192x4096, .f32⟩
  | .hbm, ⟨44, _⟩ => ⟨S2x8192x4096, .f32⟩
  | .hbm, ⟨45, _⟩ => ⟨S2x8192x4096, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_cst : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Trip.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
local notation "𝕄" => MT nD τ sig Unit (Elt F) ℕ (UU nD τ) ℕ

/-- Memref `M`'s buffer contents on core `c`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## Windows read with wrapped coordinates -/

/-- The block of `g` at offset `off`, coordinates wrapped into the array: at an offset within bounds this is what a load
    through that block reads, and it is a total function of the offset. -/
def blk {α : Type} {S : Shape} (pos : ∀ a, 0 < S.size a) (g : S.Idx → α) (off sz : Fin S.rank → ℕ) :
    (⟨S.rank, sz⟩ : Shape).Idx → α :=
  fun y => g fun a => ⟨(off a + (y a).val) % S.size a, Nat.mod_lt _ (pos a)⟩

theorem readAt_unit_blk {sg : RefSig} {κ : Kind} {sp : Space} {S : Shape} {e : EltTy} (v : View sg κ sp S e)
    (f : v.ty.Contents (Elt F)) {off sz : Fin S.rank → ℕ} (inb : ∀ a, off a + sz a ≤ S.size a) (pos : ∀ a, 0 < S.size a) :
    v.readAt (Elt F) (Rect.unit off sz inb).toLoadRect f = blk pos (v.read (Elt F) f) off sz := by
  funext y
  refine congrArg (v.read (Elt F) f) (funext fun a => Fin.ext ?_)
  have h : off a + (y a).val < S.size a := lt_of_lt_of_le (Nat.add_lt_add_left (y a).isLt _) (inb a)
  show off a + 1 * (y a).val = (off a + (y a).val) % S.size a
  rw [Nat.mod_eq_of_lt h, Nat.one_mul]

theorem ld_hit {sg : RefSig} {κ : Kind} {sp : Space} {S : Shape} {e : EltTy} (v : View sg κ sp S e) (f : v.ty.Contents (Elt F))
    {off sz : Fin S.rank → ℕ} (inb inb' : ∀ a, off a + sz a ≤ S.size a) (w : (Rect.unit off sz inb).shape.Idx → Elt F e)
    (L : List (View.Piece (Elt F) S e)) :
    v.readAt (Elt F) (Rect.unit off sz inb').toLoadRect (v.writes (Elt F) f (⟨Rect.unit off sz inb, w⟩ :: L)) = w :=
  funext fun y => View.read_writes_cons_emb v f (Rect.unit off sz inb) w L y

theorem ld_skip {sg : RefSig} {κ : Kind} {sp : Space} {S : Shape} {e : EltTy} (v : View sg κ sp S e) (f : v.ty.Contents (Elt F))
    {off sz off' sz' : Fin S.rank → ℕ} (inb : ∀ a, off a + sz a ≤ S.size a) (inb' : ∀ a, off' a + sz' a ≤ S.size a)
    (w : (Rect.unit off sz inb).shape.Idx → Elt F e) (L : List (View.Piece (Elt F) S e))
    (h : ∃ a, off' a + sz' a ≤ off a ∨ off a + sz a ≤ off' a) :
    v.readAt (Elt F) (Rect.unit off' sz' inb').toLoadRect (v.writes (Elt F) f (⟨Rect.unit off sz inb, w⟩ :: L))
      = v.readAt (Elt F) (Rect.unit off' sz' inb').toLoadRect (v.writes (Elt F) f L) := by
  obtain ⟨a, h⟩ := h
  funext y
  refine View.read_writes_cons_miss_of_axis v f _ L _ a (off a) (sz a) rfl rfl rfl ?_
  have hy : (y a).val < sz' a := (y a).isLt
  show off' a + 1 * (y a).val < off a ∨ off a + sz a ≤ off' a + 1 * (y a).val
  omega

theorem cov_hit {sg : RefSig} {κ : Kind} {sp : Space} {S : Shape} {e : EltTy} (v : View sg κ sp S e)
    {off sz : Fin S.rank → ℕ} (inb inb' : ∀ a, off a + sz a ≤ S.size a) (w : (Rect.unit off sz inb).shape.Idx → Elt F e)
    (L : List (View.Piece (Elt F) S e)) :
    v.readCov (⟨Rect.unit off sz inb, w⟩ :: L) (Rect.unit off sz inb').toLoadRect = w :=
  ld_hit v v.junk inb inb' w L

theorem cov_skip {sg : RefSig} {κ : Kind} {sp : Space} {S : Shape} {e : EltTy} (v : View sg κ sp S e)
    {off sz off' sz' : Fin S.rank → ℕ} (inb : ∀ a, off a + sz a ≤ S.size a) (inb' : ∀ a, off' a + sz' a ≤ S.size a)
    (w : (Rect.unit off sz inb).shape.Idx → Elt F e) (L : List (View.Piece (Elt F) S e))
    (h : ∃ a, off' a + sz' a ≤ off a ∨ off a + sz a ≤ off' a) :
    v.readCov (⟨Rect.unit off sz inb, w⟩ :: L) (Rect.unit off' sz' inb').toLoadRect
      = v.readCov L (Rect.unit off' sz' inb').toLoadRect :=
  ld_skip v v.junk inb inb' w L h

/-! ## The walk over the earlier key blocks -/

/-- How many key blocks lie before the last earlier one: the query block's number less one. -/
def rest (i : grid0.Coords) : ℕ := (i 2).val - 1
/-- Whether that count is odd. -/
def odd (i : grid0.Coords) : ℕ := rest i % 2

theorem i2_lt (i : grid0.Coords) : (i 2).val < 8 := (i 2).isLt

theorem t1_trips (i : grid0.Coords) : (k0_t1_loop i).trips = rest i / 2 := by
  have h := i2_lt i
  unfold rest k0_t1_loop
  generalize (i 2).val = j at *
  interval_cases j <;> decide

theorem t2_trips (i : grid0.Coords) : (k0_t2_loop i).trips = 0 := by
  have h := i2_lt i
  unfold k0_t2_loop
  generalize (i 2).val = j at *
  interval_cases j <;> decide

section Offsets
variable (i : grid0.Coords) (k : Fin (k0_t1_loop i).trips)

theorem trip_lt : odd i + 2 * k.val + 2 < (i 2).val := by
  have h := Nat.lt_of_lt_of_eq k.isLt (t1_trips i)
  unfold odd rest at *
  omega

theorem k_lt : k.val < 3 := by have := trip_lt i k; have := i2_lt i; omega

theorem off3_eq : k0_off3 i k = ![0, 0, 1024 * (odd i + 2 * k.val + 1), 0] := by
  have h := i2_lt i
  have hk := k_lt i k
  unfold odd rest k0_off3
  generalize (i 2).val = j at *
  generalize k.val = n at *
  interval_cases j <;> interval_cases n <;> rfl

theorem off4_eq : k0_off4 i k = ![0, 1, 1024 * (odd i + 2 * k.val + 1), 0] := by
  have h := i2_lt i
  have hk := k_lt i k
  unfold odd rest k0_off4
  generalize (i 2).val = j at *
  generalize k.val = n at *
  interval_cases j <;> interval_cases n <;> rfl

theorem off5_eq : k0_off5 i k = ![0, 0, 1024 * (odd i + 2 * k.val + 2), 0] := by
  have h := i2_lt i
  have hk := k_lt i k
  unfold odd rest k0_off5
  generalize (i 2).val = j at *
  generalize k.val = n at *
  interval_cases j <;> interval_cases n <;> rfl

theorem off6_eq : k0_off6 i k = ![0, 1, 1024 * (odd i + 2 * k.val + 2), 0] := by
  have h := i2_lt i
  have hk := k_lt i k
  unfold odd rest k0_off6
  generalize (i 2).val = j at *
  generalize k.val = n at *
  interval_cases j <;> interval_cases n <;> rfl

theorem off7_eq : k0_off7 i k = ![0, 0, odd i + 2 * k.val + 1, 0, 0] := by
  have h := i2_lt i
  have hk := k_lt i k
  unfold odd rest k0_off7
  generalize (i 2).val = j at *
  generalize k.val = n at *
  interval_cases j <;> interval_cases n <;> rfl

theorem off8_eq : k0_off8 i k = ![0, 1, odd i + 2 * k.val + 1, 0, 0] := by
  have h := i2_lt i
  have hk := k_lt i k
  unfold odd rest k0_off8
  generalize (i 2).val = j at *
  generalize k.val = n at *
  interval_cases j <;> interval_cases n <;> rfl

theorem toNat_word {n : ℕ} (hn : n < 8) : (BitVec.ofNat 32 n).toNat = n := by
  rw [BitVec.toNat_ofNat]; omega

theorem off1_eq {n : ℕ} (hn : n < 8) : k0_off1 (BitVec.ofNat 32 n) = ![0, 0, n, 0, 0] := by
  interval_cases n <;> rfl
theorem off2_eq {n : ℕ} (hn : n < 8) : k0_off2 (BitVec.ofNat 32 n) = ![0, 1, n, 0, 0] := by
  interval_cases n <;> rfl

theorem chk1 {n : ℕ} (hn : n < 8) : k0_chk1 i k (BitVec.ofNat 32 n) := by
  unfold k0_chk1
  rw [off1_eq hn, off2_eq hn]
  interval_cases n <;> decide

theorem next_word : Scalar.addi (Scalar.addi (Scalar.addi 1#32 (BitVec.ofNat 32 (odd i))) (Scalar.muli 2#32 (Scf.iv 0#32 1#32 k.val))) 1#32
    = BitVec.ofNat 32 (odd i + 2 * (k.val + 1)) := by
  have ho : odd i < 2 := Nat.mod_lt _ (by decide)
  have hk := k_lt i k
  generalize odd i = o at *
  generalize k.val = n at *
  interval_cases o <;> interval_cases n <;> rfl

end Offsets

theorem pos_k : ∀ a, 0 < S1x2x8192x128.size a := by decide
theorem pos_v : ∀ a, 0 < S1x2x8x128x1024.size a := by decide

/-- Key block `n` of head `h`. -/
def kblk (g : Vec F S1x2x8192x128 .bf16) (h n : ℕ) : Vec F S1x1x1024x128 .bf16 := blk pos_k g ![0, h, 1024 * n, 0] ![1, 1, 1024, 128]
/-- Value block `n` of head `h`. -/
def vblk (g : Vec F S1x2x8x128x1024 .bf16) (h n : ℕ) : Vec F S1x1x1x128x1024 .bf16 := blk pos_v g ![0, h, n, 0, 0] ![1, 1, 1, 128, 1024]

/-- The weights of key block `n` for head `h`, not yet normalised. -/
def PR (gk : Vec F S1x2x8192x128 .bf16) (q : ℕ → Vec F S1x128x1024 .bf16) (h n : ℕ) : Vec F S1x1x1024x1024 .bf16 :=
  k0_pay4 (kblk gk h n) (q h)

/-- Head `h`'s accumulator over the key blocks before `n`. -/
def ACC (gk : Vec F S1x2x8192x128 .bf16) (gv : Vec F S1x2x8x128x1024 .bf16) (q : ℕ → Vec F S1x128x1024 .bf16) (h : ℕ) :
    ℕ → Vec F S1x128x1024 .f32
  | 0 => k0_pay2 (F := F)
  | n + 1 => k0_pay14 (ACC gk gv q h n) (vblk gv h n) (PR gk q h n)

section
variable (c : Dev nD) (i : grid0.Coords)
  (arg3 : Memref sig .tc .vmem S1x2x80x1024 .bf16) (harg3 : arg3.IsWhole) (arg4 : Memref sig .tc .vmem S1x2x8192x128 .bf16) (harg4 : arg4.IsWhole) (arg5 : Memref sig .tc .vmem S1x2x8x128x1024 .bf16) (harg5 : arg5.IsWhole) (arg6 : Memref sig .tc .vmem S1x128x1024 .bf16) (harg6 : arg6.IsWhole) (arg7 : Memref sig .tc .vmem S2x128x1024 .f32) (harg7 : arg7.IsWhole) (arg8 : Memref sig .tc .vmem S2x2x1024x1024 .bf16) (harg8 : arg8.IsWhole) (arg9 : Memref sig .tc .vmem S2x128x1024 .bf16) (harg9 : arg9.IsWhole)

abbrev Res (K : Bf (F := F) c arg4) (V : Bf (F := F) c arg5) (fq : Bf (F := F) c arg9) (fa : Bf (F := F) c arg7) (fp : Bf (F := F) c arg8) : sProp 𝕄 :=
  iprop(pt c arg4 K ∗ pt c arg5 V ∗ pt c arg9 fq ∗ pt c arg7 fa ∗ pt c arg8 fp)

set_option maxHeartbeats 4000000 in
def tripRun (K : Bf (F := F) c arg4) (V : Bf (F := F) c arg5) (fq : Bf (F := F) c arg9) (arg2 v33 c0 v59 : BitVec 32)
    (k : Fin (k0_t1_loop i).trips) (x : BitVec 32) (hx : k0_chk1 i k x) (fa : Bf (F := F) c arg7) (fp : Bf (F := F) c arg8) :
    Σ' L7 : List (View.Piece (Elt F) S2x128x1024 .f32), { L8 : List (View.Piece (Elt F) S2x2x1024x1024 .bf16) //
      Res c arg4 arg5 arg7 arg8 arg9 K V fq fa fp ⊢ wp frame (wpE (defs₀ (F := F)) 𝒱₀ (c : Thread nD τ) none) Set.univ
        (k0_t1_body i arg3 harg3 arg4 harg4 arg5 harg5 arg6 harg6 arg7 harg7 arg8 harg8 arg9 harg9 arg2 v33 c0 v59 k x)
        (fun y => iprop(⌜y = Scalar.addi (Scalar.addi (Scalar.addi 1#32 v33) (Scalar.muli 2#32 (Scf.iv c0 1#32 k))) 1#32⌝ ∗
          Res c arg4 arg5 arg7 arg8 arg9 K V fq (arg7.view.writes (Elt F) fa L7) (arg8.view.writes (Elt F) fp L8))) } := by
  refine ⟨?_, ?_, ?run⟩
  case run =>
    unfold k0_t1_body
    iintro ⟨HK, HV, Hq, Ha, Hp⟩
    sl_exec
    sl_step
    isplitr; · ipureintro; rfl
    isplitl [HK]; · iexact HK
    isplitl [HV]; · iexact HV
    isplitl [Hq]; · iexact Hq
    isplitl [Ha]; · iexact Ha
    iexact Hp

/-- The expanded queries of head 0 and of head 1, as the loops read them. -/
def qOf (fq : Bf (F := F) c arg9) (h : ℕ) : Vec F S1x128x1024 .bf16 :=
  if h = 0 then arg9.view.readAt (Elt F) (Rect.unit (s := S2x128x1024) ![0, 0, 0] S1x128x1024.size inb_S2x128x1024_S1x128x1024_0_0_0).toLoadRect fq
  else arg9.view.readAt (Elt F) (Rect.unit (s := S2x128x1024) ![1, 0, 0] S1x128x1024.size inb_S2x128x1024_S1x128x1024_1_0_0).toLoadRect fq

/-- What the two accumulators hold. -/
def At7 (fa : Bf (F := F) c arg7) (a0 a1 : Vec F S1x128x1024 .f32) : Prop :=
  arg7.view.readAt (Elt F) (Rect.unit (s := S2x128x1024) ![0, 0, 0] S1x128x1024.size inb_S2x128x1024_S1x128x1024_0_0_0).toLoadRect fa = a0 ∧
  arg7.view.readAt (Elt F) (Rect.unit (s := S2x128x1024) ![1, 0, 0] S1x128x1024.size inb_S2x128x1024_S1x128x1024_1_0_0).toLoadRect fa = a1

/-- What the weights' first slot holds. -/
def At8 (fp : Bf (F := F) c arg8) (p0 p1 : Vec F S1x1x1024x1024 .bf16) : Prop :=
  arg8.view.readAt (Elt F) (Rect.unit (s := S2x2x1024x1024) ![0, 0, 0, 0] S1x1x1024x1024.size inb_S2x2x1024x1024_S1x1x1024x1024_0_0_0_0).toLoadRect fp = p0 ∧
  arg8.view.readAt (Elt F) (Rect.unit (s := S2x2x1024x1024) ![0, 1, 0, 0] S1x1x1024x1024.size inb_S2x2x1024x1024_S1x1x1024x1024_0_1_0_0).toLoadRect fp = p1

/-- Before the block after `n`: both accumulators over the blocks before `n`, block `n`'s weights pending. -/
def Pend (K : Bf (F := F) c arg4) (V : Bf (F := F) c arg5) (fq : Bf (F := F) c arg9) (n : ℕ)
    (fa : Bf (F := F) c arg7) (fp : Bf (F := F) c arg8) : Prop :=
  At7 c arg7 fa (ACC (arg4.view.read (Elt F) K) (arg5.view.read (Elt F) V) (qOf c arg9 fq) 0 n)
      (ACC (arg4.view.read (Elt F) K) (arg5.view.read (Elt F) V) (qOf c arg9 fq) 1 n) ∧
  At8 c arg8 fp (PR (arg4.view.read (Elt F) K) (qOf c arg9 fq) 0 n) (PR (arg4.view.read (Elt F) K) (qOf c arg9 fq) 1 n)

set_option maxHeartbeats 1000000 in
theorem trip_pend (K : Bf (F := F) c arg4) (V : Bf (F := F) c arg5) (fq : Bf (F := F) c arg9) (arg2 v33 c0 v59 : BitVec 32)
    (k : Fin (k0_t1_loop i).trips) (hx : k0_chk1 i k (BitVec.ofNat 32 (odd i + 2 * k.val))) (fa : Bf (F := F) c arg7) (fp : Bf (F := F) c arg8)
    (hp : Pend c arg4 arg5 arg7 arg8 arg9 K V fq (odd i + 2 * k.val) fa fp) :
    Pend c arg4 arg5 arg7 arg8 arg9 K V fq (odd i + 2 * (k.val + 1))
      (arg7.view.writes (Elt F) fa (tripRun c i arg3 harg3 arg4 harg4 arg5 harg5 arg6 harg6 arg7 harg7 arg8 harg8 arg9 harg9 K V fq arg2 v33 c0 v59 k _ hx fa fp).1)
      (arg8.view.writes (Elt F) fp (tripRun c i arg3 harg3 arg4 harg4 arg5 harg5 arg6 harg6 arg7 harg7 arg8 harg8 arg9 harg9 K V fq arg2 v33 c0 v59 k _ hx fa fp).2.1) := by
  have hn : odd i + 2 * k.val < 8 := by have := trip_lt i k; have := i2_lt i; omega
  obtain ⟨⟨ha0, ha1⟩, hp0, hp1⟩ := hp
  have hn1 : odd i + 2 * (k.val + 1) = (odd i + 2 * k.val) + 1 + 1 := by omega
  -- the first pass over the pending block
  have e110 : tripRun.sl.v110 c i arg5 arg7 arg8 V k _ hx fa fp
      = ACC (arg4.view.read (Elt F) K) (arg5.view.read (Elt F) V) (qOf c arg9 fq) 0 (odd i + 2 * k.val + 1) := by
    refine Eq.trans (rfl : _ = k0_pay14 (arg7.view.readAt (Elt F) (Rect.unit (s := S2x128x1024) ![0, 0, 0] S1x128x1024.size inb_S2x128x1024_S1x128x1024_0_0_0).toLoadRect fa)
      (arg5.view.readAt (Elt F) (Rect.unit (s := S1x2x8x128x1024) (k0_off1 (BitVec.ofNat 32 (odd i + 2 * k.val))) S1x1x1x128x1024.size (k0_off1_inb i k _ hx)).toLoadRect V)
      (arg8.view.readAt (Elt F) (Rect.unit (s := S2x2x1024x1024) ![0, 0, 0, 0] S1x1x1024x1024.size inb_S2x2x1024x1024_S1x1x1024x1024_0_0_0_0).toLoadRect fp)) ?_
    rw [ha0, hp0, readAt_unit_blk _ _ _ pos_v, off1_eq hn]
    rfl
  have e122 : tripRun.sl.v122 c i arg5 arg7 arg8 V k _ hx fa fp
      = ACC (arg4.view.read (Elt F) K) (arg5.view.read (Elt F) V) (qOf c arg9 fq) 1 (odd i + 2 * k.val + 1) := by
    refine Eq.trans (rfl : _ = k0_pay14 (arg7.view.readAt (Elt F) (Rect.unit (s := S2x128x1024) ![1, 0, 0] S1x128x1024.size inb_S2x128x1024_S1x128x1024_1_0_0).toLoadRect fa)
      (arg5.view.readAt (Elt F) (Rect.unit (s := S1x2x8x128x1024) (k0_off2 (BitVec.ofNat 32 (odd i + 2 * k.val))) S1x1x1x128x1024.size (k0_off2_inb i k _ hx)).toLoadRect V)
      (arg8.view.readAt (Elt F) (Rect.unit (s := S2x2x1024x1024) ![0, 1, 0, 0] S1x1x1024x1024.size inb_S2x2x1024x1024_S1x1x1024x1024_0_1_0_0).toLoadRect fp)) ?_
    rw [ha1, hp1, readAt_unit_blk _ _ _ pos_v, off2_eq hn]
    rfl
  have e172 : tripRun.sl.v172 c i arg5 arg7 arg8 V k _ hx fa fp
      = ACC (arg4.view.read (Elt F) K) (arg5.view.read (Elt F) V) (qOf c arg9 fq) 0 (odd i + 2 * k.val + 1) := by
    unfold tripRun.sl.v172 tripRun.sl.Ha_2
    rw [cov_skip _ _ _ _ _ (by decide), cov_hit, e110]
  -- the weights of the two blocks after it
  have eHp : tripRun.sl.Hp_4 c i arg4 arg9 K fq k =
      ([⟨Rect.unit (s := S2x2x1024x1024) ![0, 1, 0, 0] S1x1x1024x1024.size inb_S2x2x1024x1024_S1x1x1024x1024_0_1_0_0, PR (arg4.view.read (Elt F) K) (qOf c arg9 fq) 1 (odd i + 2 * k.val + 2)⟩,
       ⟨Rect.unit (s := S2x2x1024x1024) ![0, 0, 0, 0] S1x1x1024x1024.size inb_S2x2x1024x1024_S1x1x1024x1024_0_0_0_0, PR (arg4.view.read (Elt F) K) (qOf c arg9 fq) 0 (odd i + 2 * k.val + 2)⟩,
       ⟨Rect.unit (s := S2x2x1024x1024) ![1, 1, 0, 0] S1x1x1024x1024.size inb_S2x2x1024x1024_S1x1x1024x1024_1_1_0_0, PR (arg4.view.read (Elt F) K) (qOf c arg9 fq) 1 (odd i + 2 * k.val + 1)⟩,
       ⟨Rect.unit (s := S2x2x1024x1024) ![1, 0, 0, 0] S1x1x1024x1024.size inb_S2x2x1024x1024_S1x1x1024x1024_1_0_0_0, PR (arg4.view.read (Elt F) K) (qOf c arg9 fq) 0 (odd i + 2 * k.val + 1)⟩] : List (View.Piece (Elt F) S2x2x1024x1024 .bf16)) := by
    refine Eq.trans (rfl : _ =
      ([⟨Rect.unit (s := S2x2x1024x1024) ![0, 1, 0, 0] S1x1x1024x1024.size inb_S2x2x1024x1024_S1x1x1024x1024_0_1_0_0, k0_pay4 (arg4.view.readAt (Elt F) (Rect.unit (s := S1x2x8192x128) (k0_off6 i k) S1x1x1024x128.size (k0_off6_inb i k)).toLoadRect K) (qOf c arg9 fq 1)⟩,
       ⟨Rect.unit (s := S2x2x1024x1024) ![0, 0, 0, 0] S1x1x1024x1024.size inb_S2x2x1024x1024_S1x1x1024x1024_0_0_0_0, k0_pay4 (arg4.view.readAt (Elt F) (Rect.unit (s := S1x2x8192x128) (k0_off5 i k) S1x1x1024x128.size (k0_off5_inb i k)).toLoadRect K) (qOf c arg9 fq 0)⟩,
       ⟨Rect.unit (s := S2x2x1024x1024) ![1, 1, 0, 0] S1x1x1024x1024.size inb_S2x2x1024x1024_S1x1x1024x1024_1_1_0_0, k0_pay4 (arg4.view.readAt (Elt F) (Rect.unit (s := S1x2x8192x128) (k0_off4 i k) S1x1x1024x128.size (k0_off4_inb i k)).toLoadRect K) (qOf c arg9 fq 1)⟩,
       ⟨Rect.unit (s := S2x2x1024x1024) ![1, 0, 0, 0] S1x1x1024x1024.size inb_S2x2x1024x1024_S1x1x1024x1024_1_0_0_0, k0_pay4 (arg4.view.readAt (Elt F) (Rect.unit (s := S1x2x8192x128) (k0_off3 i k) S1x1x1024x128.size (k0_off3_inb i k)).toLoadRect K) (qOf c arg9 fq 0)⟩] : List (View.Piece (Elt F) S2x2x1024x1024 .bf16))) ?_
    rw [readAt_unit_blk _ _ _ pos_k, readAt_unit_blk _ _ _ pos_k, readAt_unit_blk _ _ _ pos_k, readAt_unit_blk _ _ _ pos_k, off3_eq, off4_eq, off5_eq, off6_eq]
    rfl
  have e177 : tripRun.sl.v177 c i arg4 arg8 arg9 K fq k = PR (arg4.view.read (Elt F) K) (qOf c arg9 fq) 0 (odd i + 2 * k.val + 1) := by
    unfold tripRun.sl.v177
    rw [eHp, cov_skip _ _ _ _ _ (by decide), cov_skip _ _ _ _ _ (by decide), cov_skip _ _ _ _ _ (by decide), cov_hit]
  have e189 : tripRun.sl.v189 c i arg4 arg8 arg9 K fq k = PR (arg4.view.read (Elt F) K) (qOf c arg9 fq) 1 (odd i + 2 * k.val + 1) := by
    unfold tripRun.sl.v189
    rw [eHp, cov_skip _ _ _ _ _ (by decide), cov_skip _ _ _ _ _ (by decide), cov_hit]
  -- the second pass
  have eHa : tripRun.sl.Ha_3 c i arg4 arg5 arg7 arg8 arg9 K V fq k _ hx fa fp
      = ⟨Rect.unit (s := S2x128x1024) ![0, 0, 0] S1x128x1024.size inb_S2x128x1024_S1x128x1024_0_0_0,
          ACC (arg4.view.read (Elt F) K) (arg5.view.read (Elt F) V) (qOf c arg9 fq) 0 (odd i + 2 * (k.val + 1))⟩ :: tripRun.sl.Ha_2 c i arg5 arg7 arg8 V k _ hx fa fp := by
    refine Eq.trans (rfl : _ = ⟨Rect.unit (s := S2x128x1024) ![0, 0, 0] S1x128x1024.size inb_S2x128x1024_S1x128x1024_0_0_0,
      k0_pay14 (tripRun.sl.v172 c i arg5 arg7 arg8 V k _ hx fa fp)
        (arg5.view.readAt (Elt F) (Rect.unit (s := S1x2x8x128x1024) (k0_off7 i k) S1x1x1x128x1024.size (k0_off7_inb i k)).toLoadRect V)
        (tripRun.sl.v177 c i arg4 arg8 arg9 K fq k)⟩ :: tripRun.sl.Ha_2 c i arg5 arg7 arg8 V k _ hx fa fp) ?_
    rw [e172, e177, readAt_unit_blk _ _ _ pos_v, off7_eq, hn1]
    rfl
  have e184 : tripRun.sl.v184 c i arg4 arg5 arg7 arg8 arg9 K V fq k _ hx fa fp
      = ACC (arg4.view.read (Elt F) K) (arg5.view.read (Elt F) V) (qOf c arg9 fq) 1 (odd i + 2 * k.val + 1) := by
    unfold tripRun.sl.v184
    rw [eHa, cov_skip _ _ _ _ _ (by decide)]
    unfold tripRun.sl.Ha_2
    rw [cov_hit, e122]
  have e8 : (tripRun c i arg3 harg3 arg4 harg4 arg5 harg5 arg6 harg6 arg7 harg7 arg8 harg8 arg9 harg9 K V fq arg2 v33 c0 v59 k _ hx fa fp).2.1
      = tripRun.sl.Hp_4 c i arg4 arg9 K fq k := rfl
  have e7 : (tripRun c i arg3 harg3 arg4 harg4 arg5 harg5 arg6 harg6 arg7 harg7 arg8 harg8 arg9 harg9 K V fq arg2 v33 c0 v59 k _ hx fa fp).1
      = ⟨Rect.unit (s := S2x128x1024) ![1, 0, 0] S1x128x1024.size inb_S2x128x1024_S1x128x1024_1_0_0,
          ACC (arg4.view.read (Elt F) K) (arg5.view.read (Elt F) V) (qOf c arg9 fq) 1 (odd i + 2 * (k.val + 1))⟩ :: tripRun.sl.Ha_3 c i arg4 arg5 arg7 arg8 arg9 K V fq k _ hx fa fp := by
    refine Eq.trans (rfl : _ = ⟨Rect.unit (s := S2x128x1024) ![1, 0, 0] S1x128x1024.size inb_S2x128x1024_S1x128x1024_1_0_0,
      k0_pay14 (tripRun.sl.v184 c i arg4 arg5 arg7 arg8 arg9 K V fq k _ hx fa fp)
        (arg5.view.readAt (Elt F) (Rect.unit (s := S1x2x8x128x1024) (k0_off8 i k) S1x1x1x128x1024.size (k0_off8_inb i k)).toLoadRect V)
        (tripRun.sl.v189 c i arg4 arg8 arg9 K fq k)⟩ :: tripRun.sl.Ha_3 c i arg4 arg5 arg7 arg8 arg9 K V fq k _ hx fa fp) ?_
    rw [e184, e189, readAt_unit_blk _ _ _ pos_v, off8_eq, hn1]
    rfl
  have hn2 : odd i + 2 * (k.val + 1) = odd i + 2 * k.val + 2 := by omega
  refine ⟨⟨?_, ?_⟩, ?_, ?_⟩
  · rw [e7, eHa]
    exact (ld_skip _ _ _ _ _ _ (by decide)).trans (ld_hit _ _ _ _ _ _)
  · rw [e7]
    exact ld_hit _ _ _ _ _ _
  · rw [e8, eHp, hn2]
    exact (ld_skip _ _ _ _ _ _ (by decide)).trans (ld_hit _ _ _ _ _ _)
  · rw [e8, eHp, hn2]
    exact ld_hit _ _ _ _ _ _

/-- What the loops hold before a trip that finds `n` blocks summed: the keys, the values and the expanded queries as
    they were, the accumulators and the pending weights at `n`. -/
def LoopRes (K : Bf (F := F) c arg4) (V : Bf (F := F) c arg5) (fq : Bf (F := F) c arg9) (n : ℕ) (x : BitVec 32) : sProp 𝕄 :=
  iprop(⌜x = BitVec.ofNat 32 n⌝ ∗ ∃ fa fp, ⌜Pend c arg4 arg5 arg7 arg8 arg9 K V fq n fa fp⌝ ∗ Res c arg4 arg5 arg7 arg8 arg9 K V fq fa fp)

set_option warn.classDefReducibility false in
/-- The walk's invariant. -/
@[sl_loop] def walk (K : Bf (F := F) c arg4) (V : Bf (F := F) c arg5) (fq : Bf (F := F) c arg9) (arg2 v59 : BitVec 32) :
    LoopInvTy_k0_t1 (F := F) Unit ℕ (UU nD τ) ℕ 𝒱₀ c none Set.univ i arg3 harg3 arg4 harg4 arg5 harg5 arg6 harg6 arg7 harg7 arg8 harg8 arg9 harg9
      arg2 (BitVec.ofNat 32 (odd i)) 0#32 v59 (BitVec.ofNat 32 (odd i)) where
  inv k x := LoopRes c arg4 arg5 arg7 arg8 arg9 K V fq (odd i + 2 * k) x
  step k x := by
    unfold LoopRes
    iintro ⟨%hx, %fa, %fp, %hp, H⟩
    subst hx
    have hn : odd i + 2 * k.val < 8 := by have := trip_lt i k; have := i2_lt i; omega
    iapply (wp_wand_r Idealize.ShloMosaic.frame (wpE (defs₀ (F := F)) 𝒱₀ (c : Thread nD τ) none) Set.univ)
    isplitl [H]
    · iapply (tripRun c i arg3 harg3 arg4 harg4 arg5 harg5 arg6 harg6 arg7 harg7 arg8 harg8 arg9 harg9 K V fq arg2 (BitVec.ofNat 32 (odd i)) 0#32 v59 k _ (chk1 i k hn) fa fp).2.2
      iexact H
    · iintro %y ⟨%hy, H'⟩
      isplitr; · ipureintro; rw [hy]; exact next_word i k
      iexists _; iexists _
      isplitr; · ipureintro; exact trip_pend c i arg3 harg3 arg4 harg4 arg5 harg5 arg6 harg6 arg7 harg7 arg8 harg8 arg9 harg9 K V fq arg2 (BitVec.ofNat 32 (odd i)) 0#32 v59 k (chk1 i k hn) fa fp hp
      iexact H'

end

end Cert.Proof.Attn

end
-- ==== Proof.Start.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.Trip
public import Idealize.ShloMosaic.Lib.Tactic

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- The remainder by two of the block count, as the kernel computes it. -/
theorem word_odd (i : grid0.Coords) :
    Scalar.select (Scalar.andi (Scalar.xori
        (Scalar.cmpi .slt (Scalar.remsi (Scalar.maxsi (Scalar.subi (BitVec.ofNat 32 (i 2).val) 1#32) 0#32) (Scalar.select (Scalar.cmpi .eq (2#32) 0#32) (1#32) 2#32)) 0#32)
        (Scalar.cmpi .slt (Scalar.select (Scalar.cmpi .eq (2#32) 0#32) (1#32) 2#32) 0#32))
        (Scalar.cmpi .ne (Scalar.remsi (Scalar.maxsi (Scalar.subi (BitVec.ofNat 32 (i 2).val) 1#32) 0#32) (Scalar.select (Scalar.cmpi .eq (2#32) 0#32) (1#32) 2#32)) 0#32))
      (Scalar.addi (Scalar.remsi (Scalar.maxsi (Scalar.subi (BitVec.ofNat 32 (i 2).val) 1#32) 0#32) (Scalar.select (Scalar.cmpi .eq (2#32) 0#32) (1#32) 2#32)) (Scalar.select (Scalar.cmpi .eq (2#32) 0#32) (1#32) 2#32))
      (Scalar.remsi (Scalar.maxsi (Scalar.subi (BitVec.ofNat 32 (i 2).val) 1#32) 0#32) (Scalar.select (Scalar.cmpi .eq (2#32) 0#32) (1#32) 2#32))
      = BitVec.ofNat 32 (odd i) := by
  have h := i2_lt i
  unfold odd rest
  generalize (i 2).val = j at *
  interval_cases j <;> rfl

theorem cond1_iff (i : grid0.Coords) : k0_cond1 i = 1#1 ↔ 1 ≤ (i 2).val ∧ odd i = 0 := by
  have h := i2_lt i
  unfold k0_cond1 odd rest
  generalize (i 2).val = j at *
  interval_cases j <;> decide
theorem cond2_iff (i : grid0.Coords) : k0_cond2 i = 1#1 ↔ odd i = 1 := by
  have h := i2_lt i
  unfold k0_cond2 odd rest
  generalize (i 2).val = j at *
  interval_cases j <;> decide
theorem cond3_iff (i : grid0.Coords) : k0_cond3 i = 1#1 ↔ 1 ≤ (i 2).val := by
  have h := i2_lt i
  unfold k0_cond3
  generalize (i 2).val = j at *
  interval_cases j <;> decide
theorem cond4_iff (i : grid0.Coords) : k0_cond4 i = 1#1 ↔ (i 2).val = 0 := by
  have h := i2_lt i
  unfold k0_cond4
  generalize (i 2).val = j at *
  interval_cases j <;> decide

section
variable (c : Dev nD) (i : grid0.Coords)
  (arg3 : Memref sig .tc .vmem S1x2x80x1024 .bf16) (harg3 : arg3.IsWhole) (arg4 : Memref sig .tc .vmem S1x2x8192x128 .bf16) (harg4 : arg4.IsWhole) (arg5 : Memref sig .tc .vmem S1x2x8x128x1024 .bf16) (harg5 : arg5.IsWhole) (arg6 : Memref sig .tc .vmem S1x128x1024 .bf16) (harg6 : arg6.IsWhole) (arg7 : Memref sig .tc .vmem S2x128x1024 .f32) (harg7 : arg7.IsWhole) (arg8 : Memref sig .tc .vmem S2x2x1024x1024 .bf16) (harg8 : arg8.IsWhole) (arg9 : Memref sig .tc .vmem S2x128x1024 .bf16) (harg9 : arg9.IsWhole)

/-- The queries of both heads written out to the keys' width: one run of the expansion. -/
def expandRun (Q : Bf (F := F) c arg3) (fq : Bf (F := F) c arg9) :
    { L9 : List (View.Piece (Elt F) S2x128x1024 .bf16) //
      iprop(pt c arg3 Q ∗ pt c arg9 fq) ⊢ wp Idealize.ShloMosaic.frame (wpE (defs₀ (F := F)) 𝒱₀ (c : Thread nD τ) none) Set.univ (k0_part26 i arg3 harg3 arg4 harg4 arg5 harg5 arg6 harg6 arg7 harg7 arg8 harg8 arg9 harg9)
        (fun y => iprop(⌜y = ⟨BitVec.ofNat 32 (i 2).val, Scalar.subi (BitVec.ofNat 32 (i 2).val) 1#32⟩⌝ ∗ pt c arg3 Q ∗ pt c arg9 (arg9.view.writes (Elt F) fq L9))) } := by
  refine ⟨?_, ?run⟩
  case run =>
    unfold k0_part26
    iintro ⟨HQ, Hq⟩
    sl_exec
    sl_step
    isplitr; · ipureintro; rfl
    isplitl [HQ]; · iexact HQ
    iexact Hq

/-- No earlier block: the start does nothing. -/
theorem startRun0 (h0 : (i 2).val = 0) (K : Bf (F := F) c arg4) (V : Bf (F := F) c arg5) (fq : Bf (F := F) c arg9) (fa : Bf (F := F) c arg7) (fp : Bf (F := F) c arg8) :
    Res c arg4 arg5 arg7 arg8 arg9 K V fq fa fp ⊢ wp Idealize.ShloMosaic.frame (wpE (defs₀ (F := F)) 𝒱₀ (c : Thread nD τ) none) Set.univ (k0_part27 i arg3 harg3 arg4 harg4 arg5 harg5 arg6 harg6 arg7 harg7 arg8 harg8 arg9 harg9 (BitVec.ofNat 32 (i 2).val) (Scalar.subi (BitVec.ofNat 32 (i 2).val) 1#32))
        (fun y => iprop(⌜y.1 = BitVec.ofNat 32 (odd i) ∧ y.2.1 = 0#32⌝ ∗ Res c arg4 arg5 arg7 arg8 arg9 K V fq fa fp)) := by
  have C1 : ¬ k0_cond1 i = 1#1 := by rw [cond1_iff]; omega
  have C2 : ¬ k0_cond2 i = 1#1 := by rw [cond2_iff]; unfold odd rest; omega
  unfold k0_part27
  iintro ⟨HK, HV, Hq, Ha, Hp⟩
  sl_exec
  sl_step
  isplitr
  · ipureintro
    exact ⟨word_odd i, rfl⟩
  isplitl [HK]; · iexact HK
  isplitl [HV]; · iexact HV
  isplitl [Hq]; · iexact Hq
  isplitl [Ha]; · iexact Ha
  iexact Hp

/-- An even number of blocks before the last: the accumulators cleared, block 0 pending. -/
def startRunE (h0 : 1 ≤ (i 2).val) (ho : odd i = 0) (K : Bf (F := F) c arg4) (V : Bf (F := F) c arg5) (fq : Bf (F := F) c arg9) (fa : Bf (F := F) c arg7) (fp : Bf (F := F) c arg8) :
    Σ' L7 : List (View.Piece (Elt F) S2x128x1024 .f32), { L8 : List (View.Piece (Elt F) S2x2x1024x1024 .bf16) //
    Res c arg4 arg5 arg7 arg8 arg9 K V fq fa fp ⊢ wp Idealize.ShloMosaic.frame (wpE (defs₀ (F := F)) 𝒱₀ (c : Thread nD τ) none) Set.univ (k0_part27 i arg3 harg3 arg4 harg4 arg5 harg5 arg6 harg6 arg7 harg7 arg8 harg8 arg9 harg9 (BitVec.ofNat 32 (i 2).val) (Scalar.subi (BitVec.ofNat 32 (i 2).val) 1#32))
        (fun y => iprop(⌜y.1 = BitVec.ofNat 32 (odd i) ∧ y.2.1 = 0#32⌝ ∗ Res c arg4 arg5 arg7 arg8 arg9 K V fq (arg7.view.writes (Elt F) fa L7) (arg8.view.writes (Elt F) fp L8))) } := by
  refine ⟨?_, ?_, ?run⟩
  case run =>
    have C1 : k0_cond1 i = 1#1 := by rw [cond1_iff]; omega
    have C2 : ¬ k0_cond2 i = 1#1 := by rw [cond2_iff]; omega
    unfold k0_part27
    iintro ⟨HK, HV, Hq, Ha, Hp⟩
    sl_exec
    sl_step
    isplitr
    · ipureintro
      exact ⟨word_odd i, rfl⟩
    isplitl [HK]; · iexact HK
    isplitl [HV]; · iexact HV
    isplitl [Hq]; · iexact Hq
    isplitl [Ha]; · iexact Ha
    iexact Hp

/-- An odd number: block 0 summed, block 1 pending. -/
def startRunO (ho : odd i = 1) (K : Bf (F := F) c arg4) (V : Bf (F := F) c arg5) (fq : Bf (F := F) c arg9) (fa : Bf (F := F) c arg7) (fp : Bf (F := F) c arg8) :
    Σ' L7 : List (View.Piece (Elt F) S2x128x1024 .f32), { L8 : List (View.Piece (Elt F) S2x2x1024x1024 .bf16) //
    Res c arg4 arg5 arg7 arg8 arg9 K V fq fa fp ⊢ wp Idealize.ShloMosaic.frame (wpE (defs₀ (F := F)) 𝒱₀ (c : Thread nD τ) none) Set.univ (k0_part27 i arg3 harg3 arg4 harg4 arg5 harg5 arg6 harg6 arg7 harg7 arg8 harg8 arg9 harg9 (BitVec.ofNat 32 (i 2).val) (Scalar.subi (BitVec.ofNat 32 (i 2).val) 1#32))
        (fun y => iprop(⌜y.1 = BitVec.ofNat 32 (odd i) ∧ y.2.1 = 0#32⌝ ∗ Res c arg4 arg5 arg7 arg8 arg9 K V fq (arg7.view.writes (Elt F) fa L7) (arg8.view.writes (Elt F) fp L8))) } := by
  refine ⟨?_, ?_, ?run⟩
  case run =>
    have C1 : ¬ k0_cond1 i = 1#1 := by rw [cond1_iff]; omega
    have C2 : k0_cond2 i = 1#1 := by rw [cond2_iff]; omega
    unfold k0_part27
    iintro ⟨HK, HV, Hq, Ha, Hp⟩
    sl_exec
    sl_step
    isplitr
    · ipureintro
      exact ⟨word_odd i, rfl⟩
    isplitl [HK]; · iexact HK
    isplitl [HV]; · iexact HV
    isplitl [Hq]; · iexact Hq
    isplitl [Ha]; · iexact Ha
    iexact Hp
end

end Cert.Proof.Attn

end
-- ==== Proof.End.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.Start
public import Idealize.ShloMosaic.Lib.Tactic

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

theorem off19_eq {n : ℕ} (hn : n < 8) : k0_off19 (BitVec.ofNat 32 n) = ![0, 0, n, 0, 0] := by
  interval_cases n <;> rfl
theorem off20_eq {n : ℕ} (hn : n < 8) : k0_off20 (BitVec.ofNat 32 n) = ![0, 1, n, 0, 0] := by
  interval_cases n <;> rfl
theorem chk3 (i : grid0.Coords) {n : ℕ} (hn : n < 8) : k0_chk3 i (BitVec.ofNat 32 n) := by
  unfold k0_chk3
  rw [off19_eq hn, off20_eq hn]
  interval_cases n <;> exact ⟨fun _ => by decide, fun _ => by decide⟩

theorem walked (i : grid0.Coords) : odd i + 2 * Scf.trips (k0_t1_loop i).lb (k0_t1_loop i).ub (k0_t1_loop i).st = rest i := by
  have h : Scf.trips (k0_t1_loop i).lb (k0_t1_loop i).ub (k0_t1_loop i).st = rest i / 2 := t1_trips i
  rw [h]; unfold odd; omega

section
variable (c : Dev nD) (i : grid0.Coords)
  (arg3 : Memref sig .tc .vmem S1x2x80x1024 .bf16) (harg3 : arg3.IsWhole) (arg4 : Memref sig .tc .vmem S1x2x8192x128 .bf16) (harg4 : arg4.IsWhole) (arg5 : Memref sig .tc .vmem S1x2x8x128x1024 .bf16) (harg5 : arg5.IsWhole) (arg6 : Memref sig .tc .vmem S1x128x1024 .bf16) (harg6 : arg6.IsWhole) (arg7 : Memref sig .tc .vmem S2x128x1024 .f32) (harg7 : arg7.IsWhole) (arg8 : Memref sig .tc .vmem S2x2x1024x1024 .bf16) (harg8 : arg8.IsWhole) (arg9 : Memref sig .tc .vmem S2x128x1024 .bf16) (harg9 : arg9.IsWhole)

/-- What is left once the output block is written: the inputs as they were, the scratch at anything. -/
abbrev Done (K : Bf (F := F) c arg4) (V : Bf (F := F) c arg5) (fq : Bf (F := F) c arg9) : sProp 𝕄 :=
  iprop(pt c arg4 K ∗ pt c arg5 V ∗ pt c arg9 fq ∗ (∃ fa, pt c arg7 fa) ∗ (∃ fp, pt c arg8 fp))

set_option maxHeartbeats 1000000 in
/-- Some earlier block: the walk, the diagonal and the normalisation. -/
def endRun (C3 : k0_cond3 i = 1#1) (C4 : ¬ k0_cond4 i = 1#1)
    (hx : k0_chk3 i (BitVec.ofNat 32 (odd i + 2 * Scf.trips (k0_t1_loop i).lb (k0_t1_loop i).ub (k0_t1_loop i).st)))
    (K : Bf (F := F) c arg4) (V : Bf (F := F) c arg5) (fq : Bf (F := F) c arg9) (v59 : BitVec 32) :
    Σ' L6 : Bf (F := F) c arg7 → Bf (F := F) c arg8 → List (View.Piece (Elt F) S1x128x1024 .bf16), { Y : Bf (F := F) c arg7 → Bf (F := F) c arg8 → FVec F S64x1024 .bf16 //
     ∀ (fa : Bf (F := F) c arg7) (fp : Bf (F := F) c arg8) (f6 : Bf (F := F) c arg6), Pend c arg4 arg5 arg7 arg8 arg9 K V fq (odd i) fa fp →
    (iprop(pt c arg6 f6 ∗ Res c arg4 arg5 arg7 arg8 arg9 K V fq fa fp) ⊢ wp Idealize.ShloMosaic.frame (wpE (defs₀ (F := F)) 𝒱₀ (c : Thread nD τ) none) Set.univ (k0_part28 i arg3 harg3 arg4 harg4 arg5 harg5 arg6 harg6 arg7 harg7 arg8 harg8 arg9 harg9 (BitVec.ofNat 32 (i 2).val) (BitVec.ofNat 32 (odd i)) 0#32 v59)
        (fun y => iprop(∃ fa' fp', ⌜Pend c arg4 arg5 arg7 arg8 arg9 K V fq (rest i) fa' fp' ∧ y = Y fa' fp'⌝ ∗ pt c arg6 (arg6.view.writes (Elt F) f6 (L6 fa' fp')) ∗ Done c arg4 arg5 arg7 arg8 arg9 K V fq))) } := by
  refine ⟨?_, ?_, ?run⟩
  case run =>
    intro fa fp f6 hp
    have htr : (k0_t2_loop i).trips = 0 := t2_trips i
    let L := walk c i arg3 harg3 arg4 harg4 arg5 harg5 arg6 harg6 arg7 harg7 arg8 harg8 arg9 harg9 K V fq (BitVec.ofNat 32 (i 2).val) v59
    unfold k0_part28
    iintro ⟨HO, HK, HV, Hq, Ha, Hp⟩
    sl_exec
    sl_step
    iexists faL0
    iexists fpL1
    isplitr
    · ipureintro
      refine ⟨by rw [← walked]; assumption, ?_⟩
      rfl
    isplitl [HO]
    · iexact HO
    isplitl [HK]
    · iexact HK
    isplitl [HV]
    · iexact HV
    isplitl [Hq]
    · iexact Hq
    isplitl [Ha]
    · iexists _; iexact Ha
    iexists _; iexact Hp
set_option maxHeartbeats 1000000 in
/-- No earlier block: the diagonal and the normalisation. -/
def endRun0 (C3 : ¬ k0_cond3 i = 1#1) (C4 : k0_cond4 i = 1#1) (htr' : (k0_t1_loop i).trips = 0)
    (hx : k0_chk3 i (BitVec.ofNat 32 (odd i)))
    (K : Bf (F := F) c arg4) (V : Bf (F := F) c arg5) (fq : Bf (F := F) c arg9) (v59 : BitVec 32) :
    Σ' L6 : Bf (F := F) c arg7 → Bf (F := F) c arg8 → List (View.Piece (Elt F) S1x128x1024 .bf16), { Y : Bf (F := F) c arg7 → Bf (F := F) c arg8 → FVec F S64x1024 .bf16 //
     ∀ (fa : Bf (F := F) c arg7) (fp : Bf (F := F) c arg8) (f6 : Bf (F := F) c arg6),
    (iprop(pt c arg6 f6 ∗ Res c arg4 arg5 arg7 arg8 arg9 K V fq fa fp) ⊢ wp Idealize.ShloMosaic.frame (wpE (defs₀ (F := F)) 𝒱₀ (c : Thread nD τ) none) Set.univ (k0_part28 i arg3 harg3 arg4 harg4 arg5 harg5 arg6 harg6 arg7 harg7 arg8 harg8 arg9 harg9 (BitVec.ofNat 32 (i 2).val) (BitVec.ofNat 32 (odd i)) 0#32 v59)
        (fun y => iprop(∃ fa' fp', ⌜y = Y fa' fp'⌝ ∗ pt c arg6 (arg6.view.writes (Elt F) f6 (L6 fa' fp')) ∗ Done c arg4 arg5 arg7 arg8 arg9 K V fq))) } := by
  refine ⟨?_, ?_, ?run⟩
  case run =>
    intro fa fp f6
    have htr : (k0_t2_loop i).trips = 0 := t2_trips i
    unfold k0_part28
    iintro ⟨HO, HK, HV, Hq, Ha, Hp⟩
    sl_exec
    sl_step
    iexists fa
    iexists fp
    isplitr
    · ipureintro
      rfl
    isplitl [HO]
    · iexact HO
    isplitl [HK]
    · iexact HK
    isplitl [HV]
    · iexact HV
    isplitl [Hq]
    · iexact Hq
    isplitl [Ha]
    · iexists _; iexact Ha
    iexists _; iexact Hp
end

end Cert.Proof.Attn

end
-- ==== Proof.Tail.lean ====
module

public import proofs.«01_k».proof.Proof.End
public import Idealize.ShloMosaic.Lib.Pipeline.FrameBody

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## What one query block's output holds, from the blocks of keys and values and the expanded queries -/

/-- 256 keys of block `n`, band `r`, of head `h`. -/
def kd (gk : Vec F S1x2x8192x128 .bf16) (h n r : ℕ) : Vec F S1x1x256x128 .bf16 := blk pos_k gk ![0, h, 1024 * n + 256 * r, 0] S1x1x256x128.size
/-- The first 256 values of block `n` of head `h`. -/
def vd256 (gv : Vec F S1x2x8x128x1024 .bf16) (h n : ℕ) : Vec F S1x1x1x128x256 .bf16 := blk pos_v gv ![0, h, n, 0, 0] S1x1x1x128x256.size
/-- The first 512 values of block `n` of head `h`. -/
def vd512 (gv : Vec F S1x2x8x128x1024 .bf16) (h n : ℕ) : Vec F S1x1x1x128x512 .bf16 := blk pos_v gv ![0, h, n, 0, 0] S1x1x1x128x512.size
/-- The first 768 values of block `n` of head `h`. -/
def vd768 (gv : Vec F S1x2x8x128x1024 .bf16) (h n : ℕ) : Vec F S1x1x1x128x768 .bf16 := blk pos_v gv ![0, h, n, 0, 0] S1x1x1x128x768.size
/-- The first 1024 values of block `n` of head `h`. -/
def vd1024 (gv : Vec F S1x2x8x128x1024 .bf16) (h n : ℕ) : Vec F S1x1x1x128x1024 .bf16 := blk pos_v gv ![0, h, n, 0, 0] S1x1x1x128x1024.size

/-- What a list of writes leaves in a window. -/
def ldc {S : Shape} {e : EltTy} (L : List (View.Piece (Elt F) S e)) {off sz : Fin S.rank → ℕ} (inb : ∀ a, off a + sz a ≤ S.size a) :
    (Rect.unit (s := S) off sz inb).toLoadRect.shape.Idx → Elt F e :=
  fun j => View.canon L ((Rect.unit (s := S) off sz inb).toLoadRect.idx j)

/-- The diagonal block's weights, band by band. -/
def DG (gk : Vec F S1x2x8192x128 .bf16) (q : ℕ → Vec F S1x128x1024 .bf16) (n : ℕ) : List (View.Piece (Elt F) S2x2x1024x1024 .bf16) :=
  [⟨Rect.unit (s := S2x2x1024x1024) ![1, 1, 768, 768] S1x1x256x256.size inb_S2x2x1024x1024_S1x1x256x256_1_1_768_768, k0_pay38 k0_pay32 (k0_pay33 (q 1)) (kd gk 1 n 3)⟩,
   ⟨Rect.unit (s := S2x2x1024x1024) ![1, 1, 512, 512] S1x1x256x512.size inb_S2x2x1024x1024_S1x1x256x512_1_1_512_512, k0_pay37 k0_pay32 (k0_pay33 (q 1)) (kd gk 1 n 2)⟩,
   ⟨Rect.unit (s := S2x2x1024x1024) ![1, 1, 256, 256] S1x1x256x768.size inb_S2x2x1024x1024_S1x1x256x768_1_1_256_256, k0_pay36 (k0_pay35 (q 1) (kd gk 1 n 1))⟩,
   ⟨Rect.unit (s := S2x2x1024x1024) ![1, 1, 0, 0] S1x1x256x1024.size inb_S2x2x1024x1024_S1x1x256x1024_1_1_0_0, k0_pay34 (q 1) (kd gk 1 n 0)⟩,
   ⟨Rect.unit (s := S2x2x1024x1024) ![1, 0, 768, 768] S1x1x256x256.size inb_S2x2x1024x1024_S1x1x256x256_1_0_768_768, k0_pay38 k0_pay32 (k0_pay33 (q 0)) (kd gk 0 n 3)⟩,
   ⟨Rect.unit (s := S2x2x1024x1024) ![1, 0, 512, 512] S1x1x256x512.size inb_S2x2x1024x1024_S1x1x256x512_1_0_512_512, k0_pay37 k0_pay32 (k0_pay33 (q 0)) (kd gk 0 n 2)⟩,
   ⟨Rect.unit (s := S2x2x1024x1024) ![1, 0, 256, 256] S1x1x256x768.size inb_S2x2x1024x1024_S1x1x256x768_1_0_256_256, k0_pay36 (k0_pay35 (q 0) (kd gk 0 n 1))⟩,
   ⟨Rect.unit (s := S2x2x1024x1024) ![1, 0, 0, 0] S1x1x256x1024.size inb_S2x2x1024x1024_S1x1x256x1024_1_0_0_0, k0_pay34 (q 0) (kd gk 0 n 0)⟩]

/-- Both accumulators over the blocks before `n`. -/
def BS (gk : Vec F S1x2x8192x128 .bf16) (gv : Vec F S1x2x8x128x1024 .bf16) (q : ℕ → Vec F S1x128x1024 .bf16) (n : ℕ) : List (View.Piece (Elt F) S2x128x1024 .f32) :=
  [⟨Rect.unit (s := S2x128x1024) ![1, 0, 0] S1x128x1024.size inb_S2x128x1024_S1x128x1024_1_0_0, ACC gk gv q 1 n⟩,
   ⟨Rect.unit (s := S2x128x1024) ![0, 0, 0] S1x128x1024.size inb_S2x128x1024_S1x128x1024_0_0_0, ACC gk gv q 0 n⟩]

/-- Head 0, queries 0 to 255 of the block: the diagonal added. -/
def CH00 (gk : Vec F S1x2x8192x128 .bf16) (gv : Vec F S1x2x8x128x1024 .bf16) (q : ℕ → Vec F S1x128x1024 .bf16) (n : ℕ) : Vec F S1x128x256 .f32 :=
  k0_pay80 (ldc (BS gk gv q n) inb_S2x128x1024_S1x128x256_0_0_0) (vd256 gv 0 n) (ldc (DG gk q n) inb_S2x2x1024x1024_S1x1x256x256_1_0_0_0)
/-- Head 0, queries 256 to 511 of the block: the diagonal added. -/
def CH01 (gk : Vec F S1x2x8192x128 .bf16) (gv : Vec F S1x2x8x128x1024 .bf16) (q : ℕ → Vec F S1x128x1024 .bf16) (n : ℕ) : Vec F S1x128x256 .f32 :=
  k0_pay49 (ldc (BS gk gv q n) inb_S2x128x1024_S1x128x256_0_0_256) (vd512 gv 0 n) (ldc (DG gk q n) inb_S2x2x1024x1024_S1x1x512x256_1_0_0_256)
/-- Head 0, queries 512 to 767 of the block: the diagonal added. -/
def CH02 (gk : Vec F S1x2x8192x128 .bf16) (gv : Vec F S1x2x8x128x1024 .bf16) (q : ℕ → Vec F S1x128x1024 .bf16) (n : ℕ) : Vec F S1x128x256 .f32 :=
  k0_pay83 (ldc (BS gk gv q n) inb_S2x128x1024_S1x128x256_0_0_512) (vd768 gv 0 n) (ldc (DG gk q n) inb_S2x2x1024x1024_S1x1x768x256_1_0_0_512)
/-- Head 0, queries 768 to 1023 of the block: the diagonal added. -/
def CH03 (gk : Vec F S1x2x8192x128 .bf16) (gv : Vec F S1x2x8x128x1024 .bf16) (q : ℕ → Vec F S1x128x1024 .bf16) (n : ℕ) : Vec F S1x128x256 .f32 :=
  k0_pay53 (ldc (BS gk gv q n) inb_S2x128x1024_S1x128x256_0_0_768) (vd1024 gv 0 n) (ldc (DG gk q n) inb_S2x2x1024x1024_S1x1x1024x256_1_0_0_768)
/-- Head 1, queries 0 to 255 of the block: the diagonal added. -/
def CH10 (gk : Vec F S1x2x8192x128 .bf16) (gv : Vec F S1x2x8x128x1024 .bf16) (q : ℕ → Vec F S1x128x1024 .bf16) (n : ℕ) : Vec F S1x128x256 .f32 :=
  k0_pay80 (ldc (BS gk gv q n) inb_S2x128x1024_S1x128x256_1_0_0) (vd256 gv 1 n) (ldc (DG gk q n) inb_S2x2x1024x1024_S1x1x256x256_1_1_0_0)
/-- Head 1, queries 256 to 511 of the block: the diagonal added. -/
def CH11 (gk : Vec F S1x2x8192x128 .bf16) (gv : Vec F S1x2x8x128x1024 .bf16) (q : ℕ → Vec F S1x128x1024 .bf16) (n : ℕ) : Vec F S1x128x256 .f32 :=
  k0_pay49 (ldc (BS gk gv q n) inb_S2x128x1024_S1x128x256_1_0_256) (vd512 gv 1 n) (ldc (DG gk q n) inb_S2x2x1024x1024_S1x1x512x256_1_1_0_256)
/-- Head 1, queries 512 to 767 of the block: the diagonal added. -/
def CH12 (gk : Vec F S1x2x8192x128 .bf16) (gv : Vec F S1x2x8x128x1024 .bf16) (q : ℕ → Vec F S1x128x1024 .bf16) (n : ℕ) : Vec F S1x128x256 .f32 :=
  k0_pay83 (ldc (BS gk gv q n) inb_S2x128x1024_S1x128x256_1_0_512) (vd768 gv 1 n) (ldc (DG gk q n) inb_S2x2x1024x1024_S1x1x768x256_1_1_0_512)
/-- Head 1, queries 768 to 1023 of the block: the diagonal added. -/
def CH13 (gk : Vec F S1x2x8192x128 .bf16) (gv : Vec F S1x2x8x128x1024 .bf16) (q : ℕ → Vec F S1x128x1024 .bf16) (n : ℕ) : Vec F S1x128x256 .f32 :=
  k0_pay53 (ldc (BS gk gv q n) inb_S2x128x1024_S1x128x256_1_0_768) (vd1024 gv 1 n) (ldc (DG gk q n) inb_S2x2x1024x1024_S1x1x1024x256_1_1_0_768)

/-- Both accumulators over all the blocks. -/
def FL (gk : Vec F S1x2x8192x128 .bf16) (gv : Vec F S1x2x8x128x1024 .bf16) (q : ℕ → Vec F S1x128x1024 .bf16) (n : ℕ) : List (View.Piece (Elt F) S2x128x1024 .f32) :=
  ⟨Rect.unit (s := S2x128x1024) ![1, 0, 768] S1x128x256.size inb_S2x128x1024_S1x128x256_1_0_768, CH13 gk gv q n⟩ ::
  ⟨Rect.unit (s := S2x128x1024) ![1, 0, 512] S1x128x256.size inb_S2x128x1024_S1x128x256_1_0_512, CH12 gk gv q n⟩ ::
  ⟨Rect.unit (s := S2x128x1024) ![1, 0, 256] S1x128x256.size inb_S2x128x1024_S1x128x256_1_0_256, CH11 gk gv q n⟩ ::
  ⟨Rect.unit (s := S2x128x1024) ![1, 0, 0] S1x128x256.size inb_S2x128x1024_S1x128x256_1_0_0, CH10 gk gv q n⟩ ::
  ⟨Rect.unit (s := S2x128x1024) ![0, 0, 768] S1x128x256.size inb_S2x128x1024_S1x128x256_0_0_768, CH03 gk gv q n⟩ ::
  ⟨Rect.unit (s := S2x128x1024) ![0, 0, 512] S1x128x256.size inb_S2x128x1024_S1x128x256_0_0_512, CH02 gk gv q n⟩ ::
  ⟨Rect.unit (s := S2x128x1024) ![0, 0, 256] S1x128x256.size inb_S2x128x1024_S1x128x256_0_0_256, CH01 gk gv q n⟩ ::
  ⟨Rect.unit (s := S2x128x1024) ![0, 0, 0] S1x128x256.size inb_S2x128x1024_S1x128x256_0_0_0, CH00 gk gv q n⟩ :: BS gk gv q n

/-- Head 0's rows of the output, and head 1's. -/
def OL0 (gk : Vec F S1x2x8192x128 .bf16) (gv : Vec F S1x2x8x128x1024 .bf16) (q : ℕ → Vec F S1x128x1024 .bf16) (n : ℕ) : FVec F S1x64x1024 .bf16 :=
  k0_pay106 (ldc (FL gk gv q n) inb_S2x128x1024_S1x1x1024_0_64_0) (ldc (FL gk gv q n) inb_S2x128x1024_S1x64x1024_0_0_0)
def OL1 (gk : Vec F S1x2x8192x128 .bf16) (gv : Vec F S1x2x8x128x1024 .bf16) (q : ℕ → Vec F S1x128x1024 .bf16) (n : ℕ) : FVec F S64x1024 .bf16 :=
  k0_pay107 (ldc (FL gk gv q n) inb_S2x128x1024_S1x1x1024_1_64_0) (ldc (FL gk gv q n) inb_S2x128x1024_S1x64x1024_1_0_0)

/-- The output block as its two writes, and what they leave. -/
def OLs (gk : Vec F S1x2x8192x128 .bf16) (gv : Vec F S1x2x8x128x1024 .bf16) (q : ℕ → Vec F S1x128x1024 .bf16) (n : ℕ) : List (View.Piece (Elt F) S1x128x1024 .bf16) :=
  [⟨Rect.unit (s := S1x128x1024) ![0, 64, 0] S1x64x1024.size inb_S1x128x1024_S1x64x1024_0_64_0, k0_pay1 (OL1 gk gv q n)⟩,
   ⟨Rect.unit (s := S1x128x1024) ![0, 0, 0] S1x64x1024.size inb_S1x128x1024_S1x64x1024_0_0_0, OL0 gk gv q n⟩]
def OUT (gk : Vec F S1x2x8192x128 .bf16) (gv : Vec F S1x2x8x128x1024 .bf16) (q : ℕ → Vec F S1x128x1024 .bf16) (n : ℕ) : Vec F S1x128x1024 .bf16 :=
  View.canon (OLs gk gv q n)

theorem cov_ldc {sg : RefSig} {κ : Kind} {sp : Space} {S : Shape} {e : EltTy} (v : View sg κ sp S e) (L : List (View.Piece (Elt F) S e))
    {off sz : Fin S.rank → ℕ} (inb : ∀ a, off a + sz a ≤ S.size a) :
    v.readCov L (Rect.unit (s := S) off sz inb).toLoadRect = ldc L inb := View.readCov_eq_canon' v L _

theorem off17_eq (i : grid0.Coords) (r : ℕ) (hr : r < 4) : k0_off17 i (BitVec.ofNat 32 (256 * r)) = ![0, 0, 1024 * (i 2).val + 256 * r, 0] := by
  have h := i2_lt i
  unfold k0_off17
  generalize (i 2).val = j at *
  interval_cases j <;> interval_cases r <;> rfl
theorem off18_eq (i : grid0.Coords) (r : ℕ) (hr : r < 4) : k0_off18 i (BitVec.ofNat 32 (256 * r)) = ![0, 1, 1024 * (i 2).val + 256 * r, 0] := by
  have h := i2_lt i
  unfold k0_off18
  generalize (i 2).val = j at *
  interval_cases j <;> interval_cases r <;> rfl
theorem off29_eq (i : grid0.Coords) (r : ℕ) (hr : r < 4) : k0_off29 i (BitVec.ofNat 32 (256 * r)) = ![0, 0, 1024 * (i 2).val + 256 * r, 0] := by
  have h := i2_lt i
  unfold k0_off29
  generalize (i 2).val = j at *
  interval_cases j <;> interval_cases r <;> rfl
theorem off30_eq (i : grid0.Coords) (r : ℕ) (hr : r < 4) : k0_off30 i (BitVec.ofNat 32 (256 * r)) = ![0, 1, 1024 * (i 2).val + 256 * r, 0] := by
  have h := i2_lt i
  unfold k0_off30
  generalize (i 2).val = j at *
  interval_cases j <;> interval_cases r <;> rfl
theorem off21_eq (i : grid0.Coords) : k0_off21 i = ![0, 0, (i 2).val, 0, 0] := by
  have h := i2_lt i
  unfold k0_off21
  generalize (i 2).val = j at *
  interval_cases j <;> rfl
theorem off22_eq (i : grid0.Coords) : k0_off22 i = ![0, 0, (i 2).val, 0, 0] := by
  have h := i2_lt i
  unfold k0_off22
  generalize (i 2).val = j at *
  interval_cases j <;> rfl
theorem off23_eq (i : grid0.Coords) : k0_off23 i = ![0, 0, (i 2).val, 0, 0] := by
  have h := i2_lt i
  unfold k0_off23
  generalize (i 2).val = j at *
  interval_cases j <;> rfl
theorem off24_eq (i : grid0.Coords) : k0_off24 i = ![0, 0, (i 2).val, 0, 0] := by
  have h := i2_lt i
  unfold k0_off24
  generalize (i 2).val = j at *
  interval_cases j <;> rfl
theorem off25_eq (i : grid0.Coords) : k0_off25 i = ![0, 1, (i 2).val, 0, 0] := by
  have h := i2_lt i
  unfold k0_off25
  generalize (i 2).val = j at *
  interval_cases j <;> rfl
theorem off26_eq (i : grid0.Coords) : k0_off26 i = ![0, 1, (i 2).val, 0, 0] := by
  have h := i2_lt i
  unfold k0_off26
  generalize (i 2).val = j at *
  interval_cases j <;> rfl
theorem off27_eq (i : grid0.Coords) : k0_off27 i = ![0, 1, (i 2).val, 0, 0] := by
  have h := i2_lt i
  unfold k0_off27
  generalize (i 2).val = j at *
  interval_cases j <;> rfl
theorem off28_eq (i : grid0.Coords) : k0_off28 i = ![0, 1, (i 2).val, 0, 0] := by
  have h := i2_lt i
  unfold k0_off28
  generalize (i 2).val = j at *
  interval_cases j <;> rfl
theorem off31_eq (i : grid0.Coords) : k0_off31 i = ![0, 0, (i 2).val, 0, 0] := by
  have h := i2_lt i
  unfold k0_off31
  generalize (i 2).val = j at *
  interval_cases j <;> rfl
theorem off32_eq (i : grid0.Coords) : k0_off32 i = ![0, 0, (i 2).val, 0, 0] := by
  have h := i2_lt i
  unfold k0_off32
  generalize (i 2).val = j at *
  interval_cases j <;> rfl
theorem off33_eq (i : grid0.Coords) : k0_off33 i = ![0, 0, (i 2).val, 0, 0] := by
  have h := i2_lt i
  unfold k0_off33
  generalize (i 2).val = j at *
  interval_cases j <;> rfl
theorem off34_eq (i : grid0.Coords) : k0_off34 i = ![0, 0, (i 2).val, 0, 0] := by
  have h := i2_lt i
  unfold k0_off34
  generalize (i 2).val = j at *
  interval_cases j <;> rfl
theorem off35_eq (i : grid0.Coords) : k0_off35 i = ![0, 1, (i 2).val, 0, 0] := by
  have h := i2_lt i
  unfold k0_off35
  generalize (i 2).val = j at *
  interval_cases j <;> rfl
theorem off36_eq (i : grid0.Coords) : k0_off36 i = ![0, 1, (i 2).val, 0, 0] := by
  have h := i2_lt i
  unfold k0_off36
  generalize (i 2).val = j at *
  interval_cases j <;> rfl
theorem off37_eq (i : grid0.Coords) : k0_off37 i = ![0, 1, (i 2).val, 0, 0] := by
  have h := i2_lt i
  unfold k0_off37
  generalize (i 2).val = j at *
  interval_cases j <;> rfl
theorem off38_eq (i : grid0.Coords) : k0_off38 i = ![0, 1, (i 2).val, 0, 0] := by
  have h := i2_lt i
  unfold k0_off38
  generalize (i 2).val = j at *
  interval_cases j <;> rfl

section
variable (c : Dev nD) (i : grid0.Coords)
  (arg3 : Memref sig .tc .vmem S1x2x80x1024 .bf16) (harg3 : arg3.IsWhole) (arg4 : Memref sig .tc .vmem S1x2x8192x128 .bf16) (harg4 : arg4.IsWhole) (arg5 : Memref sig .tc .vmem S1x2x8x128x1024 .bf16) (harg5 : arg5.IsWhole) (arg6 : Memref sig .tc .vmem S1x128x1024 .bf16) (harg6 : arg6.IsWhole) (arg7 : Memref sig .tc .vmem S2x128x1024 .f32) (harg7 : arg7.IsWhole) (arg8 : Memref sig .tc .vmem S2x2x1024x1024 .bf16) (harg8 : arg8.IsWhole) (arg9 : Memref sig .tc .vmem S2x128x1024 .bf16) (harg9 : arg9.IsWhole)

section Walked
variable (h0 : 1 ≤ (i 2).val) (C3 : k0_cond3 i = 1#1) (C4 : ¬ k0_cond4 i = 1#1)
  (hx : k0_chk3 i (BitVec.ofNat 32 (odd i + 2 * Scf.trips (k0_t1_loop i).lb (k0_t1_loop i).ub (k0_t1_loop i).st)))
  (K : Bf (F := F) c arg4) (V : Bf (F := F) c arg5) (fq : Bf (F := F) c arg9) (fa : Bf (F := F) c arg7) (fp : Bf (F := F) c arg8)

theorem endRun_Hp : endRun.sl.Hp_8 c i arg4 arg9 C3 K fq = DG (arg4.view.read (Elt F) K) (qOf c arg9 fq) (i 2).val := by
  refine Eq.trans (rfl : _ = ([
    ⟨Rect.unit (s := S2x2x1024x1024) ![1, 1, 768, 768] S1x1x256x256.size inb_S2x2x1024x1024_S1x1x256x256_1_1_768_768, k0_pay38 k0_pay32 (k0_pay33 ((qOf c arg9 fq) 1)) (arg4.view.readAt (Elt F) (Rect.unit (s := S1x2x8192x128) (k0_off18 i 768#32) S1x1x256x128.size (k0_off18_inb i C3 3)).toLoadRect K)⟩,
    ⟨Rect.unit (s := S2x2x1024x1024) ![1, 1, 512, 512] S1x1x256x512.size inb_S2x2x1024x1024_S1x1x256x512_1_1_512_512, k0_pay37 k0_pay32 (k0_pay33 ((qOf c arg9 fq) 1)) (arg4.view.readAt (Elt F) (Rect.unit (s := S1x2x8192x128) (k0_off18 i 512#32) S1x1x256x128.size (k0_off18_inb i C3 2)).toLoadRect K)⟩,
    ⟨Rect.unit (s := S2x2x1024x1024) ![1, 1, 256, 256] S1x1x256x768.size inb_S2x2x1024x1024_S1x1x256x768_1_1_256_256, k0_pay36 (k0_pay35 ((qOf c arg9 fq) 1) (arg4.view.readAt (Elt F) (Rect.unit (s := S1x2x8192x128) (k0_off18 i 256#32) S1x1x256x128.size (k0_off18_inb i C3 1)).toLoadRect K))⟩,
    ⟨Rect.unit (s := S2x2x1024x1024) ![1, 1, 0, 0] S1x1x256x1024.size inb_S2x2x1024x1024_S1x1x256x1024_1_1_0_0, k0_pay34 ((qOf c arg9 fq) 1) (arg4.view.readAt (Elt F) (Rect.unit (s := S1x2x8192x128) (k0_off18 i 0#32) S1x1x256x128.size (k0_off18_inb i C3 0)).toLoadRect K)⟩,
    ⟨Rect.unit (s := S2x2x1024x1024) ![1, 0, 768, 768] S1x1x256x256.size inb_S2x2x1024x1024_S1x1x256x256_1_0_768_768, k0_pay38 k0_pay32 (k0_pay33 ((qOf c arg9 fq) 0)) (arg4.view.readAt (Elt F) (Rect.unit (s := S1x2x8192x128) (k0_off17 i 768#32) S1x1x256x128.size (k0_off17_inb i C3 3)).toLoadRect K)⟩,
    ⟨Rect.unit (s := S2x2x1024x1024) ![1, 0, 512, 512] S1x1x256x512.size inb_S2x2x1024x1024_S1x1x256x512_1_0_512_512, k0_pay37 k0_pay32 (k0_pay33 ((qOf c arg9 fq) 0)) (arg4.view.readAt (Elt F) (Rect.unit (s := S1x2x8192x128) (k0_off17 i 512#32) S1x1x256x128.size (k0_off17_inb i C3 2)).toLoadRect K)⟩,
    ⟨Rect.unit (s := S2x2x1024x1024) ![1, 0, 256, 256] S1x1x256x768.size inb_S2x2x1024x1024_S1x1x256x768_1_0_256_256, k0_pay36 (k0_pay35 ((qOf c arg9 fq) 0) (arg4.view.readAt (Elt F) (Rect.unit (s := S1x2x8192x128) (k0_off17 i 256#32) S1x1x256x128.size (k0_off17_inb i C3 1)).toLoadRect K))⟩,
    ⟨Rect.unit (s := S2x2x1024x1024) ![1, 0, 0, 0] S1x1x256x1024.size inb_S2x2x1024x1024_S1x1x256x1024_1_0_0_0, k0_pay34 ((qOf c arg9 fq) 0) (arg4.view.readAt (Elt F) (Rect.unit (s := S1x2x8192x128) (k0_off17 i 0#32) S1x1x256x128.size (k0_off17_inb i C3 0)).toLoadRect K)⟩] : List (View.Piece (Elt F) S2x2x1024x1024 .bf16))) ?_
  have e7 := off17_eq i
  have e8 := off18_eq i
  rw [readAt_unit_blk _ _ _ pos_k, readAt_unit_blk _ _ _ pos_k, readAt_unit_blk _ _ _ pos_k, readAt_unit_blk _ _ _ pos_k, readAt_unit_blk _ _ _ pos_k, readAt_unit_blk _ _ _ pos_k, readAt_unit_blk _ _ _ pos_k, readAt_unit_blk _ _ _ pos_k,
    show (0#32 : BitVec 32) = BitVec.ofNat 32 (256 * 0) from rfl, show (256#32 : BitVec 32) = BitVec.ofNat 32 (256 * 1) from rfl,
    show (512#32 : BitVec 32) = BitVec.ofNat 32 (256 * 2) from rfl, show (768#32 : BitVec 32) = BitVec.ofNat 32 (256 * 3) from rfl,
    e7 0 (by decide), e7 1 (by decide), e7 2 (by decide), e7 3 (by decide), e8 0 (by decide), e8 1 (by decide), e8 2 (by decide), e8 3 (by decide)]
  rfl

variable (hp : Pend c arg4 arg5 arg7 arg8 arg9 K V fq (rest i) fa fp)

include h0 hp in
theorem endRun_base : endRun.sl.Ha_2 c i arg5 arg7 arg8 C3 hx V fa fp = BS (arg4.view.read (Elt F) K) (arg5.view.read (Elt F) V) (qOf c arg9 fq) (i 2).val := by
  obtain ⟨⟨ha0, ha1⟩, hp0, hp1⟩ := hp
  have hn : rest i < 8 := by have := i2_lt i; unfold rest; omega
  have hi : (i 2).val = rest i + 1 := by unfold rest; omega
  refine Eq.trans (rfl : _ = ([⟨Rect.unit (s := S2x128x1024) ![1, 0, 0] S1x128x1024.size inb_S2x128x1024_S1x128x1024_1_0_0,
     k0_pay14 (arg7.view.readAt (Elt F) (Rect.unit (s := S2x128x1024) ![1, 0, 0] S1x128x1024.size inb_S2x128x1024_S1x128x1024_1_0_0).toLoadRect fa)
      (arg5.view.readAt (Elt F) (Rect.unit (s := S1x2x8x128x1024) (k0_off20 (BitVec.ofNat 32 (odd i + 2 * Scf.trips (k0_t1_loop i).lb (k0_t1_loop i).ub (k0_t1_loop i).st))) S1x1x1x128x1024.size (k0_off20_inb i _ hx C3)).toLoadRect V)
      (arg8.view.readAt (Elt F) (Rect.unit (s := S2x2x1024x1024) ![0, 1, 0, 0] S1x1x1024x1024.size inb_S2x2x1024x1024_S1x1x1024x1024_0_1_0_0).toLoadRect fp)⟩,
    ⟨Rect.unit (s := S2x128x1024) ![0, 0, 0] S1x128x1024.size inb_S2x128x1024_S1x128x1024_0_0_0,
     k0_pay14 (arg7.view.readAt (Elt F) (Rect.unit (s := S2x128x1024) ![0, 0, 0] S1x128x1024.size inb_S2x128x1024_S1x128x1024_0_0_0).toLoadRect fa)
      (arg5.view.readAt (Elt F) (Rect.unit (s := S1x2x8x128x1024) (k0_off19 (BitVec.ofNat 32 (odd i + 2 * Scf.trips (k0_t1_loop i).lb (k0_t1_loop i).ub (k0_t1_loop i).st))) S1x1x1x128x1024.size (k0_off19_inb i _ hx C3)).toLoadRect V)
      (arg8.view.readAt (Elt F) (Rect.unit (s := S2x2x1024x1024) ![0, 0, 0, 0] S1x1x1024x1024.size inb_S2x2x1024x1024_S1x1x1024x1024_0_0_0_0).toLoadRect fp)⟩] : List (View.Piece (Elt F) S2x128x1024 .f32))) ?_
  rw [ha0, ha1, hp0, hp1, readAt_unit_blk _ _ _ pos_v, readAt_unit_blk _ _ _ pos_v, walked, off19_eq hn, off20_eq hn, hi]
  rfl

include h0 hp in
theorem endRun_c00 : k0_pay80 (arg7.view.readCov (endRun.sl.Ha_2 c i arg5 arg7 arg8 C3 hx V fa fp) (Rect.unit (s := S2x128x1024) ![0, 0, 0] S1x128x256.size inb_S2x128x1024_S1x128x256_0_0_0).toLoadRect)
    (arg5.view.readAt (Elt F) (Rect.unit (s := S1x2x8x128x1024) (k0_off21 i) S1x1x1x128x256.size (k0_off21_inb i C3)).toLoadRect V)
    (arg8.view.readCov (endRun.sl.Hp_8 c i arg4 arg9 C3 K fq) (Rect.unit (s := S2x2x1024x1024) ![1, 0, 0, 0] S1x1x256x256.size inb_S2x2x1024x1024_S1x1x256x256_1_0_0_0).toLoadRect)
    = CH00 (arg4.view.read (Elt F) K) (arg5.view.read (Elt F) V) (qOf c arg9 fq) (i 2).val := by
  rw [endRun_base c i arg4 arg5 arg7 arg8 arg9 h0 C3 hx K V fq fa fp hp, endRun_Hp c i arg4 arg9 C3 K fq, readAt_unit_blk _ _ _ pos_v, off21_eq, cov_ldc, cov_ldc]
  rfl
include h0 hp in
theorem endRun_c01 : k0_pay49 (arg7.view.readCov (endRun.sl.Ha_3 c i arg4 arg5 arg7 arg8 arg9 C3 hx K V fq fa fp) (Rect.unit (s := S2x128x1024) ![0, 0, 256] S1x128x256.size inb_S2x128x1024_S1x128x256_0_0_256).toLoadRect)
    (arg5.view.readAt (Elt F) (Rect.unit (s := S1x2x8x128x1024) (k0_off22 i) S1x1x1x128x512.size (k0_off22_inb i C3)).toLoadRect V)
    (arg8.view.readCov (endRun.sl.Hp_8 c i arg4 arg9 C3 K fq) (Rect.unit (s := S2x2x1024x1024) ![1, 0, 0, 256] S1x1x512x256.size inb_S2x2x1024x1024_S1x1x512x256_1_0_0_256).toLoadRect)
    = CH01 (arg4.view.read (Elt F) K) (arg5.view.read (Elt F) V) (qOf c arg9 fq) (i 2).val := by
  unfold endRun.sl.Ha_3
  rw [cov_skip _ _ _ _ _ (by decide)]
  rw [endRun_base c i arg4 arg5 arg7 arg8 arg9 h0 C3 hx K V fq fa fp hp, endRun_Hp c i arg4 arg9 C3 K fq, readAt_unit_blk _ _ _ pos_v, off22_eq, cov_ldc, cov_ldc]
  rfl
include h0 hp in
theorem endRun_c02 : k0_pay83 (arg7.view.readCov (endRun.sl.Ha_4 c i arg4 arg5 arg7 arg8 arg9 C3 hx K V fq fa fp) (Rect.unit (s := S2x128x1024) ![0, 0, 512] S1x128x256.size inb_S2x128x1024_S1x128x256_0_0_512).toLoadRect)
    (arg5.view.readAt (Elt F) (Rect.unit (s := S1x2x8x128x1024) (k0_off23 i) S1x1x1x128x768.size (k0_off23_inb i C3)).toLoadRect V)
    (arg8.view.readCov (endRun.sl.Hp_8 c i arg4 arg9 C3 K fq) (Rect.unit (s := S2x2x1024x1024) ![1, 0, 0, 512] S1x1x768x256.size inb_S2x2x1024x1024_S1x1x768x256_1_0_0_512).toLoadRect)
    = CH02 (arg4.view.read (Elt F) K) (arg5.view.read (Elt F) V) (qOf c arg9 fq) (i 2).val := by
  unfold endRun.sl.Ha_4 endRun.sl.Ha_3
  rw [cov_skip _ _ _ _ _ (by decide), cov_skip _ _ _ _ _ (by decide)]
  rw [endRun_base c i arg4 arg5 arg7 arg8 arg9 h0 C3 hx K V fq fa fp hp, endRun_Hp c i arg4 arg9 C3 K fq, readAt_unit_blk _ _ _ pos_v, off23_eq, cov_ldc, cov_ldc]
  rfl
include h0 hp in
theorem endRun_c03 : k0_pay53 (arg7.view.readCov (endRun.sl.Ha_5 c i arg4 arg5 arg7 arg8 arg9 C3 hx K V fq fa fp) (Rect.unit (s := S2x128x1024) ![0, 0, 768] S1x128x256.size inb_S2x128x1024_S1x128x256_0_0_768).toLoadRect)
    (arg5.view.readAt (Elt F) (Rect.unit (s := S1x2x8x128x1024) (k0_off24 i) S1x1x1x128x1024.size (k0_off24_inb i C3)).toLoadRect V)
    (arg8.view.readCov (endRun.sl.Hp_8 c i arg4 arg9 C3 K fq) (Rect.unit (s := S2x2x1024x1024) ![1, 0, 0, 768] S1x1x1024x256.size inb_S2x2x1024x1024_S1x1x1024x256_1_0_0_768).toLoadRect)
    = CH03 (arg4.view.read (Elt F) K) (arg5.view.read (Elt F) V) (qOf c arg9 fq) (i 2).val := by
  unfold endRun.sl.Ha_5 endRun.sl.Ha_4 endRun.sl.Ha_3
  rw [cov_skip _ _ _ _ _ (by decide), cov_skip _ _ _ _ _ (by decide), cov_skip _ _ _ _ _ (by decide)]
  rw [endRun_base c i arg4 arg5 arg7 arg8 arg9 h0 C3 hx K V fq fa fp hp, endRun_Hp c i arg4 arg9 C3 K fq, readAt_unit_blk _ _ _ pos_v, off24_eq, cov_ldc, cov_ldc]
  rfl
include h0 hp in
theorem endRun_c10 : k0_pay80 (arg7.view.readCov (endRun.sl.Ha_6 c i arg4 arg5 arg7 arg8 arg9 C3 hx K V fq fa fp) (Rect.unit (s := S2x128x1024) ![1, 0, 0] S1x128x256.size inb_S2x128x1024_S1x128x256_1_0_0).toLoadRect)
    (arg5.view.readAt (Elt F) (Rect.unit (s := S1x2x8x128x1024) (k0_off25 i) S1x1x1x128x256.size (k0_off25_inb i C3)).toLoadRect V)
    (arg8.view.readCov (endRun.sl.Hp_8 c i arg4 arg9 C3 K fq) (Rect.unit (s := S2x2x1024x1024) ![1, 1, 0, 0] S1x1x256x256.size inb_S2x2x1024x1024_S1x1x256x256_1_1_0_0).toLoadRect)
    = CH10 (arg4.view.read (Elt F) K) (arg5.view.read (Elt F) V) (qOf c arg9 fq) (i 2).val := by
  unfold endRun.sl.Ha_6 endRun.sl.Ha_5 endRun.sl.Ha_4 endRun.sl.Ha_3
  rw [cov_skip _ _ _ _ _ (by decide), cov_skip _ _ _ _ _ (by decide), cov_skip _ _ _ _ _ (by decide), cov_skip _ _ _ _ _ (by decide)]
  rw [endRun_base c i arg4 arg5 arg7 arg8 arg9 h0 C3 hx K V fq fa fp hp, endRun_Hp c i arg4 arg9 C3 K fq, readAt_unit_blk _ _ _ pos_v, off25_eq, cov_ldc, cov_ldc]
  rfl
include h0 hp in
theorem endRun_c11 : k0_pay49 (arg7.view.readCov (endRun.sl.Ha_7 c i arg4 arg5 arg7 arg8 arg9 C3 hx K V fq fa fp) (Rect.unit (s := S2x128x1024) ![1, 0, 256] S1x128x256.size inb_S2x128x1024_S1x128x256_1_0_256).toLoadRect)
    (arg5.view.readAt (Elt F) (Rect.unit (s := S1x2x8x128x1024) (k0_off26 i) S1x1x1x128x512.size (k0_off26_inb i C3)).toLoadRect V)
    (arg8.view.readCov (endRun.sl.Hp_8 c i arg4 arg9 C3 K fq) (Rect.unit (s := S2x2x1024x1024) ![1, 1, 0, 256] S1x1x512x256.size inb_S2x2x1024x1024_S1x1x512x256_1_1_0_256).toLoadRect)
    = CH11 (arg4.view.read (Elt F) K) (arg5.view.read (Elt F) V) (qOf c arg9 fq) (i 2).val := by
  unfold endRun.sl.Ha_7 endRun.sl.Ha_6 endRun.sl.Ha_5 endRun.sl.Ha_4 endRun.sl.Ha_3
  rw [cov_skip _ _ _ _ _ (by decide), cov_skip _ _ _ _ _ (by decide), cov_skip _ _ _ _ _ (by decide), cov_skip _ _ _ _ _ (by decide), cov_skip _ _ _ _ _ (by decide)]
  rw [endRun_base c i arg4 arg5 arg7 arg8 arg9 h0 C3 hx K V fq fa fp hp, endRun_Hp c i arg4 arg9 C3 K fq, readAt_unit_blk _ _ _ pos_v, off26_eq, cov_ldc, cov_ldc]
  rfl
include h0 hp in
theorem endRun_c12 : k0_pay83 (arg7.view.readCov (endRun.sl.Ha_8 c i arg4 arg5 arg7 arg8 arg9 C3 hx K V fq fa fp) (Rect.unit (s := S2x128x1024) ![1, 0, 512] S1x128x256.size inb_S2x128x1024_S1x128x256_1_0_512).toLoadRect)
    (arg5.view.readAt (Elt F) (Rect.unit (s := S1x2x8x128x1024) (k0_off27 i) S1x1x1x128x768.size (k0_off27_inb i C3)).toLoadRect V)
    (arg8.view.readCov (endRun.sl.Hp_8 c i arg4 arg9 C3 K fq) (Rect.unit (s := S2x2x1024x1024) ![1, 1, 0, 512] S1x1x768x256.size inb_S2x2x1024x1024_S1x1x768x256_1_1_0_512).toLoadRect)
    = CH12 (arg4.view.read (Elt F) K) (arg5.view.read (Elt F) V) (qOf c arg9 fq) (i 2).val := by
  unfold endRun.sl.Ha_8 endRun.sl.Ha_7 endRun.sl.Ha_6 endRun.sl.Ha_5 endRun.sl.Ha_4 endRun.sl.Ha_3
  rw [cov_skip _ _ _ _ _ (by decide), cov_skip _ _ _ _ _ (by decide), cov_skip _ _ _ _ _ (by decide), cov_skip _ _ _ _ _ (by decide), cov_skip _ _ _ _ _ (by decide), cov_skip _ _ _ _ _ (by decide)]
  rw [endRun_base c i arg4 arg5 arg7 arg8 arg9 h0 C3 hx K V fq fa fp hp, endRun_Hp c i arg4 arg9 C3 K fq, readAt_unit_blk _ _ _ pos_v, off27_eq, cov_ldc, cov_ldc]
  rfl
include h0 hp in
theorem endRun_c13 : k0_pay53 (arg7.view.readCov (endRun.sl.Ha_9 c i arg4 arg5 arg7 arg8 arg9 C3 hx K V fq fa fp) (Rect.unit (s := S2x128x1024) ![1, 0, 768] S1x128x256.size inb_S2x128x1024_S1x128x256_1_0_768).toLoadRect)
    (arg5.view.readAt (Elt F) (Rect.unit (s := S1x2x8x128x1024) (k0_off28 i) S1x1x1x128x1024.size (k0_off28_inb i C3)).toLoadRect V)
    (arg8.view.readCov (endRun.sl.Hp_8 c i arg4 arg9 C3 K fq) (Rect.unit (s := S2x2x1024x1024) ![1, 1, 0, 768] S1x1x1024x256.size inb_S2x2x1024x1024_S1x1x1024x256_1_1_0_768).toLoadRect)
    = CH13 (arg4.view.read (Elt F) K) (arg5.view.read (Elt F) V) (qOf c arg9 fq) (i 2).val := by
  unfold endRun.sl.Ha_9 endRun.sl.Ha_8 endRun.sl.Ha_7 endRun.sl.Ha_6 endRun.sl.Ha_5 endRun.sl.Ha_4 endRun.sl.Ha_3
  rw [cov_skip _ _ _ _ _ (by decide), cov_skip _ _ _ _ _ (by decide), cov_skip _ _ _ _ _ (by decide), cov_skip _ _ _ _ _ (by decide), cov_skip _ _ _ _ _ (by decide), cov_skip _ _ _ _ _ (by decide), cov_skip _ _ _ _ _ (by decide)]
  rw [endRun_base c i arg4 arg5 arg7 arg8 arg9 h0 C3 hx K V fq fa fp hp, endRun_Hp c i arg4 arg9 C3 K fq, readAt_unit_blk _ _ _ pos_v, off28_eq, cov_ldc, cov_ldc]
  rfl
include h0 hp in
theorem endRun_Ha : endRun.sl.Ha_10 c i arg4 arg5 arg7 arg8 arg9 C3 hx K V fq fa fp = FL (arg4.view.read (Elt F) K) (arg5.view.read (Elt F) V) (qOf c arg9 fq) (i 2).val := by
  refine Eq.trans (rfl : _ = ((⟨Rect.unit (s := S2x128x1024) ![1, 0, 768] S1x128x256.size inb_S2x128x1024_S1x128x256_1_0_768, k0_pay53 (arg7.view.readCov (endRun.sl.Ha_9 c i arg4 arg5 arg7 arg8 arg9 C3 hx K V fq fa fp) (Rect.unit (s := S2x128x1024) ![1, 0, 768] S1x128x256.size inb_S2x128x1024_S1x128x256_1_0_768).toLoadRect)
    (arg5.view.readAt (Elt F) (Rect.unit (s := S1x2x8x128x1024) (k0_off28 i) S1x1x1x128x1024.size (k0_off28_inb i C3)).toLoadRect V)
    (arg8.view.readCov (endRun.sl.Hp_8 c i arg4 arg9 C3 K fq) (Rect.unit (s := S2x2x1024x1024) ![1, 1, 0, 768] S1x1x1024x256.size inb_S2x2x1024x1024_S1x1x1024x256_1_1_0_768).toLoadRect)⟩ ::
    ⟨Rect.unit (s := S2x128x1024) ![1, 0, 512] S1x128x256.size inb_S2x128x1024_S1x128x256_1_0_512, k0_pay83 (arg7.view.readCov (endRun.sl.Ha_8 c i arg4 arg5 arg7 arg8 arg9 C3 hx K V fq fa fp) (Rect.unit (s := S2x128x1024) ![1, 0, 512] S1x128x256.size inb_S2x128x1024_S1x128x256_1_0_512).toLoadRect)
    (arg5.view.readAt (Elt F) (Rect.unit (s := S1x2x8x128x1024) (k0_off27 i) S1x1x1x128x768.size (k0_off27_inb i C3)).toLoadRect V)
    (arg8.view.readCov (endRun.sl.Hp_8 c i arg4 arg9 C3 K fq) (Rect.unit (s := S2x2x1024x1024) ![1, 1, 0, 512] S1x1x768x256.size inb_S2x2x1024x1024_S1x1x768x256_1_1_0_512).toLoadRect)⟩ ::
    ⟨Rect.unit (s := S2x128x1024) ![1, 0, 256] S1x128x256.size inb_S2x128x1024_S1x128x256_1_0_256, k0_pay49 (arg7.view.readCov (endRun.sl.Ha_7 c i arg4 arg5 arg7 arg8 arg9 C3 hx K V fq fa fp) (Rect.unit (s := S2x128x1024) ![1, 0, 256] S1x128x256.size inb_S2x128x1024_S1x128x256_1_0_256).toLoadRect)
    (arg5.view.readAt (Elt F) (Rect.unit (s := S1x2x8x128x1024) (k0_off26 i) S1x1x1x128x512.size (k0_off26_inb i C3)).toLoadRect V)
    (arg8.view.readCov (endRun.sl.Hp_8 c i arg4 arg9 C3 K fq) (Rect.unit (s := S2x2x1024x1024) ![1, 1, 0, 256] S1x1x512x256.size inb_S2x2x1024x1024_S1x1x512x256_1_1_0_256).toLoadRect)⟩ ::
    ⟨Rect.unit (s := S2x128x1024) ![1, 0, 0] S1x128x256.size inb_S2x128x1024_S1x128x256_1_0_0, k0_pay80 (arg7.view.readCov (endRun.sl.Ha_6 c i arg4 arg5 arg7 arg8 arg9 C3 hx K V fq fa fp) (Rect.unit (s := S2x128x1024) ![1, 0, 0] S1x128x256.size inb_S2x128x1024_S1x128x256_1_0_0).toLoadRect)
    (arg5.view.readAt (Elt F) (Rect.unit (s := S1x2x8x128x1024) (k0_off25 i) S1x1x1x128x256.size (k0_off25_inb i C3)).toLoadRect V)
    (arg8.view.readCov (endRun.sl.Hp_8 c i arg4 arg9 C3 K fq) (Rect.unit (s := S2x2x1024x1024) ![1, 1, 0, 0] S1x1x256x256.size inb_S2x2x1024x1024_S1x1x256x256_1_1_0_0).toLoadRect)⟩ ::
    ⟨Rect.unit (s := S2x128x1024) ![0, 0, 768] S1x128x256.size inb_S2x128x1024_S1x128x256_0_0_768, k0_pay53 (arg7.view.readCov (endRun.sl.Ha_5 c i arg4 arg5 arg7 arg8 arg9 C3 hx K V fq fa fp) (Rect.unit (s := S2x128x1024) ![0, 0, 768] S1x128x256.size inb_S2x128x1024_S1x128x256_0_0_768).toLoadRect)
    (arg5.view.readAt (Elt F) (Rect.unit (s := S1x2x8x128x1024) (k0_off24 i) S1x1x1x128x1024.size (k0_off24_inb i C3)).toLoadRect V)
    (arg8.view.readCov (endRun.sl.Hp_8 c i arg4 arg9 C3 K fq) (Rect.unit (s := S2x2x1024x1024) ![1, 0, 0, 768] S1x1x1024x256.size inb_S2x2x1024x1024_S1x1x1024x256_1_0_0_768).toLoadRect)⟩ ::
    ⟨Rect.unit (s := S2x128x1024) ![0, 0, 512] S1x128x256.size inb_S2x128x1024_S1x128x256_0_0_512, k0_pay83 (arg7.view.readCov (endRun.sl.Ha_4 c i arg4 arg5 arg7 arg8 arg9 C3 hx K V fq fa fp) (Rect.unit (s := S2x128x1024) ![0, 0, 512] S1x128x256.size inb_S2x128x1024_S1x128x256_0_0_512).toLoadRect)
    (arg5.view.readAt (Elt F) (Rect.unit (s := S1x2x8x128x1024) (k0_off23 i) S1x1x1x128x768.size (k0_off23_inb i C3)).toLoadRect V)
    (arg8.view.readCov (endRun.sl.Hp_8 c i arg4 arg9 C3 K fq) (Rect.unit (s := S2x2x1024x1024) ![1, 0, 0, 512] S1x1x768x256.size inb_S2x2x1024x1024_S1x1x768x256_1_0_0_512).toLoadRect)⟩ ::
    ⟨Rect.unit (s := S2x128x1024) ![0, 0, 256] S1x128x256.size inb_S2x128x1024_S1x128x256_0_0_256, k0_pay49 (arg7.view.readCov (endRun.sl.Ha_3 c i arg4 arg5 arg7 arg8 arg9 C3 hx K V fq fa fp) (Rect.unit (s := S2x128x1024) ![0, 0, 256] S1x128x256.size inb_S2x128x1024_S1x128x256_0_0_256).toLoadRect)
    (arg5.view.readAt (Elt F) (Rect.unit (s := S1x2x8x128x1024) (k0_off22 i) S1x1x1x128x512.size (k0_off22_inb i C3)).toLoadRect V)
    (arg8.view.readCov (endRun.sl.Hp_8 c i arg4 arg9 C3 K fq) (Rect.unit (s := S2x2x1024x1024) ![1, 0, 0, 256] S1x1x512x256.size inb_S2x2x1024x1024_S1x1x512x256_1_0_0_256).toLoadRect)⟩ ::
    ⟨Rect.unit (s := S2x128x1024) ![0, 0, 0] S1x128x256.size inb_S2x128x1024_S1x128x256_0_0_0, k0_pay80 (arg7.view.readCov (endRun.sl.Ha_2 c i arg5 arg7 arg8 C3 hx V fa fp) (Rect.unit (s := S2x128x1024) ![0, 0, 0] S1x128x256.size inb_S2x128x1024_S1x128x256_0_0_0).toLoadRect)
    (arg5.view.readAt (Elt F) (Rect.unit (s := S1x2x8x128x1024) (k0_off21 i) S1x1x1x128x256.size (k0_off21_inb i C3)).toLoadRect V)
    (arg8.view.readCov (endRun.sl.Hp_8 c i arg4 arg9 C3 K fq) (Rect.unit (s := S2x2x1024x1024) ![1, 0, 0, 0] S1x1x256x256.size inb_S2x2x1024x1024_S1x1x256x256_1_0_0_0).toLoadRect)⟩ :: endRun.sl.Ha_2 c i arg5 arg7 arg8 C3 hx V fa fp) : List (View.Piece (Elt F) S2x128x1024 .f32))) ?_
  rw [endRun_c13 c i arg4 arg5 arg7 arg8 arg9 h0 C3 hx K V fq fa fp hp, endRun_c12 c i arg4 arg5 arg7 arg8 arg9 h0 C3 hx K V fq fa fp hp, endRun_c11 c i arg4 arg5 arg7 arg8 arg9 h0 C3 hx K V fq fa fp hp, endRun_c10 c i arg4 arg5 arg7 arg8 arg9 h0 C3 hx K V fq fa fp hp, endRun_c03 c i arg4 arg5 arg7 arg8 arg9 h0 C3 hx K V fq fa fp hp, endRun_c02 c i arg4 arg5 arg7 arg8 arg9 h0 C3 hx K V fq fa fp hp, endRun_c01 c i arg4 arg5 arg7 arg8 arg9 h0 C3 hx K V fq fa fp hp, endRun_c00 c i arg4 arg5 arg7 arg8 arg9 h0 C3 hx K V fq fa fp hp, endRun_base c i arg4 arg5 arg7 arg8 arg9 h0 C3 hx K V fq fa fp hp]
  rfl
include h0 in
theorem endRun_out (v59 : BitVec 32) (fa : Bf (F := F) c arg7) (fp : Bf (F := F) c arg8) (hp : Pend c arg4 arg5 arg7 arg8 arg9 K V fq (rest i) fa fp) :
    (endRun c i arg3 harg3 arg4 harg4 arg5 harg5 arg6 harg6 arg7 harg7 arg8 harg8 arg9 harg9 C3 C4 hx K V fq v59).1 fa fp = ([⟨Rect.unit (s := S1x128x1024) ![0, 0, 0] S1x64x1024.size inb_S1x128x1024_S1x64x1024_0_0_0, OL0 (arg4.view.read (Elt F) K) (arg5.view.read (Elt F) V) (qOf c arg9 fq) (i 2).val⟩] : List (View.Piece (Elt F) S1x128x1024 .bf16))
    ∧ (endRun c i arg3 harg3 arg4 harg4 arg5 harg5 arg6 harg6 arg7 harg7 arg8 harg8 arg9 harg9 C3 C4 hx K V fq v59).2.1 fa fp = OL1 (arg4.view.read (Elt F) K) (arg5.view.read (Elt F) V) (qOf c arg9 fq) (i 2).val := by
  refine ⟨?_, ?_⟩
  · refine Eq.trans (rfl : _ = ([⟨Rect.unit (s := S1x128x1024) ![0, 0, 0] S1x64x1024.size inb_S1x128x1024_S1x64x1024_0_0_0,
      k0_pay106 (arg7.view.readCov (endRun.sl.Ha_10 c i arg4 arg5 arg7 arg8 arg9 C3 hx K V fq fa fp) (Rect.unit (s := S2x128x1024) ![0, 64, 0] S1x1x1024.size inb_S2x128x1024_S1x1x1024_0_64_0).toLoadRect) (arg7.view.readCov (endRun.sl.Ha_10 c i arg4 arg5 arg7 arg8 arg9 C3 hx K V fq fa fp) (Rect.unit (s := S2x128x1024) ![0, 0, 0] S1x64x1024.size inb_S2x128x1024_S1x64x1024_0_0_0).toLoadRect)⟩] : List (View.Piece (Elt F) S1x128x1024 .bf16))) ?_
    rw [endRun_Ha c i arg4 arg5 arg7 arg8 arg9 h0 C3 hx K V fq fa fp hp, cov_ldc, cov_ldc]
    rfl
  · refine Eq.trans (rfl : _ = k0_pay107 (arg7.view.readCov (endRun.sl.Ha_10 c i arg4 arg5 arg7 arg8 arg9 C3 hx K V fq fa fp) (Rect.unit (s := S2x128x1024) ![1, 64, 0] S1x1x1024.size inb_S2x128x1024_S1x1x1024_1_64_0).toLoadRect) (arg7.view.readCov (endRun.sl.Ha_10 c i arg4 arg5 arg7 arg8 arg9 C3 hx K V fq fa fp) (Rect.unit (s := S2x128x1024) ![1, 0, 0] S1x64x1024.size inb_S2x128x1024_S1x64x1024_1_0_0).toLoadRect)) ?_
    rw [endRun_Ha c i arg4 arg5 arg7 arg8 arg9 h0 C3 hx K V fq fa fp hp, cov_ldc, cov_ldc]
    rfl

end Walked

section First
variable (h0 : (i 2).val = 0) (C3 : ¬ k0_cond3 i = 1#1) (C4 : k0_cond4 i = 1#1) (htr' : (k0_t1_loop i).trips = 0)
  (hx : k0_chk3 i (BitVec.ofNat 32 (odd i)))
  (K : Bf (F := F) c arg4) (V : Bf (F := F) c arg5) (fq : Bf (F := F) c arg9)

theorem endRun0_Hp : endRun0.sl.Hp_8 c i arg4 arg9 C4 K fq = DG (arg4.view.read (Elt F) K) (qOf c arg9 fq) (i 2).val := by
  refine Eq.trans (rfl : _ = ([
    ⟨Rect.unit (s := S2x2x1024x1024) ![1, 1, 768, 768] S1x1x256x256.size inb_S2x2x1024x1024_S1x1x256x256_1_1_768_768, k0_pay38 k0_pay32 (k0_pay33 ((qOf c arg9 fq) 1)) (arg4.view.readAt (Elt F) (Rect.unit (s := S1x2x8192x128) (k0_off30 i 768#32) S1x1x256x128.size (k0_off30_inb i C4 3)).toLoadRect K)⟩,
    ⟨Rect.unit (s := S2x2x1024x1024) ![1, 1, 512, 512] S1x1x256x512.size inb_S2x2x1024x1024_S1x1x256x512_1_1_512_512, k0_pay37 k0_pay32 (k0_pay33 ((qOf c arg9 fq) 1)) (arg4.view.readAt (Elt F) (Rect.unit (s := S1x2x8192x128) (k0_off30 i 512#32) S1x1x256x128.size (k0_off30_inb i C4 2)).toLoadRect K)⟩,
    ⟨Rect.unit (s := S2x2x1024x1024) ![1, 1, 256, 256] S1x1x256x768.size inb_S2x2x1024x1024_S1x1x256x768_1_1_256_256, k0_pay36 (k0_pay35 ((qOf c arg9 fq) 1) (arg4.view.readAt (Elt F) (Rect.unit (s := S1x2x8192x128) (k0_off30 i 256#32) S1x1x256x128.size (k0_off30_inb i C4 1)).toLoadRect K))⟩,
    ⟨Rect.unit (s := S2x2x1024x1024) ![1, 1, 0, 0] S1x1x256x1024.size inb_S2x2x1024x1024_S1x1x256x1024_1_1_0_0, k0_pay34 ((qOf c arg9 fq) 1) (arg4.view.readAt (Elt F) (Rect.unit (s := S1x2x8192x128) (k0_off30 i 0#32) S1x1x256x128.size (k0_off30_inb i C4 0)).toLoadRect K)⟩,
    ⟨Rect.unit (s := S2x2x1024x1024) ![1, 0, 768, 768] S1x1x256x256.size inb_S2x2x1024x1024_S1x1x256x256_1_0_768_768, k0_pay38 k0_pay32 (k0_pay33 ((qOf c arg9 fq) 0)) (arg4.view.readAt (Elt F) (Rect.unit (s := S1x2x8192x128) (k0_off29 i 768#32) S1x1x256x128.size (k0_off29_inb i C4 3)).toLoadRect K)⟩,
    ⟨Rect.unit (s := S2x2x1024x1024) ![1, 0, 512, 512] S1x1x256x512.size inb_S2x2x1024x1024_S1x1x256x512_1_0_512_512, k0_pay37 k0_pay32 (k0_pay33 ((qOf c arg9 fq) 0)) (arg4.view.readAt (Elt F) (Rect.unit (s := S1x2x8192x128) (k0_off29 i 512#32) S1x1x256x128.size (k0_off29_inb i C4 2)).toLoadRect K)⟩,
    ⟨Rect.unit (s := S2x2x1024x1024) ![1, 0, 256, 256] S1x1x256x768.size inb_S2x2x1024x1024_S1x1x256x768_1_0_256_256, k0_pay36 (k0_pay35 ((qOf c arg9 fq) 0) (arg4.view.readAt (Elt F) (Rect.unit (s := S1x2x8192x128) (k0_off29 i 256#32) S1x1x256x128.size (k0_off29_inb i C4 1)).toLoadRect K))⟩,
    ⟨Rect.unit (s := S2x2x1024x1024) ![1, 0, 0, 0] S1x1x256x1024.size inb_S2x2x1024x1024_S1x1x256x1024_1_0_0_0, k0_pay34 ((qOf c arg9 fq) 0) (arg4.view.readAt (Elt F) (Rect.unit (s := S1x2x8192x128) (k0_off29 i 0#32) S1x1x256x128.size (k0_off29_inb i C4 0)).toLoadRect K)⟩] : List (View.Piece (Elt F) S2x2x1024x1024 .bf16))) ?_
  have e7 := off29_eq i
  have e8 := off30_eq i
  rw [readAt_unit_blk _ _ _ pos_k, readAt_unit_blk _ _ _ pos_k, readAt_unit_blk _ _ _ pos_k, readAt_unit_blk _ _ _ pos_k, readAt_unit_blk _ _ _ pos_k, readAt_unit_blk _ _ _ pos_k, readAt_unit_blk _ _ _ pos_k, readAt_unit_blk _ _ _ pos_k,
    show (0#32 : BitVec 32) = BitVec.ofNat 32 (256 * 0) from rfl, show (256#32 : BitVec 32) = BitVec.ofNat 32 (256 * 1) from rfl,
    show (512#32 : BitVec 32) = BitVec.ofNat 32 (256 * 2) from rfl, show (768#32 : BitVec 32) = BitVec.ofNat 32 (256 * 3) from rfl,
    e7 0 (by decide), e7 1 (by decide), e7 2 (by decide), e7 3 (by decide), e8 0 (by decide), e8 1 (by decide), e8 2 (by decide), e8 3 (by decide)]
  rfl

include h0 in
theorem endRun0_base : (endRun0.sl.Ha_2 : List (View.Piece (Elt F) S2x128x1024 .f32)) = BS (arg4.view.read (Elt F) K) (arg5.view.read (Elt F) V) (qOf c arg9 fq) (i 2).val := by
  rw [h0]
  rfl

include h0 in
theorem endRun0_c00 : k0_pay80 (arg7.view.readCov (endRun0.sl.Ha_2) (Rect.unit (s := S2x128x1024) ![0, 0, 0] S1x128x256.size inb_S2x128x1024_S1x128x256_0_0_0).toLoadRect)
    (arg5.view.readAt (Elt F) (Rect.unit (s := S1x2x8x128x1024) (k0_off31 i) S1x1x1x128x256.size (k0_off31_inb i C4)).toLoadRect V)
    (arg8.view.readCov (endRun0.sl.Hp_8 c i arg4 arg9 C4 K fq) (Rect.unit (s := S2x2x1024x1024) ![1, 0, 0, 0] S1x1x256x256.size inb_S2x2x1024x1024_S1x1x256x256_1_0_0_0).toLoadRect)
    = CH00 (arg4.view.read (Elt F) K) (arg5.view.read (Elt F) V) (qOf c arg9 fq) (i 2).val := by
  rw [endRun0_base c i arg4 arg5 arg9 h0 K V fq, endRun0_Hp c i arg4 arg9 C4 K fq, readAt_unit_blk _ _ _ pos_v, off31_eq, cov_ldc, cov_ldc]
  rfl
include h0 in
theorem endRun0_c01 : k0_pay49 (arg7.view.readCov (endRun0.sl.Ha_3 c i arg4 arg5 arg7 arg8 arg9 C4 K V fq) (Rect.unit (s := S2x128x1024) ![0, 0, 256] S1x128x256.size inb_S2x128x1024_S1x128x256_0_0_256).toLoadRect)
    (arg5.view.readAt (Elt F) (Rect.unit (s := S1x2x8x128x1024) (k0_off32 i) S1x1x1x128x512.size (k0_off32_inb i C4)).toLoadRect V)
    (arg8.view.readCov (endRun0.sl.Hp_8 c i arg4 arg9 C4 K fq) (Rect.unit (s := S2x2x1024x1024) ![1, 0, 0, 256] S1x1x512x256.size inb_S2x2x1024x1024_S1x1x512x256_1_0_0_256).toLoadRect)
    = CH01 (arg4.view.read (Elt F) K) (arg5.view.read (Elt F) V) (qOf c arg9 fq) (i 2).val := by
  unfold endRun0.sl.Ha_3
  rw [cov_skip _ _ _ _ _ (by decide)]
  rw [endRun0_base c i arg4 arg5 arg9 h0 K V fq, endRun0_Hp c i arg4 arg9 C4 K fq, readAt_unit_blk _ _ _ pos_v, off32_eq, cov_ldc, cov_ldc]
  rfl
include h0 in
theorem endRun0_c02 : k0_pay83 (arg7.view.readCov (endRun0.sl.Ha_4 c i arg4 arg5 arg7 arg8 arg9 C4 K V fq) (Rect.unit (s := S2x128x1024) ![0, 0, 512] S1x128x256.size inb_S2x128x1024_S1x128x256_0_0_512).toLoadRect)
    (arg5.view.readAt (Elt F) (Rect.unit (s := S1x2x8x128x1024) (k0_off33 i) S1x1x1x128x768.size (k0_off33_inb i C4)).toLoadRect V)
    (arg8.view.readCov (endRun0.sl.Hp_8 c i arg4 arg9 C4 K fq) (Rect.unit (s := S2x2x1024x1024) ![1, 0, 0, 512] S1x1x768x256.size inb_S2x2x1024x1024_S1x1x768x256_1_0_0_512).toLoadRect)
    = CH02 (arg4.view.read (Elt F) K) (arg5.view.read (Elt F) V) (qOf c arg9 fq) (i 2).val := by
  unfold endRun0.sl.Ha_4 endRun0.sl.Ha_3
  rw [cov_skip _ _ _ _ _ (by decide), cov_skip _ _ _ _ _ (by decide)]
  rw [endRun0_base c i arg4 arg5 arg9 h0 K V fq, endRun0_Hp c i arg4 arg9 C4 K fq, readAt_unit_blk _ _ _ pos_v, off33_eq, cov_ldc, cov_ldc]
  rfl
include h0 in
theorem endRun0_c03 : k0_pay53 (arg7.view.readCov (endRun0.sl.Ha_5 c i arg4 arg5 arg7 arg8 arg9 C4 K V fq) (Rect.unit (s := S2x128x1024) ![0, 0, 768] S1x128x256.size inb_S2x128x1024_S1x128x256_0_0_768).toLoadRect)
    (arg5.view.readAt (Elt F) (Rect.unit (s := S1x2x8x128x1024) (k0_off34 i) S1x1x1x128x1024.size (k0_off34_inb i C4)).toLoadRect V)
    (arg8.view.readCov (endRun0.sl.Hp_8 c i arg4 arg9 C4 K fq) (Rect.unit (s := S2x2x1024x1024) ![1, 0, 0, 768] S1x1x1024x256.size inb_S2x2x1024x1024_S1x1x1024x256_1_0_0_768).toLoadRect)
    = CH03 (arg4.view.read (Elt F) K) (arg5.view.read (Elt F) V) (qOf c arg9 fq) (i 2).val := by
  unfold endRun0.sl.Ha_5 endRun0.sl.Ha_4 endRun0.sl.Ha_3
  rw [cov_skip _ _ _ _ _ (by decide), cov_skip _ _ _ _ _ (by decide), cov_skip _ _ _ _ _ (by decide)]
  rw [endRun0_base c i arg4 arg5 arg9 h0 K V fq, endRun0_Hp c i arg4 arg9 C4 K fq, readAt_unit_blk _ _ _ pos_v, off34_eq, cov_ldc, cov_ldc]
  rfl
include h0 in
theorem endRun0_c10 : k0_pay80 (arg7.view.readCov (endRun0.sl.Ha_6 c i arg4 arg5 arg7 arg8 arg9 C4 K V fq) (Rect.unit (s := S2x128x1024) ![1, 0, 0] S1x128x256.size inb_S2x128x1024_S1x128x256_1_0_0).toLoadRect)
    (arg5.view.readAt (Elt F) (Rect.unit (s := S1x2x8x128x1024) (k0_off35 i) S1x1x1x128x256.size (k0_off35_inb i C4)).toLoadRect V)
    (arg8.view.readCov (endRun0.sl.Hp_8 c i arg4 arg9 C4 K fq) (Rect.unit (s := S2x2x1024x1024) ![1, 1, 0, 0] S1x1x256x256.size inb_S2x2x1024x1024_S1x1x256x256_1_1_0_0).toLoadRect)
    = CH10 (arg4.view.read (Elt F) K) (arg5.view.read (Elt F) V) (qOf c arg9 fq) (i 2).val := by
  unfold endRun0.sl.Ha_6 endRun0.sl.Ha_5 endRun0.sl.Ha_4 endRun0.sl.Ha_3
  rw [cov_skip _ _ _ _ _ (by decide), cov_skip _ _ _ _ _ (by decide), cov_skip _ _ _ _ _ (by decide), cov_skip _ _ _ _ _ (by decide)]
  rw [endRun0_base c i arg4 arg5 arg9 h0 K V fq, endRun0_Hp c i arg4 arg9 C4 K fq, readAt_unit_blk _ _ _ pos_v, off35_eq, cov_ldc, cov_ldc]
  rfl
include h0 in
theorem endRun0_c11 : k0_pay49 (arg7.view.readCov (endRun0.sl.Ha_7 c i arg4 arg5 arg7 arg8 arg9 C4 K V fq) (Rect.unit (s := S2x128x1024) ![1, 0, 256] S1x128x256.size inb_S2x128x1024_S1x128x256_1_0_256).toLoadRect)
    (arg5.view.readAt (Elt F) (Rect.unit (s := S1x2x8x128x1024) (k0_off36 i) S1x1x1x128x512.size (k0_off36_inb i C4)).toLoadRect V)
    (arg8.view.readCov (endRun0.sl.Hp_8 c i arg4 arg9 C4 K fq) (Rect.unit (s := S2x2x1024x1024) ![1, 1, 0, 256] S1x1x512x256.size inb_S2x2x1024x1024_S1x1x512x256_1_1_0_256).toLoadRect)
    = CH11 (arg4.view.read (Elt F) K) (arg5.view.read (Elt F) V) (qOf c arg9 fq) (i 2).val := by
  unfold endRun0.sl.Ha_7 endRun0.sl.Ha_6 endRun0.sl.Ha_5 endRun0.sl.Ha_4 endRun0.sl.Ha_3
  rw [cov_skip _ _ _ _ _ (by decide), cov_skip _ _ _ _ _ (by decide), cov_skip _ _ _ _ _ (by decide), cov_skip _ _ _ _ _ (by decide), cov_skip _ _ _ _ _ (by decide)]
  rw [endRun0_base c i arg4 arg5 arg9 h0 K V fq, endRun0_Hp c i arg4 arg9 C4 K fq, readAt_unit_blk _ _ _ pos_v, off36_eq, cov_ldc, cov_ldc]
  rfl
include h0 in
theorem endRun0_c12 : k0_pay83 (arg7.view.readCov (endRun0.sl.Ha_8 c i arg4 arg5 arg7 arg8 arg9 C4 K V fq) (Rect.unit (s := S2x128x1024) ![1, 0, 512] S1x128x256.size inb_S2x128x1024_S1x128x256_1_0_512).toLoadRect)
    (arg5.view.readAt (Elt F) (Rect.unit (s := S1x2x8x128x1024) (k0_off37 i) S1x1x1x128x768.size (k0_off37_inb i C4)).toLoadRect V)
    (arg8.view.readCov (endRun0.sl.Hp_8 c i arg4 arg9 C4 K fq) (Rect.unit (s := S2x2x1024x1024) ![1, 1, 0, 512] S1x1x768x256.size inb_S2x2x1024x1024_S1x1x768x256_1_1_0_512).toLoadRect)
    = CH12 (arg4.view.read (Elt F) K) (arg5.view.read (Elt F) V) (qOf c arg9 fq) (i 2).val := by
  unfold endRun0.sl.Ha_8 endRun0.sl.Ha_7 endRun0.sl.Ha_6 endRun0.sl.Ha_5 endRun0.sl.Ha_4 endRun0.sl.Ha_3
  rw [cov_skip _ _ _ _ _ (by decide), cov_skip _ _ _ _ _ (by decide), cov_skip _ _ _ _ _ (by decide), cov_skip _ _ _ _ _ (by decide), cov_skip _ _ _ _ _ (by decide), cov_skip _ _ _ _ _ (by decide)]
  rw [endRun0_base c i arg4 arg5 arg9 h0 K V fq, endRun0_Hp c i arg4 arg9 C4 K fq, readAt_unit_blk _ _ _ pos_v, off37_eq, cov_ldc, cov_ldc]
  rfl
include h0 in
theorem endRun0_c13 : k0_pay53 (arg7.view.readCov (endRun0.sl.Ha_9 c i arg4 arg5 arg7 arg8 arg9 C4 K V fq) (Rect.unit (s := S2x128x1024) ![1, 0, 768] S1x128x256.size inb_S2x128x1024_S1x128x256_1_0_768).toLoadRect)
    (arg5.view.readAt (Elt F) (Rect.unit (s := S1x2x8x128x1024) (k0_off38 i) S1x1x1x128x1024.size (k0_off38_inb i C4)).toLoadRect V)
    (arg8.view.readCov (endRun0.sl.Hp_8 c i arg4 arg9 C4 K fq) (Rect.unit (s := S2x2x1024x1024) ![1, 1, 0, 768] S1x1x1024x256.size inb_S2x2x1024x1024_S1x1x1024x256_1_1_0_768).toLoadRect)
    = CH13 (arg4.view.read (Elt F) K) (arg5.view.read (Elt F) V) (qOf c arg9 fq) (i 2).val := by
  unfold endRun0.sl.Ha_9 endRun0.sl.Ha_8 endRun0.sl.Ha_7 endRun0.sl.Ha_6 endRun0.sl.Ha_5 endRun0.sl.Ha_4 endRun0.sl.Ha_3
  rw [cov_skip _ _ _ _ _ (by decide), cov_skip _ _ _ _ _ (by decide), cov_skip _ _ _ _ _ (by decide), cov_skip _ _ _ _ _ (by decide), cov_skip _ _ _ _ _ (by decide), cov_skip _ _ _ _ _ (by decide), cov_skip _ _ _ _ _ (by decide)]
  rw [endRun0_base c i arg4 arg5 arg9 h0 K V fq, endRun0_Hp c i arg4 arg9 C4 K fq, readAt_unit_blk _ _ _ pos_v, off38_eq, cov_ldc, cov_ldc]
  rfl
include h0 in
theorem endRun0_Ha : endRun0.sl.Ha_10 c i arg4 arg5 arg7 arg8 arg9 C4 K V fq = FL (arg4.view.read (Elt F) K) (arg5.view.read (Elt F) V) (qOf c arg9 fq) (i 2).val := by
  refine Eq.trans (rfl : _ = ((⟨Rect.unit (s := S2x128x1024) ![1, 0, 768] S1x128x256.size inb_S2x128x1024_S1x128x256_1_0_768, k0_pay53 (arg7.view.readCov (endRun0.sl.Ha_9 c i arg4 arg5 arg7 arg8 arg9 C4 K V fq) (Rect.unit (s := S2x128x1024) ![1, 0, 768] S1x128x256.size inb_S2x128x1024_S1x128x256_1_0_768).toLoadRect)
    (arg5.view.readAt (Elt F) (Rect.unit (s := S1x2x8x128x1024) (k0_off38 i) S1x1x1x128x1024.size (k0_off38_inb i C4)).toLoadRect V)
    (arg8.view.readCov (endRun0.sl.Hp_8 c i arg4 arg9 C4 K fq) (Rect.unit (s := S2x2x1024x1024) ![1, 1, 0, 768] S1x1x1024x256.size inb_S2x2x1024x1024_S1x1x1024x256_1_1_0_768).toLoadRect)⟩ ::
    ⟨Rect.unit (s := S2x128x1024) ![1, 0, 512] S1x128x256.size inb_S2x128x1024_S1x128x256_1_0_512, k0_pay83 (arg7.view.readCov (endRun0.sl.Ha_8 c i arg4 arg5 arg7 arg8 arg9 C4 K V fq) (Rect.unit (s := S2x128x1024) ![1, 0, 512] S1x128x256.size inb_S2x128x1024_S1x128x256_1_0_512).toLoadRect)
    (arg5.view.readAt (Elt F) (Rect.unit (s := S1x2x8x128x1024) (k0_off37 i) S1x1x1x128x768.size (k0_off37_inb i C4)).toLoadRect V)
    (arg8.view.readCov (endRun0.sl.Hp_8 c i arg4 arg9 C4 K fq) (Rect.unit (s := S2x2x1024x1024) ![1, 1, 0, 512] S1x1x768x256.size inb_S2x2x1024x1024_S1x1x768x256_1_1_0_512).toLoadRect)⟩ ::
    ⟨Rect.unit (s := S2x128x1024) ![1, 0, 256] S1x128x256.size inb_S2x128x1024_S1x128x256_1_0_256, k0_pay49 (arg7.view.readCov (endRun0.sl.Ha_7 c i arg4 arg5 arg7 arg8 arg9 C4 K V fq) (Rect.unit (s := S2x128x1024) ![1, 0, 256] S1x128x256.size inb_S2x128x1024_S1x128x256_1_0_256).toLoadRect)
    (arg5.view.readAt (Elt F) (Rect.unit (s := S1x2x8x128x1024) (k0_off36 i) S1x1x1x128x512.size (k0_off36_inb i C4)).toLoadRect V)
    (arg8.view.readCov (endRun0.sl.Hp_8 c i arg4 arg9 C4 K fq) (Rect.unit (s := S2x2x1024x1024) ![1, 1, 0, 256] S1x1x512x256.size inb_S2x2x1024x1024_S1x1x512x256_1_1_0_256).toLoadRect)⟩ ::
    ⟨Rect.unit (s := S2x128x1024) ![1, 0, 0] S1x128x256.size inb_S2x128x1024_S1x128x256_1_0_0, k0_pay80 (arg7.view.readCov (endRun0.sl.Ha_6 c i arg4 arg5 arg7 arg8 arg9 C4 K V fq) (Rect.unit (s := S2x128x1024) ![1, 0, 0] S1x128x256.size inb_S2x128x1024_S1x128x256_1_0_0).toLoadRect)
    (arg5.view.readAt (Elt F) (Rect.unit (s := S1x2x8x128x1024) (k0_off35 i) S1x1x1x128x256.size (k0_off35_inb i C4)).toLoadRect V)
    (arg8.view.readCov (endRun0.sl.Hp_8 c i arg4 arg9 C4 K fq) (Rect.unit (s := S2x2x1024x1024) ![1, 1, 0, 0] S1x1x256x256.size inb_S2x2x1024x1024_S1x1x256x256_1_1_0_0).toLoadRect)⟩ ::
    ⟨Rect.unit (s := S2x128x1024) ![0, 0, 768] S1x128x256.size inb_S2x128x1024_S1x128x256_0_0_768, k0_pay53 (arg7.view.readCov (endRun0.sl.Ha_5 c i arg4 arg5 arg7 arg8 arg9 C4 K V fq) (Rect.unit (s := S2x128x1024) ![0, 0, 768] S1x128x256.size inb_S2x128x1024_S1x128x256_0_0_768).toLoadRect)
    (arg5.view.readAt (Elt F) (Rect.unit (s := S1x2x8x128x1024) (k0_off34 i) S1x1x1x128x1024.size (k0_off34_inb i C4)).toLoadRect V)
    (arg8.view.readCov (endRun0.sl.Hp_8 c i arg4 arg9 C4 K fq) (Rect.unit (s := S2x2x1024x1024) ![1, 0, 0, 768] S1x1x1024x256.size inb_S2x2x1024x1024_S1x1x1024x256_1_0_0_768).toLoadRect)⟩ ::
    ⟨Rect.unit (s := S2x128x1024) ![0, 0, 512] S1x128x256.size inb_S2x128x1024_S1x128x256_0_0_512, k0_pay83 (arg7.view.readCov (endRun0.sl.Ha_4 c i arg4 arg5 arg7 arg8 arg9 C4 K V fq) (Rect.unit (s := S2x128x1024) ![0, 0, 512] S1x128x256.size inb_S2x128x1024_S1x128x256_0_0_512).toLoadRect)
    (arg5.view.readAt (Elt F) (Rect.unit (s := S1x2x8x128x1024) (k0_off33 i) S1x1x1x128x768.size (k0_off33_inb i C4)).toLoadRect V)
    (arg8.view.readCov (endRun0.sl.Hp_8 c i arg4 arg9 C4 K fq) (Rect.unit (s := S2x2x1024x1024) ![1, 0, 0, 512] S1x1x768x256.size inb_S2x2x1024x1024_S1x1x768x256_1_0_0_512).toLoadRect)⟩ ::
    ⟨Rect.unit (s := S2x128x1024) ![0, 0, 256] S1x128x256.size inb_S2x128x1024_S1x128x256_0_0_256, k0_pay49 (arg7.view.readCov (endRun0.sl.Ha_3 c i arg4 arg5 arg7 arg8 arg9 C4 K V fq) (Rect.unit (s := S2x128x1024) ![0, 0, 256] S1x128x256.size inb_S2x128x1024_S1x128x256_0_0_256).toLoadRect)
    (arg5.view.readAt (Elt F) (Rect.unit (s := S1x2x8x128x1024) (k0_off32 i) S1x1x1x128x512.size (k0_off32_inb i C4)).toLoadRect V)
    (arg8.view.readCov (endRun0.sl.Hp_8 c i arg4 arg9 C4 K fq) (Rect.unit (s := S2x2x1024x1024) ![1, 0, 0, 256] S1x1x512x256.size inb_S2x2x1024x1024_S1x1x512x256_1_0_0_256).toLoadRect)⟩ ::
    ⟨Rect.unit (s := S2x128x1024) ![0, 0, 0] S1x128x256.size inb_S2x128x1024_S1x128x256_0_0_0, k0_pay80 (arg7.view.readCov (endRun0.sl.Ha_2) (Rect.unit (s := S2x128x1024) ![0, 0, 0] S1x128x256.size inb_S2x128x1024_S1x128x256_0_0_0).toLoadRect)
    (arg5.view.readAt (Elt F) (Rect.unit (s := S1x2x8x128x1024) (k0_off31 i) S1x1x1x128x256.size (k0_off31_inb i C4)).toLoadRect V)
    (arg8.view.readCov (endRun0.sl.Hp_8 c i arg4 arg9 C4 K fq) (Rect.unit (s := S2x2x1024x1024) ![1, 0, 0, 0] S1x1x256x256.size inb_S2x2x1024x1024_S1x1x256x256_1_0_0_0).toLoadRect)⟩ :: endRun0.sl.Ha_2) : List (View.Piece (Elt F) S2x128x1024 .f32))) ?_
  rw [endRun0_c13 c i arg4 arg5 arg7 arg8 arg9 h0 C4 K V fq, endRun0_c12 c i arg4 arg5 arg7 arg8 arg9 h0 C4 K V fq, endRun0_c11 c i arg4 arg5 arg7 arg8 arg9 h0 C4 K V fq, endRun0_c10 c i arg4 arg5 arg7 arg8 arg9 h0 C4 K V fq, endRun0_c03 c i arg4 arg5 arg7 arg8 arg9 h0 C4 K V fq, endRun0_c02 c i arg4 arg5 arg7 arg8 arg9 h0 C4 K V fq, endRun0_c01 c i arg4 arg5 arg7 arg8 arg9 h0 C4 K V fq, endRun0_c00 c i arg4 arg5 arg7 arg8 arg9 h0 C4 K V fq, endRun0_base c i arg4 arg5 arg9 h0 K V fq]
  rfl
include h0 in
theorem endRun0_out (v59 : BitVec 32) (fa : Bf (F := F) c arg7) (fp : Bf (F := F) c arg8) :
    (endRun0 c i arg3 harg3 arg4 harg4 arg5 harg5 arg6 harg6 arg7 harg7 arg8 harg8 arg9 harg9 C3 C4 htr' hx K V fq v59).1 fa fp = ([⟨Rect.unit (s := S1x128x1024) ![0, 0, 0] S1x64x1024.size inb_S1x128x1024_S1x64x1024_0_0_0, OL0 (arg4.view.read (Elt F) K) (arg5.view.read (Elt F) V) (qOf c arg9 fq) (i 2).val⟩] : List (View.Piece (Elt F) S1x128x1024 .bf16))
    ∧ (endRun0 c i arg3 harg3 arg4 harg4 arg5 harg5 arg6 harg6 arg7 harg7 arg8 harg8 arg9 harg9 C3 C4 htr' hx K V fq v59).2.1 fa fp = OL1 (arg4.view.read (Elt F) K) (arg5.view.read (Elt F) V) (qOf c arg9 fq) (i 2).val := by
  refine ⟨?_, ?_⟩
  · refine Eq.trans (rfl : _ = ([⟨Rect.unit (s := S1x128x1024) ![0, 0, 0] S1x64x1024.size inb_S1x128x1024_S1x64x1024_0_0_0,
      k0_pay106 (arg7.view.readCov (endRun0.sl.Ha_10 c i arg4 arg5 arg7 arg8 arg9 C4 K V fq) (Rect.unit (s := S2x128x1024) ![0, 64, 0] S1x1x1024.size inb_S2x128x1024_S1x1x1024_0_64_0).toLoadRect) (arg7.view.readCov (endRun0.sl.Ha_10 c i arg4 arg5 arg7 arg8 arg9 C4 K V fq) (Rect.unit (s := S2x128x1024) ![0, 0, 0] S1x64x1024.size inb_S2x128x1024_S1x64x1024_0_0_0).toLoadRect)⟩] : List (View.Piece (Elt F) S1x128x1024 .bf16))) ?_
    rw [endRun0_Ha c i arg4 arg5 arg7 arg8 arg9 h0 C4 K V fq, cov_ldc, cov_ldc]
    rfl
  · refine Eq.trans (rfl : _ = k0_pay107 (arg7.view.readCov (endRun0.sl.Ha_10 c i arg4 arg5 arg7 arg8 arg9 C4 K V fq) (Rect.unit (s := S2x128x1024) ![1, 64, 0] S1x1x1024.size inb_S2x128x1024_S1x1x1024_1_64_0).toLoadRect) (arg7.view.readCov (endRun0.sl.Ha_10 c i arg4 arg5 arg7 arg8 arg9 C4 K V fq) (Rect.unit (s := S2x128x1024) ![1, 0, 0] S1x64x1024.size inb_S2x128x1024_S1x64x1024_1_0_0).toLoadRect)) ?_
    rw [endRun0_Ha c i arg4 arg5 arg7 arg8 arg9 h0 C4 K V fq, cov_ldc, cov_ldc]
    rfl

end First
end

end Cert.Proof.Attn

end
-- ==== Proof.Body.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.Tail
public import Idealize.ShloMosaic.Lib.Tactic

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- The query block of both heads, `80` rows each, as written to the keys' `128` rows: head 0 from row 0 with zeros
    below, head 1 with its extra rows first, zeros, and its channels in the lower half. -/
def qL (gq : Vec F S1x2x80x1024 .bf16) : List (View.Piece (Elt F) S2x128x1024 .bf16) :=
  [⟨Rect.unit (s := S2x128x1024) ![1, 64, 0] S1x64x1024.size inb_S2x128x1024_S1x64x1024_1_64_0, k0_pay95 (blk (S := S1x2x80x1024) (by decide) gq ![0, 1, 0, 0] S1x1x64x1024.size)⟩,
   ⟨Rect.unit (s := S2x128x1024) ![1, 16, 0] S1x48x1024.size inb_S2x128x1024_S1x48x1024_1_16_0, k0_pay94⟩,
   ⟨Rect.unit (s := S2x128x1024) ![1, 0, 0] S1x16x1024.size inb_S2x128x1024_S1x16x1024_1_0_0, k0_pay93 (blk (S := S1x2x80x1024) (by decide) gq ![0, 1, 64, 0] S1x1x16x1024.size)⟩,
   ⟨Rect.unit (s := S2x128x1024) ![0, 80, 0] S1x48x1024.size inb_S2x128x1024_S1x48x1024_0_80_0, k0_pay92⟩,
   ⟨Rect.unit (s := S2x128x1024) ![0, 0, 0] S1x80x1024.size inb_S2x128x1024_S1x80x1024_0_0_0, k0_pay91 (blk (S := S1x2x80x1024) (by decide) gq ![0, 0, 0, 0] S1x1x80x1024.size)⟩]

theorem qL_cover (gq : Vec F S1x2x80x1024 .bf16) (y : S2x128x1024.Idx) : ∃ p ∈ qL gq, y ∈ p.1.set := by
  have h0 : (y 0).val < 2 := (y 0).isLt
  have h1 : (y 1).val < 128 := (y 1).isLt
  have h2 : (y 2).val < 1024 := (y 2).isLt
  have key : ∀ (o s : Fin 3 → ℕ) (inb : ∀ a, o a + s a ≤ S2x128x1024.size a),
      o 0 ≤ (y 0).val → (y 0).val < o 0 + s 0 → o 1 ≤ (y 1).val → (y 1).val < o 1 + s 1 → o 2 ≤ (y 2).val → (y 2).val < o 2 + s 2 →
      y ∈ (Rect.unit (s := S2x128x1024) o s inb).set := by
    intro o s inb a0 a1 b0 b1 c0 c1
    refine Rect.mem_set_unit.2 fun a => ?_
    fin_cases a
    exacts [⟨a0, a1⟩, ⟨b0, b1⟩, ⟨c0, c1⟩]
  unfold qL
  by_cases e0 : (y 0).val = 0
  · by_cases e1 : (y 1).val < 80
    · exact ⟨_, .tail _ (.tail _ (.tail _ (.tail _ (.head _)))), key _ _ inb_S2x128x1024_S1x80x1024_0_0_0 (by simp) (by simp; omega) (by simp) (by simpa using e1) (by simp) (by simpa using h2)⟩
    · exact ⟨_, .tail _ (.tail _ (.tail _ (.head _))), key _ _ inb_S2x128x1024_S1x48x1024_0_80_0 (by simp) (by simp; omega) (by simpa using e1) (by simpa using h1) (by simp) (by simpa using h2)⟩
  · by_cases e1 : (y 1).val < 16
    · exact ⟨_, .tail _ (.tail _ (.head _)), key _ _ inb_S2x128x1024_S1x16x1024_1_0_0 (by simp; omega) (by simpa using h0) (by simp) (by simpa using e1) (by simp) (by simpa using h2)⟩
    · by_cases e2 : (y 1).val < 64
      · exact ⟨_, .tail _ (.head _), key _ _ inb_S2x128x1024_S1x48x1024_1_16_0 (by simp; omega) (by simpa using h0) (by simpa using e1) (by simpa using e2) (by simp) (by simpa using h2)⟩
      · exact ⟨_, .head _, key _ _ inb_S2x128x1024_S1x64x1024_1_64_0 (by simp; omega) (by simpa using h0) (by simpa using e2) (by simpa using h1) (by simp) (by simpa using h2)⟩

/-- The expanded queries of head 0 and of head 1. -/
def QX (gq : Vec F S1x2x80x1024 .bf16) (h : ℕ) : Vec F S1x128x1024 .bf16 :=
  if h = 0 then ldc (qL gq) inb_S2x128x1024_S1x128x1024_0_0_0 else ldc (qL gq) inb_S2x128x1024_S1x128x1024_1_0_0

theorem ld_canon {sg : RefSig} {κ : Kind} {sp : Space} {S : Shape} {e : EltTy} (v : View sg κ sp S e) (f : v.ty.Contents (Elt F)) (L : List (View.Piece (Elt F) S e))
    (hL : ∀ y, ∃ p ∈ L, y ∈ p.1.set) {off sz : Fin S.rank → ℕ} (inb : ∀ a, off a + sz a ≤ S.size a) :
    v.readAt (Elt F) (Rect.unit off sz inb).toLoadRect (v.writes (Elt F) f L) = ldc L inb := by
  funext j
  exact congrFun (View.read_writes_eq_canon v f L hL) ((Rect.unit off sz inb).toLoadRect.idx j)

section
variable (c : Dev nD) (i : grid0.Coords)
  (arg3 : Memref sig .tc .vmem S1x2x80x1024 .bf16) (harg3 : arg3.IsWhole) (arg4 : Memref sig .tc .vmem S1x2x8192x128 .bf16) (harg4 : arg4.IsWhole) (arg5 : Memref sig .tc .vmem S1x2x8x128x1024 .bf16) (harg5 : arg5.IsWhole) (arg6 : Memref sig .tc .vmem S1x128x1024 .bf16) (harg6 : arg6.IsWhole) (arg7 : Memref sig .tc .vmem S2x128x1024 .f32) (harg7 : arg7.IsWhole) (arg8 : Memref sig .tc .vmem S2x2x1024x1024 .bf16) (harg8 : arg8.IsWhole) (arg9 : Memref sig .tc .vmem S2x128x1024 .bf16) (harg9 : arg9.IsWhole)

theorem expand_list (Q : Bf (F := F) c arg3) (fq : Bf (F := F) c arg9) :
    (expandRun c i arg3 harg3 arg4 harg4 arg5 harg5 arg6 harg6 arg7 harg7 arg8 harg8 arg9 harg9 Q fq).1 = qL (arg3.view.read (Elt F) Q) := by
  refine Eq.trans (rfl : _ = ([
   ⟨Rect.unit (s := S2x128x1024) ![1, 64, 0] S1x64x1024.size inb_S2x128x1024_S1x64x1024_1_64_0, k0_pay95 (arg3.view.readAt (Elt F) (Rect.unit (s := S1x2x80x1024) ![0, 1, 0, 0] S1x1x64x1024.size inb_S1x2x80x1024_S1x1x64x1024_0_1_0_0).toLoadRect Q)⟩,
   ⟨Rect.unit (s := S2x128x1024) ![1, 16, 0] S1x48x1024.size inb_S2x128x1024_S1x48x1024_1_16_0, k0_pay94⟩,
   ⟨Rect.unit (s := S2x128x1024) ![1, 0, 0] S1x16x1024.size inb_S2x128x1024_S1x16x1024_1_0_0, k0_pay93 (arg3.view.readAt (Elt F) (Rect.unit (s := S1x2x80x1024) ![0, 1, 64, 0] S1x1x16x1024.size inb_S1x2x80x1024_S1x1x16x1024_0_1_64_0).toLoadRect Q)⟩,
   ⟨Rect.unit (s := S2x128x1024) ![0, 80, 0] S1x48x1024.size inb_S2x128x1024_S1x48x1024_0_80_0, k0_pay92⟩,
   ⟨Rect.unit (s := S2x128x1024) ![0, 0, 0] S1x80x1024.size inb_S2x128x1024_S1x80x1024_0_0_0, k0_pay91 (arg3.view.readAt (Elt F) (Rect.unit (s := S1x2x80x1024) ![0, 0, 0, 0] S1x1x80x1024.size inb_S1x2x80x1024_S1x1x80x1024_0_0_0_0).toLoadRect Q)⟩] : List (View.Piece (Elt F) S2x128x1024 .bf16))) ?_
  rw [readAt_unit_blk _ _ _ (by decide), readAt_unit_blk _ _ _ (by decide), readAt_unit_blk _ _ _ (by decide)]
  rfl

theorem qOf_expand (Q : Bf (F := F) c arg3) (fq : Bf (F := F) c arg9) :
    qOf c arg9 (arg9.view.writes (Elt F) fq (expandRun c i arg3 harg3 arg4 harg4 arg5 harg5 arg6 harg6 arg7 harg7 arg8 harg8 arg9 harg9 Q fq).1) = QX (arg3.view.read (Elt F) Q) := by
  rw [expand_list]
  funext h
  unfold qOf QX
  split
  · exact ld_canon _ _ _ (qL_cover _) _
  · exact ld_canon _ _ _ (qL_cover _) _

theorem startE_pend (h0 : 1 ≤ (i 2).val) (ho : odd i = 0) (K : Bf (F := F) c arg4) (V : Bf (F := F) c arg5) (fq : Bf (F := F) c arg9) (fa : Bf (F := F) c arg7) (fp : Bf (F := F) c arg8) :
    Pend c arg4 arg5 arg7 arg8 arg9 K V fq (odd i) (arg7.view.writes (Elt F) fa (startRunE c i arg3 harg3 arg4 harg4 arg5 harg5 arg6 harg6 arg7 harg7 arg8 harg8 arg9 harg9 h0 ho K V fq fa fp).1)
      (arg8.view.writes (Elt F) fp (startRunE c i arg3 harg3 arg4 harg4 arg5 harg5 arg6 harg6 arg7 harg7 arg8 harg8 arg9 harg9 h0 ho K V fq fa fp).2.1) := by
  have e7 : (startRunE c i arg3 harg3 arg4 harg4 arg5 harg5 arg6 harg6 arg7 harg7 arg8 harg8 arg9 harg9 h0 ho K V fq fa fp).1 = ([⟨Rect.unit (s := S2x128x1024) ![1, 0, 0] S1x128x1024.size inb_S2x128x1024_S1x128x1024_1_0_0, k0_pay2⟩, ⟨Rect.unit (s := S2x128x1024) ![0, 0, 0] S1x128x1024.size inb_S2x128x1024_S1x128x1024_0_0_0, k0_pay2⟩] : List (View.Piece (Elt F) S2x128x1024 .f32)) := rfl
  have e8 : (startRunE c i arg3 harg3 arg4 harg4 arg5 harg5 arg6 harg6 arg7 harg7 arg8 harg8 arg9 harg9 h0 ho K V fq fa fp).2.1 = ([⟨Rect.unit (s := S2x2x1024x1024) ![0, 1, 0, 0] S1x1x1024x1024.size inb_S2x2x1024x1024_S1x1x1024x1024_0_1_0_0, PR (arg4.view.read (Elt F) K) (qOf c arg9 fq) 1 0⟩, ⟨Rect.unit (s := S2x2x1024x1024) ![0, 0, 0, 0] S1x1x1024x1024.size inb_S2x2x1024x1024_S1x1x1024x1024_0_0_0_0, PR (arg4.view.read (Elt F) K) (qOf c arg9 fq) 0 0⟩] : List (View.Piece (Elt F) S2x2x1024x1024 .bf16)) := by
    refine Eq.trans (rfl : _ = ([⟨Rect.unit (s := S2x2x1024x1024) ![0, 1, 0, 0] S1x1x1024x1024.size inb_S2x2x1024x1024_S1x1x1024x1024_0_1_0_0, (k0_pay4 (arg4.view.readAt (Elt F) (Rect.unit (s := S1x2x8192x128) ![0, 1, 0, 0] S1x1x1024x128.size inb_S1x2x8192x128_S1x1x1024x128_0_1_0_0).toLoadRect K) (qOf c arg9 fq 1))⟩, ⟨Rect.unit (s := S2x2x1024x1024) ![0, 0, 0, 0] S1x1x1024x1024.size inb_S2x2x1024x1024_S1x1x1024x1024_0_0_0_0, (k0_pay4 (arg4.view.readAt (Elt F) (Rect.unit (s := S1x2x8192x128) ![0, 0, 0, 0] S1x1x1024x128.size inb_S1x2x8192x128_S1x1x1024x128_0_0_0_0).toLoadRect K) (qOf c arg9 fq 0))⟩] : List (View.Piece (Elt F) S2x2x1024x1024 .bf16))) ?_
    rw [readAt_unit_blk _ _ _ pos_k, readAt_unit_blk _ _ _ pos_k]
    rfl
  refine (congrArg (fun n => Pend c arg4 arg5 arg7 arg8 arg9 K V fq n _ _) ho).mpr ?_
  refine ⟨⟨?_, ?_⟩, ?_, ?_⟩
  · rw [e7]; exact (ld_skip _ _ _ _ _ _ (by decide)).trans (ld_hit _ _ _ _ _ _)
  · rw [e7]; exact ld_hit _ _ _ _ _ _
  · rw [e8]; exact (ld_skip _ _ _ _ _ _ (by decide)).trans (ld_hit _ _ _ _ _ _)
  · rw [e8]; exact ld_hit _ _ _ _ _ _

theorem startO_pend (ho : odd i = 1) (K : Bf (F := F) c arg4) (V : Bf (F := F) c arg5) (fq : Bf (F := F) c arg9) (fa : Bf (F := F) c arg7) (fp : Bf (F := F) c arg8) :
    Pend c arg4 arg5 arg7 arg8 arg9 K V fq (odd i) (arg7.view.writes (Elt F) fa (startRunO c i arg3 harg3 arg4 harg4 arg5 harg5 arg6 harg6 arg7 harg7 arg8 harg8 arg9 harg9 ho K V fq fa fp).1)
      (arg8.view.writes (Elt F) fp (startRunO c i arg3 harg3 arg4 harg4 arg5 harg5 arg6 harg6 arg7 harg7 arg8 harg8 arg9 harg9 ho K V fq fa fp).2.1) := by
  have eHp : startRunO.sl.Hp_4 c arg4 arg9 K fq = ([⟨Rect.unit (s := S2x2x1024x1024) ![0, 1, 0, 0] S1x1x1024x1024.size inb_S2x2x1024x1024_S1x1x1024x1024_0_1_0_0, PR (arg4.view.read (Elt F) K) (qOf c arg9 fq) 1 1⟩, ⟨Rect.unit (s := S2x2x1024x1024) ![0, 0, 0, 0] S1x1x1024x1024.size inb_S2x2x1024x1024_S1x1x1024x1024_0_0_0_0, PR (arg4.view.read (Elt F) K) (qOf c arg9 fq) 0 1⟩, ⟨Rect.unit (s := S2x2x1024x1024) ![1, 1, 0, 0] S1x1x1024x1024.size inb_S2x2x1024x1024_S1x1x1024x1024_1_1_0_0, PR (arg4.view.read (Elt F) K) (qOf c arg9 fq) 1 0⟩, ⟨Rect.unit (s := S2x2x1024x1024) ![1, 0, 0, 0] S1x1x1024x1024.size inb_S2x2x1024x1024_S1x1x1024x1024_1_0_0_0, PR (arg4.view.read (Elt F) K) (qOf c arg9 fq) 0 0⟩] : List (View.Piece (Elt F) S2x2x1024x1024 .bf16)) := by
    refine Eq.trans (rfl : _ = ([⟨Rect.unit (s := S2x2x1024x1024) ![0, 1, 0, 0] S1x1x1024x1024.size inb_S2x2x1024x1024_S1x1x1024x1024_0_1_0_0, (k0_pay4 (arg4.view.readAt (Elt F) (Rect.unit (s := S1x2x8192x128) ![0, 1, 1024, 0] S1x1x1024x128.size inb_S1x2x8192x128_S1x1x1024x128_0_1_1024_0).toLoadRect K) (qOf c arg9 fq 1))⟩, ⟨Rect.unit (s := S2x2x1024x1024) ![0, 0, 0, 0] S1x1x1024x1024.size inb_S2x2x1024x1024_S1x1x1024x1024_0_0_0_0, (k0_pay4 (arg4.view.readAt (Elt F) (Rect.unit (s := S1x2x8192x128) ![0, 0, 1024, 0] S1x1x1024x128.size inb_S1x2x8192x128_S1x1x1024x128_0_0_1024_0).toLoadRect K) (qOf c arg9 fq 0))⟩, ⟨Rect.unit (s := S2x2x1024x1024) ![1, 1, 0, 0] S1x1x1024x1024.size inb_S2x2x1024x1024_S1x1x1024x1024_1_1_0_0, (k0_pay4 (arg4.view.readAt (Elt F) (Rect.unit (s := S1x2x8192x128) ![0, 1, 0, 0] S1x1x1024x128.size inb_S1x2x8192x128_S1x1x1024x128_0_1_0_0).toLoadRect K) (qOf c arg9 fq 1))⟩, ⟨Rect.unit (s := S2x2x1024x1024) ![1, 0, 0, 0] S1x1x1024x1024.size inb_S2x2x1024x1024_S1x1x1024x1024_1_0_0_0, (k0_pay4 (arg4.view.readAt (Elt F) (Rect.unit (s := S1x2x8192x128) ![0, 0, 0, 0] S1x1x1024x128.size inb_S1x2x8192x128_S1x1x1024x128_0_0_0_0).toLoadRect K) (qOf c arg9 fq 0))⟩] : List (View.Piece (Elt F) S2x2x1024x1024 .bf16))) ?_
    rw [readAt_unit_blk _ _ _ pos_k, readAt_unit_blk _ _ _ pos_k, readAt_unit_blk _ _ _ pos_k, readAt_unit_blk _ _ _ pos_k]
    rfl
  have e8 : (startRunO c i arg3 harg3 arg4 harg4 arg5 harg5 arg6 harg6 arg7 harg7 arg8 harg8 arg9 harg9 ho K V fq fa fp).2.1 = startRunO.sl.Hp_4 c arg4 arg9 K fq := rfl
  have eA0 : startRunO.sl.Ha_3 c arg4 arg5 arg7 arg8 arg9 K V fq = ⟨Rect.unit (s := S2x128x1024) ![0, 0, 0] S1x128x1024.size inb_S2x128x1024_S1x128x1024_0_0_0, ACC (arg4.view.read (Elt F) K) (arg5.view.read (Elt F) V) (qOf c arg9 fq) 0 1⟩ :: startRunO.sl.Ha_2 := by
    refine Eq.trans (rfl : _ = ⟨Rect.unit (s := S2x128x1024) ![0, 0, 0] S1x128x1024.size inb_S2x128x1024_S1x128x1024_0_0_0, k0_pay14 (arg7.view.readCov startRunO.sl.Ha_2 (Rect.unit (s := S2x128x1024) ![0, 0, 0] S1x128x1024.size inb_S2x128x1024_S1x128x1024_0_0_0).toLoadRect) (arg5.view.readAt (Elt F) (Rect.unit (s := S1x2x8x128x1024) ![0, 0, 0, 0, 0] S1x1x1x128x1024.size inb_S1x2x8x128x1024_S1x1x1x128x1024_0_0_0_0_0).toLoadRect V)
      (arg8.view.readCov (startRunO.sl.Hp_4 c arg4 arg9 K fq) (Rect.unit (s := S2x2x1024x1024) ![1, 0, 0, 0] S1x1x1024x1024.size inb_S2x2x1024x1024_S1x1x1024x1024_1_0_0_0).toLoadRect)⟩ :: startRunO.sl.Ha_2) ?_
    rw [eHp, cov_skip _ _ _ _ _ (by decide), cov_skip _ _ _ _ _ (by decide), cov_skip _ _ _ _ _ (by decide), cov_hit, readAt_unit_blk _ _ _ pos_v]
    conv_lhs => rw [show arg7.view.readCov startRunO.sl.Ha_2 (Rect.unit (s := S2x128x1024) ![0, 0, 0] S1x128x1024.size inb_S2x128x1024_S1x128x1024_0_0_0).toLoadRect = k0_pay2 (F := F) from (cov_skip _ _ _ _ _ (by decide)).trans (cov_hit _ _ _ _ _)]
    rfl
  have e7 : (startRunO c i arg3 harg3 arg4 harg4 arg5 harg5 arg6 harg6 arg7 harg7 arg8 harg8 arg9 harg9 ho K V fq fa fp).1 = ⟨Rect.unit (s := S2x128x1024) ![1, 0, 0] S1x128x1024.size inb_S2x128x1024_S1x128x1024_1_0_0, ACC (arg4.view.read (Elt F) K) (arg5.view.read (Elt F) V) (qOf c arg9 fq) 1 1⟩ :: startRunO.sl.Ha_3 c arg4 arg5 arg7 arg8 arg9 K V fq := by
    refine Eq.trans (rfl : _ = ⟨Rect.unit (s := S2x128x1024) ![1, 0, 0] S1x128x1024.size inb_S2x128x1024_S1x128x1024_1_0_0, k0_pay14 (arg7.view.readCov (startRunO.sl.Ha_3 c arg4 arg5 arg7 arg8 arg9 K V fq) (Rect.unit (s := S2x128x1024) ![1, 0, 0] S1x128x1024.size inb_S2x128x1024_S1x128x1024_1_0_0).toLoadRect) (arg5.view.readAt (Elt F) (Rect.unit (s := S1x2x8x128x1024) ![0, 1, 0, 0, 0] S1x1x1x128x1024.size inb_S1x2x8x128x1024_S1x1x1x128x1024_0_1_0_0_0).toLoadRect V)
      (arg8.view.readCov (startRunO.sl.Hp_4 c arg4 arg9 K fq) (Rect.unit (s := S2x2x1024x1024) ![1, 1, 0, 0] S1x1x1024x1024.size inb_S2x2x1024x1024_S1x1x1024x1024_1_1_0_0).toLoadRect)⟩ :: startRunO.sl.Ha_3 c arg4 arg5 arg7 arg8 arg9 K V fq) ?_
    rw [eHp, cov_skip _ _ _ _ _ (by decide), cov_skip _ _ _ _ _ (by decide), cov_hit, readAt_unit_blk _ _ _ pos_v]
    rw [show arg7.view.readCov (startRunO.sl.Ha_3 c arg4 arg5 arg7 arg8 arg9 K V fq) (Rect.unit (s := S2x128x1024) ![1, 0, 0] S1x128x1024.size inb_S2x128x1024_S1x128x1024_1_0_0).toLoadRect = k0_pay2 (F := F) from by
      rw [eA0, cov_skip _ _ _ _ _ (by decide)]; exact cov_hit _ _ _ _ _]
    rfl
  refine (congrArg (fun n => Pend c arg4 arg5 arg7 arg8 arg9 K V fq n _ _) ho).mpr ?_
  refine ⟨⟨?_, ?_⟩, ?_, ?_⟩
  · rw [e7, eA0]; exact (ld_skip _ _ _ _ _ _ (by decide)).trans (ld_hit _ _ _ _ _ _)
  · rw [e7]; exact ld_hit _ _ _ _ _ _
  · rw [e8, eHp]; exact (ld_skip _ _ _ _ _ _ (by decide)).trans (ld_hit _ _ _ _ _ _)
  · rw [e8, eHp]; exact ld_hit _ _ _ _ _ _

/-- The start with some earlier block. -/
theorem start (h0 : 1 ≤ (i 2).val) (K : Bf (F := F) c arg4) (V : Bf (F := F) c arg5) (fq : Bf (F := F) c arg9) (fa : Bf (F := F) c arg7) (fp : Bf (F := F) c arg8) :
    Res c arg4 arg5 arg7 arg8 arg9 K V fq fa fp ⊢ wp Idealize.ShloMosaic.frame (wpE (defs₀ (F := F)) 𝒱₀ (c : Thread nD τ) none) Set.univ (k0_part27 i arg3 harg3 arg4 harg4 arg5 harg5 arg6 harg6 arg7 harg7 arg8 harg8 arg9 harg9 (BitVec.ofNat 32 (i 2).val) (Scalar.subi (BitVec.ofNat 32 (i 2).val) 1#32))
        (fun y => iprop(⌜y.1 = BitVec.ofNat 32 (odd i) ∧ y.2.1 = 0#32⌝ ∗ ∃ fa' fp', ⌜(i 2).val = 0 ∨ Pend c arg4 arg5 arg7 arg8 arg9 K V fq (odd i) fa' fp'⌝ ∗ Res c arg4 arg5 arg7 arg8 arg9 K V fq fa' fp')) := by
  have ho : odd i = 0 ∨ odd i = 1 := by unfold odd; omega
  rcases ho with ho | ho
  · iintro H
    iapply (wp_wand_r Idealize.ShloMosaic.frame (wpE (defs₀ (F := F)) 𝒱₀ (c : Thread nD τ) none) Set.univ)
    isplitl [H]
    · iapply (startRunE c i arg3 harg3 arg4 harg4 arg5 harg5 arg6 harg6 arg7 harg7 arg8 harg8 arg9 harg9 h0 ho K V fq fa fp).2.2
      iexact H
    iintro %y ⟨%hy, H⟩
    isplitr
    · ipureintro; exact hy
    iexists (arg7.view.writes (Elt F) fa (startRunE c i arg3 harg3 arg4 harg4 arg5 harg5 arg6 harg6 arg7 harg7 arg8 harg8 arg9 harg9 h0 ho K V fq fa fp).1)
    iexists (arg8.view.writes (Elt F) fp (startRunE c i arg3 harg3 arg4 harg4 arg5 harg5 arg6 harg6 arg7 harg7 arg8 harg8 arg9 harg9 h0 ho K V fq fa fp).2.1)
    isplitr
    · ipureintro; exact .inr (startE_pend c i arg3 harg3 arg4 harg4 arg5 harg5 arg6 harg6 arg7 harg7 arg8 harg8 arg9 harg9 h0 ho K V fq fa fp)
    iexact H
  · iintro H
    iapply (wp_wand_r Idealize.ShloMosaic.frame (wpE (defs₀ (F := F)) 𝒱₀ (c : Thread nD τ) none) Set.univ)
    isplitl [H]
    · iapply (startRunO c i arg3 harg3 arg4 harg4 arg5 harg5 arg6 harg6 arg7 harg7 arg8 harg8 arg9 harg9 ho K V fq fa fp).2.2
      iexact H
    iintro %y ⟨%hy, H⟩
    isplitr
    · ipureintro; exact hy
    iexists (arg7.view.writes (Elt F) fa (startRunO c i arg3 harg3 arg4 harg4 arg5 harg5 arg6 harg6 arg7 harg7 arg8 harg8 arg9 harg9 ho K V fq fa fp).1)
    iexists (arg8.view.writes (Elt F) fp (startRunO c i arg3 harg3 arg4 harg4 arg5 harg5 arg6 harg6 arg7 harg7 arg8 harg8 arg9 harg9 ho K V fq fa fp).2.1)
    isplitr
    · ipureintro; exact .inr (startO_pend c i arg3 harg3 arg4 harg4 arg5 harg5 arg6 harg6 arg7 harg7 arg8 harg8 arg9 harg9 ho K V fq fa fp)
    iexact H

/-- The start, whatever the block. -/
theorem start_any (K : Bf (F := F) c arg4) (V : Bf (F := F) c arg5) (fq : Bf (F := F) c arg9) (fa : Bf (F := F) c arg7) (fp : Bf (F := F) c arg8) :
    Res c arg4 arg5 arg7 arg8 arg9 K V fq fa fp ⊢ wp Idealize.ShloMosaic.frame (wpE (defs₀ (F := F)) 𝒱₀ (c : Thread nD τ) none) Set.univ (k0_part27 i arg3 harg3 arg4 harg4 arg5 harg5 arg6 harg6 arg7 harg7 arg8 harg8 arg9 harg9 (BitVec.ofNat 32 (i 2).val) (Scalar.subi (BitVec.ofNat 32 (i 2).val) 1#32))
        (fun y => iprop(⌜y.1 = BitVec.ofNat 32 (odd i) ∧ y.2.1 = 0#32⌝ ∗ ∃ fa' fp', ⌜(i 2).val = 0 ∨ Pend c arg4 arg5 arg7 arg8 arg9 K V fq (odd i) fa' fp'⌝ ∗ Res c arg4 arg5 arg7 arg8 arg9 K V fq fa' fp')) := by
  rcases Nat.eq_zero_or_pos (i 2).val with h0 | h0
  · iintro H
    iapply (wp_wand_r Idealize.ShloMosaic.frame (wpE (defs₀ (F := F)) 𝒱₀ (c : Thread nD τ) none) Set.univ)
    isplitl [H]
    · iapply (startRun0 c i arg3 harg3 arg4 harg4 arg5 harg5 arg6 harg6 arg7 harg7 arg8 harg8 arg9 harg9 h0 K V fq fa fp)
      iexact H
    iintro %y ⟨%hy, H⟩
    isplitr
    · ipureintro; exact hy
    iexists fa
    iexists fp
    isplitr
    · ipureintro; exact .inl h0
    iexact H
  · exact start c i arg3 harg3 arg4 harg4 arg5 harg5 arg6 harg6 arg7 harg7 arg8 harg8 arg9 harg9 h0 K V fq fa fp

/-- The rest of the body: the two halves of the output block, from the accumulators over every block up to the diagonal. -/
theorem finish (K : Bf (F := F) c arg4) (V : Bf (F := F) c arg5) (fq : Bf (F := F) c arg9) (v59 : BitVec 32) (fa : Bf (F := F) c arg7) (fp : Bf (F := F) c arg8) (f6 : Bf (F := F) c arg6)
    (hp : (i 2).val = 0 ∨ Pend c arg4 arg5 arg7 arg8 arg9 K V fq (odd i) fa fp) :
    iprop(pt c arg6 f6 ∗ Res c arg4 arg5 arg7 arg8 arg9 K V fq fa fp) ⊢ wp Idealize.ShloMosaic.frame (wpE (defs₀ (F := F)) 𝒱₀ (c : Thread nD τ) none) Set.univ (k0_part28 i arg3 harg3 arg4 harg4 arg5 harg5 arg6 harg6 arg7 harg7 arg8 harg8 arg9 harg9 (BitVec.ofNat 32 (i 2).val) (BitVec.ofNat 32 (odd i)) 0#32 v59)
        (fun y => iprop(⌜y = OL1 (arg4.view.read (Elt F) K) (arg5.view.read (Elt F) V) (qOf c arg9 fq) (i 2).val⌝ ∗ pt c arg6 (arg6.view.writes (Elt F) f6 [⟨Rect.unit (s := S1x128x1024) ![0, 0, 0] S1x64x1024.size inb_S1x128x1024_S1x64x1024_0_0_0, OL0 (arg4.view.read (Elt F) K) (arg5.view.read (Elt F) V) (qOf c arg9 fq) (i 2).val⟩]) ∗ Done c arg4 arg5 arg7 arg8 arg9 K V fq)) := by
  have h8 := i2_lt i
  rcases Nat.eq_zero_or_pos (i 2).val with h0 | h0
  · have C3 : ¬ k0_cond3 i = 1#1 := by rw [cond3_iff]; omega
    have C4 : k0_cond4 i = 1#1 := by rw [cond4_iff]; omega
    have htr : (k0_t1_loop i).trips = 0 := by rw [t1_trips]; unfold rest; omega
    have hx : k0_chk3 i (BitVec.ofNat 32 (odd i)) := chk3 i (by unfold odd; omega)
    iintro H
    iapply (wp_wand_r Idealize.ShloMosaic.frame (wpE (defs₀ (F := F)) 𝒱₀ (c : Thread nD τ) none) Set.univ)
    isplitl [H]
    · iapply ((endRun0 c i arg3 harg3 arg4 harg4 arg5 harg5 arg6 harg6 arg7 harg7 arg8 harg8 arg9 harg9 C3 C4 htr hx K V fq v59).2.2 fa fp f6)
      iexact H
    iintro %y ⟨%fa', %fp', %hy, H6, H⟩
    obtain ⟨e6, eY⟩ := endRun0_out c i arg3 harg3 arg4 harg4 arg5 harg5 arg6 harg6 arg7 harg7 arg8 harg8 arg9 harg9 h0 C3 C4 htr hx K V fq v59 fa' fp'
    rw [e6]
    rw [eY] at hy
    isplitr
    · ipureintro; exact hy
    isplitl [H6]
    · iexact H6
    iexact H
  · have C3 : k0_cond3 i = 1#1 := by rw [cond3_iff]; omega
    have C4 : ¬ k0_cond4 i = 1#1 := by rw [cond4_iff]; omega
    have hx : k0_chk3 i (BitVec.ofNat 32 (odd i + 2 * Scf.trips (k0_t1_loop i).lb (k0_t1_loop i).ub (k0_t1_loop i).st)) := by
      rw [walked]; exact chk3 i (by unfold rest; omega)
    have hp' := hp.resolve_left (by omega)
    iintro H
    iapply (wp_wand_r Idealize.ShloMosaic.frame (wpE (defs₀ (F := F)) 𝒱₀ (c : Thread nD τ) none) Set.univ)
    isplitl [H]
    · iapply ((endRun c i arg3 harg3 arg4 harg4 arg5 harg5 arg6 harg6 arg7 harg7 arg8 harg8 arg9 harg9 C3 C4 hx K V fq v59).2.2 fa fp f6 hp')
      iexact H
    iintro %y ⟨%fa', %fp', %hy, H6, H⟩
    obtain ⟨hq, hy⟩ := hy
    obtain ⟨e6, eY⟩ := endRun_out c i arg3 harg3 arg4 harg4 arg5 harg5 arg6 harg6 arg7 harg7 arg8 harg8 arg9 harg9 h0 C3 C4 hx K V fq v59 fa' fp' hq
    rw [e6]
    rw [eY] at hy
    isplitr
    · ipureintro; exact hy
    isplitl [H6]
    · iexact H6
    iexact H

theorem OLs_cover (gk : Vec F S1x2x8192x128 .bf16) (gv : Vec F S1x2x8x128x1024 .bf16) (q : ℕ → Vec F S1x128x1024 .bf16) (n : ℕ) (y : S1x128x1024.Idx) :
    ∃ p ∈ OLs gk gv q n, y ∈ p.1.set :=
  View.cover_of_tiledL (OLs gk gv q n) ![1, 64, 1024] (by sl_kernel_rfl) y

/-- The whole body at a grid point: the output block is `OUT` of the three blocks read. -/
theorem bodyRun (Q : Bf (F := F) c arg3) (K : Bf (F := F) c arg4) (V : Bf (F := F) c arg5) (f6 : Bf (F := F) c arg6) (fa : Bf (F := F) c arg7) (fp : Bf (F := F) c arg8) (fq : Bf (F := F) c arg9) :
    iprop(pt c arg3 Q ∗ pt c arg4 K ∗ pt c arg5 V ∗ pt c arg6 f6 ∗ pt c arg7 fa ∗ pt c arg8 fp ∗ pt c arg9 fq) ⊢
      wp Idealize.ShloMosaic.frame (wpE (defs₀ (F := F)) 𝒱₀ (c : Thread nD τ) none) Set.univ (cc0_fox_attention_preshifted i arg3 harg3 arg4 harg4 arg5 harg5 arg6 harg6 arg7 harg7 arg8 harg8 arg9 harg9)
        (fun _ => iprop(pt c arg3 Q ∗ pt c arg4 K ∗ pt c arg5 V
          ∗ (∃ g, ⌜arg6.view.read (Elt F) g = OUT (arg4.view.read (Elt F) K) (arg5.view.read (Elt F) V) (QX (arg3.view.read (Elt F) Q)) (i 2).val⌝ ∗ pt c arg6 g)
          ∗ (∃ fa, pt c arg7 fa) ∗ (∃ fp, pt c arg8 fp) ∗ (∃ fq, pt c arg9 fq))) := by
  rw [cc0_fox_attention_preshifted_eq_skeleton]
  unfold cc0_fox_attention_preshifted_skel
  iintro ⟨HQ, HK, HV, H6, Ha, Hp, Hq⟩
  rw [wp_bind]
  iapply (wp_wand_r Idealize.ShloMosaic.frame (wpE (defs₀ (F := F)) 𝒱₀ (c : Thread nD τ) none) Set.univ)
  isplitl [HQ Hq]
  · iapply (expandRun c i arg3 harg3 arg4 harg4 arg5 harg5 arg6 harg6 arg7 harg7 arg8 harg8 arg9 harg9 Q fq).2
    isplitl [HQ]
    · iexact HQ
    iexact Hq
  iintro %y ⟨%hy, HQ, Hq⟩
  subst hy
  dsimp only
  rw [wp_bind]
  iapply (wp_wand_r Idealize.ShloMosaic.frame (wpE (defs₀ (F := F)) 𝒱₀ (c : Thread nD τ) none) Set.univ)
  isplitl [HK HV Hq Ha Hp]
  · iapply (start_any c i arg3 harg3 arg4 harg4 arg5 harg5 arg6 harg6 arg7 harg7 arg8 harg8 arg9 harg9 K V _ fa fp)
    isplitl [HK]; · iexact HK
    isplitl [HV]; · iexact HV
    isplitl [Hq]; · iexact Hq
    isplitl [Ha]; · iexact Ha
    iexact Hp
  iintro %z ⟨%hz, %fa', %fp', %hp, HR⟩
  obtain ⟨z1, z2, v59⟩ := z
  obtain ⟨hz1, hz2⟩ := hz
  dsimp only at hz1 hz2
  subst hz1 hz2
  dsimp only
  rw [wp_bind]
  iapply (wp_wand_r Idealize.ShloMosaic.frame (wpE (defs₀ (F := F)) 𝒱₀ (c : Thread nD τ) none) Set.univ)
  isplitl [H6 HR]
  · iapply (finish c i arg3 harg3 arg4 harg4 arg5 harg5 arg6 harg6 arg7 harg7 arg8 harg8 arg9 harg9 K V _ v59 fa' fp' f6 hp)
    isplitl [H6]
    · iexact H6
    iexact HR
  iintro %x ⟨%hx, H6, HK, HV, Hq, ⟨%fa'', Ha⟩, %fp'', Hp⟩
  subst hx
  sl_exec
  sl_step
  isplitl [HQ]; · iexact HQ
  isplitl [HK]; · iexact HK
  isplitl [HV]; · iexact HV
  isplitl [H6]
  · iexists _
    isplitr; swap
    · iexact H6
    ipureintro
    rw [qOf_expand]
    exact View.read_writes_eq_canon _ _ (OLs (arg4.view.read (Elt F) K) (arg5.view.read (Elt F) V) (QX (arg3.view.read (Elt F) Q)) (i 2).val) (OLs_cover _ _ _ _)
  isplitl [Ha]; · iexists _; iexact Ha
  isplitl [Hp]; · iexists _; iexact Hp
  iexists _; iexact Hq
end

end Cert.Proof.Attn

end
-- ==== Proof.Run.lean ====
module

public import proofs.«01_k».proof.Proof.Gen.KernelIdeal.Points
public import proofs.«01_k».proof.Proof.Gen.KernelIdeal.Launch
public import proofs.«01_k».proof.Proof.Gen.KernelIdeal.Frame
public import proofs.«01_k».proof.Proof.Body
public import Idealize.ShloMosaic.Lib.Pipeline.FrameBody
public import Idealize.ShloMosaic.Lib.Claim
public import Idealize.ShloMosaic.Lib.Tactic

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- The output block of a grid point, from the blocks of queries, keys and values read there. -/
def outAt (c : Dev nD) (t : Fin cfg0.N) : Vec F S1x128x1024 .bf16 :=
  OUT (iblk m c 1 t) (iblk m c 2 t) (QX (iblk m c 0 t)) ((grid0.coords t) 2).val

/-- The pipeline's data: the arrays as the region finds them, the input blocks left in place, the output block `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = outAt m c t := by dsimp only [dats]
theorem Phi_eq (c : Dev nD) (t : Fin (cfg0.N + 1)) : (dats m 0 c).Φ t = Pipeline.ΦA spec0 c := by dsimp only [dats]
theorem owed_eq (c : Dev nD) (t : Fin (cfg0.N + 1)) : (dats m 0 c).owed t = 0 := by dsimp only [dats]

theorem before_q (c : Dev nD) (t : Fin cfg0.N) (d) : (dats m 0 c).before 0 t d = iblk m c 0 t := before0_0_of m (dats m 0 c) (A_eq m c 0) (after_q m c) t d
theorem before_k (c : Dev nD) (t : Fin cfg0.N) (d) : (dats m 0 c).before 1 t d = iblk m c 1 t := before0_1_of m (dats m 0 c) (A_eq m c 1) (after_k m c) t d
theorem before_v (c : Dev nD) (t : Fin cfg0.N) (d) : (dats m 0 c).before 2 t d = iblk m c 2 t := before0_2_of m (dats m 0 c) (A_eq m c 2) (after_v m c) t d

abbrev st (t : Fin cfg0.N) (w : Fin cfg0.W) := (cfg0.win w).stage (cfg0.slots t w)

/-- What the body finds: the scratch at anything, the three input blocks, the output buffer at anything. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
/-- What it leaves: the same with the output block written. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

/-- A whole buffer's ownership, at the contents its view reads as. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

theorem PhiA_eq (c : Dev nD) : (Pipeline.ΦA spec0 c : sProp 𝕄)
    = iprop(((∃ f, pt (F := F) c (Memref.whole cc0_scratch0 : Memref sig .tc .vmem S2x128x1024 .f32) f) ∗ (∃ f, pt (F := F) c (Memref.whole cc0_scratch1 : Memref sig .tc .vmem S2x2x1024x1024 .bf16) f) ∗ (∃ f, pt (F := F) c (Memref.whole cc0_scratch2 : Memref sig .tc .vmem S2x128x1024 .bf16) f)) ∗ (∃ r, prngReg c r)) := by
  unfold Pipeline.ΦA
  rw [scopedRest0_eq]

/-- The body at a grid point, over any three blocks: it writes the output block and nothing else. -/
theorem body_triple (c : Dev nD) (t : Fin cfg0.N) (O O' : sProp 𝕄) (hO : O ⊢ O') (bq : Vec F S1x2x80x1024 .bf16) (bk : Vec F S1x2x8192x128 .bf16) (bv : Vec F S1x2x8x128x1024 .bf16) :
    iprop((Pipeline.ΦA spec0 c : sProp 𝕄) ∗ O ∗ owns (c : Thread nD τ) (win0_0.stage (cfg0.slots t 0)) fullShare bq
      ∗ owns (c : Thread nD τ) (win0_1.stage (cfg0.slots t 1)) fullShare bk ∗ owns (c : Thread nD τ) (win0_2.stage (cfg0.slots t 2)) fullShare bv
      ∗ (∃ d, owns (c : Thread nD τ) (win0_3.stage (cfg0.slots t 3)) fullShare d))
    ⊢ wp frame (wpE (defs₀ (F := F)) 𝒱₀ (c : Thread nD τ) none) Set.univ (bodyAt0 t) (fun _ =>
      iprop((Pipeline.ΦA spec0 c : sProp 𝕄) ∗ O' ∗ owns (c : Thread nD τ) (win0_0.stage (cfg0.slots t 0)) fullShare bq
      ∗ owns (c : Thread nD τ) (win0_1.stage (cfg0.slots t 1)) fullShare bk ∗ owns (c : Thread nD τ) (win0_2.stage (cfg0.slots t 2)) fullShare bv
      ∗ owns (c : Thread nD τ) (win0_3.stage (cfg0.slots t 3)) fullShare (OUT bk bv (QX bq) ((grid0.coords t) 2).val))) := by
  unfold bodyAt0
  rw [PhiA_eq, owns_pt c (win0_0.stage (cfg0.slots t 0)) (hstage0_0 ((cfg0.slots t 0).cast nbuf0_0)), owns_pt c (win0_1.stage (cfg0.slots t 1)) (hstage0_1 ((cfg0.slots t 1).cast nbuf0_1)),
    owns_pt c (win0_2.stage (cfg0.slots t 2)) (hstage0_2 ((cfg0.slots t 2).cast nbuf0_2))]
  simp only [owns_pt c (win0_3.stage (cfg0.slots t 3)) (hstage0_3 ((cfg0.slots t 3).cast nbuf0_3))]
  iintro ⟨⟨⟨⟨%fa, Ha⟩, ⟨%fp, Hp⟩, ⟨%fq, Hq⟩⟩, Hg⟩, HW, ⟨%Q, %eQ, HQ⟩, ⟨%K, %eK, HK⟩, ⟨%V, %eV, HV⟩, ⟨%d3, %f6, -, H6⟩⟩
  iapply (wp_wand_r Idealize.ShloMosaic.frame (wpE (defs₀ (F := F)) 𝒱₀ (c : Thread nD τ) none) Set.univ)
  isplitl [HQ HK HV H6 Ha Hp Hq]
  · iapply (bodyRun c (grid0.coords t) _ _ _ _ _ _ _ _ _ _ _ _ _ _ Q K V f6 fa fp fq)
    isplitl [HQ]; · iexact HQ
    isplitl [HK]; · iexact HK
    isplitl [HV]; · iexact HV
    isplitl [H6]; · iexact H6
    isplitl [Ha]; · iexact Ha
    isplitl [Hp]; · iexact Hp
    iexact Hq
  iintro %y ⟨HQ, HK, HV, ⟨%g, %eg, H6⟩, Ha, Hp, Hq⟩
  isplitl [Ha Hp Hq Hg]
  · isplitl [Ha Hp Hq]
    · isplitl [Ha]; · iexact Ha
      isplitl [Hp]; · iexact Hp
      iexact Hq
    iexact Hg
  isplitl [HW]
  · iapply hO; iexact HW
  isplitl [HQ]
  · iexists Q; isplitr
    · ipureintro; exact eQ
    iexact HQ
  isplitl [HK]
  · iexists K; isplitr
    · ipureintro; exact eK
    iexact HK
  isplitl [HV]
  · iexists V; isplitr
    · ipureintro; exact eV
    iexact HV
  iexists g
  isplitr
  · ipureintro
    rw [eg, eQ, eK, eV]
  iexact H6

theorem sound_body (c : Dev nD) (t : Fin cfg0.N) :
    bodyPre m c t ⊢ wp frame (wpE (defs₀ (F := F)) 𝒱₀ (c : Thread nD τ) none) Set.univ (bodyAt0 t) (fun _ => bodyPost m c t) := by
  have hO : (dats m 0 c).owesAt () t.castSucc ⊢ (dats m 0 c).owesAt () t.succ := by
    unfold Dat.owesAt Pipeline.owesWithin
    rw [owed_eq, owed_eq]
    iintro ⟨%W, -, HW⟩
    iexists W
    isplitr
    · ipureintro; exact fun _ _ => Or.inl trivial
    iexact HW
  unfold bodyPre bodyPost
  rw [Phi_eq, Phi_eq, after_q, after_k, after_v, after_o]
  unfold outAt
  simp only [before_q, before_k, before_v]
  generalize (dats m 0 c).before 3 t = b3
  revert hO
  generalize (dats m 0 c).owesAt () t.castSucc = O
  generalize (dats m 0 c).owesAt () t.succ = O'
  intro hO
  generalize iblk m c 0 t = bq
  generalize iblk m c 1 t = bk
  generalize iblk m c 2 t = bv
  iintro ⟨HΦ, HO, ⟨%d0, H0⟩, ⟨%d1, H1⟩, ⟨%d2, H2⟩, ⟨%d3, H3⟩⟩
  iapply (body_triple c t O O' hO bq bk bv)
  isplitl [HΦ]; · iexact HΦ
  isplitl [HO]; · iexact HO
  isplitl [H0]; · iexact H0
  isplitl [H1]; · iexact H1
  isplitl [H2]; · iexact H2
  iexists _
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option maxHeartbeats 4000000 in
set_option backward.isDefEq.respectTransparency.types false in
/-- The run: every array at its final contents, every semaphore counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) 0 launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The arguments end as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Attn

end
-- ==== Proof.Frames.lean ====
module

public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Defs
public import Idealize.ShloMosaic.Adequacy
public import Idealize.ShloMosaic.Init

@[expose] public section

noncomputable section

namespace Cert.Proof.Frames

open Idealize.ShloMosaic Idealize.SL.Sem

/-- At the bits a named constant is its bits, so that the kernel's text with the named mask is the kernel's text. -/
local instance namedBits : Named Bits where
  named _ _ bits := FloatOps.ofBits bits

set_option maxHeartbeats 8000000 in
/-- The kernel's function is the ideal kernel's at the bits. -/
theorem cc0_eq : Cert.Kernel.cc0_fox_attention_preshifted (F := Bits)
    = Cert.KernelIdeal.cc0_fox_attention_preshifted (F := Bits) := rfl

/-- The kernels' body table is the ideal kernel's at the bits. -/
theorem defs0_eq : Cert.Kernel.defs₀ (F := Bits) = Cert.KernelIdeal.defs₀ (F := Bits) := by
  refine congrArg Defs.onTc (funext fun l => funext fun a => ?_)
  match l, a with
  | ⟨0, _⟩, (t, s) =>
    exact congrFun (congrFun (congrFun (congrFun (congrFun (congrFun (congrFun (congrFun (congrFun (congrFun (congrFun
      (congrFun (congrFun (congrFun (congrFun cc0_eq _) _) _) _) _) _) _) _) _) _) _) _) _) _) _
  | ⟨_ + 1, h⟩, _ => exact absurd h (Nat.not_lt.2 (Nat.le_add_left _ _))

/-- The body table, with the pipeline, is the ideal kernel's at the bits. -/
theorem defs_eq : Cert.Kernel.defs (F := Bits) = Cert.KernelIdeal.defs (F := Bits) :=
  congrArg (Pipeline.defs Cert.KernelIdeal.pcfgs) defs0_eq

set_option maxHeartbeats 8000000 in
/-- The kernel's host program is the ideal kernel's at the bits. -/
theorem main_eq : Cert.Kernel.main (F := Bits) = Cert.KernelIdeal.main (F := Bits) := rfl

/-- The kernel's frame, from the one run of the body. -/
theorem frame_kernel : Cert.quiescent_Kernel := by
  intro m ρ _
  rw [defs_eq, main_eq]
  exact Cert.Proof.Attn.frame_run (F := Bits) m ρ

/-- The ideal kernel's frame, from the same run. -/
theorem frame_kernelIdeal : Cert.quiescent_KernelIdeal := fun m ρ _ =>
  Cert.Proof.Attn.frame_run (F := Ideal) m ρ

/-- The reference's frame: it writes no argument and has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is the named one. -/
theorem preserves : Cert.preserves_Kernel_KernelIdeal :=
  IdealRules.named_const.statement Cert.KernelIdeal.κ "mask" .f32 0xF149F2CA#32 ⊥ rfl

end Cert.Proof.Frames

end
-- ==== Proof.Val1.lean ====
module

public import proofs.«01_k».proof.Proof.Run
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Pipeline.Value

@[expose] public section

noncomputable section

namespace Cert.Proof.Attn

open Cert.KernelIdeal Cert.KernelIdeal.Gen
open Idealize.ShloMosaic Idealize.ShloMosaic.ValueIdx

/-! ## The block's weights and accumulators over the extended reals, read at an index -/

/-- An array at natural number coordinates, taken round its extents. -/
def atn {α : Type} {S : Shape} (pos : ∀ a, 0 < S.size a) (g : S.Idx → α) (i : Fin S.rank → ℕ) : α :=
  g fun a => ⟨i a % S.size a, Nat.mod_lt _ (pos a)⟩

theorem blk_atn {α : Type} {S : Shape} (pos : ∀ a, 0 < S.size a) (g : S.Idx → α) (off sz : Fin S.rank → ℕ)
    (y : (⟨S.rank, sz⟩ : Shape).Idx) : blk pos g off sz y = atn pos g fun a => off a + (y a).val := rfl

theorem atn_val {α : Type} {S : Shape} (pos : ∀ a, 0 < S.size a) (g : S.Idx → α) (i : Fin S.rank → ℕ) (j : S.Idx)
    (h : ∀ a, i a = (j a).val) : atn pos g i = g j :=
  congrArg g (funext fun a => Fin.ext (by show i a % _ = _; rw [h a, Nat.mod_eq_of_lt (j a).isLt]))

theorem sc4 {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem sc5 {α : Type} {a b : ℕ} (x : (⟨5, ![1, 1, 1, a, b]⟩ : Shape).Idx → α)
    (h : (⟨5, ![1, 1, 1, a, b]⟩ : Shape).ShapeCasts ⟨2, ![a, b]⟩) (i : Fin a) (j : Fin b) :
    shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show (((0 * 1 + 0) * 1 + 0) * a + i.val) * b + j.val = i.val * b + j.val
    simp only [Nat.zero_mul, Nat.zero_add])

theorem cs4 {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu := u.isLt; have hv := v.isLt
    obtain rfl : u = 0 := Fin.ext (by omega)
    obtain rfl : v = 0 := Fin.ext (by omega)
    simp)

variable (gk : Vec Ideal S1x2x8192x128 .bf16) (gv : Vec Ideal S1x2x8x128x1024 .bf16) (q : ℕ → Vec Ideal S1x128x1024 .bf16)

/-- The scaled logit of key `k` and query `x` of head `h`. -/
def lg (h k : ℕ) (x : Fin 1024) : EReal :=
  ∑ e : Fin 128, atn pos_k gk ![0, h, k, e.val] * q h (ix3 (0 : Fin 1) e x)

theorem kblk_at (h n : ℕ) (i : Fin 1024) (e : Fin 128) :
    kblk gk h n (ix4 (0 : Fin 1) (0 : Fin 1) i e) = atn pos_k gk ![0, h, 1024 * n + i.val, e.val] :=
  congrArg (atn pos_k gk) (funext fun a => match a with
    | ⟨0, _⟩ => rfl | ⟨1, _⟩ => Nat.add_zero _ | ⟨2, _⟩ => rfl | ⟨3, _⟩ => Nat.zero_add _)

theorem PR_at (h n : ℕ) (u v : Fin 1) (i x : Fin 1024) :
    PR gk q h n (ix4 u v i x) = Ideal.exp2 (lg gk q h (1024 * n + i.val) x) := by
  unfold PR k0_pay4
  refine (cs4 _ _ u v i x).trans (congrArg Ideal.exp2 ?_)
  refine (Ideal.matmul_plain_apply (M := 1024) (K := 128) (N := 1024) none _ _ _ i x).trans ?_
  rw [show (constant (F := Ideal) S1024x1024 .f32 0x00000000#32) (ix2 i x) = 0 from Ideal.ofBits_zero_f32, zero_add]
  refine Finset.sum_congr rfl fun e _ => ?_
  rw [sc4, shapeCast_1ab_ab_apply, kblk_at]

theorem vblk_at (h n : ℕ) (r : Fin 128) (k : Fin 1024) :
    vblk gv h n (ix5 (0 : Fin 1) (0 : Fin 1) (0 : Fin 1) r k) = atn pos_v gv ![0, h, n, r.val, k.val] :=
  congrArg (atn pos_v gv) (funext fun a => match a with
    | ⟨0, _⟩ => rfl | ⟨1, _⟩ => Nat.add_zero _ | ⟨2, _⟩ => Nat.add_zero _ | ⟨3, _⟩ => Nat.zero_add _ | ⟨4, _⟩ => Nat.zero_add _)

/-- What the accumulator of head `h` holds after the key blocks before `n`. -/
theorem ACC_at (h n : ℕ) (u : Fin 1) (r : Fin 128) (x : Fin 1024) :
    ACC gk gv q h n (ix3 u r x) = ∑ b ∈ Finset.range n, ∑ k : Fin 1024,
      atn pos_v gv ![0, h, b, r.val, k.val] * Ideal.exp2 (lg gk q h (1024 * b + k.val) x) := by
  induction n with
  | zero =>
    rw [Finset.sum_range_zero]
    show k0_pay2 (F := Ideal) (ix3 u r x) = 0
    unfold k0_pay2
    refine (shapeCast_ab_1ab_apply _ _ u r x).trans ?_
    exact Ideal.ofBits_zero_f32
  | succ n ih =>
    rw [Finset.sum_range_succ, ← ih]
    show k0_pay14 (ACC gk gv q h n) (vblk gv h n) (PR gk q h n) (ix3 u r x) = _
    unfold k0_pay14
    refine (shapeCast_ab_1ab_apply _ _ u r x).trans ?_
    refine congrArg₂ (· + ·) ?_ ?_
    · rw [shapeCast_1ab_ab_apply]
      obtain rfl : u = 0 := Fin.ext (by omega)
      rfl
    · refine (Ideal.matmul_plain_apply (M := 128) (K := 1024) (N := 1024) none _ _ _ r x).trans ?_
      rw [show (constant (F := Ideal) S128x1024 .f32 0x00000000#32) (ix2 r x) = 0 from Ideal.ofBits_zero_f32, zero_add]
      refine Finset.sum_congr rfl fun k _ => ?_
      rw [sc5, sc4, vblk_at, PR_at]

end Cert.Proof.Attn

end
-- ==== Proof.Val2.lean ====
module

public import proofs.«01_k».proof.Proof.Val1
public import Idealize.ShloMosaic.Lib.Pipeline.ReadBack
public import Idealize.ShloMosaic.Lib.Pipeline.ValueKit.Geometry

@[expose] public section

noncomputable section

namespace Cert.Proof.Attn

open Cert.KernelIdeal Cert.KernelIdeal.Gen
open Idealize.ShloMosaic Idealize.ShloMosaic.ValueIdx

/-! ## The diagonal block's weights and the whole accumulator, read at an index -/

variable (gk : Vec Ideal S1x2x8192x128 .bf16) (gv : Vec Ideal S1x2x8x128x1024 .bf16) (q : ℕ → Vec Ideal S1x128x1024 .bf16)

theorem sel_exp2 (p : Prop) [Decidable p] (a : EReal) :
    Ideal.exp2 (Scalar.select (if p then 1#1 else 0#1) a (⊥ : EReal)) = if p then Ideal.exp2 a else 0 := by
  split <;> rfl

/-- The triangle: key row `i` of a band counts for query column `j` when `i ≤ j`. -/
theorem mask_at (i : Fin 256) (j : Fin 1024) : k0_pay32 (ix2 i j) = if i.val ≤ j.val then 1#1 else 0#1 := by
  unfold k0_pay32
  have e0 : (iota .tc S256x1024 32 [0] iota_S256x1024_d0_w32) (ix2 i j) = BitVec.ofNat 32 i.val := by
    show BitVec.ofNat 32 (0 * 256 + i.val) = _
    rw [Nat.zero_mul, Nat.zero_add]
  have e1 : (iota .tc S256x1024 32 [1] iota_S256x1024_d1_w32) (ix2 i j) = BitVec.ofNat 32 j.val := by
    show BitVec.ofNat 32 (0 * 1024 + j.val) = _
    rw [Nat.zero_mul, Nat.zero_add]
  show IntOp.cmpi .sle ((iota .tc S256x1024 32 [0] iota_S256x1024_d0_w32) (ix2 i j)) ((iota .tc S256x1024 32 [1] iota_S256x1024_d1_w32) (ix2 i j)) = _
  rw [e0, e1]
  have hi := i.isLt
  have hj := j.isLt
  have ti : (BitVec.ofNat 32 i.val).toInt = (i.val : ℤ) := by rw [BitVec.toInt_eq_toNat_cond, BitVec.toNat_ofNat]; omega
  have tj : (BitVec.ofNat 32 j.val).toInt = (j.val : ℤ) := by rw [BitVec.toInt_eq_toNat_cond, BitVec.toNat_ofNat]; omega
  show BitVec.ofBool (BitVec.sle _ _) = _
  rw [BitVec.sle, ti, tj]
  by_cases h : i.val ≤ j.val
  · rw [if_pos h, decide_eq_true (by exact_mod_cast h)]; rfl
  · rw [if_neg h, decide_eq_false (by exact_mod_cast h)]; rfl

theorem kd_at (h n r : ℕ) (i : Fin 256) (e : Fin 128) :
    kd gk h n r (ix4 (0 : Fin 1) (0 : Fin 1) i e) = atn pos_k gk ![0, h, 1024 * n + 256 * r + i.val, e.val] :=
  congrArg (atn pos_k gk) (funext fun a => match a with
    | ⟨0, _⟩ => rfl | ⟨1, _⟩ => Nat.add_zero _ | ⟨2, _⟩ => rfl | ⟨3, _⟩ => Nat.zero_add _)

/-- What the diagonal weights are at key row `kk` and query column `x` of the block. -/
def GDv (h n kk : ℕ) (x : Fin 1024) : EReal := if kk ≤ x.val then Ideal.exp2 (lg gk q h (1024 * n + kk) x) else 0

/-- The same at an index of the weights' buffer. -/
def GD (n : ℕ) : S2x2x1024x1024.Idx → EReal := fun y => GDv gk q (y 1).val n (y 2).val (y 3)

theorem GD_at (n h kk : ℕ) (x : Fin 1024) (y : S2x2x1024x1024.Idx) (h1 : (y 1).val = h) (h2 : (y 2).val = kk) (h3 : (y 3).val = x.val) :
    GD gk q n y = GDv gk q h n kk x := by
  subst h1 h2
  exact congrArg (GDv gk q (y 1).val n (y 2).val) (Fin.ext h3)

theorem GDv_band (h n r : ℕ) (i : Fin 256) (j : ℕ) (x : Fin 1024) (hx : x.val = 256 * r + j) :
    (if i.val ≤ j then Ideal.exp2 (lg gk q h (1024 * n + 256 * r + i.val) x) else 0) = GDv gk q h n (256 * r + i.val) x := by
  unfold GDv
  rw [Nat.add_assoc]
  by_cases hh : i.val ≤ j
  · rw [if_pos hh, if_pos (by omega)]
  · rw [if_neg hh, if_neg (by omega)]

theorem band0 (h n : ℕ) (u v : Fin 1) (i : Fin 256) (j : Fin 1024) (x : Fin 1024) (hx : x.val = 256 * 0 + j.val) :
    k0_pay34 (q h) (kd gk h n 0) (ix4 u v i j) = GDv gk q h n (256 * 0 + i.val) x := by
  rw [← GDv_band gk q h n 0 i j.val x hx]
  unfold k0_pay34 k0_pay33
  refine (cs4 _ _ u v i j).trans ?_
  obtain rfl : x = j := Fin.ext (by omega)
  refine Eq.trans ?_ (sel_exp2 (i.val ≤ x.val) (lg gk q h (1024 * n + 256 * 0 + i.val) x))
  refine congrArg Ideal.exp2 (congr (congrArg₂ Scalar.select (mask_at i x) ?_) rfl)
  refine (Ideal.matmul_plain_apply (M := 256) (K := 128) (N := 1024) none _ _ _ i x).trans ?_
  rw [show (constant (F := Ideal) S256x1024 .f32 0x00000000#32) (ix2 i x) = 0 from Ideal.ofBits_zero_f32, zero_add]
  refine Finset.sum_congr rfl fun e _ => ?_
  rw [sc4, shapeCast_1ab_ab_apply, kd_at]

theorem band1 (h n : ℕ) (u v : Fin 1) (i : Fin 256) (j : Fin 768) (x : Fin 1024) (hx : x.val = 256 * 1 + j.val) :
    k0_pay36 (k0_pay35 (q h) (kd gk h n 1)) (ix4 u v i j) = GDv gk q h n (256 * 1 + i.val) x := by
  rw [← GDv_band gk q h n 1 i j.val x hx]
  unfold k0_pay36 k0_pay35 k0_pay33
  refine (cs4 _ _ u v i j).trans ?_
  refine Eq.trans ?_ (sel_exp2 (i.val ≤ j.val) (lg gk q h (1024 * n + 256 * 1 + i.val) x))
  refine congrArg Ideal.exp2 (congr (congrArg₂ Scalar.select ?_ ?_) rfl)
  · refine (extractStridedSlice_apply _ _ _ (ix2 i j) (ix2 i (⟨j.val, by omega⟩ : Fin 1024)) (fun a => match a with
      | ⟨0, _⟩ => (Nat.zero_add _).symm | ⟨1, _⟩ => (Nat.zero_add _).symm)).trans ?_
    exact mask_at i _
  refine (Ideal.matmul_plain_apply (M := 256) (K := 128) (N := 768) none _ _ _ i j).trans ?_
  rw [show (constant (F := Ideal) S256x768 .f32 0x00000000#32) (ix2 i j) = 0 from Ideal.ofBits_zero_f32, zero_add]
  refine Finset.sum_congr rfl fun e _ => ?_
  rw [sc4, kd_at]
  refine congrArg (_ * ·) ?_
  refine (extractStridedSlice_apply _ _ _ (ix2 e j) (ix2 e x) (fun a => match a with
      | ⟨0, _⟩ => (Nat.zero_add _).symm | ⟨1, _⟩ => hx)).trans ?_
  exact shapeCast_1ab_ab_apply _ _ e x

theorem band2 (h n : ℕ) (u v : Fin 1) (i : Fin 256) (j : Fin 512) (x : Fin 1024) (hx : x.val = 256 * 2 + j.val) :
    k0_pay37 k0_pay32 (k0_pay33 (q h)) (kd gk h n 2) (ix4 u v i j) = GDv gk q h n (256 * 2 + i.val) x := by
  rw [← GDv_band gk q h n 2 i j.val x hx]
  unfold k0_pay37 k0_pay33
  refine (cs4 _ _ u v i j).trans ?_
  refine Eq.trans ?_ (sel_exp2 (i.val ≤ j.val) (lg gk q h (1024 * n + 256 * 2 + i.val) x))
  refine congrArg Ideal.exp2 (congr (congrArg₂ Scalar.select ?_ ?_) rfl)
  · refine (extractStridedSlice_apply _ _ _ (ix2 i j) (ix2 i (⟨j.val, by omega⟩ : Fin 1024)) (fun a => match a with
      | ⟨0, _⟩ => (Nat.zero_add _).symm | ⟨1, _⟩ => (Nat.zero_add _).symm)).trans ?_
    exact mask_at i _
  refine (Ideal.matmul_plain_apply (M := 256) (K := 128) (N := 512) none _ _ _ i j).trans ?_
  rw [show (constant (F := Ideal) S256x512 .f32 0x00000000#32) (ix2 i j) = 0 from Ideal.ofBits_zero_f32, zero_add]
  refine Finset.sum_congr rfl fun e _ => ?_
  rw [sc4, kd_at]
  refine congrArg (_ * ·) ?_
  refine (extractStridedSlice_apply _ _ _ (ix2 e j) (ix2 e x) (fun a => match a with
      | ⟨0, _⟩ => (Nat.zero_add _).symm | ⟨1, _⟩ => hx)).trans ?_
  exact shapeCast_1ab_ab_apply _ _ e x

theorem band3 (h n : ℕ) (u v : Fin 1) (i : Fin 256) (j : Fin 256) (x : Fin 1024) (hx : x.val = 256 * 3 + j.val) :
    k0_pay38 k0_pay32 (k0_pay33 (q h)) (kd gk h n 3) (ix4 u v i j) = GDv gk q h n (256 * 3 + i.val) x := by
  rw [← GDv_band gk q h n 3 i j.val x hx]
  unfold k0_pay38 k0_pay33
  refine (cs4 _ _ u v i j).trans ?_
  refine Eq.trans ?_ (sel_exp2 (i.val ≤ j.val) (lg gk q h (1024 * n + 256 * 3 + i.val) x))
  refine congrArg Ideal.exp2 (congr (congrArg₂ Scalar.select ?_ ?_) rfl)
  · refine (extractStridedSlice_apply _ _ _ (ix2 i j) (ix2 i (⟨j.val, by omega⟩ : Fin 1024)) (fun a => match a with
      | ⟨0, _⟩ => (Nat.zero_add _).symm | ⟨1, _⟩ => (Nat.zero_add _).symm)).trans ?_
    exact mask_at i _
  refine (Ideal.matmul_plain_apply (M := 256) (K := 128) (N := 256) none _ _ _ i j).trans ?_
  rw [show (constant (F := Ideal) S256x256 .f32 0x00000000#32) (ix2 i j) = 0 from Ideal.ofBits_zero_f32, zero_add]
  refine Finset.sum_congr rfl fun e _ => ?_
  rw [sc4, kd_at]
  refine congrArg (_ * ·) ?_
  refine (extractStridedSlice_apply _ _ _ (ix2 e j) (ix2 e x) (fun a => match a with
      | ⟨0, _⟩ => (Nat.zero_add _).symm | ⟨1, _⟩ => hx)).trans ?_
  exact shapeCast_1ab_ab_apply _ _ e x

theorem GD_emb (n : ℕ) (o s : Fin 4 → ℕ) (inb : ∀ a, o a + s a ≤ S2x2x1024x1024.size a)
    (x : (Rect.unit (s := S2x2x1024x1024) o s inb).shape.Idx) (h kk : ℕ) (c : Fin 1024)
    (h1 : o 1 + (x 1).val = h) (h2 : o 2 + (x 2).val = kk) (h3 : o 3 + (x 3).val = c.val) :
    GD gk q n ((Rect.unit (s := S2x2x1024x1024) o s inb).emb x) = GDv gk q h n kk c :=
  GD_at gk q n h kk c _ ((ValueKit.rect_emb_unit_val (s := S2x2x1024x1024) o s inb x 1).trans h1) ((ValueKit.rect_emb_unit_val (s := S2x2x1024x1024) o s inb x 2).trans h2)
    (by have e := ValueKit.rect_emb_unit_val (s := S2x2x1024x1024) o s inb x 3; exact e.trans h3)

theorem DG_pieces (n : ℕ) : View.PiecesOf (GD gk q n) (DG gk q n) :=
    ⟨fun x => (congrArg _ (eq_ix4 x)).trans ((band3 gk q 1 n (x 0) (x 1) (x 2) (x 3) ⟨256 * 3 + (x 3).val, by have : (x 3).val < 256 := (x 3).isLt; omega⟩ rfl).trans
      (GD_emb gk q n ![1, 1, 768, 768] ![1, 1, 256, 256] inb_S2x2x1024x1024_S1x1x256x256_1_1_768_768 x 1 (256 * 3 + (x 2).val) ⟨256 * 3 + (x 3).val, by have : (x 3).val < 256 := (x 3).isLt; omega⟩
        (by have : (x 1).val < 1 := (x 1).isLt; show 1 + (x 1).val = 1; omega) rfl rfl).symm),
    ⟨fun x => (congrArg _ (eq_ix4 x)).trans ((band2 gk q 1 n (x 0) (x 1) (x 2) (x 3) ⟨256 * 2 + (x 3).val, by have : (x 3).val < 512 := (x 3).isLt; omega⟩ rfl).trans
      (GD_emb gk q n ![1, 1, 512, 512] ![1, 1, 256, 512] inb_S2x2x1024x1024_S1x1x256x512_1_1_512_512 x 1 (256 * 2 + (x 2).val) ⟨256 * 2 + (x 3).val, by have : (x 3).val < 512 := (x 3).isLt; omega⟩
        (by have : (x 1).val < 1 := (x 1).isLt; show 1 + (x 1).val = 1; omega) rfl rfl).symm),
    ⟨fun x => (congrArg _ (eq_ix4 x)).trans ((band1 gk q 1 n (x 0) (x 1) (x 2) (x 3) ⟨256 * 1 + (x 3).val, by have : (x 3).val < 768 := (x 3).isLt; omega⟩ rfl).trans
      (GD_emb gk q n ![1, 1, 256, 256] ![1, 1, 256, 768] inb_S2x2x1024x1024_S1x1x256x768_1_1_256_256 x 1 (256 * 1 + (x 2).val) ⟨256 * 1 + (x 3).val, by have : (x 3).val < 768 := (x 3).isLt; omega⟩
        (by have : (x 1).val < 1 := (x 1).isLt; show 1 + (x 1).val = 1; omega) rfl rfl).symm),
    ⟨fun x => (congrArg _ (eq_ix4 x)).trans ((band0 gk q 1 n (x 0) (x 1) (x 2) (x 3) ⟨256 * 0 + (x 3).val, by have : (x 3).val < 1024 := (x 3).isLt; omega⟩ rfl).trans
      (GD_emb gk q n ![1, 1, 0, 0] ![1, 1, 256, 1024] inb_S2x2x1024x1024_S1x1x256x1024_1_1_0_0 x 1 (256 * 0 + (x 2).val) ⟨256 * 0 + (x 3).val, by have : (x 3).val < 1024 := (x 3).isLt; omega⟩
        (by have : (x 1).val < 1 := (x 1).isLt; show 1 + (x 1).val = 1; omega) rfl rfl).symm),
    ⟨fun x => (congrArg _ (eq_ix4 x)).trans ((band3 gk q 0 n (x 0) (x 1) (x 2) (x 3) ⟨256 * 3 + (x 3).val, by have : (x 3).val < 256 := (x 3).isLt; omega⟩ rfl).trans
      (GD_emb gk q n ![1, 0, 768, 768] ![1, 1, 256, 256] inb_S2x2x1024x1024_S1x1x256x256_1_0_768_768 x 0 (256 * 3 + (x 2).val) ⟨256 * 3 + (x 3).val, by have : (x 3).val < 256 := (x 3).isLt; omega⟩
        (by have : (x 1).val < 1 := (x 1).isLt; show 0 + (x 1).val = 0; omega) rfl rfl).symm),
    ⟨fun x => (congrArg _ (eq_ix4 x)).trans ((band2 gk q 0 n (x 0) (x 1) (x 2) (x 3) ⟨256 * 2 + (x 3).val, by have : (x 3).val < 512 := (x 3).isLt; omega⟩ rfl).trans
      (GD_emb gk q n ![1, 0, 512, 512] ![1, 1, 256, 512] inb_S2x2x1024x1024_S1x1x256x512_1_0_512_512 x 0 (256 * 2 + (x 2).val) ⟨256 * 2 + (x 3).val, by have : (x 3).val < 512 := (x 3).isLt; omega⟩
        (by have : (x 1).val < 1 := (x 1).isLt; show 0 + (x 1).val = 0; omega) rfl rfl).symm),
    ⟨fun x => (congrArg _ (eq_ix4 x)).trans ((band1 gk q 0 n (x 0) (x 1) (x 2) (x 3) ⟨256 * 1 + (x 3).val, by have : (x 3).val < 768 := (x 3).isLt; omega⟩ rfl).trans
      (GD_emb gk q n ![1, 0, 256, 256] ![1, 1, 256, 768] inb_S2x2x1024x1024_S1x1x256x768_1_0_256_256 x 0 (256 * 1 + (x 2).val) ⟨256 * 1 + (x 3).val, by have : (x 3).val < 768 := (x 3).isLt; omega⟩
        (by have : (x 1).val < 1 := (x 1).isLt; show 0 + (x 1).val = 0; omega) rfl rfl).symm),
    ⟨fun x => (congrArg _ (eq_ix4 x)).trans ((band0 gk q 0 n (x 0) (x 1) (x 2) (x 3) ⟨256 * 0 + (x 3).val, by have : (x 3).val < 1024 := (x 3).isLt; omega⟩ rfl).trans
      (GD_emb gk q n ![1, 0, 0, 0] ![1, 1, 256, 1024] inb_S2x2x1024x1024_S1x1x256x1024_1_0_0_0 x 0 (256 * 0 + (x 2).val) ⟨256 * 0 + (x 3).val, by have : (x 3).val < 1024 := (x 3).isLt; omega⟩
        (by have : (x 1).val < 1 := (x 1).isLt; show 0 + (x 1).val = 0; omega) rfl rfl).symm),
    trivial⟩⟩⟩⟩⟩⟩⟩⟩

theorem DG_cover (n : ℕ) (y : S2x2x1024x1024.Idx) (h0 : (y 0).val = 1) (hb : (y 2).val / 256 ≤ (y 3).val / 256) :
    ∃ p ∈ DG gk q n, y ∈ p.1.set := by
  have h1 : (y 1).val < 2 := (y 1).isLt
  have h2 : (y 2).val < 1024 := (y 2).isLt
  have h3 : (y 3).val < 1024 := (y 3).isLt
  have key : ∀ (o s : Fin 4 → ℕ) (inb : ∀ a, o a + s a ≤ S2x2x1024x1024.size a),
      (o 0 ≤ (y 0).val ∧ (y 0).val < o 0 + s 0) → (o 1 ≤ (y 1).val ∧ (y 1).val < o 1 + s 1) →
      (o 2 ≤ (y 2).val ∧ (y 2).val < o 2 + s 2) → (o 3 ≤ (y 3).val ∧ (y 3).val < o 3 + s 3) →
      y ∈ (Rect.unit (s := S2x2x1024x1024) o s inb).set := by
    intro o s inb a0 a1 a2 a3
    refine Rect.mem_set_unit.2 fun a => ?_
    fin_cases a
    exacts [a0, a1, a2, a3]
  have hr : (y 2).val / 256 = 0 ∨ (y 2).val / 256 = 1 ∨ (y 2).val / 256 = 2 ∨ (y 2).val / 256 = 3 := by omega
  unfold DG
  by_cases e1 : (y 1).val = 0
  · rcases hr with hr | hr | hr | hr
    · exact ⟨_, .tail _ (.tail _ (.tail _ (.tail _ (.tail _ (.tail _ (.tail _ (.head _))))))), key ![1, 0, 0, 0] ![1, 1, 256, 1024] inb_S2x2x1024x1024_S1x1x256x1024_1_0_0_0
        (by show 1 ≤ _ ∧ _ < 1 + 1; omega) (by show 0 ≤ _ ∧ _ < 0 + 1; omega)
        (by show 0 ≤ _ ∧ _ < 0 + 256; omega) (by show 0 ≤ _ ∧ _ < 0 + 1024; omega)⟩
    · exact ⟨_, .tail _ (.tail _ (.tail _ (.tail _ (.tail _ (.tail _ (.head _)))))), key ![1, 0, 256, 256] ![1, 1, 256, 768] inb_S2x2x1024x1024_S1x1x256x768_1_0_256_256
        (by show 1 ≤ _ ∧ _ < 1 + 1; omega) (by show 0 ≤ _ ∧ _ < 0 + 1; omega)
        (by show 256 ≤ _ ∧ _ < 256 + 256; omega) (by show 256 ≤ _ ∧ _ < 256 + 768; omega)⟩
    · exact ⟨_, .tail _ (.tail _ (.tail _ (.tail _ (.tail _ (.head _))))), key ![1, 0, 512, 512] ![1, 1, 256, 512] inb_S2x2x1024x1024_S1x1x256x512_1_0_512_512
        (by show 1 ≤ _ ∧ _ < 1 + 1; omega) (by show 0 ≤ _ ∧ _ < 0 + 1; omega)
        (by show 512 ≤ _ ∧ _ < 512 + 256; omega) (by show 512 ≤ _ ∧ _ < 512 + 512; omega)⟩
    · exact ⟨_, .tail _ (.tail _ (.tail _ (.tail _ (.head _)))), key ![1, 0, 768, 768] ![1, 1, 256, 256] inb_S2x2x1024x1024_S1x1x256x256_1_0_768_768
        (by show 1 ≤ _ ∧ _ < 1 + 1; omega) (by show 0 ≤ _ ∧ _ < 0 + 1; omega)
        (by show 768 ≤ _ ∧ _ < 768 + 256; omega) (by show 768 ≤ _ ∧ _ < 768 + 256; omega)⟩
  · rcases hr with hr | hr | hr | hr
    · exact ⟨_, .tail _ (.tail _ (.tail _ (.head _))), key ![1, 1, 0, 0] ![1, 1, 256, 1024] inb_S2x2x1024x1024_S1x1x256x1024_1_1_0_0
        (by show 1 ≤ _ ∧ _ < 1 + 1; omega) (by show 1 ≤ _ ∧ _ < 1 + 1; omega)
        (by show 0 ≤ _ ∧ _ < 0 + 256; omega) (by show 0 ≤ _ ∧ _ < 0 + 1024; omega)⟩
    · exact ⟨_, .tail _ (.tail _ (.head _)), key ![1, 1, 256, 256] ![1, 1, 256, 768] inb_S2x2x1024x1024_S1x1x256x768_1_1_256_256
        (by show 1 ≤ _ ∧ _ < 1 + 1; omega) (by show 1 ≤ _ ∧ _ < 1 + 1; omega)
        (by show 256 ≤ _ ∧ _ < 256 + 256; omega) (by show 256 ≤ _ ∧ _ < 256 + 768; omega)⟩
    · exact ⟨_, .tail _ (.head _), key ![1, 1, 512, 512] ![1, 1, 256, 512] inb_S2x2x1024x1024_S1x1x256x512_1_1_512_512
        (by show 1 ≤ _ ∧ _ < 1 + 1; omega) (by show 1 ≤ _ ∧ _ < 1 + 1; omega)
        (by show 512 ≤ _ ∧ _ < 512 + 256; omega) (by show 512 ≤ _ ∧ _ < 512 + 512; omega)⟩
    · exact ⟨_, .head _, key ![1, 1, 768, 768] ![1, 1, 256, 256] inb_S2x2x1024x1024_S1x1x256x256_1_1_768_768
        (by show 1 ≤ _ ∧ _ < 1 + 1; omega) (by show 1 ≤ _ ∧ _ < 1 + 1; omega)
        (by show 768 ≤ _ ∧ _ < 768 + 256; omega) (by show 768 ≤ _ ∧ _ < 768 + 256; omega)⟩

/-- The diagonal's weights read back at an index that the bands cover. -/
theorem DG_at (n h kk : ℕ) (x : Fin 1024) (y : S2x2x1024x1024.Idx) (h0 : (y 0).val = 1) (h1 : (y 1).val = h) (h2 : (y 2).val = kk)
    (h3 : (y 3).val = x.val) (hb : kk / 256 ≤ x.val / 256) : View.canon (DG gk q n) y = GDv gk q h n kk x :=
  (View.canon_apply_of_pieces (GD gk q n) (DG gk q n) (DG_pieces gk q n).mem y
    (DG_cover gk q n y h0 (by rw [h2, h3]; exact hb))).trans (GD_at gk q n h kk x y h1 h2 h3)

end Cert.Proof.Attn

end
-- ==== Proof.Val3.lean ====
module

public import proofs.«01_k».proof.Proof.Val2

@[expose] public section

noncomputable section

namespace Cert.Proof.Attn

open Cert.KernelIdeal Cert.KernelIdeal.Gen
open Idealize.ShloMosaic Idealize.ShloMosaic.ValueIdx

/-! ## The final accumulators and the output block, read at an index -/

variable (gk : Vec Ideal S1x2x8192x128 .bf16) (gv : Vec Ideal S1x2x8x128x1024 .bf16) (q : ℕ → Vec Ideal S1x128x1024 .bf16)

theorem idx_val {S : Shape} (o s : Fin S.rank → ℕ) (inb : ∀ a, o a + s a ≤ S.size a)
    (j : (Rect.unit (s := S) o s inb).toLoadRect.shape.Idx) (a : Fin S.rank) :
    ((Rect.unit (s := S) o s inb).toLoadRect.idx j a).val = o a + (j a).val := by
  show o a + 1 * (j a).val = _
  rw [Nat.one_mul]

/-- The accumulator of head `h` before the diagonal. -/
def BV (h n r : ℕ) (x : Fin 1024) : EReal :=
  ∑ b ∈ Finset.range n, ∑ k : Fin 1024, atn pos_v gv ![0, h, b, r, k.val] * Ideal.exp2 (lg gk q h (1024 * b + k.val) x)

/-- The accumulator of head `h` with the diagonal: row `r`, query `x` of block `n`. -/
def FV (h n r : ℕ) (x : Fin 1024) : EReal :=
  BV gk gv q h n r x + ∑ k : Fin 1024, atn pos_v gv ![0, h, n, r, k.val] * GDv gk q h n k.val x

theorem BV_emb (n : ℕ) (h : ℕ) (o : Fin 3 → ℕ) (inb : ∀ a, o a + S1x128x1024.size a ≤ S2x128x1024.size a) (ho : o = ![h, 0, 0])
    (x : S1x128x1024.Idx) : ACC gk gv q h n x =
      (fun y : S2x128x1024.Idx => BV gk gv q (y 0).val n (y 1).val (y 2)) ((Rect.unit (s := S2x128x1024) o S1x128x1024.size inb).emb x) := by
  subst ho
  refine (congrArg _ (eq_ix3 x)).trans ((ACC_at gk gv q h n (x 0) (x 1) (x 2)).trans ?_)
  have e0 : ((Rect.unit (s := S2x128x1024) ![h, 0, 0] S1x128x1024.size inb).emb x 0).val = h := by
    have e := ValueKit.rect_emb_unit_val (s := S2x128x1024) ![h, 0, 0] S1x128x1024.size inb x 0
    have : (x 0).val < 1 := (x 0).isLt
    refine e.trans ?_
    show h + (x 0).val = h
    omega
  have e1 : ((Rect.unit (s := S2x128x1024) ![h, 0, 0] S1x128x1024.size inb).emb x 1).val = (x 1).val :=
    (ValueKit.rect_emb_unit_val (s := S2x128x1024) ![h, 0, 0] S1x128x1024.size inb x 1).trans (Nat.zero_add _)
  have e2 : ((Rect.unit (s := S2x128x1024) ![h, 0, 0] S1x128x1024.size inb).emb x 2) = x 2 :=
    Fin.ext ((ValueKit.rect_emb_unit_val (s := S2x128x1024) ![h, 0, 0] S1x128x1024.size inb x 2).trans (Nat.zero_add _))
  show _ = BV gk gv q _ n _ _
  rw [e0, e1, e2]
  rfl

theorem BS_pieces (n : ℕ) : View.PiecesOf (fun y : S2x128x1024.Idx => BV gk gv q (y 0).val n (y 1).val (y 2)) (BS gk gv q n) :=
  ⟨fun x => BV_emb gk gv q n 1 _ inb_S2x128x1024_S1x128x1024_1_0_0 rfl x, fun x => BV_emb gk gv q n 0 _ inb_S2x128x1024_S1x128x1024_0_0_0 rfl x, trivial⟩

theorem mem3 (y : S2x128x1024.Idx) (o s : Fin 3 → ℕ) (inb : ∀ a, o a + s a ≤ S2x128x1024.size a)
    (a0 : o 0 ≤ (y 0).val ∧ (y 0).val < o 0 + s 0) (a1 : o 1 ≤ (y 1).val ∧ (y 1).val < o 1 + s 1)
    (a2 : o 2 ≤ (y 2).val ∧ (y 2).val < o 2 + s 2) : y ∈ (Rect.unit (s := S2x128x1024) o s inb).set := by
  refine Rect.mem_set_unit.2 fun a => ?_
  fin_cases a
  exacts [a0, a1, a2]

theorem BS_at (h n r : ℕ) (x : Fin 1024) (y : S2x128x1024.Idx) (h0 : (y 0).val = h) (h1 : (y 1).val = r) (h2 : (y 2).val = x.val) :
    View.canon (BS gk gv q n) y = BV gk gv q h n r x := by
  subst h0 h1
  obtain rfl : y 2 = x := Fin.ext h2
  refine View.canon_apply_of_pieces (Val := Elt Ideal) (e := .f32) (fun y : S2x128x1024.Idx => BV gk gv q (y 0).val n (y 1).val (y 2)) _ (BS_pieces gk gv q n).mem y ?_
  have b0 : (y 0).val < 2 := (y 0).isLt
  have b1 : (y 1).val < 128 := (y 1).isLt
  have b2 : (y 2).val < 1024 := (y 2).isLt
  unfold BS
  by_cases e : (y 0).val = 0
  · exact ⟨_, .tail _ (.head _), mem3 y ![0, 0, 0] ![1, 128, 1024] inb_S2x128x1024_S1x128x1024_0_0_0
      (by show 0 ≤ _ ∧ _ < 0 + 1; omega) (by show 0 ≤ _ ∧ _ < 0 + 128; omega) (by show 0 ≤ _ ∧ _ < 0 + 1024; omega)⟩
  · exact ⟨_, .head _, mem3 y ![1, 0, 0] ![1, 128, 1024] inb_S2x128x1024_S1x128x1024_1_0_0
      (by show 1 ≤ _ ∧ _ < 1 + 1; omega) (by show 0 ≤ _ ∧ _ < 0 + 128; omega) (by show 0 ≤ _ ∧ _ < 0 + 1024; omega)⟩

/-- Keys above the query's own band carry no weight. -/
theorem tail_zero (h n r w : ℕ) (x : Fin 1024) (hw : w ≤ 1024) (hx : x.val < w) :
    ∑ k : Fin w, atn pos_v gv ![0, h, n, r, k.val] * GDv gk q h n k.val x
      = ∑ k : Fin 1024, atn pos_v gv ![0, h, n, r, k.val] * GDv gk q h n k.val x := by
  rw [← Finset.sum_range (fun k => atn pos_v gv ![0, h, n, r, k] * GDv gk q h n k x),
    ← Finset.sum_range (fun k => atn pos_v gv ![0, h, n, r, k] * GDv gk q h n k x)]
  refine Finset.sum_subset (Finset.range_subset_range.2 hw) fun k _ hk => ?_
  rw [Finset.mem_range, not_lt] at hk
  unfold GDv
  rw [if_neg (by omega), mul_zero]

theorem vd256_at (h n : ℕ) (r : Fin 128) (k : Fin 256) :
    vd256 gv h n (ix5 (0 : Fin 1) (0 : Fin 1) (0 : Fin 1) r k) = atn pos_v gv ![0, h, n, r.val, k.val] :=
  congrArg (atn pos_v gv) (funext fun a => match a with
    | ⟨0, _⟩ => rfl | ⟨1, _⟩ => Nat.add_zero _ | ⟨2, _⟩ => Nat.add_zero _ | ⟨3, _⟩ => Nat.zero_add _ | ⟨4, _⟩ => Nat.zero_add _)

theorem chunk0_at (acc : Vec Ideal S1x128x256 .f32) (v : Vec Ideal S1x1x1x128x256 .bf16) (d : Vec Ideal S1x1x256x256 .bf16)
    (u : Fin 1) (r : Fin 128) (j : Fin 256) :
    k0_pay80 acc v d (ix3 u r j) = acc (ix3 (0 : Fin 1) r j)
      + ∑ k : Fin 256, v (ix5 (0 : Fin 1) (0 : Fin 1) (0 : Fin 1) r k) * d (ix4 (0 : Fin 1) (0 : Fin 1) k j) := by
  unfold k0_pay80
  refine (shapeCast_ab_1ab_apply _ _ u r j).trans ?_
  refine congrArg₂ (· + ·) ?_ ?_
  · exact shapeCast_1ab_ab_apply _ _ r j
  · refine (Ideal.matmul_plain_apply (M := 128) (K := 256) (N := 256) none _ _ _ r j).trans ?_
    rw [show (constant (F := Ideal) S128x256 .f32 0x00000000#32) (ix2 r j) = 0 from Ideal.ofBits_zero_f32, zero_add]
    refine Finset.sum_congr rfl fun k _ => ?_
    rw [sc5, sc4]

theorem vd512_at (h n : ℕ) (r : Fin 128) (k : Fin 512) :
    vd512 gv h n (ix5 (0 : Fin 1) (0 : Fin 1) (0 : Fin 1) r k) = atn pos_v gv ![0, h, n, r.val, k.val] :=
  congrArg (atn pos_v gv) (funext fun a => match a with
    | ⟨0, _⟩ => rfl | ⟨1, _⟩ => Nat.add_zero _ | ⟨2, _⟩ => Nat.add_zero _ | ⟨3, _⟩ => Nat.zero_add _ | ⟨4, _⟩ => Nat.zero_add _)

theorem chunk1_at (acc : Vec Ideal S1x128x256 .f32) (v : Vec Ideal S1x1x1x128x512 .bf16) (d : Vec Ideal S1x1x512x256 .bf16)
    (u : Fin 1) (r : Fin 128) (j : Fin 256) :
    k0_pay49 acc v d (ix3 u r j) = acc (ix3 (0 : Fin 1) r j)
      + ∑ k : Fin 512, v (ix5 (0 : Fin 1) (0 : Fin 1) (0 : Fin 1) r k) * d (ix4 (0 : Fin 1) (0 : Fin 1) k j) := by
  unfold k0_pay49
  refine (shapeCast_ab_1ab_apply _ _ u r j).trans ?_
  refine congrArg₂ (· + ·) ?_ ?_
  · exact shapeCast_1ab_ab_apply _ _ r j
  · refine (Ideal.matmul_plain_apply (M := 128) (K := 512) (N := 256) none _ _ _ r j).trans ?_
    rw [show (constant (F := Ideal) S128x256 .f32 0x00000000#32) (ix2 r j) = 0 from Ideal.ofBits_zero_f32, zero_add]
    refine Finset.sum_congr rfl fun k _ => ?_
    rw [sc5, sc4]

theorem vd768_at (h n : ℕ) (r : Fin 128) (k : Fin 768) :
    vd768 gv h n (ix5 (0 : Fin 1) (0 : Fin 1) (0 : Fin 1) r k) = atn pos_v gv ![0, h, n, r.val, k.val] :=
  congrArg (atn pos_v gv) (funext fun a => match a with
    | ⟨0, _⟩ => rfl | ⟨1, _⟩ => Nat.add_zero _ | ⟨2, _⟩ => Nat.add_zero _ | ⟨3, _⟩ => Nat.zero_add _ | ⟨4, _⟩ => Nat.zero_add _)

theorem chunk2_at (acc : Vec Ideal S1x128x256 .f32) (v : Vec Ideal S1x1x1x128x768 .bf16) (d : Vec Ideal S1x1x768x256 .bf16)
    (u : Fin 1) (r : Fin 128) (j : Fin 256) :
    k0_pay83 acc v d (ix3 u r j) = acc (ix3 (0 : Fin 1) r j)
      + ∑ k : Fin 768, v (ix5 (0 : Fin 1) (0 : Fin 1) (0 : Fin 1) r k) * d (ix4 (0 : Fin 1) (0 : Fin 1) k j) := by
  unfold k0_pay83
  refine (shapeCast_ab_1ab_apply _ _ u r j).trans ?_
  refine congrArg₂ (· + ·) ?_ ?_
  · exact shapeCast_1ab_ab_apply _ _ r j
  · refine (Ideal.matmul_plain_apply (M := 128) (K := 768) (N := 256) none _ _ _ r j).trans ?_
    rw [show (constant (F := Ideal) S128x256 .f32 0x00000000#32) (ix2 r j) = 0 from Ideal.ofBits_zero_f32, zero_add]
    refine Finset.sum_congr rfl fun k _ => ?_
    rw [sc5, sc4]

theorem vd1024_at (h n : ℕ) (r : Fin 128) (k : Fin 1024) :
    vd1024 gv h n (ix5 (0 : Fin 1) (0 : Fin 1) (0 : Fin 1) r k) = atn pos_v gv ![0, h, n, r.val, k.val] :=
  congrArg (atn pos_v gv) (funext fun a => match a with
    | ⟨0, _⟩ => rfl | ⟨1, _⟩ => Nat.add_zero _ | ⟨2, _⟩ => Nat.add_zero _ | ⟨3, _⟩ => Nat.zero_add _ | ⟨4, _⟩ => Nat.zero_add _)

theorem chunk3_at (acc : Vec Ideal S1x128x256 .f32) (v : Vec Ideal S1x1x1x128x1024 .bf16) (d : Vec Ideal S1x1x1024x256 .bf16)
    (u : Fin 1) (r : Fin 128) (j : Fin 256) :
    k0_pay53 acc v d (ix3 u r j) = acc (ix3 (0 : Fin 1) r j)
      + ∑ k : Fin 1024, v (ix5 (0 : Fin 1) (0 : Fin 1) (0 : Fin 1) r k) * d (ix4 (0 : Fin 1) (0 : Fin 1) k j) := by
  unfold k0_pay53
  refine (shapeCast_ab_1ab_apply _ _ u r j).trans ?_
  refine congrArg₂ (· + ·) ?_ ?_
  · exact shapeCast_1ab_ab_apply _ _ r j
  · refine (Ideal.matmul_plain_apply (M := 128) (K := 1024) (N := 256) none _ _ _ r j).trans ?_
    rw [show (constant (F := Ideal) S128x256 .f32 0x00000000#32) (ix2 r j) = 0 from Ideal.ofBits_zero_f32, zero_add]
    refine Finset.sum_congr rfl fun k _ => ?_
    rw [sc5, sc4]

theorem CH00_at (n : ℕ) (u : Fin 1) (r : Fin 128) (j : Fin 256) (x : Fin 1024) (hx : x.val = 0 + j.val) :
    CH00 gk gv q n (ix3 u r j) = FV gk gv q 0 n r.val x := by
  refine (chunk0_at _ _ _ u r j).trans ?_
  refine congrArg₂ (· + ·) ?_ ?_
  · exact BS_at gk gv q 0 n r.val x _ (idx_val (S := S2x128x1024) ![0, 0, 0] S1x128x256.size inb_S2x128x1024_S1x128x256_0_0_0 _ 0)
      ((idx_val (S := S2x128x1024) ![0, 0, 0] S1x128x256.size inb_S2x128x1024_S1x128x256_0_0_0 _ 1).trans (Nat.zero_add _))
      ((idx_val (S := S2x128x1024) ![0, 0, 0] S1x128x256.size inb_S2x128x1024_S1x128x256_0_0_0 _ 2).trans hx.symm)
  · refine Eq.trans (Finset.sum_congr rfl fun k _ => ?_) (tail_zero gk gv q 0 n r.val 256 x (by omega) (by omega))
    refine congrArg₂ (· * ·) (vd256_at gv 0 n r k) ?_
    refine DG_at gk q n 0 k.val x _ (idx_val (S := S2x2x1024x1024) ![1, 0, 0, 0] S1x1x256x256.size inb_S2x2x1024x1024_S1x1x256x256_1_0_0_0 _ 0)
      (idx_val (S := S2x2x1024x1024) ![1, 0, 0, 0] S1x1x256x256.size inb_S2x2x1024x1024_S1x1x256x256_1_0_0_0 _ 1)
      ((idx_val (S := S2x2x1024x1024) ![1, 0, 0, 0] S1x1x256x256.size inb_S2x2x1024x1024_S1x1x256x256_1_0_0_0 _ 2).trans (Nat.zero_add _))
      ((idx_val (S := S2x2x1024x1024) ![1, 0, 0, 0] S1x1x256x256.size inb_S2x2x1024x1024_S1x1x256x256_1_0_0_0 _ 3).trans hx.symm) ?_
    have := k.isLt
    omega

theorem CH01_at (n : ℕ) (u : Fin 1) (r : Fin 128) (j : Fin 256) (x : Fin 1024) (hx : x.val = 256 + j.val) :
    CH01 gk gv q n (ix3 u r j) = FV gk gv q 0 n r.val x := by
  refine (chunk1_at _ _ _ u r j).trans ?_
  refine congrArg₂ (· + ·) ?_ ?_
  · exact BS_at gk gv q 0 n r.val x _ (idx_val (S := S2x128x1024) ![0, 0, 256] S1x128x256.size inb_S2x128x1024_S1x128x256_0_0_256 _ 0)
      ((idx_val (S := S2x128x1024) ![0, 0, 256] S1x128x256.size inb_S2x128x1024_S1x128x256_0_0_256 _ 1).trans (Nat.zero_add _))
      ((idx_val (S := S2x128x1024) ![0, 0, 256] S1x128x256.size inb_S2x128x1024_S1x128x256_0_0_256 _ 2).trans hx.symm)
  · refine Eq.trans (Finset.sum_congr rfl fun k _ => ?_) (tail_zero gk gv q 0 n r.val 512 x (by omega) (by omega))
    refine congrArg₂ (· * ·) (vd512_at gv 0 n r k) ?_
    refine DG_at gk q n 0 k.val x _ (idx_val (S := S2x2x1024x1024) ![1, 0, 0, 256] S1x1x512x256.size inb_S2x2x1024x1024_S1x1x512x256_1_0_0_256 _ 0)
      (idx_val (S := S2x2x1024x1024) ![1, 0, 0, 256] S1x1x512x256.size inb_S2x2x1024x1024_S1x1x512x256_1_0_0_256 _ 1)
      ((idx_val (S := S2x2x1024x1024) ![1, 0, 0, 256] S1x1x512x256.size inb_S2x2x1024x1024_S1x1x512x256_1_0_0_256 _ 2).trans (Nat.zero_add _))
      ((idx_val (S := S2x2x1024x1024) ![1, 0, 0, 256] S1x1x512x256.size inb_S2x2x1024x1024_S1x1x512x256_1_0_0_256 _ 3).trans hx.symm) ?_
    have := k.isLt
    omega

theorem CH02_at (n : ℕ) (u : Fin 1) (r : Fin 128) (j : Fin 256) (x : Fin 1024) (hx : x.val = 512 + j.val) :
    CH02 gk gv q n (ix3 u r j) = FV gk gv q 0 n r.val x := by
  refine (chunk2_at _ _ _ u r j).trans ?_
  refine congrArg₂ (· + ·) ?_ ?_
  · exact BS_at gk gv q 0 n r.val x _ (idx_val (S := S2x128x1024) ![0, 0, 512] S1x128x256.size inb_S2x128x1024_S1x128x256_0_0_512 _ 0)
      ((idx_val (S := S2x128x1024) ![0, 0, 512] S1x128x256.size inb_S2x128x1024_S1x128x256_0_0_512 _ 1).trans (Nat.zero_add _))
      ((idx_val (S := S2x128x1024) ![0, 0, 512] S1x128x256.size inb_S2x128x1024_S1x128x256_0_0_512 _ 2).trans hx.symm)
  · refine Eq.trans (Finset.sum_congr rfl fun k _ => ?_) (tail_zero gk gv q 0 n r.val 768 x (by omega) (by omega))
    refine congrArg₂ (· * ·) (vd768_at gv 0 n r k) ?_
    refine DG_at gk q n 0 k.val x _ (idx_val (S := S2x2x1024x1024) ![1, 0, 0, 512] S1x1x768x256.size inb_S2x2x1024x1024_S1x1x768x256_1_0_0_512 _ 0)
      (idx_val (S := S2x2x1024x1024) ![1, 0, 0, 512] S1x1x768x256.size inb_S2x2x1024x1024_S1x1x768x256_1_0_0_512 _ 1)
      ((idx_val (S := S2x2x1024x1024) ![1, 0, 0, 512] S1x1x768x256.size inb_S2x2x1024x1024_S1x1x768x256_1_0_0_512 _ 2).trans (Nat.zero_add _))
      ((idx_val (S := S2x2x1024x1024) ![1, 0, 0, 512] S1x1x768x256.size inb_S2x2x1024x1024_S1x1x768x256_1_0_0_512 _ 3).trans hx.symm) ?_
    have := k.isLt
    omega

theorem CH03_at (n : ℕ) (u : Fin 1) (r : Fin 128) (j : Fin 256) (x : Fin 1024) (hx : x.val = 768 + j.val) :
    CH03 gk gv q n (ix3 u r j) = FV gk gv q 0 n r.val x := by
  refine (chunk3_at _ _ _ u r j).trans ?_
  refine congrArg₂ (· + ·) ?_ ?_
  · exact BS_at gk gv q 0 n r.val x _ (idx_val (S := S2x128x1024) ![0, 0, 768] S1x128x256.size inb_S2x128x1024_S1x128x256_0_0_768 _ 0)
      ((idx_val (S := S2x128x1024) ![0, 0, 768] S1x128x256.size inb_S2x128x1024_S1x128x256_0_0_768 _ 1).trans (Nat.zero_add _))
      ((idx_val (S := S2x128x1024) ![0, 0, 768] S1x128x256.size inb_S2x128x1024_S1x128x256_0_0_768 _ 2).trans hx.symm)
  · refine Eq.trans (Finset.sum_congr rfl fun k _ => ?_) (tail_zero gk gv q 0 n r.val 1024 x (by omega) (by omega))
    refine congrArg₂ (· * ·) (vd1024_at gv 0 n r k) ?_
    refine DG_at gk q n 0 k.val x _ (idx_val (S := S2x2x1024x1024) ![1, 0, 0, 768] S1x1x1024x256.size inb_S2x2x1024x1024_S1x1x1024x256_1_0_0_768 _ 0)
      (idx_val (S := S2x2x1024x1024) ![1, 0, 0, 768] S1x1x1024x256.size inb_S2x2x1024x1024_S1x1x1024x256_1_0_0_768 _ 1)
      ((idx_val (S := S2x2x1024x1024) ![1, 0, 0, 768] S1x1x1024x256.size inb_S2x2x1024x1024_S1x1x1024x256_1_0_0_768 _ 2).trans (Nat.zero_add _))
      ((idx_val (S := S2x2x1024x1024) ![1, 0, 0, 768] S1x1x1024x256.size inb_S2x2x1024x1024_S1x1x1024x256_1_0_0_768 _ 3).trans hx.symm) ?_
    have := k.isLt
    omega

theorem CH10_at (n : ℕ) (u : Fin 1) (r : Fin 128) (j : Fin 256) (x : Fin 1024) (hx : x.val = 0 + j.val) :
    CH10 gk gv q n (ix3 u r j) = FV gk gv q 1 n r.val x := by
  refine (chunk0_at _ _ _ u r j).trans ?_
  refine congrArg₂ (· + ·) ?_ ?_
  · exact BS_at gk gv q 1 n r.val x _ (idx_val (S := S2x128x1024) ![1, 0, 0] S1x128x256.size inb_S2x128x1024_S1x128x256_1_0_0 _ 0)
      ((idx_val (S := S2x128x1024) ![1, 0, 0] S1x128x256.size inb_S2x128x1024_S1x128x256_1_0_0 _ 1).trans (Nat.zero_add _))
      ((idx_val (S := S2x128x1024) ![1, 0, 0] S1x128x256.size inb_S2x128x1024_S1x128x256_1_0_0 _ 2).trans hx.symm)
  · refine Eq.trans (Finset.sum_congr rfl fun k _ => ?_) (tail_zero gk gv q 1 n r.val 256 x (by omega) (by omega))
    refine congrArg₂ (· * ·) (vd256_at gv 1 n r k) ?_
    refine DG_at gk q n 1 k.val x _ (idx_val (S := S2x2x1024x1024) ![1, 1, 0, 0] S1x1x256x256.size inb_S2x2x1024x1024_S1x1x256x256_1_1_0_0 _ 0)
      (idx_val (S := S2x2x1024x1024) ![1, 1, 0, 0] S1x1x256x256.size inb_S2x2x1024x1024_S1x1x256x256_1_1_0_0 _ 1)
      ((idx_val (S := S2x2x1024x1024) ![1, 1, 0, 0] S1x1x256x256.size inb_S2x2x1024x1024_S1x1x256x256_1_1_0_0 _ 2).trans (Nat.zero_add _))
      ((idx_val (S := S2x2x1024x1024) ![1, 1, 0, 0] S1x1x256x256.size inb_S2x2x1024x1024_S1x1x256x256_1_1_0_0 _ 3).trans hx.symm) ?_
    have := k.isLt
    omega

theorem CH11_at (n : ℕ) (u : Fin 1) (r : Fin 128) (j : Fin 256) (x : Fin 1024) (hx : x.val = 256 + j.val) :
    CH11 gk gv q n (ix3 u r j) = FV gk gv q 1 n r.val x := by
  refine (chunk1_at _ _ _ u r j).trans ?_
  refine congrArg₂ (· + ·) ?_ ?_
  · exact BS_at gk gv q 1 n r.val x _ (idx_val (S := S2x128x1024) ![1, 0, 256] S1x128x256.size inb_S2x128x1024_S1x128x256_1_0_256 _ 0)
      ((idx_val (S := S2x128x1024) ![1, 0, 256] S1x128x256.size inb_S2x128x1024_S1x128x256_1_0_256 _ 1).trans (Nat.zero_add _))
      ((idx_val (S := S2x128x1024) ![1, 0, 256] S1x128x256.size inb_S2x128x1024_S1x128x256_1_0_256 _ 2).trans hx.symm)
  · refine Eq.trans (Finset.sum_congr rfl fun k _ => ?_) (tail_zero gk gv q 1 n r.val 512 x (by omega) (by omega))
    refine congrArg₂ (· * ·) (vd512_at gv 1 n r k) ?_
    refine DG_at gk q n 1 k.val x _ (idx_val (S := S2x2x1024x1024) ![1, 1, 0, 256] S1x1x512x256.size inb_S2x2x1024x1024_S1x1x512x256_1_1_0_256 _ 0)
      (idx_val (S := S2x2x1024x1024) ![1, 1, 0, 256] S1x1x512x256.size inb_S2x2x1024x1024_S1x1x512x256_1_1_0_256 _ 1)
      ((idx_val (S := S2x2x1024x1024) ![1, 1, 0, 256] S1x1x512x256.size inb_S2x2x1024x1024_S1x1x512x256_1_1_0_256 _ 2).trans (Nat.zero_add _))
      ((idx_val (S := S2x2x1024x1024) ![1, 1, 0, 256] S1x1x512x256.size inb_S2x2x1024x1024_S1x1x512x256_1_1_0_256 _ 3).trans hx.symm) ?_
    have := k.isLt
    omega

theorem CH12_at (n : ℕ) (u : Fin 1) (r : Fin 128) (j : Fin 256) (x : Fin 1024) (hx : x.val = 512 + j.val) :
    CH12 gk gv q n (ix3 u r j) = FV gk gv q 1 n r.val x := by
  refine (chunk2_at _ _ _ u r j).trans ?_
  refine congrArg₂ (· + ·) ?_ ?_
  · exact BS_at gk gv q 1 n r.val x _ (idx_val (S := S2x128x1024) ![1, 0, 512] S1x128x256.size inb_S2x128x1024_S1x128x256_1_0_512 _ 0)
      ((idx_val (S := S2x128x1024) ![1, 0, 512] S1x128x256.size inb_S2x128x1024_S1x128x256_1_0_512 _ 1).trans (Nat.zero_add _))
      ((idx_val (S := S2x128x1024) ![1, 0, 512] S1x128x256.size inb_S2x128x1024_S1x128x256_1_0_512 _ 2).trans hx.symm)
  · refine Eq.trans (Finset.sum_congr rfl fun k _ => ?_) (tail_zero gk gv q 1 n r.val 768 x (by omega) (by omega))
    refine congrArg₂ (· * ·) (vd768_at gv 1 n r k) ?_
    refine DG_at gk q n 1 k.val x _ (idx_val (S := S2x2x1024x1024) ![1, 1, 0, 512] S1x1x768x256.size inb_S2x2x1024x1024_S1x1x768x256_1_1_0_512 _ 0)
      (idx_val (S := S2x2x1024x1024) ![1, 1, 0, 512] S1x1x768x256.size inb_S2x2x1024x1024_S1x1x768x256_1_1_0_512 _ 1)
      ((idx_val (S := S2x2x1024x1024) ![1, 1, 0, 512] S1x1x768x256.size inb_S2x2x1024x1024_S1x1x768x256_1_1_0_512 _ 2).trans (Nat.zero_add _))
      ((idx_val (S := S2x2x1024x1024) ![1, 1, 0, 512] S1x1x768x256.size inb_S2x2x1024x1024_S1x1x768x256_1_1_0_512 _ 3).trans hx.symm) ?_
    have := k.isLt
    omega

theorem CH13_at (n : ℕ) (u : Fin 1) (r : Fin 128) (j : Fin 256) (x : Fin 1024) (hx : x.val = 768 + j.val) :
    CH13 gk gv q n (ix3 u r j) = FV gk gv q 1 n r.val x := by
  refine (chunk3_at _ _ _ u r j).trans ?_
  refine congrArg₂ (· + ·) ?_ ?_
  · exact BS_at gk gv q 1 n r.val x _ (idx_val (S := S2x128x1024) ![1, 0, 768] S1x128x256.size inb_S2x128x1024_S1x128x256_1_0_768 _ 0)
      ((idx_val (S := S2x128x1024) ![1, 0, 768] S1x128x256.size inb_S2x128x1024_S1x128x256_1_0_768 _ 1).trans (Nat.zero_add _))
      ((idx_val (S := S2x128x1024) ![1, 0, 768] S1x128x256.size inb_S2x128x1024_S1x128x256_1_0_768 _ 2).trans hx.symm)
  · refine Eq.trans (Finset.sum_congr rfl fun k _ => ?_) (tail_zero gk gv q 1 n r.val 1024 x (by omega) (by omega))
    refine congrArg₂ (· * ·) (vd1024_at gv 1 n r k) ?_
    refine DG_at gk q n 1 k.val x _ (idx_val (S := S2x2x1024x1024) ![1, 1, 0, 768] S1x1x1024x256.size inb_S2x2x1024x1024_S1x1x1024x256_1_1_0_768 _ 0)
      (idx_val (S := S2x2x1024x1024) ![1, 1, 0, 768] S1x1x1024x256.size inb_S2x2x1024x1024_S1x1x1024x256_1_1_0_768 _ 1)
      ((idx_val (S := S2x2x1024x1024) ![1, 1, 0, 768] S1x1x1024x256.size inb_S2x2x1024x1024_S1x1x1024x256_1_1_0_768 _ 2).trans (Nat.zero_add _))
      ((idx_val (S := S2x2x1024x1024) ![1, 1, 0, 768] S1x1x1024x256.size inb_S2x2x1024x1024_S1x1x1024x256_1_1_0_768 _ 3).trans hx.symm) ?_
    have := k.isLt
    omega

/-- The eight chunks of the final accumulators. -/
def FC (n : ℕ) : List (View.Piece (Elt Ideal) S2x128x1024 .f32) :=
  [⟨Rect.unit (s := S2x128x1024) ![1, 0, 768] S1x128x256.size inb_S2x128x1024_S1x128x256_1_0_768, CH13 gk gv q n⟩,
   ⟨Rect.unit (s := S2x128x1024) ![1, 0, 512] S1x128x256.size inb_S2x128x1024_S1x128x256_1_0_512, CH12 gk gv q n⟩,
   ⟨Rect.unit (s := S2x128x1024) ![1, 0, 256] S1x128x256.size inb_S2x128x1024_S1x128x256_1_0_256, CH11 gk gv q n⟩,
   ⟨Rect.unit (s := S2x128x1024) ![1, 0, 0] S1x128x256.size inb_S2x128x1024_S1x128x256_1_0_0, CH10 gk gv q n⟩,
   ⟨Rect.unit (s := S2x128x1024) ![0, 0, 768] S1x128x256.size inb_S2x128x1024_S1x128x256_0_0_768, CH03 gk gv q n⟩,
   ⟨Rect.unit (s := S2x128x1024) ![0, 0, 512] S1x128x256.size inb_S2x128x1024_S1x128x256_0_0_512, CH02 gk gv q n⟩,
   ⟨Rect.unit (s := S2x128x1024) ![0, 0, 256] S1x128x256.size inb_S2x128x1024_S1x128x256_0_0_256, CH01 gk gv q n⟩,
   ⟨Rect.unit (s := S2x128x1024) ![0, 0, 0] S1x128x256.size inb_S2x128x1024_S1x128x256_0_0_0, CH00 gk gv q n⟩]

theorem FL_eq (n : ℕ) : FL gk gv q n = FC gk gv q n ++ BS gk gv q n := rfl

theorem FV_emb (n : ℕ) (o s : Fin 3 → ℕ) (inb : ∀ a, o a + s a ≤ S2x128x1024.size a)
    (x : (Rect.unit (s := S2x128x1024) o s inb).shape.Idx) (h r : ℕ) (c : Fin 1024)
    (h0 : o 0 + (x 0).val = h) (h1 : o 1 + (x 1).val = r) (h2 : o 2 + (x 2).val = c.val) :
    (fun y : S2x128x1024.Idx => FV gk gv q (y 0).val n (y 1).val (y 2)) ((Rect.unit (s := S2x128x1024) o s inb).emb x)
      = FV gk gv q h n r c := by
  have e0 := (ValueKit.rect_emb_unit_val (s := S2x128x1024) o s inb x 0).trans h0
  have e1 := (ValueKit.rect_emb_unit_val (s := S2x128x1024) o s inb x 1).trans h1
  have e2 : (Rect.unit (s := S2x128x1024) o s inb).emb x 2 = c :=
    Fin.ext ((ValueKit.rect_emb_unit_val (s := S2x128x1024) o s inb x 2).trans h2)
  show FV gk gv q _ n _ _ = _
  rw [e0, e1, e2]

theorem FC_pieces (n : ℕ) : View.PiecesOf (fun y : S2x128x1024.Idx => FV gk gv q (y 0).val n (y 1).val (y 2)) (FC gk gv q n) :=
    ⟨fun x => (congrArg _ (eq_ix3 x)).trans ((CH13_at gk gv q n (x 0) (x 1) (x 2) ⟨768 + (x 2).val, by have : (x 2).val < 256 := (x 2).isLt; omega⟩ rfl).trans
      (FV_emb gk gv q n ![1, 0, 768] ![1, 128, 256] inb_S2x128x1024_S1x128x256_1_0_768 x 1 (x 1).val ⟨768 + (x 2).val, by have : (x 2).val < 256 := (x 2).isLt; omega⟩
        (by have : (x 0).val < 1 := (x 0).isLt; show 1 + (x 0).val = 1; omega) (Nat.zero_add _) rfl).symm),
    ⟨fun x => (congrArg _ (eq_ix3 x)).trans ((CH12_at gk gv q n (x 0) (x 1) (x 2) ⟨512 + (x 2).val, by have : (x 2).val < 256 := (x 2).isLt; omega⟩ rfl).trans
      (FV_emb gk gv q n ![1, 0, 512] ![1, 128, 256] inb_S2x128x1024_S1x128x256_1_0_512 x 1 (x 1).val ⟨512 + (x 2).val, by have : (x 2).val < 256 := (x 2).isLt; omega⟩
        (by have : (x 0).val < 1 := (x 0).isLt; show 1 + (x 0).val = 1; omega) (Nat.zero_add _) rfl).symm),
    ⟨fun x => (congrArg _ (eq_ix3 x)).trans ((CH11_at gk gv q n (x 0) (x 1) (x 2) ⟨256 + (x 2).val, by have : (x 2).val < 256 := (x 2).isLt; omega⟩ rfl).trans
      (FV_emb gk gv q n ![1, 0, 256] ![1, 128, 256] inb_S2x128x1024_S1x128x256_1_0_256 x 1 (x 1).val ⟨256 + (x 2).val, by have : (x 2).val < 256 := (x 2).isLt; omega⟩
        (by have : (x 0).val < 1 := (x 0).isLt; show 1 + (x 0).val = 1; omega) (Nat.zero_add _) rfl).symm),
    ⟨fun x => (congrArg _ (eq_ix3 x)).trans ((CH10_at gk gv q n (x 0) (x 1) (x 2) ⟨0 + (x 2).val, by have : (x 2).val < 256 := (x 2).isLt; omega⟩ rfl).trans
      (FV_emb gk gv q n ![1, 0, 0] ![1, 128, 256] inb_S2x128x1024_S1x128x256_1_0_0 x 1 (x 1).val ⟨0 + (x 2).val, by have : (x 2).val < 256 := (x 2).isLt; omega⟩
        (by have : (x 0).val < 1 := (x 0).isLt; show 1 + (x 0).val = 1; omega) (Nat.zero_add _) rfl).symm),
    ⟨fun x => (congrArg _ (eq_ix3 x)).trans ((CH03_at gk gv q n (x 0) (x 1) (x 2) ⟨768 + (x 2).val, by have : (x 2).val < 256 := (x 2).isLt; omega⟩ rfl).trans
      (FV_emb gk gv q n ![0, 0, 768] ![1, 128, 256] inb_S2x128x1024_S1x128x256_0_0_768 x 0 (x 1).val ⟨768 + (x 2).val, by have : (x 2).val < 256 := (x 2).isLt; omega⟩
        (by have : (x 0).val < 1 := (x 0).isLt; show 0 + (x 0).val = 0; omega) (Nat.zero_add _) rfl).symm),
    ⟨fun x => (congrArg _ (eq_ix3 x)).trans ((CH02_at gk gv q n (x 0) (x 1) (x 2) ⟨512 + (x 2).val, by have : (x 2).val < 256 := (x 2).isLt; omega⟩ rfl).trans
      (FV_emb gk gv q n ![0, 0, 512] ![1, 128, 256] inb_S2x128x1024_S1x128x256_0_0_512 x 0 (x 1).val ⟨512 + (x 2).val, by have : (x 2).val < 256 := (x 2).isLt; omega⟩
        (by have : (x 0).val < 1 := (x 0).isLt; show 0 + (x 0).val = 0; omega) (Nat.zero_add _) rfl).symm),
    ⟨fun x => (congrArg _ (eq_ix3 x)).trans ((CH01_at gk gv q n (x 0) (x 1) (x 2) ⟨256 + (x 2).val, by have : (x 2).val < 256 := (x 2).isLt; omega⟩ rfl).trans
      (FV_emb gk gv q n ![0, 0, 256] ![1, 128, 256] inb_S2x128x1024_S1x128x256_0_0_256 x 0 (x 1).val ⟨256 + (x 2).val, by have : (x 2).val < 256 := (x 2).isLt; omega⟩
        (by have : (x 0).val < 1 := (x 0).isLt; show 0 + (x 0).val = 0; omega) (Nat.zero_add _) rfl).symm),
    ⟨fun x => (congrArg _ (eq_ix3 x)).trans ((CH00_at gk gv q n (x 0) (x 1) (x 2) ⟨0 + (x 2).val, by have : (x 2).val < 256 := (x 2).isLt; omega⟩ rfl).trans
      (FV_emb gk gv q n ![0, 0, 0] ![1, 128, 256] inb_S2x128x1024_S1x128x256_0_0_0 x 0 (x 1).val ⟨0 + (x 2).val, by have : (x 2).val < 256 := (x 2).isLt; omega⟩
        (by have : (x 0).val < 1 := (x 0).isLt; show 0 + (x 0).val = 0; omega) (Nat.zero_add _) rfl).symm),
    trivial⟩⟩⟩⟩⟩⟩⟩⟩

theorem FL_at (h n r : ℕ) (x : Fin 1024) (y : S2x128x1024.Idx) (h0 : (y 0).val = h) (h1 : (y 1).val = r) (h2 : (y 2).val = x.val) :
    View.canon (FL gk gv q n) y = FV gk gv q h n r x := by
  subst h0 h1
  obtain rfl : y 2 = x := Fin.ext h2
  rw [FL_eq]
  refine View.canon_append_of_piecesOf _ _ _ (FC_pieces gk gv q n) y ?_
  have b0 : (y 0).val < 2 := (y 0).isLt
  have b1 : (y 1).val < 128 := (y 1).isLt
  have b2 : (y 2).val < 1024 := (y 2).isLt
  have hr : (y 2).val / 256 = 0 ∨ (y 2).val / 256 = 1 ∨ (y 2).val / 256 = 2 ∨ (y 2).val / 256 = 3 := by omega
  unfold FC
  by_cases e : (y 0).val = 0
  · rcases hr with hr | hr | hr | hr
    · exact ⟨_, .tail _ (.tail _ (.tail _ (.tail _ (.tail _ (.tail _ (.tail _ (.head _))))))), mem3 y ![0, 0, 0] ![1, 128, 256] inb_S2x128x1024_S1x128x256_0_0_0
        (by show 0 ≤ _ ∧ _ < 0 + 1; omega) (by show 0 ≤ _ ∧ _ < 0 + 128; omega) (by show 0 ≤ _ ∧ _ < 0 + 256; omega)⟩
    · exact ⟨_, .tail _ (.tail _ (.tail _ (.tail _ (.tail _ (.tail _ (.head _)))))), mem3 y ![0, 0, 256] ![1, 128, 256] inb_S2x128x1024_S1x128x256_0_0_256
        (by show 0 ≤ _ ∧ _ < 0 + 1; omega) (by show 0 ≤ _ ∧ _ < 0 + 128; omega) (by show 256 ≤ _ ∧ _ < 256 + 256; omega)⟩
    · exact ⟨_, .tail _ (.tail _ (.tail _ (.tail _ (.tail _ (.head _))))), mem3 y ![0, 0, 512] ![1, 128, 256] inb_S2x128x1024_S1x128x256_0_0_512
        (by show 0 ≤ _ ∧ _ < 0 + 1; omega) (by show 0 ≤ _ ∧ _ < 0 + 128; omega) (by show 512 ≤ _ ∧ _ < 512 + 256; omega)⟩
    · exact ⟨_, .tail _ (.tail _ (.tail _ (.tail _ (.head _)))), mem3 y ![0, 0, 768] ![1, 128, 256] inb_S2x128x1024_S1x128x256_0_0_768
        (by show 0 ≤ _ ∧ _ < 0 + 1; omega) (by show 0 ≤ _ ∧ _ < 0 + 128; omega) (by show 768 ≤ _ ∧ _ < 768 + 256; omega)⟩
  · rcases hr with hr | hr | hr | hr
    · exact ⟨_, .tail _ (.tail _ (.tail _ (.head _))), mem3 y ![1, 0, 0] ![1, 128, 256] inb_S2x128x1024_S1x128x256_1_0_0
        (by show 1 ≤ _ ∧ _ < 1 + 1; omega) (by show 0 ≤ _ ∧ _ < 0 + 128; omega) (by show 0 ≤ _ ∧ _ < 0 + 256; omega)⟩
    · exact ⟨_, .tail _ (.tail _ (.head _)), mem3 y ![1, 0, 256] ![1, 128, 256] inb_S2x128x1024_S1x128x256_1_0_256
        (by show 1 ≤ _ ∧ _ < 1 + 1; omega) (by show 0 ≤ _ ∧ _ < 0 + 128; omega) (by show 256 ≤ _ ∧ _ < 256 + 256; omega)⟩
    · exact ⟨_, .tail _ (.head _), mem3 y ![1, 0, 512] ![1, 128, 256] inb_S2x128x1024_S1x128x256_1_0_512
        (by show 1 ≤ _ ∧ _ < 1 + 1; omega) (by show 0 ≤ _ ∧ _ < 0 + 128; omega) (by show 512 ≤ _ ∧ _ < 512 + 256; omega)⟩
    · exact ⟨_, .head _, mem3 y ![1, 0, 768] ![1, 128, 256] inb_S2x128x1024_S1x128x256_1_0_768
        (by show 1 ≤ _ ∧ _ < 1 + 1; omega) (by show 0 ≤ _ ∧ _ < 0 + 128; omega) (by show 768 ≤ _ ∧ _ < 768 + 256; omega)⟩

theorem bcast_row {α : Type} (x : S1x1024.Idx → α) (h : S1x1024.Broadcasts S64x1024) (d : Fin 64) (j : Fin 1024) :
    broadcastTo S64x1024 x h (ix2 d j) = x (ix2 (0 : Fin 1) j) := by
  refine broadcastTo_apply _ _ _ (ix2 (0 : Fin 1) j) fun a => ?_
  fin_cases a <;> rfl

theorem OL_row (num : FVec Ideal S1x1x1024 .f32) (rows : FVec Ideal S1x64x1024 .f32) (d : Fin 64) (j : Fin 1024) :
    (k0_pay107 (F := Ideal) num rows (ix2 d j) : EReal) = (rows (ix3 (0 : Fin 1) d j) : EReal) * Ideal.div 1 (num (ix3 (0 : Fin 1) (0 : Fin 1) j)) := by
  unfold k0_pay107
  refine congrArg₂ (fun a b : EReal => a * b) (shapeCast_1ab_ab_apply _ _ d j) ?_
  refine (bcast_row _ _ d j).trans ?_
  exact congrArg₂ Ideal.div Ideal.ofBits_one_f32 (shapeCast_1ab_ab_apply _ _ (0 : Fin 1) j)

theorem OL0_row (num : FVec Ideal S1x1x1024 .f32) (rows : FVec Ideal S1x64x1024 .f32) (u : Fin 1) (d : Fin 64) (j : Fin 1024) :
    (k0_pay106 (F := Ideal) num rows (ix3 u d j) : EReal) = (rows (ix3 (0 : Fin 1) d j) : EReal) * Ideal.div 1 (num (ix3 (0 : Fin 1) (0 : Fin 1) j)) := by
  refine Eq.trans ?_ (OL_row num rows d j)
  unfold k0_pay106 k0_pay107
  exact shapeCast_ab_1ab_apply _ _ u d j

/-- Row `64 h + d` of the output block. -/
def OV (h n d : ℕ) (x : Fin 1024) : EReal := FV gk gv q h n d x * Ideal.div 1 (FV gk gv q h n 64 x)

theorem OL0_at (n : ℕ) (u : Fin 1) (d : Fin 64) (j : Fin 1024) : OL0 gk gv q n (ix3 u d j) = OV gk gv q 0 n d.val j := by
  refine (OL0_row _ _ u d j).trans ?_
  refine congrArg₂ (· * ·) ?_ (congrArg (Ideal.div 1) ?_)
  · exact FL_at gk gv q 0 n d.val j _ (idx_val (S := S2x128x1024) ![0, 0, 0] S1x64x1024.size inb_S2x128x1024_S1x64x1024_0_0_0 _ 0)
      ((idx_val (S := S2x128x1024) ![0, 0, 0] S1x64x1024.size inb_S2x128x1024_S1x64x1024_0_0_0 _ 1).trans (Nat.zero_add _))
      ((idx_val (S := S2x128x1024) ![0, 0, 0] S1x64x1024.size inb_S2x128x1024_S1x64x1024_0_0_0 _ 2).trans (Nat.zero_add _))
  · exact FL_at gk gv q 0 n 64 j _ (idx_val (S := S2x128x1024) ![0, 64, 0] S1x1x1024.size inb_S2x128x1024_S1x1x1024_0_64_0 _ 0)
      (idx_val (S := S2x128x1024) ![0, 64, 0] S1x1x1024.size inb_S2x128x1024_S1x1x1024_0_64_0 _ 1)
      ((idx_val (S := S2x128x1024) ![0, 64, 0] S1x1x1024.size inb_S2x128x1024_S1x1x1024_0_64_0 _ 2).trans (Nat.zero_add _))

theorem OL1_at (n : ℕ) (d : Fin 64) (j : Fin 1024) : OL1 gk gv q n (ix2 d j) = OV gk gv q 1 n d.val j := by
  refine (OL_row _ _ d j).trans ?_
  refine congrArg₂ (· * ·) ?_ (congrArg (Ideal.div 1) ?_)
  · exact FL_at gk gv q 1 n d.val j _ (idx_val (S := S2x128x1024) ![1, 0, 0] S1x64x1024.size inb_S2x128x1024_S1x64x1024_1_0_0 _ 0)
      ((idx_val (S := S2x128x1024) ![1, 0, 0] S1x64x1024.size inb_S2x128x1024_S1x64x1024_1_0_0 _ 1).trans (Nat.zero_add _))
      ((idx_val (S := S2x128x1024) ![1, 0, 0] S1x64x1024.size inb_S2x128x1024_S1x64x1024_1_0_0 _ 2).trans (Nat.zero_add _))
  · exact FL_at gk gv q 1 n 64 j _ (idx_val (S := S2x128x1024) ![1, 64, 0] S1x1x1024.size inb_S2x128x1024_S1x1x1024_1_64_0 _ 0)
      (idx_val (S := S2x128x1024) ![1, 64, 0] S1x1x1024.size inb_S2x128x1024_S1x1x1024_1_64_0 _ 1)
      ((idx_val (S := S2x128x1024) ![1, 64, 0] S1x1x1024.size inb_S2x128x1024_S1x1x1024_1_64_0 _ 2).trans (Nat.zero_add _))

theorem OV_emb (n : ℕ) (o s : Fin 3 → ℕ) (inb : ∀ a, o a + s a ≤ S1x128x1024.size a)
    (x : (Rect.unit (s := S1x128x1024) o s inb).shape.Idx) (h d : ℕ) (c : Fin 1024)
    (hd : d < 64) (h1 : o 1 + (x 1).val = 64 * h + d) (h2 : o 2 + (x 2).val = c.val) :
    (fun y : S1x128x1024.Idx => OV gk gv q ((y 1).val / 64) n ((y 1).val % 64) (y 2)) ((Rect.unit (s := S1x128x1024) o s inb).emb x)
      = OV gk gv q h n d c := by
  have e1 := (ValueKit.rect_emb_unit_val (s := S1x128x1024) o s inb x 1).trans h1
  have e2 : (Rect.unit (s := S1x128x1024) o s inb).emb x 2 = c :=
    Fin.ext ((ValueKit.rect_emb_unit_val (s := S1x128x1024) o s inb x 2).trans h2)
  show OV gk gv q _ n _ _ = _
  rw [e1, e2, show (64 * h + d) / 64 = h by omega, show (64 * h + d) % 64 = d by omega]

theorem OLs_pieces (n : ℕ) :
    View.PiecesOf (fun y : S1x128x1024.Idx => OV gk gv q ((y 1).val / 64) n ((y 1).val % 64) (y 2)) (OLs gk gv q n) :=
    ⟨fun x => (congrArg _ (eq_ix3 x)).trans ((shapeCast_ab_1ab_apply _ _ (x 0) (x 1) (x 2)).trans ((OL1_at gk gv q n (x 1) (x 2)).trans
      (OV_emb gk gv q n ![0, 64, 0] ![1, 64, 1024] inb_S1x128x1024_S1x64x1024_0_64_0 x 1 (x 1).val (x 2) (x 1).isLt rfl (Nat.zero_add _)).symm)),
    ⟨fun x => (congrArg _ (eq_ix3 x)).trans ((OL0_at gk gv q n (x 0) (x 1) (x 2)).trans
      (OV_emb gk gv q n ![0, 0, 0] ![1, 64, 1024] inb_S1x128x1024_S1x64x1024_0_0_0 x 0 (x 1).val (x 2) (x 1).isLt (by show 0 + (x 1).val = 64 * 0 + (x 1).val; omega) (Nat.zero_add _)).symm),
    trivial⟩⟩

/-- The output block at row `64 h + d` and query `x`. -/
theorem OUT_at (n : ℕ) (y : S1x128x1024.Idx) : OUT gk gv q n y = OV gk gv q ((y 1).val / 64) n ((y 1).val % 64) (y 2) :=
  View.canon_apply_of_pieces (Val := Elt Ideal) (e := .bf16) (fun y : S1x128x1024.Idx => OV gk gv q ((y 1).val / 64) n ((y 1).val % 64) (y 2)) _ (OLs_pieces gk gv q n).mem y (OLs_cover gk gv q n y)

end Cert.Proof.Attn

end
-- ==== Proof.Spec.lean ====
module

public import proofs.«01_k».proof.Proof.Run
public import Idealize.ShloMosaic.Lib.IdealHost
public import Idealize.ShloMosaic.Lib.ValueIdx
public import Idealize.ShloMosaic.Lib.StableHlo.ReadAt

@[expose] public section

noncomputable section

namespace Cert.Proof.Attn

open Cert.KernelIdeal Cert.KernelIdeal.Gen
open Idealize.ShloMosaic

/-! ## What both programs compute, entry by entry -/

/-- `1 / log 2`. -/
def L2E : EReal := Ideal.div (Ideal.ofBits .f32 0x3F800000#32) (Ideal.log (Ideal.ofBits .f32 0x40000000#32))

/-- The sum of a head's squares. -/
def ssq (X : FVec Ideal S2x8192x16x64 .f32) (b : Fin 2) (s : Fin 8192) (h : Fin 16) : EReal :=
  Host.reduceAdd (mulf X X) (constant (F := Ideal) S_ .f32 0#32) reducesTo_S2x8192x16x64_S2x8192x16_d3 h_S_ (ix3 b s h)

/-- A head's entry over its root mean square. -/
def un (X : FVec Ideal S2x8192x16x64 .f32) (b : Fin 2) (s : Fin 8192) (h : Fin 16) (d : Fin 64) : EReal :=
  X (ix4 b s h d) * Ideal.rsqrt (Ideal.div (ssq X b s h) (Ideal.ofBits .f32 1115684864#32) + Ideal.ofBits .f32 897988541#32)

/-- The largest magnitude of a gain. -/
def gmax (g : FVec Ideal S64 .f32) : EReal :=
  Host.reduce (α := Elt Ideal .f32) (FloatOps.maximumf (F := Ideal) (φ := .f32)) (Host.absf g) (constant (F := Ideal) S_ .f32 4286578688#32) reducesTo_S64_S_d0 h_S_ ix0

/-- The bound of the logits, in base two. -/
def shft (g1 g3 : FVec Ideal S64 .f32) : EReal := Ideal.ofBits .f32 1090650112#32 * gmax g1 * gmax g3 * L2E

/-- A gate in three summands, then three ones. -/
def qex (t : ℕ) (a : EReal) : EReal :=
  if t < 1 then a else if t < 2 then a - a else if t < 3 then a - a - (a - a) else if t < 6 then 1 else 0

/-- Three ones, then a gate in three negated summands. -/
def kex (t : ℕ) (a : EReal) : EReal :=
  if t < 3 then 1 else if t < 4 then -a else if t < 5 then -(a - a) else if t < 6 then -(a - a - (a - a)) else 0

theorem qex_0 {t : ℕ} {a : EReal} (h1 : t < 1) : qex t a = a := by
  unfold qex
  rw [if_pos (by omega)]

theorem qex_1 {t : ℕ} {a : EReal} (h0 : 1 ≤ t) (h1 : t < 2) : qex t a = a - a := by
  unfold qex
  rw [if_neg (by omega), if_pos (by omega)]

theorem qex_2 {t : ℕ} {a : EReal} (h0 : 2 ≤ t) (h1 : t < 3) : qex t a = a - a - (a - a) := by
  unfold qex
  rw [if_neg (by omega), if_neg (by omega), if_pos (by omega)]

theorem qex_3 {t : ℕ} {a : EReal} (h0 : 3 ≤ t) (h1 : t < 6) : qex t a = 1 := by
  unfold qex
  rw [if_neg (by omega), if_neg (by omega), if_neg (by omega), if_pos (by omega)]

theorem qex_4 {t : ℕ} {a : EReal} (h0 : 6 ≤ t) : qex t a = 0 := by
  unfold qex
  rw [if_neg (by omega), if_neg (by omega), if_neg (by omega), if_neg (by omega)]

theorem kex_0 {t : ℕ} {a : EReal} (h1 : t < 3) : kex t a = 1 := by
  unfold kex
  rw [if_pos (by omega)]

theorem kex_1 {t : ℕ} {a : EReal} (h0 : 3 ≤ t) (h1 : t < 4) : kex t a = -a := by
  unfold kex
  rw [if_neg (by omega), if_pos (by omega)]

theorem kex_2 {t : ℕ} {a : EReal} (h0 : 4 ≤ t) (h1 : t < 5) : kex t a = -(a - a) := by
  unfold kex
  rw [if_neg (by omega), if_neg (by omega), if_pos (by omega)]

theorem kex_3 {t : ℕ} {a : EReal} (h0 : 5 ≤ t) (h1 : t < 6) : kex t a = -(a - a - (a - a)) := by
  unfold kex
  rw [if_neg (by omega), if_neg (by omega), if_neg (by omega), if_pos (by omega)]

theorem kex_4 {t : ℕ} {a : EReal} (h0 : 6 ≤ t) : kex t a = 0 := by
  unfold kex
  rw [if_neg (by omega), if_neg (by omega), if_neg (by omega), if_neg (by omega)]

end Cert.Proof.Attn

end
-- ==== Proof.Soft.lean ====
module

public import proofs.«01_k».proof.Proof.Spec

@[expose] public section

noncomputable section

namespace Cert.Proof.Attn

open Idealize.ShloMosaic

/-! ## The arithmetic of the extended reals that joins the two programs -/

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- Unnormalised weights at any positive scale, then the sum divided by the weights' sum. -/
theorem soft_late {ι : Type} (s : Finset ι) (v : ι → EReal) (w : ι → ℝ) (D : ℝ) (hD : 0 < D) (hW : 0 < ∑ k ∈ s, w k) :
    (∑ k ∈ s, v k * ((w k * D : ℝ) : EReal)) * Ideal.div 1 (∑ k ∈ s, (1 : EReal) * ((w k * D : ℝ) : EReal))
      = ∑ k ∈ s, v k * ((w k / ∑ j ∈ s, w j : ℝ) : EReal) := by
  simp only [one_mul]
  rw [coe_sum, ← Finset.sum_mul]
  have hp : 0 < (∑ k ∈ s, w k) * D := mul_pos hW hD
  rw [Ideal.div_coe hp.ne', one_mul, sum_mul_coe _ _ _ (by positivity)]
  refine Finset.sum_congr rfl fun k _ => ?_
  rw [mul_assoc, ← EReal.coe_mul]
  congr 2
  field_simp

/-- Each weight divided by the weights' sum, at any positive scale. -/
theorem soft_early {ι : Type} (s : Finset ι) (v : ι → EReal) (w : ι → ℝ) (D : ℝ) (hD : 0 < D) (hW : 0 < ∑ k ∈ s, w k) :
    (∑ k ∈ s, v k * Ideal.div ((w k * D : ℝ) : EReal) (∑ k ∈ s, ((w k * D : ℝ) : EReal)))
      = ∑ k ∈ s, v k * ((w k / ∑ j ∈ s, w j : ℝ) : EReal) := by
  rw [coe_sum, ← Finset.sum_mul]
  have hp : 0 < (∑ k ∈ s, w k) * D := mul_pos hW hD
  refine Finset.sum_congr rfl fun k _ => ?_
  rw [Ideal.div_coe hp.ne', ← EReal.coe_mul]
  congr 2
  field_simp

/-- The largest of some entries, none of them infinite upwards and one of them real, is real. -/
theorem fold_real {ι : Type} (s : Finset ι) (f : ι → EReal) (a : EReal) (ha : a ≠ ⊤) (ht : ∀ k, f k ≠ ⊤) (k : ι) (hk : k ∈ s) (hb : f k ≠ ⊥) :
    ∃ r : ℝ, s.fold max a f = (r : EReal) := by
  have h1 : s.fold max a f < ⊤ := by
    rw [Finset.fold_max_lt]
    exact ⟨lt_top_iff_ne_top.mpr ha, fun x _ => lt_top_iff_ne_top.mpr (ht x)⟩
  have h2 : ⊥ < s.fold max a f := by
    rw [Finset.lt_fold_max]
    exact Or.inr ⟨k, hk, bot_lt_iff_ne_bot.mpr hb⟩
  exact ⟨_, (EReal.coe_toReal h1.ne h2.ne').symm⟩

/-- An entry times the reciprocal root of a mean of squares and a positive number is real: at an infinite
    entry the reciprocal root is zero. -/
theorem rms_real {ι : Type} (s : Finset ι) (f : ι → EReal) (k : ι) (hk : k ∈ s) (n e : ℝ) (hn : 0 < n) (he : 0 < e) :
    ∃ r : ℝ, f k * Ideal.rsqrt (Ideal.div (∑ j ∈ s, f j * f j) (n : EReal) + (e : EReal)) = (r : EReal) := by
  have hpos : ∀ j, 0 ≤ f j * f j := fun j => by
    rcases le_total 0 (f j) with h | h
    · exact mul_nonneg h h
    · have := mul_nonneg (EReal.neg_nonneg.mpr h) (EReal.neg_nonneg.mpr h)
      simpa using this
  have hS : 0 ≤ ∑ j ∈ s, f j * f j := Finset.sum_nonneg fun j _ => hpos j
  have hle : f k * f k ≤ ∑ j ∈ s, f j * f j := Finset.single_le_sum (fun j _ => hpos j) hk
  rw [Ideal.div_coe hn.ne']
  have hni : (0 : ℝ) < 1 / n := by positivity
  by_cases hT : ∑ j ∈ s, f j * f j = ⊤
  · rw [hT, EReal.top_mul_coe_of_pos hni, EReal.top_add_coe]
    exact ⟨0, by show f k * (0 : EReal) = _; rw [mul_zero]; rfl⟩
  · have hsr : ∑ j ∈ s, f j * f j = (((∑ j ∈ s, f j * f j).toReal : ℝ) : EReal) :=
      (EReal.coe_toReal hT (fun h => by rw [h] at hS; exact absurd hS (by simp))).symm
    have hT' : f k * f k ≠ ⊤ := fun h => hT (top_le_iff.mp (h ▸ hle))
    have hft : f k ≠ ⊤ := fun h => hT' (by rw [h]; exact EReal.top_mul_top)
    have hfb : f k ≠ ⊥ := fun h => hT' (by rw [h]; exact EReal.bot_mul_bot)
    have hr : 0 ≤ (∑ j ∈ s, f j * f j).toReal := EReal.toReal_nonneg hS
    generalize (∑ j ∈ s, f j * f j).toReal = x at hsr hr
    rw [hsr, ← EReal.coe_toReal hft hfb, ← EReal.coe_mul, ← EReal.coe_add]
    have hx : 0 < x * (1 / n) + e := by positivity
    show ∃ r : ℝ, _ * (if x * (1 / n) + e < 0 then (⊥ : EReal) else if x * (1 / n) + e = 0 then ⊤ else ((Real.sqrt (x * (1 / n) + e))⁻¹ : ℝ)) = _
    rw [if_neg hx.le.not_gt, if_neg hx.ne', ← EReal.coe_mul]
    exact ⟨_, rfl⟩

theorem L2E_eq : L2E = ((1 / Real.log 2 : ℝ) : EReal) := by
  have h2 : Ideal.ofBits .f32 0x40000000#32 = ((2 : ℝ) : EReal) := by
    simp [Ideal.ofBits, Ideal.ieee, -EReal.coe_mul]; norm_num
  unfold L2E
  rw [h2, Ideal.ofBits_one_f32]
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [hl, Ideal.div_coe (Real.log_pos (by norm_num)).ne', one_mul]

theorem c8_eq : Ideal.ofBits .f32 1090519040#32 = ((8 : ℝ) : EReal) := by
  simp [Ideal.ofBits, Ideal.ieee, -EReal.coe_mul]; norm_num

theorem c64_pos : ∃ n : ℝ, 0 < n ∧ Ideal.ofBits .f32 1115684864#32 = (n : EReal) := by
  refine ⟨64, by norm_num, ?_⟩
  simp [Ideal.ofBits, Ideal.ieee, -EReal.coe_mul]; norm_num

theorem eps_pos : ∃ n : ℝ, 0 < n ∧ Ideal.ofBits .f32 897988541#32 = (n : EReal) := by
  refine ⟨8796093 / 2 ^ 43, by norm_num, ?_⟩
  simp [Ideal.ofBits, Ideal.ieee, -EReal.coe_mul]; norm_num

theorem bound_real : ∃ n : ℝ, Ideal.ofBits .f32 1090650112#32 = (n : EReal) := by
  refine ⟨8.125, ?_⟩
  simp [Ideal.ofBits, Ideal.ieee, -EReal.coe_mul]; norm_num

/-- Two to a real power over `log 2`, less a real, is that power of `e` times a positive constant. -/
theorem exp2_log2 (a S : ℝ) : Ideal.exp2 ((1 / Real.log 2 * a - S : ℝ) : EReal)
    = ((Real.exp a * Real.exp (-(Real.log 2 * S)) : ℝ) : EReal) := by
  show ((Real.rpow 2 (1 / Real.log 2 * a - S) : ℝ) : EReal) = _
  congr 1
  have h : Real.log 2 ≠ 0 := (Real.log_pos (by norm_num)).ne'
  show (2 : ℝ) ^ (1 / Real.log 2 * a - S) = _
  rw [Real.rpow_def_of_pos (by norm_num), ← Real.exp_add]
  congr 1
  field_simp
  ring

/-- The sum over the extra rows: only the gates and the ones meet. -/
theorem extra_sum (n : ℕ) (hn : 6 ≤ n) (a c : ℝ) : ∑ t : Fin n, (kex t.val (c : EReal)) * (qex t.val (a : EReal)) = ((a - c : ℝ) : EReal) := by
  have hz : ∀ t, 6 ≤ t → kex t (c : EReal) * qex t (a : EReal) = 0 := fun t ht => by rw [kex_4 ht, zero_mul]
  obtain ⟨k, rfl⟩ := Nat.exists_eq_add_of_le hn
  rw [Fin.sum_univ_eq_sum_range (fun t => kex t (c : EReal) * qex t (a : EReal)) (6 + k), Finset.sum_range_add,
    Finset.sum_eq_zero (s := Finset.range k) (fun t _ => hz (6 + t) (by omega)), add_zero]
  simp only [Finset.sum_range_succ, Finset.sum_range_zero]
  rw [kex_0 (by omega), kex_0 (by omega), kex_0 (by omega), kex_1 (t := 3) (by omega) (by omega), kex_2 (t := 4) (by omega) (by omega),
    kex_3 (t := 5) (by omega) (by omega), qex_0 (by omega), qex_1 (by omega) (by omega), qex_2 (by omega) (by omega),
    qex_3 (t := 3) (by omega) (by omega), qex_3 (t := 4) (by omega) (by omega), qex_3 (t := 5) (by omega) (by omega)]
  simp only [one_mul, mul_one, zero_add, ← EReal.coe_sub, ← EReal.coe_neg, ← EReal.coe_add]
  congr 1
  ring

end Cert.Proof.Attn

end
-- ==== Proof.Qx.lean ====
module

public import proofs.«01_k».proof.Proof.Val3
public import proofs.«01_k».proof.Proof.Soft

@[expose] public section

noncomputable section

namespace Cert.Proof.Attn

open Cert.KernelIdeal Cert.KernelIdeal.Gen
open Idealize.ShloMosaic hiding ix1 ix2 ix3 ix4 ix5 eq_ix1 eq_ix2 eq_ix3 eq_ix4 eq_ix5
open Idealize.ShloMosaic.ValueIdx

/-! ## The queries' buffer, the logits, and the accumulator as one sum over the keys -/

theorem pos_q : ∀ a, 0 < S1x2x80x1024.size a := by decide

theorem cq {α : Type} {a b : ℕ} (x : (⟨4, ![1, 1, a, b]⟩ : Shape).Idx → α)
    (h : (⟨4, ![1, 1, a, b]⟩ : Shape).ShapeCasts ⟨2, ![a, b]⟩) (h' : (⟨2, ![a, b]⟩ : Shape).ShapeCasts ⟨3, ![1, a, b]⟩)
    (u : Fin 1) (i : Fin a) (j : Fin b) :
    shapeCast ⟨3, ![1, a, b]⟩ (shapeCast ⟨2, ![a, b]⟩ x h) h' (ix3 u i j) = x (ix4 (0 : Fin 1) (0 : Fin 1) i j) :=
  (shapeCast_apply _ h' _ (ix2 i j) (by
    rw [Shape.rowMajor_val_three, Shape.rowMajor_val_two]
    show i.val * b + j.val = (u.val * a + i.val) * b + j.val
    obtain rfl : u = 0 := Subsingleton.elim _ _
    simp)).trans (sc4 x h i j)

variable (gq : Vec Ideal S1x2x80x1024 .bf16)

/-- Row `r` of head `h`'s expanded queries. -/
def gqx (h r x : ℕ) : EReal :=
  if h = 0 then (if r < 80 then atn pos_q gq ![0, 0, r, x] else 0)
  else if r < 16 then atn pos_q gq ![0, 1, 64 + r, x] else if r < 64 then 0 else atn pos_q gq ![0, 1, r - 64, x]

theorem gqx_emb (o s : Fin 3 → ℕ) (inb : ∀ a, o a + s a ≤ S2x128x1024.size a)
    (x : (Rect.unit (s := S2x128x1024) o s inb).shape.Idx) (h r c : ℕ)
    (h0 : o 0 + (x 0).val = h) (h1 : o 1 + (x 1).val = r) (h2 : o 2 + (x 2).val = c) :
    (fun y : S2x128x1024.Idx => gqx gq (y 0).val (y 1).val (y 2).val) ((Rect.unit (s := S2x128x1024) o s inb).emb x) = gqx gq h r c := by
  have e0 := (ValueKit.rect_emb_unit_val (s := S2x128x1024) o s inb x 0).trans h0
  have e1 := (ValueKit.rect_emb_unit_val (s := S2x128x1024) o s inb x 1).trans h1
  have e2 := (ValueKit.rect_emb_unit_val (s := S2x128x1024) o s inb x 2).trans h2
  show gqx gq _ _ _ = _
  rw [e0, e1, e2]

theorem q95 (u : Fin 1) (i : Fin 64) (j : Fin 1024) :
    k0_pay95 (blk (S := S1x2x80x1024) (by decide) gq ![0, 1, 0, 0] S1x1x64x1024.size) (ix3 u i j) = gqx gq 1 (64 + i.val) j.val := by
  unfold k0_pay95 gqx
  rw [if_neg (by decide), if_neg (by omega), if_neg (by omega)]
  refine (cq _ _ _ u i j).trans ?_
  exact congrArg (atn pos_q gq) (funext fun a => match a with
    | ⟨0, _⟩ => rfl | ⟨1, _⟩ => rfl | ⟨2, _⟩ => by show 0 + i.val = 64 + i.val - 64; omega | ⟨3, _⟩ => Nat.zero_add _)

theorem q93 (u : Fin 1) (i : Fin 16) (j : Fin 1024) :
    k0_pay93 (blk (S := S1x2x80x1024) (by decide) gq ![0, 1, 64, 0] S1x1x16x1024.size) (ix3 u i j) = gqx gq 1 i.val j.val := by
  unfold k0_pay93 gqx
  rw [if_neg (by decide), if_pos (by omega)]
  refine (cq _ _ _ u i j).trans ?_
  exact congrArg (atn pos_q gq) (funext fun a => match a with
    | ⟨0, _⟩ => rfl | ⟨1, _⟩ => rfl | ⟨2, _⟩ => rfl | ⟨3, _⟩ => Nat.zero_add _)

theorem q91 (u : Fin 1) (i : Fin 80) (j : Fin 1024) :
    k0_pay91 (blk (S := S1x2x80x1024) (by decide) gq ![0, 0, 0, 0] S1x1x80x1024.size) (ix3 u i j) = gqx gq 0 i.val j.val := by
  unfold k0_pay91 gqx
  rw [if_pos rfl, if_pos (by omega)]
  refine (cq _ _ _ u i j).trans ?_
  exact congrArg (atn pos_q gq) (funext fun a => match a with
    | ⟨0, _⟩ => rfl | ⟨1, _⟩ => rfl | ⟨2, _⟩ => Nat.zero_add _ | ⟨3, _⟩ => Nat.zero_add _)

theorem q94 (x : S1x48x1024.Idx) : (k0_pay94 (F := Ideal) x : EReal) = 0 := Ideal.ofBits_zero_bf16
theorem q92 (x : S1x48x1024.Idx) : (k0_pay92 (F := Ideal) x : EReal) = 0 := Ideal.ofBits_zero_bf16

theorem qL_pieces : View.PiecesOf (fun y : S2x128x1024.Idx => gqx gq (y 0).val (y 1).val (y 2).val) (qL gq) :=
  ⟨fun x => (congrArg _ (eq_ix3 x)).trans ((q95 gq (x 0) (x 1) (x 2)).trans
      (gqx_emb gq ![1, 64, 0] S1x64x1024.size inb_S2x128x1024_S1x64x1024_1_64_0 x 1 (64 + (x 1).val) (x 2).val
        (by have : (x 0).val < 1 := (x 0).isLt; show 1 + (x 0).val = 1; omega) rfl (Nat.zero_add _)).symm),
   fun x => (q94 x).trans ((gqx_emb gq ![1, 16, 0] S1x48x1024.size inb_S2x128x1024_S1x48x1024_1_16_0 x 1 (16 + (x 1).val) (x 2).val
        (by have : (x 0).val < 1 := (x 0).isLt; show 1 + (x 0).val = 1; omega) rfl (Nat.zero_add _)).trans
        (by have : (x 1).val < 48 := (x 1).isLt
            unfold gqx; rw [if_neg (by decide), if_neg (by omega), if_pos (by omega)])).symm,
   fun x => (congrArg _ (eq_ix3 x)).trans ((q93 gq (x 0) (x 1) (x 2)).trans
      (gqx_emb gq ![1, 0, 0] S1x16x1024.size inb_S2x128x1024_S1x16x1024_1_0_0 x 1 (x 1).val (x 2).val
        (by have : (x 0).val < 1 := (x 0).isLt; show 1 + (x 0).val = 1; omega) (Nat.zero_add _) (Nat.zero_add _)).symm),
   fun x => (q92 x).trans ((gqx_emb gq ![0, 80, 0] S1x48x1024.size inb_S2x128x1024_S1x48x1024_0_80_0 x 0 (80 + (x 1).val) (x 2).val
        (by have : (x 0).val < 1 := (x 0).isLt; show 0 + (x 0).val = 0; omega) rfl (Nat.zero_add _)).trans
        (by unfold gqx; rw [if_pos rfl, if_neg (by omega)])).symm,
   fun x => (congrArg _ (eq_ix3 x)).trans ((q91 gq (x 0) (x 1) (x 2)).trans
      (gqx_emb gq ![0, 0, 0] S1x80x1024.size inb_S2x128x1024_S1x80x1024_0_0_0 x 0 (x 1).val (x 2).val
        (by have : (x 0).val < 1 := (x 0).isLt; show 0 + (x 0).val = 0; omega) (Nat.zero_add _) (Nat.zero_add _)).symm),
   trivial⟩

theorem qL_at (h r : ℕ) (x : Fin 1024) (y : S2x128x1024.Idx) (h0 : (y 0).val = h) (h1 : (y 1).val = r) (h2 : (y 2).val = x.val) :
    View.canon (qL gq) y = gqx gq h r x.val := by
  subst h0 h1
  rw [← h2]
  exact View.canon_apply_of_pieces (Val := Elt Ideal) (e := .bf16) (fun y : S2x128x1024.Idx => gqx gq (y 0).val (y 1).val (y 2).val) _ (qL_pieces gq).mem y (qL_cover gq y)

theorem QX_at (h : ℕ) (hh : h < 2) (u : Fin 1) (e : Fin 128) (x : Fin 1024) : (QX gq h (ix3 u e x) : EReal) = gqx gq h e.val x.val := by
  obtain rfl : u = 0 := Subsingleton.elim _ _
  rcases (by omega : h = 0 ∨ h = 1) with rfl | rfl
  · unfold QX
    rw [if_pos rfl]
    unfold ldc
    exact qL_at gq 0 e.val x _ (idx_val (S := S2x128x1024) ![0, 0, 0] S1x128x1024.size inb_S2x128x1024_S1x128x1024_0_0_0 _ 0)
      ((idx_val (S := S2x128x1024) ![0, 0, 0] S1x128x1024.size inb_S2x128x1024_S1x128x1024_0_0_0 _ 1).trans (Nat.zero_add _))
      ((idx_val (S := S2x128x1024) ![0, 0, 0] S1x128x1024.size inb_S2x128x1024_S1x128x1024_0_0_0 _ 2).trans (Nat.zero_add _))
  · unfold QX
    rw [if_neg (by decide)]
    unfold ldc
    exact qL_at gq 1 e.val x _ (idx_val (S := S2x128x1024) ![1, 0, 0] S1x128x1024.size inb_S2x128x1024_S1x128x1024_1_0_0 _ 0)
      ((idx_val (S := S2x128x1024) ![1, 0, 0] S1x128x1024.size inb_S2x128x1024_S1x128x1024_1_0_0 _ 1).trans (Nat.zero_add _))
      ((idx_val (S := S2x128x1024) ![1, 0, 0] S1x128x1024.size inb_S2x128x1024_S1x128x1024_1_0_0 _ 2).trans (Nat.zero_add _))

variable (gk : Vec Ideal S1x2x8192x128 .bf16) (gv : Vec Ideal S1x2x8x128x1024 .bf16)

/-- An even head's logit: the heads' product, and the gates' difference. -/
theorem lg_even (k : ℕ) (x : Fin 1024) (Q K : Fin 64 → EReal) (a c : ℝ)
    (hq : ∀ r : Fin 80, atn pos_q gq ![0, 0, r.val, x.val] = if hr : r.val < 64 then Q ⟨r.val, hr⟩ else qex (r.val - 64) a)
    (hk : ∀ e : Fin 128, atn pos_k gk ![0, 0, k, e.val] = if he : e.val < 64 then K ⟨e.val, he⟩ else kex (e.val - 64) c) :
    lg gk (QX gq) 0 k x = (∑ d, K d * Q d) + ((a - c : ℝ) : EReal) := by
  unfold lg
  simp only [QX_at gq 0 (by omega), hk]
  rw [← extra_sum 64 (by omega)]
  refine (Fin.sum_univ_add (a := 64) (b := 64) (fun e : Fin 128 => (if he : e.val < 64 then K ⟨e.val, he⟩ else kex (e.val - 64) c) * gqx gq 0 e.val x.val)).trans ?_
  refine congrArg₂ (· + ·) (Finset.sum_congr rfl fun d _ => ?_) (Finset.sum_congr rfl fun t _ => ?_)
  · show (if he : d.val < 64 then K ⟨d.val, he⟩ else _) * gqx gq 0 d.val x.val = _
    unfold gqx
    rw [dif_pos d.isLt, if_pos rfl, if_pos (by omega), hq ⟨d.val, by omega⟩, dif_pos d.isLt]
  · show (if he : 64 + t.val < 64 then K ⟨64 + t.val, he⟩ else kex (64 + t.val - 64) c) * gqx gq 0 (64 + t.val) x.val = _
    rw [dif_neg (by omega), Nat.add_sub_cancel_left]
    by_cases ht : t.val < 16
    · unfold gqx
      rw [if_pos rfl, if_pos (by omega), hq ⟨64 + t.val, by omega⟩, dif_neg (by show ¬ 64 + t.val < 64; omega)]
      show _ * qex (64 + t.val - 64) a = _
      rw [Nat.add_sub_cancel_left]
    · rw [kex_4 (by omega), zero_mul, zero_mul]

/-- An odd head's, whose extras come first. -/
theorem lg_odd (k : ℕ) (x : Fin 1024) (Q K : Fin 64 → EReal) (a c : ℝ)
    (hq : ∀ r : Fin 80, atn pos_q gq ![0, 1, r.val, x.val] = if hr : r.val < 64 then Q ⟨r.val, hr⟩ else qex (r.val - 64) a)
    (hk : ∀ e : Fin 128, atn pos_k gk ![0, 1, k, e.val] = if he : e.val < 64 then kex e.val c else K ⟨e.val - 64, by omega⟩) :
    lg gk (QX gq) 1 k x = (∑ d, K d * Q d) + ((a - c : ℝ) : EReal) := by
  unfold lg
  simp only [QX_at gq 1 (by omega), hk]
  rw [← extra_sum 64 (by omega), add_comm]
  refine (Fin.sum_univ_add (a := 64) (b := 64) (fun e : Fin 128 => (if he : e.val < 64 then kex e.val c else K ⟨e.val - 64, by omega⟩) * gqx gq 1 e.val x.val)).trans ?_
  refine congrArg₂ (· + ·) (Finset.sum_congr rfl fun t _ => ?_) (Finset.sum_congr rfl fun d _ => ?_)
  · show (if he : t.val < 64 then kex t.val c else K ⟨t.val - 64, _⟩) * gqx gq 1 t.val x.val = _
    rw [dif_pos t.isLt]
    by_cases ht : t.val < 16
    · unfold gqx
      rw [if_neg (by decide), if_pos ht, hq ⟨64 + t.val, by omega⟩, dif_neg (by show ¬ 64 + t.val < 64; omega)]
      show _ * qex (64 + t.val - 64) a = _
      rw [Nat.add_sub_cancel_left]
    · rw [kex_4 (by omega), zero_mul, zero_mul]
  · show (if he : 64 + d.val < 64 then kex (64 + d.val) c else K ⟨64 + d.val - 64, _⟩) * gqx gq 1 (64 + d.val) x.val = _
    unfold gqx
    have hd : 64 + d.val - 64 = d.val := by omega
    rw [dif_neg (by omega), if_neg (by decide), if_neg (by omega), if_neg (by omega)]
    simp only [hd]
    rw [hq ⟨d.val, by omega⟩, dif_pos d.isLt]

theorem sum_blocks (f : ℕ → EReal) (n : ℕ) :
    ∑ κ ∈ Finset.range (1024 * n), f κ = ∑ b ∈ Finset.range n, ∑ k : Fin 1024, f (1024 * b + k.val) := by
  induction n with
  | zero => simp
  | succ n ih =>
    rw [Finset.sum_range_succ, ← ih, Nat.mul_succ, Finset.sum_range_add, Fin.sum_univ_eq_sum_range (fun k => f (1024 * n + k))]

/-- The accumulator of a query's block, its diagonal in: one sum over every key, a key past the query carrying
    nothing. -/
theorem FV_sum (q : ℕ → Vec Ideal S1x128x1024 .bf16) (h n r : ℕ) (hn : n < 8) (x : Fin 1024) :
    FV gk gv q h n r x = ∑ κ : Fin 8192, atn pos_v gv ![0, h, κ.val / 1024, r, κ.val % 1024]
      * (if κ.val ≤ 1024 * n + x.val then Ideal.exp2 (lg gk q h κ.val x) else 0) := by
  have hx := x.isLt
  rw [Fin.sum_univ_eq_sum_range (fun κ => atn pos_v gv ![0, h, κ / 1024, r, κ % 1024]
      * (if κ ≤ 1024 * n + x.val then Ideal.exp2 (lg gk q h κ x) else 0)) 8192,
    show 8192 = 1024 * n + (1024 + 1024 * (7 - n)) by omega, Finset.sum_range_add, Finset.sum_range_add, sum_blocks]
  unfold FV BV
  refine congrArg₂ (· + ·) (Finset.sum_congr rfl fun b hb => Finset.sum_congr rfl fun k _ => ?_) ?_
  · have hb' := Finset.mem_range.1 hb
    have hk := k.isLt
    rw [if_pos (by omega), show (1024 * b + k.val) / 1024 = b by omega, show (1024 * b + k.val) % 1024 = k.val by omega]
  · rw [← add_zero (∑ k : Fin 1024, _)]
    refine congrArg₂ (· + ·) ?_ (Finset.sum_eq_zero fun t _ => ?_).symm
    · rw [← Fin.sum_univ_eq_sum_range (fun k => atn pos_v gv ![0, h, (1024 * n + k) / 1024, r, (1024 * n + k) % 1024]
        * (if 1024 * n + k ≤ 1024 * n + x.val then Ideal.exp2 (lg gk q h (1024 * n + k) x) else 0)) 1024]
      refine Finset.sum_congr rfl fun k _ => ?_
      have hk := k.isLt
      rw [show (1024 * n + k.val) / 1024 = n by omega, show (1024 * n + k.val) % 1024 = k.val by omega]
      unfold GDv
      by_cases hc : k.val ≤ x.val
      · rw [if_pos hc, if_pos (by omega)]
      · rw [if_neg hc, if_neg (by omega)]
    · rw [if_neg (by omega), mul_zero]

end Cert.Proof.Attn

end
-- ==== Proof.Host0.lean ====
module

public import proofs.«01_k».proof.Proof.Run
public import Idealize.ShloMosaic.Lib.StableHlo.ReadAt

@[expose] public section

namespace Cert.Proof.Attn

open Cert.KernelIdeal Cert.KernelIdeal.Gen
open Idealize.ShloMosaic

/-! ## The arrays laid end to end by the host lines before the call -/

variable (m : (ℓ : Loc nD τ sig) → Buf (Elt Ideal) ℓ) (c : Dev nD)

set_option maxRecDepth 100000 in
theorem up_v42 : StableHlo.upto (hostOps0 (F := Ideal)) (fun b => m (c, b)) 54 (Proc.devRef .tc main_v42) = V m c main_v42 := by
  unfold V hostOps0
  after_reads_simp

set_option maxRecDepth 100000 in
theorem up_v37 : StableHlo.upto (hostOps0 (F := Ideal)) (fun b => m (c, b)) 54 (Proc.devRef .tc main_v37) = V m c main_v37 := by
  unfold V hostOps0
  after_reads_simp

set_option maxRecDepth 100000 in
theorem up_v38 : StableHlo.upto (hostOps0 (F := Ideal)) (fun b => m (c, b)) 54 (Proc.devRef .tc main_v38) = V m c main_v38 := by
  unfold V hostOps0
  after_reads_simp

set_option maxRecDepth 100000 in
theorem up_v39 : StableHlo.upto (hostOps0 (F := Ideal)) (fun b => m (c, b)) 54 (Proc.devRef .tc main_v39) = V m c main_v39 := by
  unfold V hostOps0
  after_reads_simp

set_option maxRecDepth 100000 in
theorem up_v40 : StableHlo.upto (hostOps0 (F := Ideal)) (fun b => m (c, b)) 54 (Proc.devRef .tc main_v40) = V m c main_v40 := by
  unfold V hostOps0
  after_reads_simp

set_option maxRecDepth 100000 in
theorem up_v41 : StableHlo.upto (hostOps0 (F := Ideal)) (fun b => m (c, b)) 54 (Proc.devRef .tc main_v41) = V m c main_v41 := by
  unfold V hostOps0
  after_reads_simp

set_option maxRecDepth 100000 in
theorem V_v43 : V m c main_v43 = concatenate S2x16x80x8192 2 [⟨S2x16x64x8192, V m c main_v42⟩, ⟨S2x16x1x8192, V m c main_v37⟩, ⟨S2x16x1x8192, V m c main_v38⟩, ⟨S2x16x1x8192, V m c main_v39⟩, ⟨S2x16x3x8192, V m c main_v40⟩, ⟨S2x16x10x8192, V m c main_v41⟩]
    concatenates_S2x16x64x8192_S2x16x1x8192_S2x16x1x8192_S2x16x1x8192_S2x16x3x8192_S2x16x10x8192_S2x16x80x8192_d2 := by
  rw [← up_v42, ← up_v37, ← up_v38, ← up_v39, ← up_v40, ← up_v41]
  unfold V
  conv_lhs =>
    unfold hostOps0
    simp (disch := decide) only [StableHlo.readAfter, StableHlo.nary_result']
  rfl

set_option maxRecDepth 100000 in
theorem up_v68 : StableHlo.upto (hostOps0 (F := Ideal)) (fun b => m (c, b)) 92 (Proc.devRef .tc main_v68) = V m c main_v68 := by
  unfold V hostOps0
  after_reads_simp

set_option maxRecDepth 100000 in
theorem up_v70 : StableHlo.upto (hostOps0 (F := Ideal)) (fun b => m (c, b)) 92 (Proc.devRef .tc main_v70) = V m c main_v70 := by
  unfold V hostOps0
  after_reads_simp

set_option maxRecDepth 100000 in
theorem up_v72 : StableHlo.upto (hostOps0 (F := Ideal)) (fun b => m (c, b)) 92 (Proc.devRef .tc main_v72) = V m c main_v72 := by
  unfold V hostOps0
  after_reads_simp

set_option maxRecDepth 100000 in
theorem up_v74 : StableHlo.upto (hostOps0 (F := Ideal)) (fun b => m (c, b)) 92 (Proc.devRef .tc main_v74) = V m c main_v74 := by
  unfold V hostOps0
  after_reads_simp

set_option maxRecDepth 100000 in
theorem up_v75 : StableHlo.upto (hostOps0 (F := Ideal)) (fun b => m (c, b)) 92 (Proc.devRef .tc main_v75) = V m c main_v75 := by
  unfold V hostOps0
  after_reads_simp

set_option maxRecDepth 100000 in
theorem V_v76 : V m c main_v76 = concatenate S2x16x8192x64 3 [⟨S2x16x8192x3, V m c main_v68⟩, ⟨S2x16x8192x1, V m c main_v70⟩, ⟨S2x16x8192x1, V m c main_v72⟩, ⟨S2x16x8192x1, V m c main_v74⟩, ⟨S2x16x8192x58, V m c main_v75⟩]
    concatenates_S2x16x8192x3_S2x16x8192x1_S2x16x8192x1_S2x16x8192x1_S2x16x8192x58_S2x16x8192x64_d3 := by
  rw [← up_v68, ← up_v70, ← up_v72, ← up_v74, ← up_v75]
  unfold V
  conv_lhs =>
    unfold hostOps0
    simp (disch := decide) only [StableHlo.readAfter, StableHlo.nary_result']
  rfl

set_option maxRecDepth 100000 in
theorem up_v89 : StableHlo.upto (hostOps0 (F := Ideal)) (fun b => m (c, b)) 110 (Proc.devRef .tc main_v89) = V m c main_v89 := by
  unfold V hostOps0
  after_reads_simp

set_option maxRecDepth 100000 in
theorem up_v90 : StableHlo.upto (hostOps0 (F := Ideal)) (fun b => m (c, b)) 110 (Proc.devRef .tc main_v90) = V m c main_v90 := by
  unfold V hostOps0
  after_reads_simp

set_option maxRecDepth 100000 in
theorem up_v91 : StableHlo.upto (hostOps0 (F := Ideal)) (fun b => m (c, b)) 110 (Proc.devRef .tc main_v91) = V m c main_v91 := by
  unfold V hostOps0
  after_reads_simp

set_option maxRecDepth 100000 in
theorem V_v92 : V m c main_v92 = concatenate S2x16x8x128x1024 3 [⟨S2x16x8x64x1024, V m c main_v89⟩, ⟨S2x16x8x1x1024, V m c main_v90⟩, ⟨S2x16x8x63x1024, V m c main_v91⟩]
    concatenates_S2x16x8x64x1024_S2x16x8x1x1024_S2x16x8x63x1024_S2x16x8x128x1024_d3 := by
  rw [← up_v89, ← up_v90, ← up_v91]
  unfold V
  conv_lhs =>
    unfold hostOps0
    simp (disch := decide) only [StableHlo.readAfter, StableHlo.nary_result']
  rfl

set_option maxRecDepth 100000 in
theorem up_77_76 : StableHlo.upto (hostOps0 (F := Ideal)) (fun b => m (c, b)) 93 (Proc.devRef .tc main_v76) = V m c main_v76 := by
  unfold V hostOps0
  after_reads_simp

set_option maxRecDepth 100000 in
theorem V_v77 : V m c main_v77 = shapeCast S2x8x2x8192x64 (V m c main_v76) shapeCasts_S2x16x8192x64_S2x8x2x8192x64 := by
  rw [← up_77_76]
  unfold V
  conv_lhs =>
    unfold hostOps0
    simp (disch := decide) only [StableHlo.readAfter, StableHlo.unary_result', StableHlo.binary_result', StableHlo.reshape_result']
  rfl

set_option maxRecDepth 100000 in
theorem up_78_59 : StableHlo.upto (hostOps0 (F := Ideal)) (fun b => m (c, b)) 94 (Proc.devRef .tc main_v59) = V m c main_v59 := by
  unfold V hostOps0
  after_reads_simp

set_option maxRecDepth 100000 in
theorem V_v78 : V m c main_v78 = extractStridedSlice S2x8x1x8192x64 ![0, 0, 0, 0, 0] (V m c main_v59) slices_S2x8x2x8192x64_S2x8x1x8192x64_0_0_0_0_0 := by
  rw [← up_78_59]
  unfold V
  conv_lhs =>
    unfold hostOps0
    simp (disch := decide) only [StableHlo.readAfter, StableHlo.unary_result', StableHlo.binary_result', StableHlo.reshape_result']

set_option maxRecDepth 100000 in
theorem up_79_77 : StableHlo.upto (hostOps0 (F := Ideal)) (fun b => m (c, b)) 95 (Proc.devRef .tc main_v77) = V m c main_v77 := by
  unfold V hostOps0
  after_reads_simp

set_option maxRecDepth 100000 in
theorem V_v79 : V m c main_v79 = extractStridedSlice S2x8x1x8192x64 ![0, 0, 0, 0, 0] (V m c main_v77) slices_S2x8x2x8192x64_S2x8x1x8192x64_0_0_0_0_0 := by
  rw [← up_79_77]
  unfold V
  conv_lhs =>
    unfold hostOps0
    simp (disch := decide) only [StableHlo.readAfter, StableHlo.unary_result', StableHlo.binary_result', StableHlo.reshape_result']

set_option maxRecDepth 100000 in
theorem up_80_78 : StableHlo.upto (hostOps0 (F := Ideal)) (fun b => m (c, b)) 96 (Proc.devRef .tc main_v78) = V m c main_v78 := by
  unfold V hostOps0
  after_reads_simp

set_option maxRecDepth 100000 in
theorem up_80_79 : StableHlo.upto (hostOps0 (F := Ideal)) (fun b => m (c, b)) 96 (Proc.devRef .tc main_v79) = V m c main_v79 := by
  unfold V hostOps0
  after_reads_simp

set_option maxRecDepth 100000 in
theorem V_v80 : V m c main_v80 = concatenate S2x8x1x8192x128 4 [⟨S2x8x1x8192x64, V m c main_v78⟩, ⟨S2x8x1x8192x64, V m c main_v79⟩] concatenates_S2x8x1x8192x64_S2x8x1x8192x64_S2x8x1x8192x128_d4 := by
  rw [← up_80_78, ← up_80_79]
  unfold V
  conv_lhs =>
    unfold hostOps0
    simp (disch := decide) only [StableHlo.readAfter, StableHlo.unary_result', StableHlo.binary_result', StableHlo.reshape_result']

set_option maxRecDepth 100000 in
theorem up_81_77 : StableHlo.upto (hostOps0 (F := Ideal)) (fun b => m (c, b)) 97 (Proc.devRef .tc main_v77) = V m c main_v77 := by
  unfold V hostOps0
  after_reads_simp

set_option maxRecDepth 100000 in
theorem V_v81 : V m c main_v81 = extractStridedSlice S2x8x1x8192x64 ![0, 0, 1, 0, 0] (V m c main_v77) slices_S2x8x2x8192x64_S2x8x1x8192x64_0_0_1_0_0 := by
  rw [← up_81_77]
  unfold V
  conv_lhs =>
    unfold hostOps0
    simp (disch := decide) only [StableHlo.readAfter, StableHlo.unary_result', StableHlo.binary_result', StableHlo.reshape_result']

set_option maxRecDepth 100000 in
theorem up_82_59 : StableHlo.upto (hostOps0 (F := Ideal)) (fun b => m (c, b)) 98 (Proc.devRef .tc main_v59) = V m c main_v59 := by
  unfold V hostOps0
  after_reads_simp

set_option maxRecDepth 100000 in
theorem V_v82 : V m c main_v82 = extractStridedSlice S2x8x1x8192x64 ![0, 0, 1, 0, 0] (V m c main_v59) slices_S2x8x2x8192x64_S2x8x1x8192x64_0_0_1_0_0 := by
  rw [← up_82_59]
  unfold V
  conv_lhs =>
    unfold hostOps0
    simp (disch := decide) only [StableHlo.readAfter, StableHlo.unary_result', StableHlo.binary_result', StableHlo.reshape_result']

set_option maxRecDepth 100000 in
theorem up_83_81 : StableHlo.upto (hostOps0 (F := Ideal)) (fun b => m (c, b)) 99 (Proc.devRef .tc main_v81) = V m c main_v81 := by
  unfold V hostOps0
  after_reads_simp

set_option maxRecDepth 100000 in
theorem up_83_82 : StableHlo.upto (hostOps0 (F := Ideal)) (fun b => m (c, b)) 99 (Proc.devRef .tc main_v82) = V m c main_v82 := by
  unfold V hostOps0
  after_reads_simp

set_option maxRecDepth 100000 in
theorem V_v83 : V m c main_v83 = concatenate S2x8x1x8192x128 4 [⟨S2x8x1x8192x64, V m c main_v81⟩, ⟨S2x8x1x8192x64, V m c main_v82⟩] concatenates_S2x8x1x8192x64_S2x8x1x8192x64_S2x8x1x8192x128_d4 := by
  rw [← up_83_81, ← up_83_82]
  unfold V
  conv_lhs =>
    unfold hostOps0
    simp (disch := decide) only [StableHlo.readAfter, StableHlo.unary_result', StableHlo.binary_result', StableHlo.reshape_result']

set_option maxRecDepth 100000 in
theorem up_84_80 : StableHlo.upto (hostOps0 (F := Ideal)) (fun b => m (c, b)) 100 (Proc.devRef .tc main_v80) = V m c main_v80 := by
  unfold V hostOps0
  after_reads_simp

set_option maxRecDepth 100000 in
theorem up_84_83 : StableHlo.upto (hostOps0 (F := Ideal)) (fun b => m (c, b)) 100 (Proc.devRef .tc main_v83) = V m c main_v83 := by
  unfold V hostOps0
  after_reads_simp

set_option maxRecDepth 100000 in
theorem V_v84 : V m c main_v84 = concatenate S2x8x2x8192x128 2 [⟨S2x8x1x8192x128, V m c main_v80⟩, ⟨S2x8x1x8192x128, V m c main_v83⟩] concatenates_S2x8x1x8192x128_S2x8x1x8192x128_S2x8x2x8192x128_d2 := by
  rw [← up_84_80, ← up_84_83]
  unfold V
  conv_lhs =>
    unfold hostOps0
    simp (disch := decide) only [StableHlo.readAfter, StableHlo.unary_result', StableHlo.binary_result', StableHlo.reshape_result']

set_option maxRecDepth 100000 in
theorem up_85_84 : StableHlo.upto (hostOps0 (F := Ideal)) (fun b => m (c, b)) 101 (Proc.devRef .tc main_v84) = V m c main_v84 := by
  unfold V hostOps0
  after_reads_simp

set_option maxRecDepth 100000 in
theorem V_v85 : V m c main_v85 = shapeCast S2x16x8192x128 (V m c main_v84) shapeCasts_S2x8x2x8192x128_S2x16x8192x128 := by
  rw [← up_85_84]
  unfold V
  conv_lhs =>
    unfold hostOps0
    simp (disch := decide) only [StableHlo.readAfter, StableHlo.unary_result', StableHlo.binary_result', StableHlo.reshape_result']
  rfl

set_option maxRecDepth 100000 in
theorem up_86_85 : StableHlo.upto (hostOps0 (F := Ideal)) (fun b => m (c, b)) 102 (Proc.devRef .tc main_v85) = V m c main_v85 := by
  unfold V hostOps0
  after_reads_simp

set_option maxRecDepth 100000 in
theorem V_v86 : V m c main_v86 = truncf (F := Ideal) (φ := .f32) .bf16 (V m c main_v85) bitsLt_bf16_f32 := by
  rw [← up_86_85]
  unfold V
  conv_lhs =>
    unfold hostOps0
    simp (disch := decide) only [StableHlo.readAfter, StableHlo.unary_result', StableHlo.binary_result', StableHlo.reshape_result']

set_option maxRecDepth 100000 in
theorem up_93_92 : StableHlo.upto (hostOps0 (F := Ideal)) (fun b => m (c, b)) 111 (Proc.devRef .tc main_v92) = V m c main_v92 := by
  unfold V hostOps0
  after_reads_simp

set_option maxRecDepth 100000 in
theorem V_v93 : V m c main_v93 = truncf (F := Ideal) (φ := .f32) .bf16 (V m c main_v92) bitsLt_bf16_f32 := by
  rw [← up_93_92]
  unfold V
  conv_lhs =>
    unfold hostOps0
    simp (disch := decide) only [StableHlo.readAfter, StableHlo.unary_result', StableHlo.binary_result', StableHlo.reshape_result']

set_option maxRecDepth 100000 in
theorem up_44_43 : StableHlo.upto (hostOps0 (F := Ideal)) (fun b => m (c, b)) 55 (Proc.devRef .tc main_v43) = V m c main_v43 := by
  unfold V hostOps0
  after_reads_simp

set_option maxRecDepth 100000 in
theorem V_v44 : V m c main_v44 = truncf (F := Ideal) (φ := .f32) .bf16 (V m c main_v43) bitsLt_bf16_f32 := by
  rw [← up_44_43]
  unfold V
  conv_lhs =>
    unfold hostOps0
    simp (disch := decide) only [StableHlo.readAfter, StableHlo.unary_result', StableHlo.binary_result', StableHlo.reshape_result']

end Cert.Proof.Attn
-- ==== Proof.Host2.lean ====
module

public import proofs.«01_k».proof.Proof.Host0
public import proofs.«01_k».proof.Proof.Spec

@[expose] public section

noncomputable section

namespace Cert.Proof.Attn

open Cert.KernelIdeal Cert.KernelIdeal.Gen
open Idealize.ShloMosaic

/-! ## The pieces the call's arrays are made of, entry by entry -/

variable (m : (ℓ : Loc nD τ sig) → Buf (Elt Ideal) ℓ) (c : Dev nD)

abbrev Y0 : FVec Ideal S2x8192x16x64 .f32 := m (c, Proc.tc.devRef main_arg0)
abbrev Y1 : FVec Ideal S64 .f32 := m (c, Proc.tc.devRef main_arg1)
abbrev Y2 : FVec Ideal S2x8192x16x64 .f32 := m (c, Proc.tc.devRef main_arg2)
abbrev Y3 : FVec Ideal S64 .f32 := m (c, Proc.tc.devRef main_arg3)
abbrev Y4 : FVec Ideal S2x8192x16x64 .f32 := m (c, Proc.tc.devRef main_arg4)
abbrev Y5 : FVec Ideal S2x16x8192 .f32 := m (c, Proc.tc.devRef main_arg5)

variable (b : Fin 2) (h : Fin 16) (s : Fin 8192)

/-- A key's gate, in base two. -/
def fk : EReal := Y5 m c (ix3 b h s) * L2E

/-- A query's gate, in base two, less the bound. -/
def fq : EReal := fk m c b h s - shft (Y1 m c) (Y3 m c)

set_option maxRecDepth 100000 in
theorem e42 (d : Fin 64) : V m c main_v42 (ix4 b h d s)
    = un (Y0 m c) b s h d * (Y1 m c (ix1 d) * Ideal.div L2E (Ideal.ofBits .f32 1090519040#32)) := by
  unfold V hostOps0
  after_reads_at
  rfl

set_option maxRecDepth 100000 in
theorem e37 (u : Fin 1) : V m c main_v37 (ix4 b h u s) = fq m c b h s := by
  unfold V hostOps0
  after_reads_at
  rfl

set_option maxRecDepth 100000 in
theorem e38 (u : Fin 1) : V m c main_v38 (ix4 b h u s) = fq m c b h s - fq m c b h s := by
  unfold V hostOps0
  after_reads_at
  rfl

set_option maxRecDepth 100000 in
theorem e39 (u : Fin 1) : V m c main_v39 (ix4 b h u s)
    = fq m c b h s - fq m c b h s - (fq m c b h s - fq m c b h s) := by
  unfold V hostOps0
  after_reads_at
  rfl

set_option maxRecDepth 100000 in
theorem e40 (t : Fin 3) : V m c main_v40 (ix4 b h t s) = (1 : EReal) := by
  unfold V hostOps0
  after_reads_at
  exact Ideal.ofBits_one_f32

set_option maxRecDepth 100000 in
theorem e41 (t : Fin 10) : V m c main_v41 (ix4 b h t s) = (0 : EReal) := by
  unfold V hostOps0
  after_reads_at
  exact Ideal.ofBits_zero_f32

set_option maxHeartbeats 2000000 in
set_option maxRecDepth 100000 in
theorem e44 (r : Fin 80) : V m c main_v44 (ix4 b h r s)
    = if hr : r.val < 64 then un (Y0 m c) b s h ⟨r.val, hr⟩ * (Y1 m c (ix1 ⟨r.val, hr⟩) * Ideal.div L2E (Ideal.ofBits .f32 1090519040#32))
      else qex (r.val - 64) (fq m c b h s) := by
  rw [V_v44, V_v43]
  generalize h0 : V m c main_v42 = X0
  generalize h1 : V m c main_v37 = X1
  generalize h2 : V m c main_v38 = X2
  generalize h3 : V m c main_v39 = X3
  generalize h4 : V m c main_v40 = X4
  generalize h5 : V m c main_v41 = X5
  pointwise
  rcases (by omega : r.val < 64 ∨ r.val = 64 ∨ r.val = 65 ∨ r.val = 66 ∨ (67 ≤ r.val ∧ r.val < 70) ∨ 70 ≤ r.val) with hr | hr | hr | hr | hr | hr
  · rw [dif_pos hr, dif_pos hr, ← h0]
    exact e42 m c b h s _
  · rw [dif_neg (show ¬ r.val < 64 by omega), dif_neg (show ¬ r.val < 64 by omega), qex_0 (by omega)]
    (repeat' split) <;> first
      | (exfalso; omega)
      | (rw [← h1]; exact e37 m c b h s _)
  · rw [dif_neg (show ¬ r.val < 64 by omega), dif_neg (show ¬ r.val < 64 by omega), qex_1 (by omega) (by omega)]
    (repeat' split) <;> first
      | (exfalso; omega)
      | (rw [← h2]; exact e38 m c b h s _)
  · rw [dif_neg (show ¬ r.val < 64 by omega), dif_neg (show ¬ r.val < 64 by omega), qex_2 (by omega) (by omega)]
    (repeat' split) <;> first
      | (exfalso; omega)
      | (rw [← h3]; exact e39 m c b h s _)
  · rw [dif_neg (show ¬ r.val < 64 by omega), dif_neg (show ¬ r.val < 64 by omega), qex_3 (by omega) (by omega)]
    (repeat' split) <;> first
      | (exfalso; omega)
      | (rw [← h4]; exact e40 m c b h s _)
  · rw [dif_neg (show ¬ r.val < 64 by omega), dif_neg (show ¬ r.val < 64 by omega), qex_4 (by omega)]
    (repeat' split) <;> first
      | (exfalso; omega)
      | (rw [← h5]; exact e41 m c b h s _)

set_option maxRecDepth 100000 in
theorem e59 (p : Fin 8) (u : Fin 2) (d : Fin 64) (hh : h.val = 2 * p.val + u.val) : V m c main_v59 (ix5 b p u s d)
    = un (Y2 m c) b s h d * Y3 m c (ix1 d) := by
  rw [show h = ⟨2 * p.val + u.val, by have := p.isLt; have := u.isLt; omega⟩ from Fin.ext hh]
  unfold V hostOps0
  after_reads_at
  simp only [Nat.mul_comm p.val 2]
  rfl

set_option maxRecDepth 100000 in
theorem e68 (t : Fin 3) : V m c main_v68 (ix4 b h s t) = (1 : EReal) := by
  unfold V hostOps0
  after_reads_at
  exact Ideal.ofBits_one_f32

set_option maxRecDepth 100000 in
theorem e75 (t : Fin 58) : V m c main_v75 (ix4 b h s t) = (0 : EReal) := by
  unfold V hostOps0
  after_reads_at
  exact Ideal.ofBits_zero_f32

set_option maxRecDepth 100000 in
theorem e70 (u : Fin 1) : V m c main_v70 (ix4 b h s u) = -fk m c b h s := by
  unfold V hostOps0
  after_reads_at
  rfl

set_option maxRecDepth 100000 in
theorem e72 (u : Fin 1) : V m c main_v72 (ix4 b h s u) = -(fk m c b h s - fk m c b h s) := by
  unfold V hostOps0
  after_reads_at
  rfl

set_option maxRecDepth 100000 in
theorem e74 (u : Fin 1) : V m c main_v74 (ix4 b h s u) = -(fk m c b h s - fk m c b h s - (fk m c b h s - fk m c b h s)) := by
  unfold V hostOps0
  after_reads_at
  rfl

set_option maxHeartbeats 2000000 in
set_option maxRecDepth 100000 in
theorem e76 (t : Fin 64) : V m c main_v76 (ix4 b h s t) = kex t.val (fk m c b h s) := by
  rw [V_v76]
  generalize h0 : V m c main_v68 = X0
  generalize h1 : V m c main_v70 = X1
  generalize h2 : V m c main_v72 = X2
  generalize h3 : V m c main_v74 = X3
  generalize h4 : V m c main_v75 = X4
  pointwise
  rcases (by omega : t.val < 3 ∨ t.val = 3 ∨ t.val = 4 ∨ t.val = 5 ∨ 6 ≤ t.val) with ht | ht | ht | ht | ht
  · rw [kex_0 (by omega)]
    (repeat' split) <;> first
      | (exfalso; omega)
      | (rw [← h0]; exact e68 m c b h s _)
  · rw [kex_1 (by omega) (by omega)]
    (repeat' split) <;> first
      | (exfalso; omega)
      | (rw [← h1]; exact e70 m c b h s _)
  · rw [kex_2 (by omega) (by omega)]
    (repeat' split) <;> first
      | (exfalso; omega)
      | (rw [← h2]; exact e72 m c b h s _)
  · rw [kex_3 (by omega) (by omega)]
    (repeat' split) <;> first
      | (exfalso; omega)
      | (rw [← h3]; exact e74 m c b h s _)
  · rw [kex_4 (by omega)]
    (repeat' split) <;> first
      | (exfalso; omega)
      | (rw [← h4]; exact e75 m c b h s _)

end Cert.Proof.Attn

end
-- ==== Proof.Host1.lean ====
module

public import proofs.«01_k».proof.Proof.Host2

@[expose] public section

noncomputable section

namespace Cert.Proof.Attn

open Cert.KernelIdeal Cert.KernelIdeal.Gen
open Idealize.ShloMosaic

/-! ## The three arrays the call reads, entry by entry -/

variable (m : (ℓ : Loc nD τ sig) → Buf (Elt Ideal) ℓ) (c : Dev nD)

variable (b : Fin 2) (h : Fin 16) (s : Fin 8192)

theorem e77 (p : Fin 8) (u : Fin 2) (t : Fin 64) (hh : h.val = 2 * p.val + u.val) : V m c main_v77 (ix5 b p u s t)
    = kex t.val (fk m c b h s) := by
  rw [V_v77, ← e76]
  have key : ∀ X : FVec Ideal S2x16x8192x64 .f32, shapeCast S2x8x2x8192x64 X shapeCasts_S2x16x8192x64_S2x8x2x8192x64 (ix5 b p u s t)
      = X (ix4 b h s t) := fun X =>
    shapeCast_apply X _ (ix5 b p u s t) (ix4 b h s t)
      (by rw [Shape.rowMajor_val_five, Shape.rowMajor_val_four]
          show ((b.val * 16 + h.val) * 8192 + s.val) * 64 + t.val = (((b.val * 8 + p.val) * 2 + u.val) * 8192 + s.val) * 64 + t.val
          omega)
  generalize V m c main_v76 = X0
  exact key X0

/-- A pair's slab entry: an even head's keys then its extras, an odd head's the other way round. -/
theorem e80 (p : Fin 8) (u : Fin 1) (t : Fin 128) (hh : h.val = 2 * p.val) : V m c main_v80 (ix5 b p u s t)
    = if ht : t.val < 64 then un (Y2 m c) b s h ⟨t.val, ht⟩ * Y3 m c (ix1 ⟨t.val, ht⟩) else kex (t.val - 64) (fk m c b h s) := by
  rw [V_v80, V_v78, V_v79]
  generalize h0 : V m c main_v59 = X0
  generalize h1 : V m c main_v77 = X1
  pointwise
  split
  · rw [← h0]; exact e59 m c b h s p 0 _ hh
  · rw [← h1]; exact e77 m c b h s p 0 _ hh

theorem e83 (p : Fin 8) (u : Fin 1) (t : Fin 128) (hh : h.val = 2 * p.val + 1) : V m c main_v83 (ix5 b p u s t)
    = if ht : t.val < 64 then kex t.val (fk m c b h s) else un (Y2 m c) b s h ⟨t.val - 64, by omega⟩ * Y3 m c (ix1 ⟨t.val - 64, by omega⟩) := by
  rw [V_v83, V_v81, V_v82]
  generalize h0 : V m c main_v59 = X0
  generalize h1 : V m c main_v77 = X1
  pointwise
  split
  · rw [← h1]; exact e77 m c b h s p 1 _ hh
  · rw [← h0]; exact e59 m c b h s p 1 _ hh

set_option maxHeartbeats 2000000 in
set_option maxRecDepth 100000 in
theorem e86 (t : Fin 128) : V m c main_v86 (ix4 b h s t) = V m c main_v84 (ix5 b ⟨h.val / 2, by omega⟩ ⟨h.val % 2, by omega⟩ s t) := by
  rw [V_v86, V_v85]
  have key : ∀ X : FVec Ideal S2x8x2x8192x128 .f32, shapeCast S2x16x8192x128 X shapeCasts_S2x8x2x8192x128_S2x16x8192x128 (ix4 b h s t)
      = X (ix5 b ⟨h.val / 2, by omega⟩ ⟨h.val % 2, by omega⟩ s t) := fun X =>
    shapeCast_apply X _ (ix4 b h s t) (ix5 b ⟨h.val / 2, by omega⟩ ⟨h.val % 2, by omega⟩ s t)
      (by rw [Shape.rowMajor_val_five, Shape.rowMajor_val_four]
          show (((b.val * 8 + h.val / 2) * 2 + h.val % 2) * 8192 + s.val) * 128 + t.val = ((b.val * 16 + h.val) * 8192 + s.val) * 128 + t.val
          omega)
  generalize V m c main_v84 = X0
  exact key X0

theorem e86_even (p : Fin 8) (t : Fin 128) (hh : h.val = 2 * p.val) : V m c main_v86 (ix4 b h s t)
    = if ht : t.val < 64 then un (Y2 m c) b s h ⟨t.val, ht⟩ * Y3 m c (ix1 ⟨t.val, ht⟩) else kex (t.val - 64) (fk m c b h s) := by
  rw [e86, ← e80 m c b h s p 0 t hh, V_v84]
  generalize V m c main_v80 = X0
  generalize V m c main_v83 = X1
  pointwise
  rw [dif_pos (by omega)]
  congr 1
  congr 1
  · exact Fin.ext (by show h.val / 2 = p.val; omega)
  · exact Subsingleton.elim _ _

theorem e86_odd (p : Fin 8) (t : Fin 128) (hh : h.val = 2 * p.val + 1) : V m c main_v86 (ix4 b h s t)
    = if ht : t.val < 64 then kex t.val (fk m c b h s) else un (Y2 m c) b s h ⟨t.val - 64, by omega⟩ * Y3 m c (ix1 ⟨t.val - 64, by omega⟩) := by
  rw [e86, ← e83 m c b h s p 0 t hh, V_v84]
  generalize V m c main_v80 = X0
  generalize V m c main_v83 = X1
  pointwise
  rw [dif_neg (by omega)]
  congr 1
  congr 1
  · exact Fin.ext (by show h.val / 2 = p.val; omega)
  · exact Subsingleton.elim _ _

set_option maxRecDepth 100000 in
theorem e89 (n : Fin 8) (d : Fin 64) (k : Fin 1024) : V m c main_v89 (ix5 b h n d k)
    = Y4 m c (ix4 b ⟨n.val * 1024 + k.val, by omega⟩ h d) := by
  unfold V hostOps0
  after_reads_at

set_option maxRecDepth 100000 in
theorem e90 (n : Fin 8) (d : Fin 1) (k : Fin 1024) : V m c main_v90 (ix5 b h n d k) = (1 : EReal) := by
  unfold V hostOps0
  after_reads_at
  exact Ideal.ofBits_one_f32

theorem e93 (n : Fin 8) (d : Fin 64) (k : Fin 1024) : V m c main_v93 (ix5 b h n ⟨d.val, by omega⟩ k)
    = Y4 m c (ix4 b ⟨n.val * 1024 + k.val, by omega⟩ h d) := by
  rw [V_v93, V_v92, ← e89]
  generalize V m c main_v89 = X0
  generalize V m c main_v90 = X1
  generalize V m c main_v91 = X2
  pointwise
  rfl

theorem e93_ones (n : Fin 8) (k : Fin 1024) : V m c main_v93 (ix5 b h n (64 : Fin 128) k) = (1 : EReal) := by
  rw [V_v93, V_v92, ← e90 m c b h n 0 k]
  generalize V m c main_v89 = X0
  generalize V m c main_v90 = X1
  generalize V m c main_v91 = X2
  pointwise
  rfl

end Cert.Proof.Attn

end
-- ==== Proof.Win.lean ====
module

public import proofs.«01_k».proof.Proof.Qx
public import proofs.«01_k».proof.Proof.Host1
public import Idealize.ShloMosaic.Lib.Pipeline.ValueKit.Geometry

@[expose] public section

noncomputable section

namespace Cert.Proof.Attn

open Cert.KernelIdeal Cert.KernelIdeal.Gen
open Idealize.ShloMosaic

/-! ## The blocks of a grid point, as the arguments -/

theorem ix_q : ∀ t : Fin cfg0.N, win0_0.index t = ![(grid0.coords t 0).val, (grid0.coords t 1).val, 0, (grid0.coords t 2).val] :=
  (by decide +kernel : ∀ t : Fin grid0.N, _)
theorem ix_k : ∀ t : Fin cfg0.N, win0_1.index t = ![(grid0.coords t 0).val, (grid0.coords t 1).val, 0, 0] :=
  (by decide +kernel : ∀ t : Fin grid0.N, _)
theorem ix_v : ∀ t : Fin cfg0.N, win0_2.index t = ![(grid0.coords t 0).val, (grid0.coords t 1).val, 0, 0, 0] :=
  (by decide +kernel : ∀ t : Fin grid0.N, _)
theorem ix_o : ∀ t : Fin cfg0.N, win0_3.index t = ![(grid0.coords t 0).val, (grid0.coords t 1).val, (grid0.coords t 2).val] :=
  (by decide +kernel : ∀ t : Fin grid0.N, _)

variable (m : (ℓ : Loc nD τ sig) → Buf (Elt Ideal) ℓ) (c : Dev nD)

theorem wq (t : Fin cfg0.N) (u : Fin 2) (r : Fin 80) (x : Fin 1024) (b : Fin 2) (h : Fin 16) (s : Fin 8192)
    (hb : b.val = (grid0.coords t 0).val) (hh : h.val = 2 * (grid0.coords t 1).val + u.val) (hs : s.val = 1024 * (grid0.coords t 2).val + x.val) :
    atn pos_q (iblk m c 0 t) ![0, u.val, r.val, x.val] = V m c main_v44 (ix4 b h r s) := by
  refine (atn_val pos_q (iblk m c 0 t) _ (ix4 (0 : Fin 1) u r x) (fun a => match a with
    | ⟨0, _⟩ => rfl | ⟨1, _⟩ => rfl | ⟨2, _⟩ => rfl | ⟨3, _⟩ => rfl)).trans ?_
  blk_simp [iblk]
  refine congrArg (V m c main_v44) ?_
  blk_ext [ix_q]

theorem rk_aux (A : (b : Ref sig .tc) → Buf (Elt Ideal) ((c.tc : Thread nD τ).loc b)) (t : Fin cfg0.N)
    (y : (win0_1.xblock (grid0.coords t)).Idx) (j : S2x16x8192x128.Idx)
    (h : ∀ a : Fin 4, win0_1.index t a * win0_1.size a + (y a).val = (j a).val) :
    ((cfg0.win 1).blk t).view.read (Elt Ideal) (A main_v86) y = A main_v86 j := by
  have e : ∀ a : Fin 4, ((win0_1.rect t).emb y a).val = (j a).val := fun a =>
    (Pipeline.Window.rect_emb_val win0_1 t y a rfl).trans (h a)
  generalize A main_v86 = X
  exact congrArg X (funext fun a => Fin.ext (e a))

theorem rk (t : Fin cfg0.N) (y : ((cfg0.win 1).xblock (cfg0.grid.coords t)).Idx) (j : S2x16x8192x128.Idx)
    (h : ∀ a : Fin 4, win0_1.index t a * win0_1.size a + (y a).val = (j a).val) : iblk m c 1 t y = V m c main_v86 j := by
  unfold iblk
  exact rk_aux c (V m c) t y j h

theorem wk (t : Fin cfg0.N) (u : Fin 2) (k : Fin 8192) (e : Fin 128) (b : Fin 2) (h : Fin 16)
    (hb : b.val = (grid0.coords t 0).val) (hh : h.val = 2 * (grid0.coords t 1).val + u.val) :
    atn pos_k (iblk m c 1 t) ![0, u.val, k.val, e.val] = V m c main_v86 (ix4 b h k e) := by
  refine (atn_val pos_k (iblk m c 1 t) _ (ix4 (0 : Fin 1) u k e) (fun a => match a with
    | ⟨0, _⟩ => rfl | ⟨1, _⟩ => rfl | ⟨2, _⟩ => rfl | ⟨3, _⟩ => rfl)).trans ?_
  refine rk m c t _ (ix4 b h k e) fun a => ?_
  rw [ix_k t]
  match a with
  | ⟨0, _⟩ => show (grid0.coords t 0).val * 1 + 0 = b.val; omega
  | ⟨1, _⟩ => show (grid0.coords t 1).val * 2 + u.val = h.val; omega
  | ⟨2, _⟩ => show 0 * 8192 + k.val = k.val; omega
  | ⟨3, _⟩ => show 0 * 128 + e.val = e.val; omega

theorem wv (t : Fin cfg0.N) (u : Fin 2) (n : Fin 8) (r : Fin 128) (k : Fin 1024) (b : Fin 2) (h : Fin 16)
    (hb : b.val = (grid0.coords t 0).val) (hh : h.val = 2 * (grid0.coords t 1).val + u.val) :
    atn pos_v (iblk m c 2 t) ![0, u.val, n.val, r.val, k.val] = V m c main_v93 (ix5 b h n r k) := by
  refine (atn_val pos_v (iblk m c 2 t) _ (ix5 (0 : Fin 1) u n r k) (fun a => match a with
    | ⟨0, _⟩ => rfl | ⟨1, _⟩ => rfl | ⟨2, _⟩ => rfl | ⟨3, _⟩ => rfl | ⟨4, _⟩ => rfl)).trans ?_
  blk_simp [iblk]
  refine congrArg (V m c main_v93) ?_
  blk_ext [ix_v]

end Cert.Proof.Attn

end
-- ==== Proof.RefV.lean ====
module

public import proofs.«01_k».proof.Proof.Soft
public import proofs.«01_k».proof.Proof.Gen.ReferenceIdeal.Read

@[expose] public section

noncomputable section

namespace Cert.Proof.Attn

open Cert.ReferenceIdeal Cert.ReferenceIdeal.Gen Cert.ReferenceIdeal.Read
open Idealize.ShloMosaic

/-! ## The reference, entry by entry -/

variable (x0 x2 x4 : FVec Ideal S2x8192x16x64 .f32) (x1 x3 : FVec Ideal S64 .f32) (x5 : FVec Ideal S2x16x8192 .f32)

theorem r12 (b : Fin 2) (s : Fin 8192) (h : Fin 16) (d : Fin 64) :
    val_main_v12 (F := Ideal) x0 x1 (ix4 b s h d) = un x0 b s h d * x1 (ix1 d) := by
  have e : idx_main_v2 (idx_main_v8 (ix4 b s h d)) = ix3 b s h := by
    funext a; match a with | ⟨0, _⟩ => rfl | ⟨1, _⟩ => rfl | ⟨2, _⟩ => rfl
  have e' : idx_main_v10 (idx_main_v11 (ix4 b s h d)) = ix1 d := by
    funext a; match a with | ⟨0, _⟩ => rfl
  rw [val_main_v12_apply, val_main_v9_apply, val_main_v8_apply, val_main_v7_apply, val_main_v6_apply, val_main_v4_apply,
    val_main_v2_apply, val_main_v3_apply, val_main_v5_apply, val_main_v11_apply, val_main_v10_apply, e, e']
  rfl

theorem r25 (b : Fin 2) (s : Fin 8192) (h : Fin 16) (d : Fin 64) :
    val_main_v25 (F := Ideal) x2 x3 (ix4 b s h d) = un x2 b s h d * x3 (ix1 d) := by
  have e : idx_main_v15 (idx_main_v21 (ix4 b s h d)) = ix3 b s h := by
    funext a; match a with | ⟨0, _⟩ => rfl | ⟨1, _⟩ => rfl | ⟨2, _⟩ => rfl
  have e' : idx_main_v23 (idx_main_v24 (ix4 b s h d)) = ix1 d := by
    funext a; match a with | ⟨0, _⟩ => rfl
  rw [val_main_v25_apply, val_main_v22_apply, val_main_v21_apply, val_main_v20_apply, val_main_v19_apply, val_main_v17_apply,
    val_main_v15_apply, val_main_v16_apply, val_main_v18_apply, val_main_v24_apply, val_main_v23_apply, e, e']
  rfl

theorem rmask (i : S2x16x8192x8192.Idx) :
    val_main_call0_v1 (F := Ideal) i = if (i 3).val ≤ (i 2).val then 1#1 else 0#1 := by
  rw [val_main_call0_v1_apply, val_main_v41_apply, val_main_v40_apply, val_main_v38_apply, val_main_v36_apply,
    val_main_v39_apply, val_main_v37_apply]
  have hi : (i 3).val < 8192 := (i 3).isLt
  have hj : (i 2).val < 8192 := (i 2).isLt
  show IntOp.cmpi .sle (BitVec.ofNat 32 (i 3).val) (BitVec.ofNat 32 (i 2).val) = _
  have ti : (BitVec.ofNat 32 (i 3).val).toInt = ((i 3).val : ℤ) := by rw [BitVec.toInt_eq_toNat_cond, BitVec.toNat_ofNat]; omega
  have tj : (BitVec.ofNat 32 (i 2).val).toInt = ((i 2).val : ℤ) := by rw [BitVec.toInt_eq_toNat_cond, BitVec.toNat_ofNat]; omega
  show BitVec.ofBool (BitVec.sle _ _) = _
  rw [BitVec.sle, ti, tj]
  by_cases h : (i 3).val ≤ (i 2).val
  · rw [if_pos h, decide_eq_true (by exact_mod_cast h)]; rfl
  · rw [if_neg h, decide_eq_false (by exact_mod_cast h)]; rfl

/-- A reference logit. -/
def rlog (b : Fin 2) (h : Fin 16) (s κ : Fin 8192) : EReal :=
  (∑ d : Fin 64, un x0 b s h d * x1 (ix1 d) * (un x2 b κ h d * x3 (ix1 d))) * Ideal.ofBits .f32 0x3E000000#32
    + (x5 (ix3 b h s) - x5 (ix3 b h κ))

theorem ninf_eq : Ideal.ofBits .f32 0xFF800000#32 = (⊥ : EReal) := by
  simp [Ideal.ofBits, Ideal.ieee]

theorem eighth_eq : Ideal.ofBits .f32 0x3E000000#32 = ((1 / 8 : ℝ) : EReal) := by
  simp [Ideal.ofBits, Ideal.ieee, -EReal.coe_mul]; norm_num

theorem r42 (b : Fin 2) (h : Fin 16) (s κ : Fin 8192) :
    val_main_v42 (F := Ideal) x0 x1 x2 x3 x5 (ix4 b h s κ) = if κ.val ≤ s.val then rlog x0 x2 x1 x3 x5 b h s κ else ⊥ := by
  rw [val_main_v42_apply, rmask]
  have hb : val_main_call0_v2 (F := Ideal) (ix4 b h s κ) = (⊥ : EReal) := by
    rw [val_main_call0_v2_apply, val_main_call0_v0_apply]
    exact ninf_eq
  have e1 : idx_main_v30 (idx_main_v32 (ix4 b h s κ)) = ix3 b h s := by
    funext a; match a with | ⟨0, _⟩ => rfl | ⟨1, _⟩ => rfl | ⟨2, _⟩ => rfl
  have e2 : idx_main_v31 (idx_main_v33 (ix4 b h s κ)) = ix3 b h κ := by
    funext a; match a with | ⟨0, _⟩ => rfl | ⟨1, _⟩ => rfl | ⟨2, _⟩ => rfl
  have el : ∀ d, lidx_main_v27 (ix4 b h s κ) d = ix4 b s h d := fun d => by
    funext a; match a with | ⟨0, _⟩ => rfl | ⟨1, _⟩ => rfl | ⟨2, _⟩ => rfl | ⟨3, _⟩ => rfl
  have er : ∀ d, ridx_main_v27 (ix4 b h s κ) d = ix4 b κ h d := fun d => by
    funext a; match a with | ⟨0, _⟩ => rfl | ⟨1, _⟩ => rfl | ⟨2, _⟩ => rfl | ⟨3, _⟩ => rfl
  have hl : val_main_v35 (F := Ideal) x0 x1 x2 x3 x5 (ix4 b h s κ) = rlog x0 x2 x1 x3 x5 b h s κ := by
    rw [val_main_v35_apply, val_main_v29_apply, val_main_v34_apply, val_main_v32_apply, val_main_v30_apply,
      val_main_v33_apply, val_main_v31_apply, val_main_v28_apply, val_main_v27_apply, e1, e2]
    simp only [el, er, r12, r25]
    rfl
  rw [hb, hl]
  show (if (if κ.val ≤ s.val then (1#1 : BitVec 1) else 0#1) = 1#1 then rlog x0 x2 x1 x3 x5 b h s κ else (⊥ : EReal)) = _
  by_cases hc : κ.val ≤ s.val
  · rw [if_pos hc, if_pos hc, if_pos rfl]
  · rw [if_neg hc, if_neg hc, if_neg (by decide)]

/-- The largest logit of a row is real once the logits are. -/
theorem r45 (hr : ∀ b h s κ, ∃ r : ℝ, rlog x0 x2 x1 x3 x5 b h s κ = (r : EReal)) (b : Fin 2) (h : Fin 16) (s : Fin 8192) :
    ∃ M : ℝ, val_main_v45 (F := Ideal) x0 x1 x2 x3 x5 (ix3 b h s) = (M : EReal) := by
  have key : ∀ (b : Fin 2) (h : Fin 16) (s κ : Fin 8192), val_main_v42 (F := Ideal) x0 x1 x2 x3 x5 (ix4 b h s κ) ≠ (⊤ : EReal) := fun b h s κ => by
    rw [r42]
    obtain ⟨r, e⟩ := hr b h s κ
    split
    · rw [e]; exact EReal.coe_ne_top r
    · exact bot_ne_top
  have hall : ∀ i, val_main_v42 (F := Ideal) x0 x1 x2 x3 x5 i ≠ (⊤ : EReal) := fun i hT =>
    key (i 0) (i 1) (i 2) (i 3) ((congrArg (val_main_v42 (F := Ideal) x0 x1 x2 x3 x5) (ValueIdx.eq_ix4 i).symm).trans hT)
  obtain ⟨r, e⟩ := hr b h s s
  have hm : (val_main_v43 (F := Ideal) x0 x1 x2 x3 x5 (ix3 b h s) : EReal)
      = (Finset.univ.filter fun i => reducesTo_S2x16x8192x8192_S2x16x8192_d3.drop i = ix3 b h s).fold max
          (val_main_cst_7 (F := Ideal) (Shape.Idx.first h_S_)) (val_main_v42 (F := Ideal) x0 x1 x2 x3 x5) := by
    unfold val_main_v43
    exact Host.reduce_eq_fold (α := EReal) max _ _ _ _ _
  obtain ⟨M, hM⟩ := fold_real (Finset.univ.filter fun i => reducesTo_S2x16x8192x8192_S2x16x8192_d3.drop i = ix3 b h s)
    (val_main_v42 (F := Ideal) x0 x1 x2 x3 x5) (val_main_cst_7 (F := Ideal) (Shape.Idx.first h_S_))
    (by rw [val_main_cst_7_apply]; show Ideal.ofBits .f32 0xFF800000#32 ≠ ⊤; rw [ninf_eq]; exact bot_ne_top) hall (ix4 b h s s)
    (by
      rw [Finset.mem_filter]
      refine ⟨Finset.mem_univ _, ?_⟩
      funext a
      match a with | ⟨0, _⟩ => rfl | ⟨1, _⟩ => rfl | ⟨2, _⟩ => rfl)
    (by rw [r42, if_pos le_rfl, e]; exact EReal.coe_ne_bot r)
  refine ⟨M, ?_⟩
  rw [val_main_v45_apply, val_main_v44_apply, val_main_cst_8_apply]
  show max (Ideal.ofBits .f32 0xFF800000#32) (val_main_v43 (F := Ideal) x0 x1 x2 x3 x5 (ix3 b h s) : EReal) = _
  rw [hm, hM, ninf_eq]
  exact max_eq_right bot_le

/-- The weight of a key before it is divided by the row's sum: nothing at a key past the query. -/
def wt (r : Fin 8192 → ℝ) (s κ : Fin 8192) : ℝ := if κ.val ≤ s.val then Real.exp (r κ) else 0

theorem wt_pos (r : Fin 8192 → ℝ) (s : Fin 8192) : 0 < ∑ κ, wt r s κ :=
  Finset.sum_pos' (fun κ _ => by unfold wt; split; exacts [(Real.exp_pos _).le, le_rfl])
    ⟨s, Finset.mem_univ _, by unfold wt; rw [if_pos le_rfl]; exact Real.exp_pos _⟩

/-- The reference's result, the logits real. -/
theorem r58 (R : Fin 2 → Fin 16 → Fin 8192 → Fin 8192 → ℝ) (hr : ∀ b h s κ, rlog x0 x2 x1 x3 x5 b h s κ = (R b h s κ : EReal))
    (b : Fin 2) (h : Fin 16) (d : Fin 64) (s : Fin 8192) (o : Fin 1024) (ho : o.val = 64 * h.val + d.val) :
    val_main_v58 (F := Ideal) x0 x1 x2 x3 x4 x5 (ix3 b o s)
      = ∑ κ : Fin 8192, x4 (ix4 b κ h d) * ((wt (R b h s) s κ / ∑ j, wt (R b h s) s j : ℝ) : EReal) := by
  have e0 : idx_main_v55 (idx_main_v56 (idx_main_v57 (ix3 b o s))) = ix4 b h d s := by
    have hb := b.isLt
    have hs := s.isLt
    have hoo := o.isLt
    have hd := d.isLt
    have hh := h.isLt
    funext a
    match a with
    | ⟨0, _⟩ => exact Fin.ext (by show ((b.val * 8192 + s.val) * 1024 + o.val) / 8388608 = b.val; omega)
    | ⟨1, _⟩ => exact Fin.ext (by show ((b.val * 8192 + s.val) * 1024 + o.val) / 64 % 16 = h.val; omega)
    | ⟨2, _⟩ => exact Fin.ext (by show ((b.val * 8192 + s.val) * 1024 + o.val) % 64 = d.val; omega)
    | ⟨3, _⟩ => exact Fin.ext (by show ((b.val * 8192 + s.val) * 1024 + o.val) / 1024 % 8192 = s.val; omega)
  have el : ∀ κ, lidx_main_v54 (ix4 b h d s) κ = ix4 b κ h d := fun d => by
    funext a; match a with | ⟨0, _⟩ => rfl | ⟨1, _⟩ => rfl | ⟨2, _⟩ => rfl | ⟨3, _⟩ => rfl
  have er : ∀ κ, ridx_main_v54 (ix4 b h d s) κ = ix4 b h s κ := fun d => by
    funext a; match a with | ⟨0, _⟩ => rfl | ⟨1, _⟩ => rfl | ⟨2, _⟩ => rfl | ⟨3, _⟩ => rfl
  have e4 : ∀ κ, idx_main_v46 (idx_main_v47 (ix4 b h s κ)) = ix3 b h s := fun κ => by
    funext a; match a with | ⟨0, _⟩ => rfl | ⟨1, _⟩ => rfl | ⟨2, _⟩ => rfl
  have e5 : ∀ κ, idx_main_v51 (idx_main_v52 (ix4 b h s κ)) = ix3 b h s := fun κ => by
    funext a; match a with | ⟨0, _⟩ => rfl | ⟨1, _⟩ => rfl | ⟨2, _⟩ => rfl
  have e6 : ∀ κ, idx_main_v50 (ix3 b h s) κ = ix4 b h s κ := fun κ => by
    funext a; match a with | ⟨0, _⟩ => rfl | ⟨1, _⟩ => rfl | ⟨2, _⟩ => rfl | ⟨3, _⟩ => rfl
  obtain ⟨M, hM⟩ := r45 x0 x2 x1 x3 x5 (fun b h s κ => ⟨_, hr b h s κ⟩) b h s
  have h49 : ∀ κ, (val_main_v49 (F := Ideal) x0 x1 x2 x3 x5 (ix4 b h s κ) : EReal)
      = ((wt (R b h s) s κ * Real.exp (-M) : ℝ) : EReal) := fun κ => by
    rw [val_main_v49_apply, val_main_v48_apply, val_main_v47_apply, val_main_v46_apply, e4, hM, r42, hr]
    unfold wt
    by_cases hc : κ.val ≤ s.val
    · rw [if_pos hc, if_pos hc]
      show Ideal.exp ((R b h s κ : EReal) - (M : EReal)) = _
      rw [← EReal.coe_sub, ← Real.exp_add]
      rfl
    · rw [if_neg hc, if_neg hc, zero_mul]
      rfl
  rw [val_main_v58_apply, val_main_v57_apply, val_main_v56_apply, val_main_v55_apply, e0, val_main_v54_apply]
  simp only [el, er]
  refine Eq.trans (Finset.sum_congr rfl fun κ _ => ?_) (soft_early Finset.univ (fun κ => x4 (ix4 b κ h d)) (wt (R b h s) s) (Real.exp (-M)) (Real.exp_pos _) (wt_pos _ _))
  rw [val_main_v53_apply, val_main_v52_apply, val_main_v51_apply, e5, val_main_v50_apply, h49]
  have hs : ∀ j, (val_main_v49 (F := Ideal) x0 x1 x2 x3 x5 (idx_main_v50 (ix3 b h s) j) : EReal) = ((wt (R b h s) s j * Real.exp (-M) : ℝ) : EReal) :=
    fun j => by rw [e6]; exact h49 j
  rw [Finset.sum_congr rfl fun j _ => hs j]
  have hz : (val_main_cst_9 (F := Ideal) (Shape.Idx.first h_S_) : EReal) = 0 := Ideal.ofBits_zero_f32
  rw [hz, zero_add]
  rfl

end Cert.Proof.Attn

end
-- ==== Proof.Reals.lean ====
module

public import proofs.«01_k».proof.Proof.RefV

@[expose] public section

noncomputable section

namespace Cert.Proof.Attn

open Cert.KernelIdeal Cert.KernelIdeal.Gen
open Idealize.ShloMosaic

/-! ## What is real once the gains and the gates are -/

theorem ssq_eq (X : FVec Ideal S2x8192x16x64 .f32) (b : Fin 2) (s : Fin 8192) (h : Fin 16) :
    ssq X b s h = ∑ d : Fin 64, X (ix4 b s h d) * X (ix4 b s h d) := by
  refine (ReferenceIdeal.Read.val_main_v1_apply X (ix3 b s h)).trans ?_
  have hz : (ReferenceIdeal.Read.val_main_cst (F := Ideal) (Shape.Idx.first ReferenceIdeal.Gen.h_S_) : EReal) = 0 := Ideal.ofBits_zero_f32
  rw [hz, zero_add]
  refine Finset.sum_congr rfl fun d _ => ?_
  have e : ReferenceIdeal.Read.idx_main_v1 (ix3 b s h) d = ix4 b s h d := by
    funext a; match a with | ⟨0, _⟩ => rfl | ⟨1, _⟩ => rfl | ⟨2, _⟩ => rfl | ⟨3, _⟩ => rfl
  rw [e]
  rfl

theorem un_real (X : FVec Ideal S2x8192x16x64 .f32) (b : Fin 2) (s : Fin 8192) (h : Fin 16) (d : Fin 64) :
    ∃ r : ℝ, un X b s h d = (r : EReal) := by
  obtain ⟨n, hn, en⟩ := c64_pos
  obtain ⟨e, he, ee⟩ := eps_pos
  unfold un
  rw [ssq_eq, en, ee]
  exact rms_real Finset.univ (fun d => X (ix4 b s h d)) d (Finset.mem_univ _) n e hn he

theorem gmax_real (g : FVec Ideal S64 .f32) (hg : ∀ d, ∃ r : ℝ, g (ix1 d) = (r : EReal)) : ∃ r : ℝ, gmax g = (r : EReal) := by
  have habs : ∀ i, ∃ r : ℝ, (Host.absf g i : EReal) = (r : EReal) := fun i => by
    obtain ⟨r, e⟩ := hg (i 0)
    have e' : g i = (r : EReal) := (congrArg g (ValueIdx.eq_ix1 i)).trans e
    refine ⟨max r (-r), ?_⟩
    show max (g i : EReal) (-(g i : EReal)) = _
    rw [e', ← EReal.coe_neg]
    exact (EReal.coe_strictMono.monotone.map_max).symm
  have hm : gmax g = (Finset.univ.filter fun i => reducesTo_S64_S_d0.drop i = ix0).fold max
      (Ideal.ofBits .f32 4286578688#32) (Host.absf g) := by
    unfold gmax
    exact Host.reduce_eq_fold (α := EReal) max _ _ _ _ _
  rw [hm]
  refine fold_real _ _ _ (by rw [ninf_eq]; exact bot_ne_top) (fun i => ?_) (ix1 (0 : Fin 64)) ?_ ?_
  · obtain ⟨r, e⟩ := habs i
    rw [e]; exact EReal.coe_ne_top r
  · rw [Finset.mem_filter]
    exact ⟨Finset.mem_univ _, funext fun a => a.elim0⟩
  · obtain ⟨r, e⟩ := habs (ix1 (0 : Fin 64))
    rw [e]; exact EReal.coe_ne_bot r

theorem shft_real (g1 g3 : FVec Ideal S64 .f32) (h1 : ∀ d, ∃ r : ℝ, g1 (ix1 d) = (r : EReal)) (h3 : ∀ d, ∃ r : ℝ, g3 (ix1 d) = (r : EReal)) :
    ∃ r : ℝ, shft g1 g3 = (r : EReal) := by
  obtain ⟨a, ea⟩ := gmax_real g1 h1
  obtain ⟨b, eb⟩ := gmax_real g3 h3
  obtain ⟨n, en⟩ := bound_real
  unfold shft
  rw [ea, eb, en, L2E_eq, ← EReal.coe_mul, ← EReal.coe_mul, ← EReal.coe_mul]
  exact ⟨_, rfl⟩

/-- The query's scale: an eighth over `log 2`. -/
theorem scale_eq : Ideal.div L2E (Ideal.ofBits .f32 1090519040#32) = ((1 / Real.log 2 * (1 / 8) : ℝ) : EReal) := by
  rw [L2E_eq, c8_eq, Ideal.div_coe (by norm_num), ← EReal.coe_mul]

/-- The kernel's logit is the reference's over `log 2`, less the bound. -/
theorem logit_real (q g1 k g3 : Fin 64 → ℝ) (fx fk S : ℝ) :
    (∑ d, ((k d : EReal) * (g3 d : EReal)) * ((q d : EReal) * ((g1 d : EReal) * ((1 / Real.log 2 * (1 / 8) : ℝ) : EReal))))
        + ((fx * (1 / Real.log 2) - S - fk * (1 / Real.log 2) : ℝ) : EReal)
      = ((1 / Real.log 2 * ((∑ d, q d * g1 d * (k d * g3 d)) * (1 / 8) + (fx - fk)) - S : ℝ) : EReal) := by
  simp only [← EReal.coe_mul]
  rw [coe_sum, ← EReal.coe_add]
  congr 1
  rw [mul_add, Finset.sum_mul, Finset.mul_sum]
  have : ∀ d, k d * g3 d * (q d * (g1 d * (1 / Real.log 2 * (1 / 8)))) = 1 / Real.log 2 * (q d * g1 d * (k d * g3 d) * (1 / 8)) := fun d => by ring
  rw [Finset.sum_congr rfl fun d _ => this d]
  ring

end Cert.Proof.Attn

end
-- ==== Proof.Rows.lean ====
module

public import proofs.«01_k».proof.Proof.Win
public import proofs.«01_k».proof.Proof.Reals

@[expose] public section

noncomputable section

namespace Cert.Proof.Attn

open Cert.KernelIdeal Cert.KernelIdeal.Gen
open Idealize.ShloMosaic

/-! ## The kernel's rows, as the reference's -/

/-- A real entry of an array. -/
def unr (X : FVec Ideal S2x8192x16x64 .f32) (b : Fin 2) (s : Fin 8192) (h : Fin 16) (d : Fin 64) : ℝ := (un X b s h d).toReal
def gr (g : FVec Ideal S64 .f32) (d : Fin 64) : ℝ := (g (ix1 d) : EReal).toReal
def fr (f : FVec Ideal S2x16x8192 .f32) (b : Fin 2) (h : Fin 16) (s : Fin 8192) : ℝ := (f (ix3 b h s) : EReal).toReal

theorem un_coe (X : FVec Ideal S2x8192x16x64 .f32) (b : Fin 2) (s : Fin 8192) (h : Fin 16) (d : Fin 64) :
    un X b s h d = (unr X b s h d : EReal) := by
  obtain ⟨r, e⟩ := un_real X b s h d
  unfold unr
  rw [e]; rfl

theorem gr_coe (g : FVec Ideal S64 .f32) (hg : ∀ d, ∃ r : ℝ, g (ix1 d) = (r : EReal)) (d : Fin 64) : g (ix1 d) = (gr g d : EReal) := by
  obtain ⟨r, e⟩ := hg d
  unfold gr
  rw [e]; rfl

theorem fr_coe (f : FVec Ideal S2x16x8192 .f32) (hf : ∀ b h s, ∃ r : ℝ, f (ix3 b h s) = (r : EReal)) (b : Fin 2) (h : Fin 16) (s : Fin 8192) :
    f (ix3 b h s) = (fr f b h s : EReal) := by
  obtain ⟨r, e⟩ := hf b h s
  unfold fr
  rw [e]; rfl

/-- The reference's logit, as a real. -/
def RR (x0 x2 : FVec Ideal S2x8192x16x64 .f32) (x1 x3 : FVec Ideal S64 .f32) (x5 : FVec Ideal S2x16x8192 .f32)
    (b : Fin 2) (h : Fin 16) (s κ : Fin 8192) : ℝ :=
  (∑ d, unr x0 b s h d * gr x1 d * (unr x2 b κ h d * gr x3 d)) * (1 / 8) + (fr x5 b h s - fr x5 b h κ)

theorem rlog_eq (x0 x2 : FVec Ideal S2x8192x16x64 .f32) (x1 x3 : FVec Ideal S64 .f32) (x5 : FVec Ideal S2x16x8192 .f32)
    (h1 : ∀ d, ∃ r : ℝ, x1 (ix1 d) = (r : EReal)) (h3 : ∀ d, ∃ r : ℝ, x3 (ix1 d) = (r : EReal))
    (h5 : ∀ b h s, ∃ r : ℝ, x5 (ix3 b h s) = (r : EReal)) (b : Fin 2) (h : Fin 16) (s κ : Fin 8192) :
    rlog x0 x2 x1 x3 x5 b h s κ = (RR x0 x2 x1 x3 x5 b h s κ : EReal) := by
  unfold rlog RR
  simp only [un_coe, gr_coe x1 h1, gr_coe x3 h3, fr_coe x5 h5]
  rw [eighth_eq]
  simp only [← EReal.coe_mul]
  rw [coe_sum, ← EReal.coe_sub, ← EReal.coe_mul, ← EReal.coe_add]

variable (m : (ℓ : Loc nD τ sig) → Buf (Elt Ideal) ℓ) (c : Dev nD)

section
variable (h1 : ∀ d, ∃ r : ℝ, Y1 m c (ix1 d) = (r : EReal)) (h3 : ∀ d, ∃ r : ℝ, Y3 m c (ix1 d) = (r : EReal))
  (h5 : ∀ b h s, ∃ r : ℝ, Y5 m c (ix3 b h s) = (r : EReal)) (S : ℝ) (hS : shft (Y1 m c) (Y3 m c) = (S : EReal))
include h5

theorem fk_eq (b : Fin 2) (h : Fin 16) (s : Fin 8192) : fk m c b h s = ((fr (Y5 m c) b h s * (1 / Real.log 2) : ℝ) : EReal) := by
  unfold fk
  rw [fr_coe (Y5 m c) h5, L2E_eq, ← EReal.coe_mul]

include hS in
theorem fq_eq (b : Fin 2) (h : Fin 16) (s : Fin 8192) : fq m c b h s = ((fr (Y5 m c) b h s * (1 / Real.log 2) - S : ℝ) : EReal) := by
  unfold fq
  rw [fk_eq m c h5, hS, ← EReal.coe_sub]

include h1 h3 hS

theorem q_row (t : Fin cfg0.N) (u : Fin 2) (x : Fin 1024) (b : Fin 2) (h : Fin 16) (s : Fin 8192)
    (hb : b.val = (grid0.coords t 0).val) (hh : h.val = 2 * (grid0.coords t 1).val + u.val) (hs : s.val = 1024 * (grid0.coords t 2).val + x.val)
    (r : Fin 80) : atn pos_q (iblk m c 0 t) ![0, u.val, r.val, x.val]
      = if hr : r.val < 64 then un (Y0 m c) b s h ⟨r.val, hr⟩ * (Y1 m c (ix1 ⟨r.val, hr⟩) * Ideal.div L2E (Ideal.ofBits .f32 1090519040#32))
        else qex (r.val - 64) ((fr (Y5 m c) b h s * (1 / Real.log 2) - S : ℝ) : EReal) := by
  rw [← fq_eq m c h5 S hS]
  exact (wq m c t u r x b h s hb hh hs).trans (e44 m c b h s r)

theorem lg_fin (b : Fin 2) (h : Fin 16) (s κ : Fin 8192) :
    (∑ d : Fin 64, un (Y2 m c) b κ h d * Y3 m c (ix1 d) * (un (Y0 m c) b s h d * (Y1 m c (ix1 d) * Ideal.div L2E (Ideal.ofBits .f32 1090519040#32))))
      + ((fr (Y5 m c) b h s * (1 / Real.log 2) - S - fr (Y5 m c) b h κ * (1 / Real.log 2) : ℝ) : EReal)
      = ((1 / Real.log 2 * RR (Y0 m c) (Y2 m c) (Y1 m c) (Y3 m c) (Y5 m c) b h s κ - S : ℝ) : EReal) := by
  simp only [un_coe, gr_coe (Y1 m c) h1, gr_coe (Y3 m c) h3, scale_eq]
  exact logit_real _ _ _ _ _ _ _

theorem lg_val0 (t : Fin cfg0.N) (x : Fin 1024) (b : Fin 2) (h : Fin 16) (s κ : Fin 8192) (p : Fin 8) (hp : (grid0.coords t 1).val = p.val)
    (hb : b.val = (grid0.coords t 0).val) (hh : h.val = 2 * p.val) (hs : s.val = 1024 * (grid0.coords t 2).val + x.val) :
    lg (iblk m c 1 t) (QX (iblk m c 0 t)) 0 κ.val x
      = ((1 / Real.log 2 * RR (Y0 m c) (Y2 m c) (Y1 m c) (Y3 m c) (Y5 m c) b h s κ - S : ℝ) : EReal) := by
  have h0 : h.val = 2 * (grid0.coords t 1).val + (0 : Fin 2).val := by rw [hp, hh]; rfl
  refine (lg_even (iblk m c 0 t) (iblk m c 1 t) κ.val x
    (fun d => un (Y0 m c) b s h d * (Y1 m c (ix1 d) * Ideal.div L2E (Ideal.ofBits .f32 1090519040#32)))
    (fun d => un (Y2 m c) b κ h d * Y3 m c (ix1 d)) (fr (Y5 m c) b h s * (1 / Real.log 2) - S) (fr (Y5 m c) b h κ * (1 / Real.log 2))
    (q_row m c h1 h3 h5 S hS t 0 x b h s hb h0 hs) fun e => ?_).trans (lg_fin m c h1 h3 h5 S hS b h s κ)
  rw [← fk_eq m c h5]
  exact (wk m c t 0 κ e b h hb h0).trans (e86_even m c b h κ p e hh)

theorem lg_val1 (t : Fin cfg0.N) (x : Fin 1024) (b : Fin 2) (h : Fin 16) (s κ : Fin 8192) (p : Fin 8) (hp : (grid0.coords t 1).val = p.val)
    (hb : b.val = (grid0.coords t 0).val) (hh : h.val = 2 * p.val + 1) (hs : s.val = 1024 * (grid0.coords t 2).val + x.val) :
    lg (iblk m c 1 t) (QX (iblk m c 0 t)) 1 κ.val x
      = ((1 / Real.log 2 * RR (Y0 m c) (Y2 m c) (Y1 m c) (Y3 m c) (Y5 m c) b h s κ - S : ℝ) : EReal) := by
  have h0 : h.val = 2 * (grid0.coords t 1).val + (1 : Fin 2).val := by rw [hp, hh]; rfl
  refine (lg_odd (iblk m c 0 t) (iblk m c 1 t) κ.val x
    (fun d => un (Y0 m c) b s h d * (Y1 m c (ix1 d) * Ideal.div L2E (Ideal.ofBits .f32 1090519040#32)))
    (fun d => un (Y2 m c) b κ h d * Y3 m c (ix1 d)) (fr (Y5 m c) b h s * (1 / Real.log 2) - S) (fr (Y5 m c) b h κ * (1 / Real.log 2))
    (q_row m c h1 h3 h5 S hS t 1 x b h s hb h0 hs) fun e => ?_).trans (lg_fin m c h1 h3 h5 S hS b h s κ)
  rw [← fk_eq m c h5]
  exact (wk m c t 1 κ e b h hb h0).trans (e86_odd m c b h κ p e hh)

/-- The kernel's logit, in base two and less the bound. -/
theorem lg_val (t : Fin cfg0.N) (u : Fin 2) (x : Fin 1024) (b : Fin 2) (h : Fin 16) (s κ : Fin 8192)
    (hb : b.val = (grid0.coords t 0).val) (hh : h.val = 2 * (grid0.coords t 1).val + u.val) (hs : s.val = 1024 * (grid0.coords t 2).val + x.val) :
    lg (iblk m c 1 t) (QX (iblk m c 0 t)) u.val κ.val x
      = ((1 / Real.log 2 * RR (Y0 m c) (Y2 m c) (Y1 m c) (Y3 m c) (Y5 m c) b h s κ - S : ℝ) : EReal) := by
  have hl := h.isLt
  have hp : (grid0.coords t 1).val < 8 := by omega
  have hu : u.val = 0 ∨ u.val = 1 := by omega
  rcases hu with e | e
  · rw [e]
    rw [e] at hh
    exact lg_val0 m c h1 h3 h5 S hS t x b h s κ ⟨_, hp⟩ rfl hb hh hs
  · rw [e]
    rw [e] at hh
    exact lg_val1 m c h1 h3 h5 S hS t x b h s κ ⟨_, hp⟩ rfl hb hh hs

/-- A row's weighted sum, whatever the values of the row. -/
theorem row_val (t : Fin cfg0.N) (u : Fin 2) (x : Fin 1024) (b : Fin 2) (h : Fin 16) (s : Fin 8192) (r : ℕ) (v : Fin 8192 → EReal)
    (hb : b.val = (grid0.coords t 0).val) (hh : h.val = 2 * (grid0.coords t 1).val + u.val) (hs : s.val = 1024 * (grid0.coords t 2).val + x.val)
    (hv : ∀ κ : Fin 8192, atn pos_v (iblk m c 2 t) ![0, u.val, κ.val / 1024, r, κ.val % 1024] = v κ) :
    FV (iblk m c 1 t) (iblk m c 2 t) (QX (iblk m c 0 t)) u.val (grid0.coords t 2).val r x
      = ∑ κ : Fin 8192, v κ * ((wt (RR (Y0 m c) (Y2 m c) (Y1 m c) (Y3 m c) (Y5 m c) b h s) s κ * Real.exp (-(Real.log 2 * S)) : ℝ) : EReal) := by
  have hn : (grid0.coords t 2).val < 8 := (grid0.coords t 2).isLt
  rw [FV_sum _ _ _ _ _ _ hn]
  refine Finset.sum_congr rfl fun κ _ => ?_
  rw [hv]
  refine congrArg (v κ * ·) ?_
  unfold wt
  rw [hs]
  split
  · rw [lg_val m c h1 h3 h5 S hS t u x b h s κ hb hh hs, exp2_log2]
  · rw [zero_mul]; rfl

end

/-- A block's entry, as the reference's result. -/
theorem out_pt (h1 : ∀ d, ∃ r : ℝ, Y1 m c (ix1 d) = (r : EReal)) (h3 : ∀ d, ∃ r : ℝ, Y3 m c (ix1 d) = (r : EReal))
    (h5 : ∀ b h s, ∃ r : ℝ, Y5 m c (ix3 b h s) = (r : EReal))
    (t : Fin cfg0.N) (y : S1x128x1024.Idx) (b : Fin 2) (o : Fin 1024) (s : Fin 8192)
    (hb : (grid0.coords t 0).val = b.val) (ho : 128 * (grid0.coords t 1).val + (y 1).val = o.val)
    (hs : 1024 * (grid0.coords t 2).val + (y 2).val = s.val) :
    outAt m c t y = ReferenceIdeal.Read.val_main_v58 (F := Ideal) (Y0 m c) (Y1 m c) (Y2 m c) (Y3 m c) (Y4 m c) (Y5 m c) (ix3 b o s) := by
  obtain ⟨S, hS⟩ := shft_real (Y1 m c) (Y3 m c) h1 h3
  have hy : (y 1).val < 128 := (y 1).isLt
  have hol := o.isLt
  have hu : (y 1).val / 64 < 2 := by omega
  have hd : (y 1).val % 64 < 64 := Nat.mod_lt _ (by norm_num)
  have hh : 2 * (grid0.coords t 1).val + (y 1).val / 64 < 16 := by omega
  rw [r58 (Y0 m c) (Y2 m c) (Y4 m c) (Y1 m c) (Y3 m c) (Y5 m c) (RR (Y0 m c) (Y2 m c) (Y1 m c) (Y3 m c) (Y5 m c))
    (fun b h s κ => rlog_eq _ _ _ _ _ h1 h3 h5 b h s κ) b ⟨_, hh⟩ ⟨_, hd⟩ s o (by show o.val = 64 * (2 * (grid0.coords t 1).val + (y 1).val / 64) + (y 1).val % 64; omega)]
  unfold outAt
  rw [OUT_at]
  unfold OV
  have hκ : ∀ κ : Fin 8192, κ.val / 1024 < 8 := fun κ => by have := κ.isLt; omega
  have hκ' : ∀ κ : Fin 8192, κ.val % 1024 < 1024 := fun κ => Nat.mod_lt _ (by norm_num)
  rw [row_val m c h1 h3 h5 S hS t ⟨_, hu⟩ (y 2) b ⟨_, hh⟩ s ((y 1).val % 64)
      (fun κ => Y4 m c (ix4 b κ ⟨2 * (grid0.coords t 1).val + (y 1).val / 64, hh⟩ ⟨(y 1).val % 64, hd⟩)) hb.symm rfl hs.symm (fun κ => by
        refine (wv m c t ⟨_, hu⟩ ⟨_, hκ κ⟩ ⟨(y 1).val % 64, by omega⟩ ⟨_, hκ' κ⟩ b ⟨_, hh⟩ hb.symm rfl).trans ?_
        refine (e93 m c b ⟨_, hh⟩ ⟨_, hκ κ⟩ ⟨_, hd⟩ ⟨_, hκ' κ⟩).trans (congrArg (fun k => Y4 m c (ix4 b k _ _)) (Fin.ext ?_))
        show κ.val / 1024 * 1024 + κ.val % 1024 = κ.val
        omega),
    row_val m c h1 h3 h5 S hS t ⟨_, hu⟩ (y 2) b ⟨_, hh⟩ s 64 (fun _ => 1) hb.symm rfl hs.symm (fun κ =>
        (wv m c t ⟨_, hu⟩ ⟨_, hκ κ⟩ 64 ⟨_, hκ' κ⟩ b ⟨_, hh⟩ hb.symm rfl).trans (e93_ones m c b ⟨_, hh⟩ ⟨_, hκ κ⟩ ⟨_, hκ' κ⟩))]
  exact soft_late Finset.univ _ _ _ (Real.exp_pos _) (wt_pos _ _)

end Cert.Proof.Attn

end
-- ==== Proof.Finite.lean ====
module

public import proofs.«01_k».proof.Pre_finite_gains_and_gates
public import proofs.«01_k».proof.Proof.Spec

@[expose] public section

noncomputable section

namespace Cert.Proof.Attn

open Idealize.ShloMosaic

/-! ## The precondition, entry by entry -/

/-- The precondition's side conditions. -/
theorem preFacts : Cert.Pre_finite_gains_and_gates.Facts where
  bcast_S2x16x8192_S2x16x8192x1_0_1_2 := by decide
  bcast_S_S2x16x8192x1 := by decide
  bcast_S_S64 := by decide
  bcast_S64_S1x1x1x64_3 := by decide
  bcast_S2x16x8192x1_S2x16x8192x64_0_1_2_3 := by decide
  bcast_S1x1x1x64_S2x16x8192x64_0_1_2_3 := by decide

theorem inf_eq : Ideal.ofBits .f32 0x7F800000#32 = (⊤ : EReal) := by
  simp [Ideal.ofBits, Ideal.ieee]

theorem and_one {a b : BitVec 1} (h : a &&& b = 1#1) : a = 1#1 ∧ b = 1#1 := by
  revert a b; decide

/-- A magnitude below infinity is a real's. -/
theorem real_of_lt (x : EReal) (h : max x (-x) < ⊤) : ∃ r : ℝ, x = (r : EReal) := by
  induction x with
  | bot => exact absurd h (by simp)
  | top => exact absurd h (by simp)
  | coe r => exact ⟨r, rfl⟩

theorem real_of_cmp {sh : Shape} (A B : FVec Ideal sh .f32) (i : sh.Idx) (x : EReal) (hA : A i = max x (-x))
    (hB : B i = Ideal.ofBits .f32 0x7F800000#32) (h : cmpf .olt A B i = 1#1) : ∃ r : ℝ, x = (r : EReal) := by
  refine real_of_lt x ?_
  have h' : BitVec.ofBool (decide ((A i : EReal) < B i)) = 1#1 := h
  rw [hA, hB, inf_eq] at h'
  by_contra hn
  rw [decide_eq_false hn] at h'
  exact absurd h' (by decide)

open Cert.Pre_finite_gains_and_gates in
theorem pre_real [Facts] (x0 x2 x4 : FVec Ideal S2x8192x16x64 .f32) (x1 x3 : FVec Ideal S64 .f32) (x5 : FVec Ideal S2x16x8192 .f32)
    (h : fn (F := Ideal) x0 x1 x2 x3 x4 x5 = fun _ => 1#1) :
    (∀ d, ∃ r : ℝ, x1 (ix1 d) = (r : EReal)) ∧ (∀ d, ∃ r : ℝ, x3 (ix1 d) = (r : EReal))
      ∧ (∀ b h s, ∃ r : ℝ, x5 (ix3 b h s) = (r : EReal)) := by
  have key : ∀ (b : Fin 2) (n : Fin 16) (s : Fin 8192) (d : Fin 64), (∃ r : ℝ, x5 (ix3 b n s) = (r : EReal))
      ∧ (∃ r : ℝ, x1 (ix1 d) = (r : EReal)) ∧ ∃ r : ℝ, x3 (ix1 d) = (r : EReal) := fun b n s d => by
    have e := congrFun h (ix4 b n s d)
    unfold fn at e
    obtain ⟨e5, e13⟩ := and_one e
    have e5' := (broadcastInDim_apply _ _ _ (ix4 b n s d) (ix4 b n s (0 : Fin 1)) (fun a => match a with
      | ⟨0, _⟩ => rfl | ⟨1, _⟩ => rfl | ⟨2, _⟩ => rfl | ⟨3, _⟩ => rfl)).symm.trans e5
    have e13' := (broadcastInDim_apply _ _ _ (ix4 b n s d) (ix4 (0 : Fin 1) (0 : Fin 1) (0 : Fin 1) d) (fun a => match a with
      | ⟨0, _⟩ => rfl | ⟨1, _⟩ => rfl | ⟨2, _⟩ => rfl | ⟨3, _⟩ => rfl)).symm.trans e13
    have e13'' := (broadcastInDim_apply _ _ _ (ix4 (0 : Fin 1) (0 : Fin 1) (0 : Fin 1) d) (ix1 d) (fun a => match a with
      | ⟨0, _⟩ => rfl)).symm.trans e13'
    obtain ⟨e1, e3⟩ := and_one e13''
    refine ⟨real_of_cmp _ _ _ _ ?_ rfl e5', real_of_cmp _ _ _ _ rfl rfl e1, real_of_cmp _ _ _ _ rfl rfl e3⟩
    exact broadcastInDim_apply _ _ _ (ix4 b n s (0 : Fin 1)) (ix3 b n s) (fun a => match a with
      | ⟨0, _⟩ => rfl | ⟨1, _⟩ => rfl | ⟨2, _⟩ => rfl)
  exact ⟨fun d => (key 0 0 0 d).2.1, fun d => (key 0 0 0 d).2.2, fun b n s => (key b n s 0).1⟩

end Cert.Proof.Attn

end
-- ==== Proof.Final.lean ====
module

public import proofs.«01_k».proof.Proof.Rows
public import proofs.«01_k».proof.Proof.Finite
public import proofs.«01_k».proof.Proof.Frames

@[expose] public section

noncomputable section

namespace Cert.Proof.Attn

open Cert.KernelIdeal Cert.KernelIdeal.Gen
open Idealize.ShloMosaic Idealize.SL.Sem

/-! ## The two runs meet -/

variable (m : (ℓ : Loc nD τ sig) → Buf (Elt Ideal) ℓ)

/-- The reference's result at the kernel's arguments. -/
def want (c : Dev nD) : FVec Ideal S2x1024x8192 .f32 :=
  ReferenceIdeal.Read.val_main_v58 (F := Ideal) (Y0 m c) (Y1 m c) (Y2 m c) (Y3 m c) (Y4 m c) (Y5 m c)

theorem out_j (c : Dev nD) (h1 : ∀ d, ∃ r : ℝ, Y1 m c (ix1 d) = (r : EReal)) (h3 : ∀ d, ∃ r : ℝ, Y3 m c (ix1 d) = (r : EReal))
    (h5 : ∀ b h s, ∃ r : ℝ, Y5 m c (ix3 b h s) = (r : EReal)) (t : Fin cfg0.N) (y : S1x128x1024.Idx) (j : S2x1024x8192.Idx)
    (hj : ∀ a : Fin 3, win0_3.index t a * win0_3.size a + (y a).val = (j a).val) : outAt m c t y = want m c j := by
  have k0 := hj 0
  have k1 := hj 1
  have k2 := hj 2
  rw [ix_o] at k0 k1 k2
  have y0 : (y 0).val = 0 := Nat.lt_one_iff.mp (y 0).isLt
  have g0 : (grid0.coords t 0).val * 1 + (y 0).val = (j 0).val := k0
  have g1 : (grid0.coords t 1).val * 128 + (y 1).val = (j 1).val := k1
  have g2 : (grid0.coords t 2).val * 1024 + (y 2).val = (j 2).val := k2
  refine (out_pt m c h1 h3 h5 t y (j 0) (j 1) (j 2) (by omega) (by omega) (by omega)).trans ?_
  unfold want
  exact congrArg _ (ValueIdx.eq_ix3 j).symm

theorem final_o (c : Dev nD) (h1 : ∀ d, ∃ r : ℝ, Y1 m c (ix1 d) = (r : EReal)) (h3 : ∀ d, ∃ r : ℝ, Y3 m c (ix1 d) = (r : EReal))
    (h5 : ∀ b h s, ∃ r : ℝ, Y5 m c (ix3 b h s) = (r : EReal)) : (dats m 0 c).arrAt 3 cfg0.N = want m c := by
  refine (dats m 0 c).arrAt_eq_of_covers 3 (want m c) (by decide +kernel) fun t hf y => ?_
  blk_simp
  rw [after_o]
  exact out_j m c h1 h3 h5 t y _ fun a => (Pipeline.Window.rect_emb_val win0_3 t y a rfl).symm

end Cert.Proof.Attn

namespace Cert.Proof.Frames

open Idealize.ShloMosaic Idealize.SL.Sem

/-- The kernel's result is the reference's. -/
theorem algebraic : Cert.algebraic_KernelIdeal_ReferenceIdeal_pre_finite_gains_and_gates
    (hPre_finite_gains_and_gates := Attn.preFacts) := by
  intro m g m' g' hp ha
  refine ⟨fun c => Attn.want m c, ?_, ?_⟩
  · refine (θ_run Cert.KernelIdeal.defs _ _).mono (fun r h c => ⟨?_, h.2.1 c⟩)
      (θ_run_and (Attn.run_main (F := Ideal) m g) (Attn.frame_run (F := Ideal) m g))
    have hr := @Attn.pre_real Attn.preFacts _ _ _ _ _ _ (hp c)
    exact (h.1.1.out_eq c 3).trans (Attn.final_o m c hr.1 hr.2.1 hr.2.2)
  · refine (θ_run Cert.ReferenceIdeal.defs _ _).mono (fun r h c => ⟨(h c).1.trans ?_, (h c).2⟩)
      (Cert.ReferenceIdeal.Value.run (F := Ideal) m' g')
    refine (Cert.ReferenceIdeal.Read.val_main_v58_eq m' c).trans ?_
    obtain ⟨a0, a1, a2, a3, a4, a5⟩ := ha c
    rw [a0, a1, a2, a3, a4, a5]
    rfl

/-- The ideal kernel's frame, under the precondition. -/
theorem frame_kernelIdeal_pre : Cert.quiescent_KernelIdeal_pre_finite_gains_and_gates
    (hPre_finite_gains_and_gates := Attn.preFacts) := fun m ρ _ => Cert.Proof.Attn.frame_run (F := Ideal) m ρ

/-- The reference's frame, under the precondition. -/
theorem frame_referenceIdeal_pre : Cert.quiescent_ReferenceIdeal_pre_finite_gains_and_gates
    (hPre_finite_gains_and_gates := Attn.preFacts) := fun m ρ _ => frame_referenceIdeal m ρ trivial

end Cert.Proof.Frames

end
-- ==== Proof.Mlp1.lean ====
module

public import proofs.«01_k».proof.Proof.Gen.Kernel2Ideal.Value
public import Idealize.ShloMosaic.Lib.MatmulPlain
public import Idealize.ShloMosaic.Lib.Pointwise
public import Idealize.ShloMosaic.Lib.ValueIdx
public import Idealize.ShloMosaic.Lib.ValueLayout
public import Idealize.ShloMosaic.Lib.IdealHost

@[expose] public section

noncomputable section

namespace Cert.Proof.Mlp

open Cert.Kernel2Ideal Cert.Kernel2Ideal.Gen
open Idealize.ShloMosaic

/-! ## The block's payloads over the extended reals, read at an index -/

/-- A row of the residual stream after the attention's output product. -/
def xr (x a g2 : Fin 1024 → EReal) (W : Fin 1024 → Fin 1024 → EReal) (d : Fin 1024) : EReal :=
  x d + g2 d * ∑ k : Fin 1024, a k * W k d

/-- A row normalised by its root mean square, with its gain, scale and shift. -/
def hr (v g s3 s4 : Fin 1024 → EReal) (d : Fin 1024) : EReal :=
  v d * Ideal.rsqrt (Ideal.div (∑ k : Fin 1024, v k * v k) (Ideal.ofBits .f32 0x44800000#32) + Ideal.ofBits .f32 0x358637BD#32) * g d
    * (1 + s4 d) + s3 d

/-- A hidden unit's squared rectified value. -/
def sq (h w : Fin 1024 → EReal) : EReal :=
  max (∑ e : Fin 1024, h e * w e) 0 * max (∑ e : Fin 1024, h e * w e) 0

/-- What 1024 hidden units add to an output column. -/
def ch (h : Fin 1024 → EReal) (w1 w2 : Fin 1024 → Fin 1024 → EReal) (d : Fin 1024) : EReal :=
  ∑ f : Fin 1024, sq h (fun e => w1 e f) * w2 f d

/-- A row of the result: the residual stream plus the gated feed-forward of its normalised row. -/
def row (x a g2 s3 s4 g5 g : Fin 1024 → EReal) (W : Fin 1024 → Fin 1024 → EReal) (w1 : Fin 1024 → Fin 4096 → EReal)
    (w2 : Fin 4096 → Fin 1024 → EReal) (d : Fin 1024) : EReal :=
  xr x a g2 W d + g5 d * ∑ f : Fin 4096, sq (hr (xr x a g2 W) g s3 s4) (fun e => w1 e f) * w2 f d

theorem pay1_at (v0 : Vec Ideal S1x1024x256 .bf16) (v2 : Vec Ideal S1x1024x1024 .bf16) (v5 : Vec Ideal S256x1024 .f32)
    (v7 : Vec Ideal S1x1x1x1024 .f32) (r : Fin 256) (d : Fin 1024) :
    k0_pay1 v0 v2 v5 v7 (ix2 r d) = xr (fun d => v5 (ix2 r d)) (fun k => v0 (ix3 (0 : Fin 1) k r)) (fun d => v7 (ix4 (0 : Fin 1) (0 : Fin 1) (0 : Fin 1) d))
      (fun k d => v2 (ix3 (0 : Fin 1) k d)) d := by
  unfold k0_pay1 xr
  pointwise

theorem pay4_at (v11 : FVec Ideal S256x1024 .f32) (v25 : FVec Ideal S1x1024 .f32) (v26 v28 : Vec Ideal S1x1x1x1024 .f32) (r : Fin 256) (d : Fin 1024) :
    k0_pay4 v11 v25 v26 v28 (ix2 r d) = hr (fun d => v11 (ix2 r d)) (fun d => v25 (ix2 (0 : Fin 1) d))
      (fun d => v26 (ix4 (0 : Fin 1) (0 : Fin 1) (0 : Fin 1) d)) (fun d => v28 (ix4 (0 : Fin 1) (0 : Fin 1) (0 : Fin 1) d)) d := by
  unfold k0_pay4 hr
  pointwise

theorem pay2_at (v0 : Vec Ideal S1x1024x256 .bf16) (v2 : Vec Ideal S1x1024x1024 .bf16) (v5 : Vec Ideal S256x1024 .f32)
    (v7 : Vec Ideal S1x1x1x1024 .f32) (r : Fin 256) (d : Fin 1024) :
    k0_pay2 v0 v2 v5 v7 (ix2 r d) = xr (fun d => v5 (ix2 r d)) (fun k => v0 (ix3 (0 : Fin 1) k r)) (fun d => v7 (ix4 (0 : Fin 1) (0 : Fin 1) (0 : Fin 1) d))
      (fun k d => v2 (ix3 (0 : Fin 1) k d)) d := by
  unfold k0_pay2 xr
  pointwise

theorem pay3_at (v : Vec Ideal S1x1024 .f32) (d : Fin 1024) : k0_pay3 v (ix2 (0 : Fin 1) d) = v (ix2 (0 : Fin 1) d) := by
  unfold k0_pay3
  pointwise

theorem pay8_at (v11 : FVec Ideal S256x1024 .f32) (v25 : Vec Ideal S1x1024 .f32) (v26 v28 : Vec Ideal S1x1x1x1024 .f32) (r : Fin 256) (d : Fin 1024) :
    k0_pay8 v11 v25 v26 v28 (ix2 r d) = hr (fun d => v11 (ix2 r d)) (fun d => v25 (ix2 (0 : Fin 1) d))
      (fun d => v26 (ix4 (0 : Fin 1) (0 : Fin 1) (0 : Fin 1) d)) (fun d => v28 (ix4 (0 : Fin 1) (0 : Fin 1) (0 : Fin 1) d)) d := by
  unfold k0_pay8 hr
  pointwise

theorem pay5_at (v11 : FVec Ideal S256x1024 .f32) (v25 : FVec Ideal S1x1024 .f32) (v26 v28 : Vec Ideal S1x1x1x1024 .f32)
    (w1 w2 : Vec Ideal S1024x1024 .bf16) (r : Fin 256) (d : Fin 1024) :
    k0_pay5 v11 v25 v26 v28 w1 w2 (ix2 r d) = ch (fun e => k0_pay4 v11 v25 v26 v28 (ix2 r e)) (fun e f => w1 (ix2 e f)) (fun f d => w2 (ix2 f d)) d := by
  unfold k0_pay5 ch sq
  generalize k0_pay4 v11 v25 v26 v28 = h
  pointwise

theorem pay9_at (v11 : FVec Ideal S256x1024 .f32) (v25 : Vec Ideal S1x1024 .f32) (v26 v28 : Vec Ideal S1x1x1x1024 .f32)
    (w1 w2 : Vec Ideal S1024x1024 .bf16) (r : Fin 256) (d : Fin 1024) :
    k0_pay9 v11 v25 v26 v28 w1 w2 (ix2 r d) = ch (fun e => k0_pay8 v11 v25 v26 v28 (ix2 r e)) (fun e f => w1 (ix2 e f)) (fun f d => w2 (ix2 f d)) d := by
  unfold k0_pay9 ch sq
  generalize k0_pay8 v11 v25 v26 v28 = h
  pointwise

theorem pay6_at (v11 : FVec Ideal S256x1024 .f32) (v25 : FVec Ideal S1x1024 .f32) (v26 v28 : Vec Ideal S1x1x1x1024 .f32)
    (w1 : Vec Ideal S1024x1024 .bf16) (r : Fin 256) (f : Fin 1024) :
    k0_pay6 v11 v25 v26 v28 w1 (ix2 r f) = sq (fun e => k0_pay4 v11 v25 v26 v28 (ix2 r e)) (fun e => w1 (ix2 e f)) := by
  unfold k0_pay6 sq
  generalize k0_pay4 v11 v25 v26 v28 = h
  pointwise

theorem pay7_at (v11 : FVec Ideal S256x1024 .f32) (h : FVec Ideal S256x1024 .bf16) (a s : FVec Ideal S256x1024 .f32)
    (d1 u2 d2 u3 d3 : Vec Ideal S1024x1024 .bf16) (g : Vec Ideal S1x1x1x1024 .f32) (r : Fin 256) (d : Fin 1024) :
    k0_pay7 v11 h a s d1 u2 d2 u3 d3 g (ix2 r d) = v11 (ix2 r d) + g (ix4 (0 : Fin 1) (0 : Fin 1) (0 : Fin 1) d) *
      (a (ix2 r d) + (∑ f : Fin 1024, s (ix2 r f) * d1 (ix2 f d))
        + ch (fun e => h (ix2 r e)) (fun e f => u2 (ix2 e f)) (fun f d => d2 (ix2 f d)) d
        + ch (fun e => h (ix2 r e)) (fun e f => u3 (ix2 e f)) (fun f d => d3 (ix2 f d)) d) := by
  unfold k0_pay7 ch sq
  pointwise

theorem pay11_at (v11 : FVec Ideal S256x1024 .f32) (h : FVec Ideal S256x1024 .bf16) (a : FVec Ideal S256x1024 .f32)
    (u1 d1 u2 d2 u3 d3 : Vec Ideal S1024x1024 .bf16) (g : Vec Ideal S1x1x1x1024 .f32) (r : Fin 256) (d : Fin 1024) :
    k0_pay11 v11 h a (k0_pay10 u1) d1 u2 d2 u3 d3 g (ix2 r d) = v11 (ix2 r d) + g (ix4 (0 : Fin 1) (0 : Fin 1) (0 : Fin 1) d) *
      (a (ix2 r d) + ch (fun e => h (ix2 r e)) (fun e f => u1 (ix2 e f)) (fun f d => d1 (ix2 f d)) d
        + ch (fun e => h (ix2 r e)) (fun e f => u2 (ix2 e f)) (fun f d => d2 (ix2 f d)) d
        + ch (fun e => h (ix2 r e)) (fun e f => u3 (ix2 e f)) (fun f d => d3 (ix2 f d)) d) := by
  unfold k0_pay11 k0_pay10 ch sq
  pointwise

theorem sum_four (g : Fin 4096 → EReal) : (∑ f : Fin 4096, g f)
    = (∑ f : Fin 1024, g ⟨0 + f.val, by omega⟩) + (∑ f : Fin 1024, g ⟨1024 + f.val, by omega⟩)
      + (∑ f : Fin 1024, g ⟨2048 + f.val, by omega⟩) + (∑ f : Fin 1024, g ⟨3072 + f.val, by omega⟩) := by
  rw [← Equiv.sum_comp (finProdFinEquiv (m := 4) (n := 1024)) g, Fintype.sum_prod_type, Fin.sum_univ_four]
  refine congrArg₂ (· + ·) (congrArg₂ (· + ·) (congrArg₂ (· + ·) ?_ ?_) ?_) ?_ <;>
    exact Finset.sum_congr rfl fun f _ => congrArg g (Fin.ext (by simp [finProdFinEquiv]; try omega))

end Cert.Proof.Mlp

end
-- ==== Proof.Mlp2.lean ====
module

public import proofs.«01_k».proof.Proof.Mlp1
public import proofs.«01_k».proof.Proof.Gen.Reference2Ideal.Read

@[expose] public section

noncomputable section

namespace Cert.Proof.Mlp

open Cert.Reference2Ideal Cert.Reference2Ideal.Gen Cert.Reference2Ideal.Read
open Idealize.ShloMosaic

/-! ## The reference, read at an index -/

variable (x0 : FVec Ideal S2x8192x1024 .f32) (x1 : FVec Ideal S2x1024x8192 .f32) (x2 : FVec Ideal S2x6144 .f32) (x3 : FVec Ideal S1024 .f32)
  (x4 : FVec Ideal S2x1024x1024 .f32) (x5 : FVec Ideal S1024x4096 .f32) (x6 : FVec Ideal S4096x1024 .f32)

/-- The modulation's vector at an offset, of one batch. -/
def md (x2 : FVec Ideal S2x6144 .f32) (b : Fin 2) (j : ℕ) (d : Fin 1024) : EReal :=
  x2 (ix2 b ⟨(1024 * j + d.val) % 6144, Nat.mod_lt _ (by decide)⟩)

theorem md_eq (b : Fin 2) (j : ℕ) (hj : j < 6) (d : Fin 1024) (i : S2x6144.Idx) (h0 : (i 0).val = b.val) (h1 : (i 1).val = 1024 * j + d.val) :
    x2 i = md x2 b j d :=
  congrArg x2 (funext fun a => Fin.ext (match a with
    | ⟨0, _⟩ => h0
    | ⟨1, _⟩ => by show (i 1).val = (1024 * j + d.val) % 6144; have := d.isLt; omega))

theorem r13 (b : Fin 2) (s : Fin 8192) (d : Fin 1024) : val_main_v13 (F := Ideal) x0 x1 x2 x4 (ix3 b s d)
    = xr (fun d => x0 (ix3 b s d)) (fun k => x1 (ix3 b k s)) (md x2 b 2) (fun k d => x4 (ix3 (1 : Fin 2) k d)) d := by
  rw [val_main_v13_apply, val_main_v12_apply, val_main_v11_apply, val_main_v10_apply, val_main_v2_apply, val_main_v9_apply]
  refine congrArg₂ (· + ·) rfl (congrArg₂ (· * ·) (md_eq x2 b 2 (by decide) d _ rfl rfl) (Finset.sum_congr rfl fun k _ => ?_))
  rw [val_main_v6_apply, val_main_v8_apply, val_main_v7_apply]
  have hk := k.isLt
  have hd := d.isLt
  refine congrArg₂ (· * ·) (congrArg x1 (funext fun a => match a with | ⟨0, _⟩ => rfl | ⟨1, _⟩ => rfl | ⟨2, _⟩ => rfl))
    (congrArg x4 (funext fun a => Fin.ext (match a with
      | ⟨0, _⟩ => rfl
      | ⟨1, _⟩ => by show (k.val * 1024 + d.val) / 1024 % 1024 = k.val; omega
      | ⟨2, _⟩ => by show (k.val * 1024 + d.val) % 1024 = d.val; omega)))

theorem r34 (b : Fin 2) (s : Fin 8192) (d : Fin 1024) : val_main_v34 (F := Ideal) x0 x1 x2 x3 x4 (ix3 b s d)
    = hr (xr (fun d => x0 (ix3 b s d)) (fun k => x1 (ix3 b k s)) (md x2 b 2) (fun k d => x4 (ix3 (1 : Fin 2) k d)))
        (fun d => x3 (ix1 d)) (md x2 b 3) (md x2 b 4) d := by
  rw [val_main_v34_apply, val_main_v33_apply, val_main_v32_apply, val_main_v3_apply, val_main_v31_apply, val_main_v30_apply, val_main_v29_apply,
    val_main_v28_apply, val_main_cst_2_apply, val_main_v27_apply, val_main_v4_apply, val_main_v26_apply, val_main_v25_apply, val_main_v24_apply,
    val_main_v23_apply, val_main_v22_apply, val_main_v21_apply, val_main_v20_apply, val_main_v19_apply, val_main_cst_1_apply,
    val_main_v18_apply, val_main_v17_apply, val_main_cst_0_apply, val_main_v16_apply, val_main_v15_apply, val_main_cst_apply, r13]
  refine congrArg₂ (· + ·) (congrArg₂ (· * ·) (congrArg₂ (· * ·) (congrArg₂ (· * ·) rfl ?_)
    (congrArg x3 (funext fun a => match a with | ⟨0, _⟩ => rfl)))
    (congrArg₂ (· + ·) Ideal.ofBits_one_f32 (md_eq x2 b 4 (by decide) d _ rfl rfl))) (md_eq x2 b 3 (by decide) d _ rfl rfl)
  refine congrArg Ideal.rsqrt (congrArg₂ (· + ·) (congrArg₂ Ideal.div ?_ rfl) rfl)
  refine (congrArg₂ (· + ·) Ideal.ofBits_zero_f32 (Finset.sum_congr rfl fun k _ => ?_)).trans (zero_add _)
  rw [val_main_v14_apply]
  have e := r13 x0 x1 x2 x4 b s k
  refine congrArg₂ (· * ·) (Eq.trans (congrArg _ ?_) e) (Eq.trans (congrArg _ ?_) e) <;>
    exact funext fun a => match a with | ⟨0, _⟩ => rfl | ⟨1, _⟩ => rfl | ⟨2, _⟩ => rfl

theorem r42 (b : Fin 2) (s : Fin 8192) (d : Fin 1024) : val_main_v42 (F := Ideal) x0 x1 x2 x3 x4 x5 x6 (ix3 b s d)
    = row (fun d => x0 (ix3 b s d)) (fun k => x1 (ix3 b k s)) (md x2 b 2) (md x2 b 3) (md x2 b 4) (md x2 b 5) (fun d => x3 (ix1 d))
        (fun k d => x4 (ix3 (1 : Fin 2) k d)) (fun e f => x5 (ix2 e f)) (fun f d => x6 (ix2 f d)) d := by
  rw [val_main_v42_apply, val_main_v41_apply, val_main_v40_apply, val_main_v35_apply, val_main_v5_apply, val_main_v39_apply, r13]
  refine congrArg₂ (· + ·) rfl (congrArg₂ (· * ·) (md_eq x2 b 5 (by decide) d _ rfl rfl) (Finset.sum_congr rfl fun f _ => ?_))
  rw [val_main_v38_apply, val_main_v37_apply, val_main_call0_v0_apply, val_main_call0_cst_apply, val_main_v36_apply]
  have ii : ∀ k : Fin 1024, lidx_main_v36 (lidx_main_v39 (ix3 b s d) f) k = ix3 b s k := fun k =>
    funext fun a => match a with | ⟨0, _⟩ => rfl | ⟨1, _⟩ => rfl | ⟨2, _⟩ => rfl
  have e : (∑ k : Fin 1024, val_main_v34 (F := Ideal) x0 x1 x2 x3 x4 (lidx_main_v36 (lidx_main_v39 (ix3 b s d) f) k) * x5 (ridx_main_v36 (lidx_main_v39 (ix3 b s d) f) k))
      = ∑ k : Fin 1024, hr (xr (fun d => x0 (ix3 b s d)) (fun k => x1 (ix3 b k s)) (md x2 b 2) (fun k d => x4 (ix3 (1 : Fin 2) k d)))
        (fun d => x3 (ix1 d)) (md x2 b 3) (md x2 b 4) k * x5 (ix2 k f) :=
    Finset.sum_congr rfl fun k _ => congrArg₂ (· * ·)
      (Eq.trans (congrArg _ (ii k)) (r34 x0 x1 x2 x3 x4 b s k))
      (congrArg x5 (funext fun a => match a with | ⟨0, _⟩ => rfl | ⟨1, _⟩ => rfl))
  rw [e]
  have z : ∀ t : EReal, FloatOps.maximumf (F := Ideal) (t : Ideal .f32) (FloatOps.ofBits .f32 0x00000000#32) = max t 0 := fun t =>
    congrArg (max t) Ideal.ofBits_zero_f32
  refine congrArg₂ (· * ·) (congrArg₂ (· * ·) (z _) (z _)) (congrArg x6 (funext fun a => match a with | ⟨0, _⟩ => rfl | ⟨1, _⟩ => rfl))

end Cert.Proof.Mlp

end
-- ==== Proof.Mlp3.lean ====
module

public import proofs.«01_k».proof.Proof.Mlp1
public import Idealize.ShloMosaic.Lib.Pipeline.ValueKit.Geometry

@[expose] public section

noncomputable section

namespace Cert.Proof.Mlp

open Cert.Kernel2Ideal Cert.Kernel2Ideal.Gen
open Idealize.ShloMosaic

/-! ## What the body leaves in the output's block, row by row -/

theorem ld_at {S : Shape} {e : EltTy} (x : Vec Ideal S e) (off size : Fin S.rank → ℕ) (inb) (i : (Rect.unit (s := S) off size inb).shape.Idx) (j : S.Idx)
    (h : ∀ a, off a + (i a).val = (j a).val) : View.ld x (Rect.unit (s := S) off size inb) i = x j :=
  congrArg x (funext fun a => Fin.ext ((ValueKit.rect_emb_unit_val off size inb i a).trans (h a)))

variable (x0 : Vec Ideal S512x1024 .f32) (x1 : Vec Ideal S1x1024x512 .bf16) (x2 : Vec Ideal S1x6x1x1024 .f32) (x3 : Vec Ideal S1x1024 .f32)
  (x4 : Vec Ideal S1x1024x1024 .bf16) (x5 : Vec Ideal S1024x4096 .bf16) (x6 : Vec Ideal S4096x1024 .bf16)

/-- A vector of the modulation's block. -/
def mv (x2 : Vec Ideal S1x6x1x1024 .f32) (j : Fin 6) (d : Fin 1024) : EReal := x2 (ix4 (0 : Fin 1) j (0 : Fin 1) d)

theorem lm2 (d : Fin 1024) : View.ld x2 r0_3 (ix4 (0 : Fin 1) (0 : Fin 1) (0 : Fin 1) d) = mv x2 2 d :=
  ld_at x2 _ _ _ _ _ fun a => match a with | ⟨0, _⟩ => rfl | ⟨1, _⟩ => rfl | ⟨2, _⟩ => rfl | ⟨3, _⟩ => Nat.zero_add _
theorem lm3 (d : Fin 1024) : View.ld x2 r0_7 (ix4 (0 : Fin 1) (0 : Fin 1) (0 : Fin 1) d) = mv x2 3 d :=
  ld_at x2 _ _ _ _ _ fun a => match a with | ⟨0, _⟩ => rfl | ⟨1, _⟩ => rfl | ⟨2, _⟩ => rfl | ⟨3, _⟩ => Nat.zero_add _
theorem lm4 (d : Fin 1024) : View.ld x2 r0_8 (ix4 (0 : Fin 1) (0 : Fin 1) (0 : Fin 1) d) = mv x2 4 d :=
  ld_at x2 _ _ _ _ _ fun a => match a with | ⟨0, _⟩ => rfl | ⟨1, _⟩ => rfl | ⟨2, _⟩ => rfl | ⟨3, _⟩ => Nat.zero_add _
theorem lm5 (d : Fin 1024) : View.ld x2 r0_17 (ix4 (0 : Fin 1) (0 : Fin 1) (0 : Fin 1) d) = mv x2 5 d :=
  ld_at x2 _ _ _ _ _ fun a => match a with | ⟨0, _⟩ => rfl | ⟨1, _⟩ => rfl | ⟨2, _⟩ => rfl | ⟨3, _⟩ => Nat.zero_add _
theorem lg' (d : Fin 1024) : View.ld x3 r0_6 (ix2 (0 : Fin 1) d) = x3 (ix2 (0 : Fin 1) d) :=
  ld_at x3 _ _ _ _ _ fun a => match a with | ⟨0, _⟩ => rfl | ⟨1, _⟩ => Nat.zero_add _
theorem lo (k d : Fin 1024) : View.ld x4 r0_1 (ix3 (0 : Fin 1) k d) = x4 (ix3 (0 : Fin 1) k d) :=
  ld_at x4 _ _ _ _ _ fun a => match a with | ⟨0, _⟩ => rfl | ⟨1, _⟩ => Nat.zero_add _ | ⟨2, _⟩ => Nat.zero_add _
theorem la0 (k : Fin 1024) (r : Fin 256) : View.ld x1 r0_0 (ix3 (0 : Fin 1) k r) = x1 (ix3 (0 : Fin 1) k (⟨0 + r.val, by omega⟩ : Fin 512)) :=
  ld_at x1 _ _ _ _ _ fun a => match a with | ⟨0, _⟩ => rfl | ⟨1, _⟩ => Nat.zero_add _ | ⟨2, _⟩ => rfl
theorem la1 (k : Fin 1024) (r : Fin 256) : View.ld x1 r0_4 (ix3 (0 : Fin 1) k r) = x1 (ix3 (0 : Fin 1) k (⟨256 + r.val, by omega⟩ : Fin 512)) :=
  ld_at x1 _ _ _ _ _ fun a => match a with | ⟨0, _⟩ => rfl | ⟨1, _⟩ => Nat.zero_add _ | ⟨2, _⟩ => rfl
theorem lx0 (r : Fin 256) (d : Fin 1024) : View.ld x0 r0_2 (ix2 r d) = x0 (ix2 (⟨0 + r.val, by omega⟩ : Fin 512) d) :=
  ld_at x0 _ _ _ _ _ fun a => match a with | ⟨0, _⟩ => rfl | ⟨1, _⟩ => Nat.zero_add _
theorem lx1 (r : Fin 256) (d : Fin 1024) : View.ld x0 r0_5 (ix2 r d) = x0 (ix2 (⟨256 + r.val, by omega⟩ : Fin 512) d) :=
  ld_at x0 _ _ _ _ _ fun a => match a with | ⟨0, _⟩ => rfl | ⟨1, _⟩ => Nat.zero_add _
theorem lu0 (e f : Fin 1024) : View.ld x5 r0_9 (ix2 e f) = x5 (ix2 e (⟨0 + f.val, by omega⟩ : Fin 4096)) :=
  ld_at x5 _ _ _ _ _ fun a => match a with | ⟨0, _⟩ => Nat.zero_add _ | ⟨1, _⟩ => rfl
theorem lu1 (e f : Fin 1024) : View.ld x5 r0_11 (ix2 e f) = x5 (ix2 e (⟨1024 + f.val, by omega⟩ : Fin 4096)) :=
  ld_at x5 _ _ _ _ _ fun a => match a with | ⟨0, _⟩ => Nat.zero_add _ | ⟨1, _⟩ => rfl
theorem lu2 (e f : Fin 1024) : View.ld x5 r0_13 (ix2 e f) = x5 (ix2 e (⟨2048 + f.val, by omega⟩ : Fin 4096)) :=
  ld_at x5 _ _ _ _ _ fun a => match a with | ⟨0, _⟩ => Nat.zero_add _ | ⟨1, _⟩ => rfl
theorem lu3 (e f : Fin 1024) : View.ld x5 r0_15 (ix2 e f) = x5 (ix2 e (⟨3072 + f.val, by omega⟩ : Fin 4096)) :=
  ld_at x5 _ _ _ _ _ fun a => match a with | ⟨0, _⟩ => Nat.zero_add _ | ⟨1, _⟩ => rfl
theorem ldn0 (f d : Fin 1024) : View.ld x6 r0_10 (ix2 f d) = x6 (ix2 (⟨0 + f.val, by omega⟩ : Fin 4096) d) :=
  ld_at x6 _ _ _ _ _ fun a => match a with | ⟨0, _⟩ => rfl | ⟨1, _⟩ => Nat.zero_add _
theorem ldn1 (f d : Fin 1024) : View.ld x6 r0_12 (ix2 f d) = x6 (ix2 (⟨1024 + f.val, by omega⟩ : Fin 4096) d) :=
  ld_at x6 _ _ _ _ _ fun a => match a with | ⟨0, _⟩ => rfl | ⟨1, _⟩ => Nat.zero_add _
theorem ldn2 (f d : Fin 1024) : View.ld x6 r0_14 (ix2 f d) = x6 (ix2 (⟨2048 + f.val, by omega⟩ : Fin 4096) d) :=
  ld_at x6 _ _ _ _ _ fun a => match a with | ⟨0, _⟩ => rfl | ⟨1, _⟩ => Nat.zero_add _
theorem ldn3 (f d : Fin 1024) : View.ld x6 r0_16 (ix2 f d) = x6 (ix2 (⟨3072 + f.val, by omega⟩ : Fin 4096) d) :=
  ld_at x6 _ _ _ _ _ fun a => match a with | ⟨0, _⟩ => rfl | ⟨1, _⟩ => Nat.zero_add _

/-- A row of the block, from the input blocks. -/
def brow (r : Fin 512) (d : Fin 1024) : EReal :=
  row (fun d => x0 (ix2 r d)) (fun k => x1 (ix3 (0 : Fin 1) k r)) (mv x2 2) (mv x2 3) (mv x2 4) (mv x2 5) (fun d => x3 (ix2 (0 : Fin 1) d))
    (fun k d => x4 (ix3 (0 : Fin 1) k d)) (fun e f => x5 (ix2 e f)) (fun f d => x6 (ix2 f d)) d

theorem xr_congr {x x' a a' g g' : Fin 1024 → EReal} {W W' : Fin 1024 → Fin 1024 → EReal} (hx : x = x') (ha : a = a') (hg : g = g') (hW : W = W')
    (d : Fin 1024) : xr x a g W d = xr x' a' g' W' d := by rw [hx, ha, hg, hW]

theorem hr_congr {v v' g g' s s' t t' : Fin 1024 → EReal} (hv : v = v') (hg : g = g') (hs : s = s') (ht : t = t') (d : Fin 1024) :
    hr v g s t d = hr v' g' s' t' d := by rw [hv, hg, hs, ht]

theorem ch_congr {h h' : Fin 1024 → EReal} {u u' w w' : Fin 1024 → Fin 1024 → EReal} (hh : h = h') (hu : u = u') (hw : w = w') (d : Fin 1024) :
    ch h u w d = ch h' u' w' d := by rw [hh, hu, hw]

theorem top_at (r : Fin 256) (d : Fin 1024) :
    k0_pay7 (k0_pay12 x0 x1 x2 x3 x4 x5 x6) (k0_pay4 (k0_pay12 x0 x1 x2 x3 x4 x5 x6) (k0_pay14 x0 x1 x2 x3 x4 x5 x6) (View.ld x2 r0_7) (View.ld x2 r0_8)) (k0_pay5 (k0_pay12 x0 x1 x2 x3 x4 x5 x6) (k0_pay14 x0 x1 x2 x3 x4 x5 x6) (View.ld x2 r0_7) (View.ld x2 r0_8) (View.ld x5 r0_9) (View.ld x6 r0_10)) (k0_pay6 (k0_pay12 x0 x1 x2 x3 x4 x5 x6) (k0_pay14 x0 x1 x2 x3 x4 x5 x6) (View.ld x2 r0_7) (View.ld x2 r0_8) (View.ld x5 r0_11)) (View.ld x6 r0_12) (View.ld x5 r0_13) (View.ld x6 r0_14) (View.ld x5 r0_15) (View.ld x6 r0_16) (View.ld x2 r0_17) (ix2 r d)
      = brow x0 x1 x2 x3 x4 x5 x6 ⟨0 + r.val, by omega⟩ d := by
  have p : (fun d => k0_pay12 x0 x1 x2 x3 x4 x5 x6 (ix2 r d)) = xr (fun d => x0 (ix2 (⟨0 + r.val, by omega⟩ : Fin 512) d))
      (fun k => x1 (ix3 (0 : Fin 1) k (⟨0 + r.val, by omega⟩ : Fin 512))) (mv x2 2) (fun k d => x4 (ix3 (0 : Fin 1) k d)) := funext fun d => by
    unfold k0_pay12
    exact (pay1_at _ _ _ _ r d).trans (xr_congr (funext (lx0 x0 r)) (funext fun k => la0 x1 k r) (funext (lm2 x2)) (funext fun k => funext (lo x4 k)) d)
  have q : (fun d => k0_pay14 x0 x1 x2 x3 x4 x5 x6 (ix2 (0 : Fin 1) d)) = fun d => x3 (ix2 (0 : Fin 1) d) := funext fun d => by
    unfold k0_pay14
    exact (pay3_at _ d).trans (lg' x3 d)
  have hh : (fun e => k0_pay4 (k0_pay12 x0 x1 x2 x3 x4 x5 x6) (k0_pay14 x0 x1 x2 x3 x4 x5 x6) (View.ld x2 r0_7) (View.ld x2 r0_8) (ix2 r e))
      = hr (xr (fun d => x0 (ix2 (⟨0 + r.val, by omega⟩ : Fin 512) d)) (fun k => x1 (ix3 (0 : Fin 1) k (⟨0 + r.val, by omega⟩ : Fin 512))) (mv x2 2)
        (fun k d => x4 (ix3 (0 : Fin 1) k d))) (fun d => x3 (ix2 (0 : Fin 1) d)) (mv x2 3) (mv x2 4) := funext fun e =>
    (pay4_at _ _ _ _ r e).trans (hr_congr p q (funext (lm3 x2)) (funext (lm4 x2)) e)
  refine (pay7_at _ _ _ _ _ _ _ _ _ _ r d).trans ?_
  unfold brow row
  rw [sum_four]
  refine congrArg₂ (· + ·) (congrFun p d) (congrArg₂ (· * ·) (lm5 x2 d) (congrArg₂ (· + ·) (congrArg₂ (· + ·) (congrArg₂ (· + ·) ?_ ?_) ?_) ?_))
  · exact (pay5_at _ _ _ _ _ _ r d).trans (ch_congr hh (funext fun e => funext (lu0 x5 e)) (funext fun f => funext (ldn0 x6 f)) d)
  · refine (Finset.sum_congr rfl fun f _ => congrArg₂ (· * ·) (pay6_at _ _ _ _ _ r f) rfl).trans ?_
    exact ch_congr hh (funext fun e => funext (lu1 x5 e)) (funext fun f => funext (ldn1 x6 f)) d
  · exact ch_congr hh (funext fun e => funext (lu2 x5 e)) (funext fun f => funext (ldn2 x6 f)) d
  · exact ch_congr hh (funext fun e => funext (lu3 x5 e)) (funext fun f => funext (ldn3 x6 f)) d

theorem bot_at (r : Fin 256) (d : Fin 1024) :
    k0_pay11 (k0_pay13 x0 x1 x2 x3 x4 x5 x6) (k0_pay8 (k0_pay13 x0 x1 x2 x3 x4 x5 x6) (View.ld x3 r0_6) (View.ld x2 r0_7) (View.ld x2 r0_8)) (k0_pay9 (k0_pay13 x0 x1 x2 x3 x4 x5 x6) (View.ld x3 r0_6) (View.ld x2 r0_7) (View.ld x2 r0_8) (View.ld x5 r0_9) (View.ld x6 r0_10)) (k0_pay10 (View.ld x5 r0_11)) (View.ld x6 r0_12) (View.ld x5 r0_13) (View.ld x6 r0_14) (View.ld x5 r0_15) (View.ld x6 r0_16) (View.ld x2 r0_17) (ix2 r d)
      = brow x0 x1 x2 x3 x4 x5 x6 ⟨256 + r.val, by omega⟩ d := by
  have p : (fun d => k0_pay13 x0 x1 x2 x3 x4 x5 x6 (ix2 r d)) = xr (fun d => x0 (ix2 (⟨256 + r.val, by omega⟩ : Fin 512) d))
      (fun k => x1 (ix3 (0 : Fin 1) k (⟨256 + r.val, by omega⟩ : Fin 512))) (mv x2 2) (fun k d => x4 (ix3 (0 : Fin 1) k d)) := funext fun d => by
    unfold k0_pay13
    exact (pay2_at _ _ _ _ r d).trans (xr_congr (funext (lx1 x0 r)) (funext fun k => la1 x1 k r) (funext (lm2 x2)) (funext fun k => funext (lo x4 k)) d)
  have hh : (fun e => k0_pay8 (k0_pay13 x0 x1 x2 x3 x4 x5 x6) (View.ld x3 r0_6) (View.ld x2 r0_7) (View.ld x2 r0_8) (ix2 r e))
      = hr (xr (fun d => x0 (ix2 (⟨256 + r.val, by omega⟩ : Fin 512) d)) (fun k => x1 (ix3 (0 : Fin 1) k (⟨256 + r.val, by omega⟩ : Fin 512))) (mv x2 2)
        (fun k d => x4 (ix3 (0 : Fin 1) k d))) (fun d => x3 (ix2 (0 : Fin 1) d)) (mv x2 3) (mv x2 4) := funext fun e =>
    (pay8_at _ _ _ _ r e).trans (hr_congr p (funext (lg' x3)) (funext (lm3 x2)) (funext (lm4 x2)) e)
  refine (pay11_at _ _ _ _ _ _ _ _ _ _ r d).trans ?_
  unfold brow row
  rw [sum_four]
  refine congrArg₂ (· + ·) (congrFun p d) (congrArg₂ (· * ·) (lm5 x2 d) (congrArg₂ (· + ·) (congrArg₂ (· + ·) (congrArg₂ (· + ·) ?_ ?_) ?_) ?_))
  · exact (pay9_at _ _ _ _ _ _ r d).trans (ch_congr hh (funext fun e => funext (lu0 x5 e)) (funext fun f => funext (ldn0 x6 f)) d)
  · exact ch_congr hh (funext fun e => funext (lu1 x5 e)) (funext fun f => funext (ldn1 x6 f)) d
  · exact ch_congr hh (funext fun e => funext (lu2 x5 e)) (funext fun f => funext (ldn2 x6 f)) d
  · exact ch_congr hh (funext fun e => funext (lu3 x5 e)) (funext fun f => funext (ldn3 x6 f)) d

theorem e5 (x : S256x1024.Idx) (a : Fin 2) : (r0_5.emb x a).val = ![256, 0] a + (x a).val :=
  ValueKit.rect_emb_unit_val (s := S512x1024) ![256, 0] S256x1024.size inb_S512x1024_S256x1024_256_0 x a
theorem e2 (x : S256x1024.Idx) (a : Fin 2) : (r0_2.emb x a).val = ![0, 0] a + (x a).val :=
  ValueKit.rect_emb_unit_val (s := S512x1024) ![0, 0] S256x1024.size inb_S512x1024_S256x1024_0_0 x a

theorem out_at (y : S512x1024.Idx) : out0_7 x0 x1 x2 x3 x4 x5 x6 y = brow x0 x1 x2 x3 x4 x5 x6 (y 0) (y 1) := by
  unfold out0_7
  refine View.canon_apply_of_pieces (Val := Elt Ideal) (e := .f32) (fun y : S512x1024.Idx => brow x0 x1 x2 x3 x4 x5 x6 (y 0) (y 1)) _ ?_ y (cover0_7 _ _ y)
  refine List.forall_mem_cons.mpr ⟨fun (x : S256x1024.Idx) => ?_, List.forall_mem_cons.mpr ⟨fun (x : S256x1024.Idx) => ?_, fun _ h => absurd h List.not_mem_nil⟩⟩
  · refine (congrArg _ (ValueIdx.eq_ix2 x)).trans ((bot_at x0 x1 x2 x3 x4 x5 x6 (x 0) (x 1)).trans ?_)
    have k0 : (r0_5.emb x 0).val = 256 + (x 0).val := e5 x 0
    have k1 : (r0_5.emb x 1).val = 0 + (x 1).val := e5 x 1
    exact congrArg₂ (brow x0 x1 x2 x3 x4 x5 x6) (Fin.ext k0.symm) (Fin.ext (k1.trans (Nat.zero_add _)).symm)
  · refine (congrArg _ (ValueIdx.eq_ix2 x)).trans ((top_at x0 x1 x2 x3 x4 x5 x6 (x 0) (x 1)).trans ?_)
    have k0 : (r0_2.emb x 0).val = 0 + (x 0).val := e2 x 0
    have k1 : (r0_2.emb x 1).val = 0 + (x 1).val := e2 x 1
    exact congrArg₂ (brow x0 x1 x2 x3 x4 x5 x6) (Fin.ext k0.symm) (Fin.ext (k1.trans (Nat.zero_add _)).symm)

end Cert.Proof.Mlp

end
-- ==== Proof.Mlp4.lean ====
module

public import proofs.«01_k».proof.Proof.Mlp1
public import Idealize.ShloMosaic.Lib.Pipeline.ValueKit.Geometry
public import Idealize.ShloMosaic.Lib.StableHlo.ReadAt

@[expose] public section

noncomputable section

namespace Cert.Proof.Mlp

open Cert.Kernel2Ideal Cert.Kernel2Ideal.Gen
open Idealize.ShloMosaic

/-! ## The arrays the call reads, and their blocks -/

variable (m : (ℓ : Loc nD τ sig) → Buf (Elt Ideal) ℓ) (c : Dev nD)

/-- The program's arguments. -/
def Z0 : FVec Ideal S2x8192x1024 .f32 := m ((c.tc : Thread nD τ).loc main_arg0)
@[inherit_doc Z0] def Z1 : FVec Ideal S2x1024x8192 .f32 := m ((c.tc : Thread nD τ).loc main_arg1)
@[inherit_doc Z0] def Z2 : FVec Ideal S2x6144 .f32 := m ((c.tc : Thread nD τ).loc main_arg2)
@[inherit_doc Z0] def Z3 : FVec Ideal S1024 .f32 := m ((c.tc : Thread nD τ).loc main_arg3)
@[inherit_doc Z0] def Z4 : FVec Ideal S2x1024x1024 .f32 := m ((c.tc : Thread nD τ).loc main_arg4)
@[inherit_doc Z0] def Z5 : FVec Ideal S1024x4096 .f32 := m ((c.tc : Thread nD τ).loc main_arg5)
@[inherit_doc Z0] def Z6 : FVec Ideal S4096x1024 .f32 := m ((c.tc : Thread nD τ).loc main_arg6)

theorem V_v0 : V m c main_v0 = shapeCast S16384x1024 (Z0 m c) shapeCasts_S2x8192x1024_S16384x1024 := by
  unfold V hostOps0 Z0
  after_reads_simp
  rfl
theorem V_v1 : V m c main_v1 = shapeCast S2x6x1x1024 (Z2 m c) shapeCasts_S2x6144_S2x6x1x1024 := by
  unfold V hostOps0 Z2
  after_reads_simp
  rfl
theorem V_v2 : V m c main_v2 = Z5 m c := by
  unfold V hostOps0 Z5
  after_reads_simp
  rfl
theorem V_v3 : V m c main_v3 = Z6 m c := by
  unfold V hostOps0 Z6
  after_reads_simp
  rfl
theorem V_v4 : V m c main_v4 = Z1 m c := by
  unfold V hostOps0 Z1
  after_reads_simp
  rfl
theorem V_v5 : V m c main_v5 = Z4 m c := by
  unfold V hostOps0 Z4
  after_reads_simp
  rfl
theorem V_v6 : V m c main_v6 = shapeCast S1x1024 (Z3 m c) shapeCasts_S1024_S1x1024 := by
  unfold V hostOps0 Z3
  after_reads_simp
  rfl

theorem ix_0 : ∀ t : Fin cfg0.N, win0_0.index t = ![t.val, 0] := (by decide +kernel : ∀ t : Fin grid0.N, _)
theorem ix_1 : ∀ t : Fin cfg0.N, win0_1.index t = ![t.val / 16, 0, t.val % 16] := (by decide +kernel : ∀ t : Fin grid0.N, _)
theorem ix_2 : ∀ t : Fin cfg0.N, win0_2.index t = ![t.val / 16, 0, 0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![1, 0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![t.val, 0] := (by decide +kernel : ∀ t : Fin grid0.N, _)

theorem b0 (t : Fin cfg0.N) (r : Fin 512) (d : Fin 1024) (i : Fin 16384) (hi : t.val * 512 + r.val = i.val) :
    iblk m c 0 t (ix2 r d) = V m c main_v0 (ix2 i d) := by
  blk_simp [iblk]
  refine congrArg (V m c main_v0) ?_
  blk_ext [ix_0]
theorem b1 (t : Fin cfg0.N) (k : Fin 1024) (r : Fin 512) (b : Fin 2) (s : Fin 8192) (hb : t.val / 16 = b.val) (hs : (t.val % 16) * 512 + r.val = s.val) :
    iblk m c 1 t (ix3 (0 : Fin 1) k r) = V m c main_v4 (ix3 b k s) := by
  blk_simp [iblk]
  refine congrArg (V m c main_v4) ?_
  blk_ext [ix_1]
theorem b2 (t : Fin cfg0.N) (j : Fin 6) (d : Fin 1024) (b : Fin 2) (hb : t.val / 16 = b.val) :
    iblk m c 2 t (ix4 (0 : Fin 1) j (0 : Fin 1) d) = V m c main_v1 (ix4 b j (0 : Fin 1) d) := by
  blk_simp [iblk]
  refine congrArg (V m c main_v1) ?_
  blk_ext [ix_2]
theorem b3 (t : Fin cfg0.N) (d : Fin 1024) : iblk m c 3 t (ix2 (0 : Fin 1) d) = V m c main_v6 (ix2 (0 : Fin 1) d) := by
  blk_simp [iblk]
  refine congrArg (V m c main_v6) ?_
  blk_ext [ix_3]
theorem b4 (t : Fin cfg0.N) (k d : Fin 1024) : iblk m c 4 t (ix3 (0 : Fin 1) k d) = V m c main_v5 (ix3 (1 : Fin 2) k d) := by
  blk_simp [iblk]
  refine congrArg (V m c main_v5) ?_
  blk_ext [ix_4]
theorem b5 (t : Fin cfg0.N) (e : Fin 1024) (f : Fin 4096) : iblk m c 5 t (ix2 e f) = V m c main_v2 (ix2 e f) := by
  blk_simp [iblk]
  refine congrArg (V m c main_v2) ?_
  blk_ext [ix_5]
theorem b6 (t : Fin cfg0.N) (f : Fin 4096) (d : Fin 1024) : iblk m c 6 t (ix2 f d) = V m c main_v3 (ix2 f d) := by
  blk_simp [iblk]
  refine congrArg (V m c main_v3) ?_
  blk_ext [ix_6]

theorem s0 (x : FVec Ideal S2x8192x1024 .f32) (b : Fin 2) (s : Fin 8192) (d : Fin 1024) (i : Fin 16384) (hi : b.val * 8192 + s.val = i.val) :
    shapeCast S16384x1024 x shapeCasts_S2x8192x1024_S16384x1024 (ix2 i d) = x (ix3 b s d) :=
  shapeCast_apply x _ _ _ (by
    rw [Shape.rowMajor_val_three, Shape.rowMajor_val_two]
    show (b.val * 8192 + s.val) * 1024 + d.val = i.val * 1024 + d.val
    rw [hi])
theorem s1 (x : FVec Ideal S2x6144 .f32) (b : Fin 2) (j : Fin 6) (d : Fin 1024) (e : Fin 6144) (he : e.val = 1024 * j.val + d.val) :
    shapeCast S2x6x1x1024 x shapeCasts_S2x6144_S2x6x1x1024 (ix4 b j (0 : Fin 1) d) = x (ix2 b e) :=
  shapeCast_apply x _ _ _ (by
    rw [Shape.rowMajor_val_four, Shape.rowMajor_val_two]
    show b.val * 6144 + e.val = ((b.val * 6 + j.val) * 1 + 0) * 1024 + d.val
    omega)
theorem s3 (x : FVec Ideal S1024 .f32) (d : Fin 1024) :
    shapeCast S1x1024 x shapeCasts_S1024_S1x1024 (ix2 (0 : Fin 1) d) = x (ix1 d) :=
  shapeCast_apply x _ _ _ (by
    rw [Shape.rowMajor_val_one, Shape.rowMajor_val_two]
    show d.val = 0 * 1024 + d.val
    omega)

end Cert.Proof.Mlp

end
-- ==== Proof.Mlp5.lean ====
module

public import proofs.«01_k».proof.Proof.Mlp2
public import proofs.«01_k».proof.Proof.Mlp3
public import proofs.«01_k».proof.Proof.Mlp4
public import proofs.«01_k».proof.Proof.Gen.Reference2Ideal.Run
public import proofs.«01_k».proof.Proof.Gen.Kernel2.Frame
public import proofs.«01_k».proof.Proof.Gen.Kernel2
public import proofs.«01_k».proof.Proof.Gen.Kernel2Ideal
public import proofs.«01_k».proof.Proof.Gen.Reference2Ideal
public import proofs.«01_k».proof.Defs
public import Idealize.ShloMosaic.Adequacy
public import Idealize.ShloMosaic.Init

@[expose] public section

noncomputable section

namespace Cert.Proof.Mlp

open Cert.Kernel2Ideal Cert.Kernel2Ideal.Gen
open Idealize.ShloMosaic Idealize.SL.Sem

/-! ## The two runs meet -/

variable (m : (ℓ : Loc nD τ sig) → Buf (Elt Ideal) ℓ)

/-- The reference's result at the kernel's arguments. -/
def want (c : Dev nD) : FVec Ideal S16384x1024 .f32 :=
  Reference2Ideal.Read.val_main_v43 (F := Ideal) (Z0 m c) (Z1 m c) (Z2 m c) (Z3 m c) (Z4 m c) (Z5 m c) (Z6 m c)

theorem row_congr {x x' a a' g2 g2' g3 g3' g4 g4' g5 g5' g g' : Fin 1024 → EReal} {W W' : Fin 1024 → Fin 1024 → EReal}
    {u u' : Fin 1024 → Fin 4096 → EReal} {w w' : Fin 4096 → Fin 1024 → EReal} (hx : x = x') (ha : a = a') (h2 : g2 = g2') (h3 : g3 = g3')
    (h4 : g4 = g4') (h5 : g5 = g5') (hg : g = g') (hW : W = W') (hu : u = u') (hw : w = w') (d : Fin 1024) :
    row x a g2 g3 g4 g5 g W u w d = row x' a' g2' g3' g4' g5' g' W' u' w' d := by
  rw [hx, ha, h2, h3, h4, h5, hg, hW, hu, hw]

theorem bmd (c : Dev nD) (t : Fin cfg0.N) (b : Fin 2) (hb : t.val / 16 = b.val) (j : Fin 6) :
    mv (iblk m c 2 t) j = md (Z2 m c) b j.val := funext fun d => by
  have hj := j.isLt
  have hd := d.isLt
  exact (b2 m c t j d b hb).trans ((congrFun (V_v1 m c) _).trans (s1 (Z2 m c) b j d _ (by show (1024 * j.val + d.val) % 6144 = _; omega)))

theorem brow_at (c : Dev nD) (t : Fin cfg0.N) (r : Fin 512) (d : Fin 1024) (i : Fin 16384) (hi : t.val * 512 + r.val = i.val) :
    brow (iblk m c 0 t) (iblk m c 1 t) (iblk m c 2 t) (iblk m c 3 t) (iblk m c 4 t) (iblk m c 5 t) (iblk m c 6 t) r d = want m c (ix2 i d) := by
  have ht : t.val < 32 := t.isLt
  have hr := r.isLt
  have hd := d.isLt
  have hil := i.isLt
  obtain ⟨b, hb⟩ : ∃ b : Fin 2, b.val = t.val / 16 := ⟨⟨t.val / 16, by omega⟩, rfl⟩
  obtain ⟨s, hs⟩ : ∃ s : Fin 8192, s.val = (t.val % 16) * 512 + r.val := ⟨⟨(t.val % 16) * 512 + r.val, by omega⟩, rfl⟩
  have e : want m c (ix2 i d) = _ := (Reference2Ideal.Read.val_main_v43_apply (F := Ideal) (Z0 m c) (Z1 m c) (Z2 m c) (Z3 m c) (Z4 m c) (Z5 m c) (Z6 m c) (ix2 i d)).trans
    ((congrArg _ (show Reference2Ideal.Read.idx_main_v43 (ix2 i d) = ix3 b s d from funext fun a => Fin.ext (match a with
      | ⟨0, _⟩ => by show (i.val * 1024 + d.val) / 8388608 = b.val; omega
      | ⟨1, _⟩ => by show (i.val * 1024 + d.val) / 1024 % 8192 = s.val; omega
      | ⟨2, _⟩ => by show (i.val * 1024 + d.val) % 1024 = d.val; omega))).trans (r42 _ _ _ _ _ _ _ b s d))
  refine Eq.trans ?_ e.symm
  unfold brow
  exact row_congr
    (funext fun d => (b0 m c t r d i hi).trans ((congrFun (V_v0 m c) _).trans (s0 (Z0 m c) b s d i (by omega))))
    (funext fun k => (b1 m c t k r b s hb.symm hs.symm).trans (congrFun (V_v4 m c) _))
    (bmd m c t b hb.symm 2) (bmd m c t b hb.symm 3) (bmd m c t b hb.symm 4) (bmd m c t b hb.symm 5)
    (funext fun d => (b3 m c t d).trans ((congrFun (V_v6 m c) _).trans (s3 (Z3 m c) d)))
    (funext fun k => funext fun d => (b4 m c t k d).trans (congrFun (V_v5 m c) _))
    (funext fun e => funext fun f => (b5 m c t e f).trans (congrFun (V_v2 m c) _))
    (funext fun f => funext fun d => (b6 m c t f d).trans (congrFun (V_v3 m c) _)) d

theorem out_j (c : Dev nD) (t : Fin cfg0.N) (y : S512x1024.Idx) (j : S16384x1024.Idx)
    (hj : ∀ a : Fin 2, win0_7.index t a * win0_7.size a + (y a).val = (j a).val) :
    out0_7 (iblk m c 0 t) (iblk m c 1 t) (iblk m c 2 t) (iblk m c 3 t) (iblk m c 4 t) (iblk m c 5 t) (iblk m c 6 t) y = want m c j := by
  have k0 := hj 0
  have k1 := hj 1
  rw [ix_7] at k0 k1
  have g0 : t.val * 512 + (y 0).val = (j 0).val := k0
  have g1 : 0 * 1024 + (y 1).val = (j 1).val := k1
  have e1 : y 1 = j 1 := Fin.ext (by omega)
  refine (out_at _ _ _ _ _ _ _ y).trans ((brow_at m c t (y 0) (y 1) (j 0) g0).trans ?_)
  rw [e1]
  exact congrArg _ (ValueIdx.eq_ix2 j).symm

theorem final (c : Dev nD) : (dats m 0 c).arrAt 7 cfg0.N = want m c := by
  refine (dats m 0 c).arrAt_eq_of_covers 7 (want m c) (by decide +kernel) fun t hf y => ?_
  blk_simp
  rw [after0_7]
  exact out_j m c t y _ fun a => (Pipeline.Window.rect_emb_val win0_7 t y a rfl).symm

end Cert.Proof.Mlp

namespace Cert.Proof.Frames

open Idealize.ShloMosaic Idealize.SL.Sem

/-- The second kernel's result is its reference's. -/
theorem algebraic2 : Cert.algebraic_Kernel2Ideal_Reference2Ideal := by
  intro m g m' g' _ ha
  refine ⟨fun c => Mlp.want m c, ?_, ?_⟩
  · refine (θ_run Cert.Kernel2Ideal.defs _ _).mono (fun r h c => ⟨(h c).1.trans (Mlp.final m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    refine (Cert.Reference2Ideal.Read.val_main_v43_eq m' c).trans ?_
    obtain ⟨a0, a1, a2, a3, a4, a5, a6⟩ := ha c
    rw [a0, a1, a2, a3, a4, a5, a6]
    rfl

/-- The second kernel's frame. -/
theorem frame_kernel2 : Cert.quiescent_Kernel2 := fun m ρ _ => Cert.Kernel2.Gen.frame m ρ

/-- The second reference's frame: it writes no argument and has no semaphore. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The second ideal kernel's frame. -/
theorem frame_kernel2Ideal : Cert.quiescent_Kernel2Ideal := fun m ρ _ => Cert.Kernel2Ideal.Gen.frame m ρ

end Cert.Proof.Frames

end
-- ==== Proof.Ffn1.lean ====
module

public import proofs.«01_k».proof.Proof.Mlp3
public import proofs.«01_k».proof.Proof.Gen.Kernel3Ideal.Value

@[expose] public section

noncomputable section

namespace Cert.Proof.Ffn

open Cert.Kernel3Ideal Cert.Kernel3Ideal.Gen
open Idealize.ShloMosaic
open Cert.Proof.Mlp (hr sq ch sum_four hr_congr ch_congr ld_at)

/-! ## The feed-forward call's payloads and blocks over the extended reals, read at an index -/

/-- A row of the result: the residual stream plus the gated feed-forward of its normalised row. -/
def row (v g s3 s4 g5 : Fin 1024 → EReal) (w1 : Fin 1024 → Fin 4096 → EReal) (w2 : Fin 4096 → Fin 1024 → EReal) (d : Fin 1024) : EReal :=
  v d + g5 d * ∑ f : Fin 4096, sq (hr v g s3 s4) (fun e => w1 e f) * w2 f d

theorem pay4_at (v0 : Vec Ideal S512x1024 .f32) (r : Fin 512) (d : Fin 1024) : k0_pay4 v0 (ix2 r d) = v0 (ix2 r d) := by
  unfold k0_pay4
  pointwise

theorem pay1_at (v1 v71 : FVec Ideal S512x1024 .f32) (v72 : Vec Ideal S1x1x1x1024 .f32) (r : Fin 512) (d : Fin 1024) :
    k0_pay1 v1 v71 v72 (ix2 r d) = v1 (ix2 r d) + v72 (ix4 (0 : Fin 1) (0 : Fin 1) (0 : Fin 1) d) * v71 (ix2 r d) := by
  unfold k0_pay1
  pointwise

theorem pay5_at (v0 : Vec Ideal S512x1024 .f32) (v2 : Vec Ideal S1x1024 .f32) (v4 v6 : Vec Ideal S1x1x1x1024 .f32) (r : Fin 512) (d : Fin 1024) :
    k0_pay5 v0 v2 v4 v6 (ix2 r d) = hr (fun d => v0 (ix2 r d)) (fun d => v2 (ix2 (0 : Fin 1) d))
      (fun d => v4 (ix4 (0 : Fin 1) (0 : Fin 1) (0 : Fin 1) d)) (fun d => v6 (ix4 (0 : Fin 1) (0 : Fin 1) (0 : Fin 1) d)) d := by
  unfold k0_pay5 k0_pay4 hr
  pointwise

theorem pay6_at (r : Fin 512) (d : Fin 1024) : k0_pay6 (F := Ideal) (ix2 r d) = 0 :=
  Ideal.ofBits_zero_f32

theorem pay7_at (v0 : Vec Ideal S512x1024 .f32) (v2 : Vec Ideal S1x1024 .f32) (v4 v6 : Vec Ideal S1x1x1x1024 .f32) (w : Vec Ideal S1024x1024 .bf16)
    (r : Fin 512) (f : Fin 1024) :
    k0_pay7 v0 v2 v4 v6 w (ix2 r f) = sq (fun e => k0_pay5 v0 v2 v4 v6 (ix2 r e)) (fun e => w (ix2 e f)) := by
  unfold k0_pay7 Mlp.sq
  generalize k0_pay5 v0 v2 v4 v6 = h
  pointwise

theorem pay8_at (h : FVec Ideal S512x1024 .bf16) (z : FVec Ideal S512x1024 .f32) (s : FVec Ideal S512x1024 .bf16)
    (d0 u1 d1 u2 d2 u3 d3 : Vec Ideal S1024x1024 .bf16) (r : Fin 512) (d : Fin 1024) :
    k0_pay8 h z s d0 u1 d1 u2 d2 u3 d3 (ix2 r d) = z (ix2 r d) + (∑ f : Fin 1024, s (ix2 r f) * d0 (ix2 f d))
        + ch (fun e => h (ix2 r e)) (fun e f => u1 (ix2 e f)) (fun f d => d1 (ix2 f d)) d
        + ch (fun e => h (ix2 r e)) (fun e f => u2 (ix2 e f)) (fun f d => d2 (ix2 f d)) d
        + ch (fun e => h (ix2 r e)) (fun e f => u3 (ix2 e f)) (fun f d => d3 (ix2 f d)) d := by
  unfold k0_pay8 ch Mlp.sq
  pointwise

variable (x0 : Vec Ideal S512x1024 .f32) (x1 : Vec Ideal S1x6x1x1024 .f32) (x2 : Vec Ideal S1x1024 .f32)
  (x3 : Vec Ideal S1024x4096 .bf16) (x4 : Vec Ideal S4096x1024 .bf16) (x5 : Vec Ideal S1x32x4096 .f32) (x6 : Vec Ideal S1x128x1024 .f32)

/-- A vector of the modulation's block. -/
def mv (x1 : Vec Ideal S1x6x1x1024 .f32) (j : Fin 6) (d : Fin 1024) : EReal := x1 (ix4 (0 : Fin 1) j (0 : Fin 1) d)

theorem lm3 (d : Fin 1024) : View.ld x1 r0_2 (ix4 (0 : Fin 1) (0 : Fin 1) (0 : Fin 1) d) = mv x1 3 d :=
  ld_at x1 _ _ _ _ _ fun a => match a with | ⟨0, _⟩ => rfl | ⟨1, _⟩ => rfl | ⟨2, _⟩ => rfl | ⟨3, _⟩ => Nat.zero_add _
theorem lm4 (d : Fin 1024) : View.ld x1 r0_3 (ix4 (0 : Fin 1) (0 : Fin 1) (0 : Fin 1) d) = mv x1 4 d :=
  ld_at x1 _ _ _ _ _ fun a => match a with | ⟨0, _⟩ => rfl | ⟨1, _⟩ => rfl | ⟨2, _⟩ => rfl | ⟨3, _⟩ => Nat.zero_add _
theorem lm5 (d : Fin 1024) : View.ld x1 r0_12 (ix4 (0 : Fin 1) (0 : Fin 1) (0 : Fin 1) d) = mv x1 5 d :=
  ld_at x1 _ _ _ _ _ fun a => match a with | ⟨0, _⟩ => rfl | ⟨1, _⟩ => rfl | ⟨2, _⟩ => rfl | ⟨3, _⟩ => Nat.zero_add _
theorem lg (d : Fin 1024) : View.ld x2 r0_1 (ix2 (0 : Fin 1) d) = x2 (ix2 (0 : Fin 1) d) :=
  ld_at x2 _ _ _ _ _ fun a => match a with | ⟨0, _⟩ => rfl | ⟨1, _⟩ => Nat.zero_add _
theorem lx (r : Fin 512) (d : Fin 1024) : View.ld x0 r0_0 (ix2 r d) = x0 (ix2 r d) :=
  ld_at x0 _ _ _ _ _ fun a => match a with | ⟨0, _⟩ => Nat.zero_add _ | ⟨1, _⟩ => Nat.zero_add _
theorem lu0 (e f : Fin 1024) : View.ld x3 r0_4 (ix2 e f) = x3 (ix2 e (⟨0 + f.val, by omega⟩ : Fin 4096)) :=
  ld_at x3 _ _ _ _ _ fun a => match a with | ⟨0, _⟩ => Nat.zero_add _ | ⟨1, _⟩ => rfl
theorem ldn0 (f d : Fin 1024) : View.ld x4 r0_5 (ix2 f d) = x4 (ix2 (⟨0 + f.val, by omega⟩ : Fin 4096) d) :=
  ld_at x4 _ _ _ _ _ fun a => match a with | ⟨0, _⟩ => rfl | ⟨1, _⟩ => Nat.zero_add _
theorem lu1 (e f : Fin 1024) : View.ld x3 r0_6 (ix2 e f) = x3 (ix2 e (⟨1024 + f.val, by omega⟩ : Fin 4096)) :=
  ld_at x3 _ _ _ _ _ fun a => match a with | ⟨0, _⟩ => Nat.zero_add _ | ⟨1, _⟩ => rfl
theorem ldn1 (f d : Fin 1024) : View.ld x4 r0_7 (ix2 f d) = x4 (ix2 (⟨1024 + f.val, by omega⟩ : Fin 4096) d) :=
  ld_at x4 _ _ _ _ _ fun a => match a with | ⟨0, _⟩ => rfl | ⟨1, _⟩ => Nat.zero_add _
theorem lu2 (e f : Fin 1024) : View.ld x3 r0_8 (ix2 e f) = x3 (ix2 e (⟨2048 + f.val, by omega⟩ : Fin 4096)) :=
  ld_at x3 _ _ _ _ _ fun a => match a with | ⟨0, _⟩ => Nat.zero_add _ | ⟨1, _⟩ => rfl
theorem ldn2 (f d : Fin 1024) : View.ld x4 r0_9 (ix2 f d) = x4 (ix2 (⟨2048 + f.val, by omega⟩ : Fin 4096) d) :=
  ld_at x4 _ _ _ _ _ fun a => match a with | ⟨0, _⟩ => rfl | ⟨1, _⟩ => Nat.zero_add _
theorem lu3 (e f : Fin 1024) : View.ld x3 r0_10 (ix2 e f) = x3 (ix2 e (⟨3072 + f.val, by omega⟩ : Fin 4096)) :=
  ld_at x3 _ _ _ _ _ fun a => match a with | ⟨0, _⟩ => Nat.zero_add _ | ⟨1, _⟩ => rfl
theorem ldn3 (f d : Fin 1024) : View.ld x4 r0_11 (ix2 f d) = x4 (ix2 (⟨3072 + f.val, by omega⟩ : Fin 4096) d) :=
  ld_at x4 _ _ _ _ _ fun a => match a with | ⟨0, _⟩ => rfl | ⟨1, _⟩ => Nat.zero_add _

/-- A row of the block, from the input blocks. -/
def brow (r : Fin 512) (d : Fin 1024) : EReal :=
  row (fun d => x0 (ix2 r d)) (fun d => x2 (ix2 (0 : Fin 1) d)) (mv x1 3) (mv x1 4) (mv x1 5) (fun e f => x3 (ix2 e f)) (fun f d => x4 (ix2 f d)) d

theorem body_at (r : Fin 512) (d : Fin 1024) :
    k0_pay1 (k0_pay4 (View.ld x0 r0_0)) (k0_pay8 (k0_pay5 (View.ld x0 r0_0) (View.ld x2 r0_1) (View.ld x1 r0_2) (View.ld x1 r0_3)) (k0_pay6 (F := Ideal)) (k0_pay7 (View.ld x0 r0_0) (View.ld x2 r0_1) (View.ld x1 r0_2) (View.ld x1 r0_3) (View.ld x3 r0_4)) (View.ld x4 r0_5) (View.ld x3 r0_6) (View.ld x4 r0_7) (View.ld x3 r0_8) (View.ld x4 r0_9) (View.ld x3 r0_10) (View.ld x4 r0_11)) (View.ld x1 r0_12) (ix2 r d)
      = brow x0 x1 x2 x3 x4 r d := by
  have hh : (fun e => k0_pay5 (View.ld x0 r0_0) (View.ld x2 r0_1) (View.ld x1 r0_2) (View.ld x1 r0_3) (ix2 r e))
      = hr (fun d => x0 (ix2 r d)) (fun d => x2 (ix2 (0 : Fin 1) d)) (mv x1 3) (mv x1 4) := funext fun e =>
    (pay5_at _ _ _ _ r e).trans (hr_congr (funext (lx x0 r)) (funext (lg x2)) (funext (lm3 x1)) (funext (lm4 x1)) e)
  refine (pay1_at _ _ _ r d).trans ?_
  unfold brow row
  rw [sum_four]
  refine congrArg₂ (· + ·) ((pay4_at _ r d).trans (lx x0 r d)) (congrArg₂ (· * ·) (lm5 x1 d) ((pay8_at _ _ _ _ _ _ _ _ _ _ r d).trans
    (congrArg₂ (· + ·) (congrArg₂ (· + ·) (congrArg₂ (· + ·) ?_ ?_) ?_) ?_)))
  · refine (congrArg₂ (· + ·) (pay6_at r d) (Finset.sum_congr rfl fun f _ => congrArg₂ (· * ·) (pay7_at _ _ _ _ _ r f) rfl)).trans ((zero_add _).trans ?_)
    exact ch_congr hh (funext fun e => funext (lu0 x3 e)) (funext fun f => funext (ldn0 x4 f)) d
  · exact ch_congr hh (funext fun e => funext (lu1 x3 e)) (funext fun f => funext (ldn1 x4 f)) d
  · exact ch_congr hh (funext fun e => funext (lu2 x3 e)) (funext fun f => funext (ldn2 x4 f)) d
  · exact ch_congr hh (funext fun e => funext (lu3 x3 e)) (funext fun f => funext (ldn3 x4 f)) d

theorem e0 (x : S512x1024.Idx) (a : Fin 2) : (r0_0.emb x a).val = ![0, 0] a + (x a).val :=
  ValueKit.rect_emb_unit_val (s := S512x1024) ![0, 0] S512x1024.size inb_S512x1024_S512x1024_0_0 x a

theorem out_at (y : S512x1024.Idx) : out0_7 x0 x1 x2 x3 x4 x5 x6 y = brow x0 x1 x2 x3 x4 (y 0) (y 1) := by
  unfold out0_7
  refine View.canon_apply_of_pieces (Val := Elt Ideal) (e := .f32) (fun y : S512x1024.Idx => brow x0 x1 x2 x3 x4 (y 0) (y 1)) _ ?_ y (cover0_7 _ y)
  refine List.forall_mem_cons.mpr ⟨fun (x : S512x1024.Idx) => ?_, fun _ h => absurd h List.not_mem_nil⟩
  refine (congrArg _ (ValueIdx.eq_ix2 x)).trans ((body_at x0 x1 x2 x3 x4 (x 0) (x 1)).trans ?_)
  have k0 : (r0_0.emb x 0).val = 0 + (x 0).val := e0 x 0
  have k1 : (r0_0.emb x 1).val = 0 + (x 1).val := e0 x 1
  exact congrArg₂ (brow x0 x1 x2 x3 x4) (Fin.ext (k0.trans (Nat.zero_add _)).symm) (Fin.ext (k1.trans (Nat.zero_add _)).symm)

end Cert.Proof.Ffn

end
-- ==== Proof.Ffn2.lean ====
module

public import proofs.«01_k».proof.Proof.Ffn1
public import proofs.«01_k».proof.Proof.Gen.Reference3Ideal.Read

@[expose] public section

noncomputable section

namespace Cert.Proof.Ffn

open Cert.Reference3Ideal Cert.Reference3Ideal.Gen Cert.Reference3Ideal.Read
open Idealize.ShloMosaic
open Cert.Proof.Mlp (hr sq)

/-! ## The feed-forward call's reference, read at an index -/

variable (x0 : FVec Ideal S2x8192x1024 .f32) (x1 : FVec Ideal S2x6144 .f32) (x2 : FVec Ideal S1024 .f32)
  (x3 : FVec Ideal S4x1024x4096 .f32) (x4 : FVec Ideal S4x4096x1024 .f32)

/-- The modulation's vector at an offset, of one batch. -/
def md (x1 : FVec Ideal S2x6144 .f32) (b : Fin 2) (j : ℕ) (d : Fin 1024) : EReal :=
  x1 (ix2 b ⟨(1024 * j + d.val) % 6144, Nat.mod_lt _ (by decide)⟩)

theorem md_eq (b : Fin 2) (j : ℕ) (hj : j < 6) (d : Fin 1024) (i : S2x6144.Idx) (h0 : (i 0).val = b.val) (h1 : (i 1).val = 1024 * j + d.val) :
    x1 i = md x1 b j d :=
  congrArg x1 (funext fun a => Fin.ext (match a with
    | ⟨0, _⟩ => h0
    | ⟨1, _⟩ => by show (i 1).val = (1024 * j + d.val) % 6144; have := d.isLt; omega))

theorem r26 (b : Fin 2) (s : Fin 8192) (d : Fin 1024) : val_main_v26 (F := Ideal) x0 x1 x2 (ix3 b s d)
    = hr (fun d => x0 (ix3 b s d)) (fun d => x2 (ix1 d)) (md x1 b 3) (md x1 b 4) d := by
  rw [val_main_v26_apply, val_main_v25_apply, val_main_v24_apply, val_main_v3_apply, val_main_v23_apply, val_main_v22_apply, val_main_v21_apply,
    val_main_v20_apply, val_main_cst_2_apply, val_main_v19_apply, val_main_v4_apply, val_main_v18_apply, val_main_v17_apply, val_main_v16_apply,
    val_main_v15_apply, val_main_v14_apply, val_main_v13_apply, val_main_v12_apply, val_main_v11_apply, val_main_cst_1_apply,
    val_main_v10_apply, val_main_v9_apply, val_main_cst_0_apply, val_main_v8_apply, val_main_v7_apply, val_main_cst_apply]
  refine congrArg₂ (· + ·) (congrArg₂ (· * ·) (congrArg₂ (· * ·) (congrArg₂ (· * ·) rfl ?_)
    (congrArg x2 (funext fun a => match a with | ⟨0, _⟩ => rfl)))
    (congrArg₂ (· + ·) Ideal.ofBits_one_f32 (md_eq x1 b 4 (by decide) d _ rfl rfl))) (md_eq x1 b 3 (by decide) d _ rfl rfl)
  refine congrArg Ideal.rsqrt (congrArg₂ (· + ·) (congrArg₂ Ideal.div ?_ rfl) rfl)
  refine (congrArg₂ (· + ·) Ideal.ofBits_zero_f32 (Finset.sum_congr rfl fun k _ => ?_)).trans (zero_add _)
  rw [val_main_v6_apply]
  refine congrArg₂ (· * ·) (congrArg x0 ?_) (congrArg x0 ?_) <;>
    exact funext fun a => match a with | ⟨0, _⟩ => rfl | ⟨1, _⟩ => rfl | ⟨2, _⟩ => rfl

theorem r29 (e : Fin 1024) (f : Fin 4096) : val_main_v29 (F := Ideal) x3 (ix2 e f) = x3 (ix3 (1 : Fin 4) e f) := by
  rw [val_main_v29_apply, val_main_v28_apply]
  have he := e.isLt
  have hf := f.isLt
  refine congrArg x3 (funext fun a => Fin.ext (match a with
      | ⟨0, _⟩ => rfl
      | ⟨1, _⟩ => by show (e.val * 4096 + f.val) / 4096 % 1024 = e.val; omega
      | ⟨2, _⟩ => by show (e.val * 4096 + f.val) % 4096 = f.val; omega))

theorem r31 (f : Fin 4096) (d : Fin 1024) : val_main_v31 (F := Ideal) x4 (ix2 f d) = x4 (ix3 (1 : Fin 4) f d) := by
  rw [val_main_v31_apply, val_main_v30_apply]
  have hd := d.isLt
  have hf := f.isLt
  refine congrArg x4 (funext fun a => Fin.ext (match a with
      | ⟨0, _⟩ => rfl
      | ⟨1, _⟩ => by show (f.val * 1024 + d.val) / 1024 % 4096 = f.val; omega
      | ⟨2, _⟩ => by show (f.val * 1024 + d.val) % 1024 = d.val; omega))

theorem r38 (b : Fin 2) (s : Fin 8192) (d : Fin 1024) : val_main_v38 (F := Ideal) x0 x1 x2 x3 x4 (ix3 b s d)
    = row (fun d => x0 (ix3 b s d)) (fun d => x2 (ix1 d)) (md x1 b 3) (md x1 b 4) (md x1 b 5)
        (fun e f => x3 (ix3 (1 : Fin 4) e f)) (fun f d => x4 (ix3 (1 : Fin 4) f d)) d := by
  rw [val_main_v38_apply, val_main_v37_apply, val_main_v36_apply, val_main_v27_apply, val_main_v5_apply, val_main_v35_apply]
  refine congrArg₂ (· + ·) rfl (congrArg₂ (· * ·) (md_eq x1 b 5 (by decide) d _ rfl rfl) (Finset.sum_congr rfl fun f _ => ?_))
  rw [val_main_v34_apply, val_main_v33_apply, val_main_call0_v0_apply, val_main_call0_cst_apply, val_main_v32_apply]
  have ii : ∀ k : Fin 1024, lidx_main_v32 (lidx_main_v35 (ix3 b s d) f) k = ix3 b s k := fun k =>
    funext fun a => match a with | ⟨0, _⟩ => rfl | ⟨1, _⟩ => rfl | ⟨2, _⟩ => rfl
  have jj : ∀ k : Fin 1024, ridx_main_v32 (lidx_main_v35 (ix3 b s d) f) k = ix2 k f := fun k =>
    funext fun a => match a with | ⟨0, _⟩ => rfl | ⟨1, _⟩ => rfl
  have e : (∑ k : Fin 1024, val_main_v26 (F := Ideal) x0 x1 x2 (lidx_main_v32 (lidx_main_v35 (ix3 b s d) f) k)
        * val_main_v29 (F := Ideal) x3 (ridx_main_v32 (lidx_main_v35 (ix3 b s d) f) k))
      = ∑ k : Fin 1024, hr (fun d => x0 (ix3 b s d)) (fun d => x2 (ix1 d)) (md x1 b 3) (md x1 b 4) k * x3 (ix3 (1 : Fin 4) k f) :=
    Finset.sum_congr rfl fun k _ => congrArg₂ (· * ·)
      (Eq.trans (congrArg _ (ii k)) (r26 x0 x1 x2 b s k))
      (Eq.trans (congrArg _ (jj k)) (r29 x3 k f))
  rw [e]
  have z : ∀ t : EReal, FloatOps.maximumf (F := Ideal) (t : Ideal .f32) (FloatOps.ofBits .f32 0x00000000#32) = max t 0 := fun t =>
    congrArg (max t) Ideal.ofBits_zero_f32
  have jd : ridx_main_v35 (ix3 b s d) f = ix2 f d := funext fun a => match a with | ⟨0, _⟩ => rfl | ⟨1, _⟩ => rfl
  refine congrArg₂ (· * ·) (congrArg₂ (· * ·) (z _) (z _)) (Eq.trans (congrArg _ jd) (r31 x4 f d))

end Cert.Proof.Ffn

end
-- ==== Proof.Ffn3.lean ====
module

public import proofs.«01_k».proof.Proof.Ffn1
public import Idealize.ShloMosaic.Lib.StableHlo.ReadAt

@[expose] public section

noncomputable section

namespace Cert.Proof.Ffn

open Cert.Kernel3Ideal Cert.Kernel3Ideal.Gen
open Idealize.ShloMosaic

/-! ## The arrays the feed-forward call reads, and their blocks -/

variable (m : (ℓ : Loc nD τ sig) → Buf (Elt Ideal) ℓ) (c : Dev nD)

/-- The program's arguments. -/
def Z0 : FVec Ideal S2x8192x1024 .f32 := m ((c.tc : Thread nD τ).loc main_arg0)
@[inherit_doc Z0] def Z1 : FVec Ideal S2x6144 .f32 := m ((c.tc : Thread nD τ).loc main_arg1)
@[inherit_doc Z0] def Z2 : FVec Ideal S1024 .f32 := m ((c.tc : Thread nD τ).loc main_arg2)
@[inherit_doc Z0] def Z3 : FVec Ideal S4x1024x4096 .f32 := m ((c.tc : Thread nD τ).loc main_arg3)
@[inherit_doc Z0] def Z4 : FVec Ideal S4x4096x1024 .f32 := m ((c.tc : Thread nD τ).loc main_arg4)

theorem V_v0 : V m c main_v0 = shapeCast S16384x1024 (Z0 m c) shapeCasts_S2x8192x1024_S16384x1024 := by
  unfold V hostOps0 Z0
  after_reads_simp
  rfl
theorem V_v1 : V m c main_v1 = shapeCast S2x6x1x1024 (Z1 m c) shapeCasts_S2x6144_S2x6x1x1024 := by
  unfold V hostOps0 Z1
  after_reads_simp
  rfl
theorem V_v8 : V m c main_v8 = shapeCast S1x1024 (Z2 m c) shapeCasts_S1024_S1x1024 := by
  unfold V hostOps0 Z2
  after_reads_simp
  rfl
theorem V_v4 : V m c main_v4 = shapeCast S1024x4096 (extractStridedSlice S1x1024x4096 ![1, 0, 0] (Z3 m c) slices_S4x1024x4096_S1x1024x4096_1_0_0)
    shapeCasts_S1x1024x4096_S1024x4096 := by
  unfold V hostOps0 Z3
  after_reads_simp
  rfl
theorem V_v7 : V m c main_v7 = shapeCast S4096x1024 (extractStridedSlice S1x4096x1024 ![1, 0, 0] (Z4 m c) slices_S4x4096x1024_S1x4096x1024_1_0_0)
    shapeCasts_S1x4096x1024_S4096x1024 := by
  unfold V hostOps0 Z4
  after_reads_simp
  rfl

theorem ix_0 : ∀ t : Fin cfg0.N, win0_0.index t = ![t.val, 0] := (by decide +kernel : ∀ t : Fin grid0.N, _)
theorem ix_1 : ∀ t : Fin cfg0.N, win0_1.index t = ![t.val / 16, 0, 0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_7 : ∀ t : Fin cfg0.N, win0_7.index t = ![t.val, 0] := (by decide +kernel : ∀ t : Fin grid0.N, _)

theorem b0 (t : Fin cfg0.N) (r : Fin 512) (d : Fin 1024) (i : Fin 16384) (hi : t.val * 512 + r.val = i.val) :
    iblk m c 0 t (ix2 r d) = V m c main_v0 (ix2 i d) := by
  blk_simp [iblk]
  refine congrArg (V m c main_v0) ?_
  blk_ext [ix_0]
theorem b1 (t : Fin cfg0.N) (j : Fin 6) (d : Fin 1024) (b : Fin 2) (hb : t.val / 16 = b.val) :
    iblk m c 1 t (ix4 (0 : Fin 1) j (0 : Fin 1) d) = V m c main_v1 (ix4 b j (0 : Fin 1) d) := by
  blk_simp [iblk]
  refine congrArg (V m c main_v1) ?_
  blk_ext [ix_1]
theorem b2 (t : Fin cfg0.N) (d : Fin 1024) : iblk m c 2 t (ix2 (0 : Fin 1) d) = V m c main_v8 (ix2 (0 : Fin 1) d) := by
  blk_simp [iblk]
  refine congrArg (V m c main_v8) ?_
  blk_ext [ix_2]
theorem b3 (t : Fin cfg0.N) (e : Fin 1024) (f : Fin 4096) : iblk m c 3 t (ix2 e f) = V m c main_v4 (ix2 e f) := by
  blk_simp [iblk]
  refine congrArg (V m c main_v4) ?_
  blk_ext [ix_3]
theorem b4 (t : Fin cfg0.N) (f : Fin 4096) (d : Fin 1024) : iblk m c 4 t (ix2 f d) = V m c main_v7 (ix2 f d) := by
  blk_simp [iblk]
  refine congrArg (V m c main_v7) ?_
  blk_ext [ix_4]

theorem s0 (x : FVec Ideal S2x8192x1024 .f32) (b : Fin 2) (s : Fin 8192) (d : Fin 1024) (i : Fin 16384) (hi : b.val * 8192 + s.val = i.val) :
    shapeCast S16384x1024 x shapeCasts_S2x8192x1024_S16384x1024 (ix2 i d) = x (ix3 b s d) :=
  shapeCast_apply x _ _ _ (by
    rw [Shape.rowMajor_val_three, Shape.rowMajor_val_two]
    show (b.val * 8192 + s.val) * 1024 + d.val = i.val * 1024 + d.val
    rw [hi])
theorem s1 (x : FVec Ideal S2x6144 .f32) (b : Fin 2) (j : Fin 6) (d : Fin 1024) (e : Fin 6144) (he : e.val = 1024 * j.val + d.val) :
    shapeCast S2x6x1x1024 x shapeCasts_S2x6144_S2x6x1x1024 (ix4 b j (0 : Fin 1) d) = x (ix2 b e) :=
  shapeCast_apply x _ _ _ (by
    rw [Shape.rowMajor_val_four, Shape.rowMajor_val_two]
    show b.val * 6144 + e.val = ((b.val * 6 + j.val) * 1 + 0) * 1024 + d.val
    omega)
theorem s2 (x : FVec Ideal S1024 .f32) (d : Fin 1024) :
    shapeCast S1x1024 x shapeCasts_S1024_S1x1024 (ix2 (0 : Fin 1) d) = x (ix1 d) :=
  shapeCast_apply x _ _ _ (by
    rw [Shape.rowMajor_val_one, Shape.rowMajor_val_two]
    show d.val = 0 * 1024 + d.val
    omega)
theorem s3' (y : FVec Ideal S1x1024x4096 .f32) (e : Fin 1024) (f : Fin 4096) :
    shapeCast S1024x4096 y shapeCasts_S1x1024x4096_S1024x4096 (ix2 e f) = y (ix3 (0 : Fin 1) e f) :=
  shapeCast_apply y _ _ _ (by
    rw [Shape.rowMajor_val_three, Shape.rowMajor_val_two]
    show (0 * 1024 + e.val) * 4096 + f.val = e.val * 4096 + f.val
    omega)
theorem s3 (x : FVec Ideal S4x1024x4096 .f32) (e : Fin 1024) (f : Fin 4096) :
    shapeCast S1024x4096 (extractStridedSlice S1x1024x4096 ![1, 0, 0] x slices_S4x1024x4096_S1x1024x4096_1_0_0)
      shapeCasts_S1x1024x4096_S1024x4096 (ix2 e f) = x (ix3 (1 : Fin 4) e f) :=
  (s3' _ e f).trans (congrArg x (funext fun k => Fin.ext (match k with
    | ⟨0, _⟩ => rfl | ⟨1, _⟩ => Nat.zero_add _ | ⟨2, _⟩ => Nat.zero_add _)))
theorem s4' (y : FVec Ideal S1x4096x1024 .f32) (f : Fin 4096) (d : Fin 1024) :
    shapeCast S4096x1024 y shapeCasts_S1x4096x1024_S4096x1024 (ix2 f d) = y (ix3 (0 : Fin 1) f d) :=
  shapeCast_apply y _ _ _ (by
    rw [Shape.rowMajor_val_three, Shape.rowMajor_val_two]
    show (0 * 4096 + f.val) * 1024 + d.val = f.val * 1024 + d.val
    omega)
theorem s4 (x : FVec Ideal S4x4096x1024 .f32) (f : Fin 4096) (d : Fin 1024) :
    shapeCast S4096x1024 (extractStridedSlice S1x4096x1024 ![1, 0, 0] x slices_S4x4096x1024_S1x4096x1024_1_0_0)
      shapeCasts_S1x4096x1024_S4096x1024 (ix2 f d) = x (ix3 (1 : Fin 4) f d) :=
  (s4' _ f d).trans (congrArg x (funext fun k => Fin.ext (match k with
    | ⟨0, _⟩ => rfl | ⟨1, _⟩ => Nat.zero_add _ | ⟨2, _⟩ => Nat.zero_add _)))

end Cert.Proof.Ffn

end
-- ==== Proof.Ffn4.lean ====
module

public import proofs.«01_k».proof.Proof.Ffn2
public import proofs.«01_k».proof.Proof.Ffn3
public import proofs.«01_k».proof.Proof.Gen.Reference3Ideal.Run
public import proofs.«01_k».proof.Proof.Gen.Kernel3.Frame
public import proofs.«01_k».proof.Proof.Gen.Kernel3
public import proofs.«01_k».proof.Proof.Gen.Kernel3Ideal
public import proofs.«01_k».proof.Proof.Gen.Reference3Ideal
public import proofs.«01_k».proof.Defs
public import Idealize.ShloMosaic.Adequacy
public import Idealize.ShloMosaic.Init

@[expose] public section

noncomputable section

namespace Cert.Proof.Ffn

open Cert.Kernel3Ideal Cert.Kernel3Ideal.Gen
open Idealize.ShloMosaic Idealize.SL.Sem

/-! ## The feed-forward call's two runs meet -/

variable (m : (ℓ : Loc nD τ sig) → Buf (Elt Ideal) ℓ)

/-- The reference's result at the kernel's arguments. -/
def want (c : Dev nD) : FVec Ideal S16384x1024 .f32 :=
  Reference3Ideal.Read.val_main_v39 (F := Ideal) (Z0 m c) (Z1 m c) (Z2 m c) (Z3 m c) (Z4 m c)

theorem row_congr {v v' g g' g3 g3' g4 g4' g5 g5' : Fin 1024 → EReal} {u u' : Fin 1024 → Fin 4096 → EReal} {w w' : Fin 4096 → Fin 1024 → EReal}
    (hv : v = v') (hg : g = g') (h3 : g3 = g3') (h4 : g4 = g4') (h5 : g5 = g5') (hu : u = u') (hw : w = w') (d : Fin 1024) :
    row v g g3 g4 g5 u w d = row v' g' g3' g4' g5' u' w' d := by
  rw [hv, hg, h3, h4, h5, hu, hw]

theorem bmd (c : Dev nD) (t : Fin cfg0.N) (b : Fin 2) (hb : t.val / 16 = b.val) (j : Fin 6) :
    mv (iblk m c 1 t) j = md (Z1 m c) b j.val := funext fun d => by
  have hj := j.isLt
  have hd := d.isLt
  exact (b1 m c t j d b hb).trans ((congrFun (V_v1 m c) _).trans (s1 (Z1 m c) b j d _ (by show (1024 * j.val + d.val) % 6144 = _; omega)))

theorem brow_at (c : Dev nD) (t : Fin cfg0.N) (r : Fin 512) (d : Fin 1024) (i : Fin 16384) (hi : t.val * 512 + r.val = i.val) :
    brow (iblk m c 0 t) (iblk m c 1 t) (iblk m c 2 t) (iblk m c 3 t) (iblk m c 4 t) r d = want m c (ix2 i d) := by
  have ht : t.val < 32 := t.isLt
  have hr := r.isLt
  have hd := d.isLt
  have hil := i.isLt
  obtain ⟨b, hb⟩ : ∃ b : Fin 2, b.val = t.val / 16 := ⟨⟨t.val / 16, by omega⟩, rfl⟩
  obtain ⟨s, hs⟩ : ∃ s : Fin 8192, s.val = (t.val % 16) * 512 + r.val := ⟨⟨(t.val % 16) * 512 + r.val, by omega⟩, rfl⟩
  have e : want m c (ix2 i d) = _ := (Reference3Ideal.Read.val_main_v39_apply (F := Ideal) (Z0 m c) (Z1 m c) (Z2 m c) (Z3 m c) (Z4 m c) (ix2 i d)).trans
    ((congrArg _ (show Reference3Ideal.Read.idx_main_v39 (ix2 i d) = ix3 b s d from funext fun a => Fin.ext (match a with
      | ⟨0, _⟩ => by show (i.val * 1024 + d.val) / 8388608 = b.val; omega
      | ⟨1, _⟩ => by show (i.val * 1024 + d.val) / 1024 % 8192 = s.val; omega
      | ⟨2, _⟩ => by show (i.val * 1024 + d.val) % 1024 = d.val; omega))).trans (r38 _ _ _ _ _ b s d))
  refine Eq.trans ?_ e.symm
  unfold brow
  exact row_congr
    (funext fun d => (b0 m c t r d i hi).trans ((congrFun (V_v0 m c) _).trans (s0 (Z0 m c) b s d i (by omega))))
    (funext fun d => (b2 m c t d).trans ((congrFun (V_v8 m c) _).trans (s2 (Z2 m c) d)))
    (bmd m c t b hb.symm 3) (bmd m c t b hb.symm 4) (bmd m c t b hb.symm 5)
    (funext fun e => funext fun f => (b3 m c t e f).trans ((congrFun (V_v4 m c) _).trans (s3 (Z3 m c) e f)))
    (funext fun f => funext fun d => (b4 m c t f d).trans ((congrFun (V_v7 m c) _).trans (s4 (Z4 m c) f d))) d

theorem out_j (c : Dev nD) (t : Fin cfg0.N) (y : S512x1024.Idx) (j : S16384x1024.Idx)
    (hj : ∀ a : Fin 2, win0_7.index t a * win0_7.size a + (y a).val = (j a).val) :
    out0_7 (iblk m c 0 t) (iblk m c 1 t) (iblk m c 2 t) (iblk m c 3 t) (iblk m c 4 t) (iblk m c 5 t) (iblk m c 6 t) y = want m c j := by
  have k0 := hj 0
  have k1 := hj 1
  rw [ix_7] at k0 k1
  have g0 : t.val * 512 + (y 0).val = (j 0).val := k0
  have g1 : 0 * 1024 + (y 1).val = (j 1).val := k1
  have e1 : y 1 = j 1 := Fin.ext (by omega)
  refine (out_at _ _ _ _ _ _ _ y).trans ((brow_at m c t (y 0) (y 1) (j 0) g0).trans ?_)
  rw [e1]
  exact congrArg _ (ValueIdx.eq_ix2 j).symm

theorem final (c : Dev nD) : (dats m 0 c).arrAt 7 cfg0.N = want m c := by
  refine (dats m 0 c).arrAt_eq_of_covers 7 (want m c) (by decide +kernel) fun t hf y => ?_
  blk_simp
  rw [after0_7]
  exact out_j m c t y _ fun a => (Pipeline.Window.rect_emb_val win0_7 t y a rfl).symm

end Cert.Proof.Ffn

namespace Cert.Proof.Frames

open Idealize.ShloMosaic Idealize.SL.Sem

/-- The third kernel's result is its reference's. -/
theorem algebraic3 : Cert.algebraic_Kernel3Ideal_Reference3Ideal := by
  intro m g m' g' _ ha
  refine ⟨fun c => Ffn.want m c, ?_, ?_⟩
  · refine (θ_run Cert.Kernel3Ideal.defs _ _).mono (fun r h c => ⟨(h c).1.trans (Ffn.final m c), (h c).2.2.2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    refine (Cert.Reference3Ideal.Read.val_main_v39_eq m' c).trans ?_
    obtain ⟨a0, a1, a2, a3, a4⟩ := ha c
    rw [a0, a1, a2, a3, a4]
    rfl

/-- The third kernel's frame. -/
theorem frame_kernel3 : Cert.quiescent_Kernel3 := fun m ρ _ => Cert.Kernel3.Gen.frame m ρ

/-- The third reference's frame: it writes no argument and has no semaphore. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The third ideal kernel's frame. -/
theorem frame_kernel3Ideal : Cert.quiescent_Kernel3Ideal := fun m ρ _ => Cert.Kernel3Ideal.Gen.frame m ρ

end Cert.Proof.Frames

end
-- ==== Proof.lean ====
module

public import proofs.«01_k».proof.Defs
public import proofs.«01_k».proof.Proof.Frames
public import proofs.«01_k».proof.Proof.Final
public import proofs.«01_k».proof.Proof.Mlp5
public import proofs.«01_k».proof.Proof.Ffn4
public import proofs.«01_k».proof.Proof.Gen.Kernel
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Attn.preFacts,
  Frames.frame_kernel, Frames.frame_kernelIdeal, Frames.frame_kernelIdeal_pre, Frames.frame_referenceIdeal,
  Frames.frame_referenceIdeal_pre, Frames.frame_kernel2, Frames.frame_kernel2Ideal, Frames.frame_reference2Ideal,
  Frames.frame_kernel3, Frames.frame_kernel3Ideal, Frames.frame_reference3Ideal,
  Frames.preserves, Frames.algebraic, Frames.algebraic2, Frames.algebraic3⟩

end Cert.Proof

end
